-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v41_1)) (v2 : (c : Dev Cert.KernelIdeal.nD) → Buf (Elt Ideal) ((c.tc : Thread Cert.KernelIdeal.nD Cert.KernelIdeal.τ).loc Cert.KernelIdeal.main_v41_2)) (v3 : (c : Dev Cert.KernelIdeal.nD) → Buf (Elt Ideal) ((c.tc : Thread Cert.KernelIdeal.nD Cert.KernelIdeal.τ).loc Cert.KernelIdeal.main_v41_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v41_1) = v1 c
          ∧ r.2.mem ((c.tc : Thread Cert.KernelIdeal.nD Cert.KernelIdeal.τ).loc Cert.KernelIdeal.main_v41_2) = v2 c
          ∧ r.2.mem ((c.tc : Thread Cert.KernelIdeal.nD Cert.KernelIdeal.τ).loc Cert.KernelIdeal.main_v41_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v40_0)) (v1 : (c : Dev Cert.Kernel2Ideal.nD) → Buf (Elt Ideal) ((c.tc : Thread Cert.Kernel2Ideal.nD Cert.Kernel2Ideal.τ).loc Cert.Kernel2Ideal.main_v40_1)) (v2 : (c : Dev Cert.Kernel2Ideal.nD) → Buf (Elt Ideal) ((c.tc : Thread Cert.Kernel2Ideal.nD Cert.Kernel2Ideal.τ).loc Cert.Kernel2Ideal.main_v40_2)) (v3 : (c : Dev Cert.Kernel2Ideal.nD) → Buf (Elt Ideal) ((c.tc : Thread Cert.Kernel2Ideal.nD Cert.Kernel2Ideal.τ).loc Cert.Kernel2Ideal.main_v40_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v40_0) = v0 c
          ∧ r.2.mem ((c.tc : Thread Cert.Kernel2Ideal.nD Cert.Kernel2Ideal.τ).loc Cert.Kernel2Ideal.main_v40_1) = v1 c
          ∧ r.2.mem ((c.tc : Thread Cert.Kernel2Ideal.nD Cert.Kernel2Ideal.τ).loc Cert.Kernel2Ideal.main_v40_2) = v2 c
          ∧ r.2.mem ((c.tc : Thread Cert.Kernel2Ideal.nD Cert.Kernel2Ideal.τ).loc Cert.Kernel2Ideal.main_v40_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v56) = v1 c
          ∧ r.2.mem ((c.tc : Thread Cert.Reference2Ideal.nD Cert.Reference2Ideal.τ).loc Cert.Reference2Ideal.main_v58) = v2 c
          ∧ r.2.mem ((c.tc : Thread Cert.Reference2Ideal.nD Cert.Reference2Ideal.τ).loc Cert.Reference2Ideal.main_v60) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v16)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v16)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v16) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v14) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_v6) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_v6) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v13) = v0 c
          ∧ r.2.mem ((c.tc : Thread Cert.Reference21Ideal.nD Cert.Reference21Ideal.τ).loc Cert.Reference21Ideal.main_v14) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v8) = v0 c
          ∧ r.2.mem ((c.tc : Thread Cert.Reference22Ideal.nD Cert.Reference22Ideal.τ).loc Cert.Reference22Ideal.main_v9) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v13) = v0 c
          ∧ r.2.mem ((c.tc : Thread Cert.Reference24Ideal.nD Cert.Reference24Ideal.τ).loc Cert.Reference24Ideal.main_v14) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v8) = v0 c
          ∧ r.2.mem ((c.tc : Thread Cert.Reference26Ideal.nD Cert.Reference26Ideal.τ).loc Cert.Reference26Ideal.main_v9) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v26) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v20) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v18) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v39) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v24) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v16) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
-- ==== Pre_finite.lean ====
abbrev S4352x4096 : Shape := ⟨2, ![4352, 4096]⟩
abbrev S4352x8192 : Shape := ⟨2, ![4352, 8192]⟩
abbrev S1x8 : Shape := ⟨2, ![1, 8]⟩
abbrev S_ : Shape := ⟨0, ![]⟩

class Facts : Prop where
  bitsLt_bf16_f32 : FTy.bits .bf16 < FTy.bits .f32
  bcast_S_S4352x4096 : S_.BroadcastsInDim S4352x4096 (![] : Fin 0 → Fin S4352x4096.rank)
  reducesTo_S4352x4096_S_d0_1 : S4352x4096.ReducesTo [0, 1] S_
  h_S_ : 0 < S_.numel
  slices_S4352x8192_S4352x4096_0_0 : S4352x8192.Slices ![0, 0] S4352x4096
  bcast_S_S1x8 : S_.BroadcastsInDim S1x8 (![] : Fin 0 → Fin S1x8.rank)
  reducesTo_S1x8_S_d0_1 : S1x8.ReducesTo [0, 1] S_

variable [Facts]

def fn_part1 {F : FTy → Type} [FloatOps F] (main_arg3 : FVec F S1x8 .f32) (main_v17 : IVec S_ 1) : IVec S_ 1 :=
  let main_v18 : FVec F S1x8 .f32 := Host.absf main_arg3
  let main_cst_4 : FVec F S_ .f32 := constant S_ .f32 0x7F800000#32
  let main_v19 : FVec F S1x8 .f32 := broadcastInDim S1x8 ![] bcast_S_S1x8 main_cst_4
  let main_v20 : IVec S1x8 1 := cmpf .olt main_v18 main_v19
  let main_c_5 : IVec S_ 1 := constantI S_ 1 1#1
  let main_v21 : IVec S_ 1 := (fun x v => Host.reduce IntOp.andi x v reducesTo_S1x8_S_d0_1 h_S_) main_v20 main_c_5
  let main_v22 : IVec S_ 1 := andi main_v17 main_v21
  main_v22

def fn {F : FTy → Type} [FloatOps F] (main_arg0 : FVec F S4352x4096 .bf16) (main_arg1 : FVec F S4352x8192 .bf16) (main_arg2 : FVec F S4352x4096 .bf16) (main_arg3 : FVec F S1x8 .f32) : IVec S_ 1 :=
  let main_v0 : FVec F S4352x4096 .f32 := (extf .f32 · bitsLt_bf16_f32) main_arg0
  let main_v1 : FVec F S4352x4096 .f32 := Host.absf main_v0
  let main_cst : FVec F S_ .f32 := constant S_ .f32 0x7F800000#32
  let main_v2 : FVec F S4352x4096 .f32 := broadcastInDim S4352x4096 ![] bcast_S_S4352x4096 main_cst
  let main_v3 : IVec S4352x4096 1 := cmpf .olt main_v1 main_v2
  let main_c : IVec S_ 1 := constantI S_ 1 1#1
  let main_v4 : IVec S_ 1 := (fun x v => Host.reduce IntOp.andi x v reducesTo_S4352x4096_S_d0_1 h_S_) main_v3 main_c
  let main_v5 : FVec F S4352x4096 .bf16 := (extractStridedSlice S4352x4096 ![0, 0] · slices_S4352x8192_S4352x4096_0_0) main_arg1
  let main_v6 : FVec F S4352x4096 .f32 := (extf .f32 · bitsLt_bf16_f32) main_v5
  let main_v7 : FVec F S4352x4096 .f32 := Host.absf main_v6
  let main_cst_0 : FVec F S_ .f32 := constant S_ .f32 0x7F800000#32
  let main_v8 : FVec F S4352x4096 .f32 := broadcastInDim S4352x4096 ![] bcast_S_S4352x4096 main_cst_0
  let main_v9 : IVec S4352x4096 1 := cmpf .olt main_v7 main_v8
  let main_c_1 : IVec S_ 1 := constantI S_ 1 1#1
  let main_v10 : IVec S_ 1 := (fun x v => Host.reduce IntOp.andi x v reducesTo_S4352x4096_S_d0_1 h_S_) main_v9 main_c_1
  let main_v11 : IVec S_ 1 := andi main_v4 main_v10
  let main_v12 : FVec F S4352x4096 .f32 := (extf .f32 · bitsLt_bf16_f32) main_arg2
  let main_v13 : FVec F S4352x4096 .f32 := Host.absf main_v12
  let main_cst_2 : FVec F S_ .f32 := constant S_ .f32 0x7F800000#32
  let main_v14 : FVec F S4352x4096 .f32 := broadcastInDim S4352x4096 ![] bcast_S_S4352x4096 main_cst_2
  let main_v15 : IVec S4352x4096 1 := cmpf .olt main_v13 main_v14
  let main_c_3 : IVec S_ 1 := constantI S_ 1 1#1
  let main_v16 : IVec S_ 1 := (fun x v => Host.reduce IntOp.andi x v reducesTo_S4352x4096_S_d0_1 h_S_) main_v15 main_c_3
  let main_v17 : IVec S_ 1 := andi main_v11 main_v16
  fn_part1 (F := F) main_arg3 main_v17
-- ==== Kernel.lean ====
abbrev S4352x4096 : Shape := ⟨2, ![4352, 4096]⟩
abbrev S4352x8192 : Shape := ⟨2, ![4352, 8192]⟩
abbrev S1x8 : Shape := ⟨2, ![1, 8]⟩
abbrev S4352 : Shape := ⟨1, ![4352]⟩
abbrev S_ : Shape := ⟨0, ![]⟩
abbrev S4352x2048 : Shape := ⟨2, ![4352, 2048]⟩
abbrev S4352x8x256 : Shape := ⟨3, ![4352, 8, 256]⟩
abbrev S4352x8x512 : Shape := ⟨3, ![4352, 8, 512]⟩
abbrev S17 : Shape := ⟨1, ![17]⟩
abbrev S17x1 : Shape := ⟨2, ![17, 1]⟩
abbrev S1x4352 : Shape := ⟨2, ![1, 4352]⟩
abbrev S17x4352 : Shape := ⟨2, ![17, 4352]⟩
abbrev S8 : Shape := ⟨1, ![8]⟩
abbrev S8x1x1 : Shape := ⟨3, ![8, 1, 1]⟩
abbrev S1x17x4352 : Shape := ⟨3, ![1, 17, 4352]⟩
abbrev S8x17x4352 : Shape := ⟨3, ![8, 17, 4352]⟩
abbrev S8x17x4352x1 : Shape := ⟨4, ![8, 17, 4352, 1]⟩
abbrev S8x4352x256 : Shape := ⟨3, ![8, 4352, 256]⟩
abbrev S8x1x4352x256 : Shape := ⟨4, ![8, 1, 4352, 256]⟩
abbrev S8x17x4352x256 : Shape := ⟨4, ![8, 17, 4352, 256]⟩
abbrev S8x17x256x512 : Shape := ⟨4, ![8, 17, 256, 512]⟩
abbrev S8x8x128 : Shape := ⟨3, ![8, 8, 128]⟩
abbrev S256x1024 : Shape := ⟨2, ![256, 1024]⟩
abbrev S256x2048 : Shape := ⟨2, ![256, 2048]⟩
abbrev S4x1x256x512 : Shape := ⟨4, ![4, 1, 256, 512]⟩
abbrev S4x8x128 : Shape := ⟨3, ![4, 8, 128]⟩
abbrev S4x256x512 : Shape := ⟨3, ![4, 256, 512]⟩
abbrev S1x1 : Shape := ⟨2, ![1, 1]⟩
abbrev S256x256 : Shape := ⟨2, ![256, 256]⟩
abbrev S256x1 : Shape := ⟨2, ![256, 1]⟩
abbrev S256x512 : Shape := ⟨2, ![256, 512]⟩
abbrev S1x1x256x512 : Shape := ⟨4, ![1, 1, 256, 512]⟩
abbrev S1x256x512 : Shape := ⟨3, ![1, 256, 512]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩
abbrev S1x8x128 : Shape := ⟨3, ![1, 8, 128]⟩
abbrev S8x128 : Shape := ⟨2, ![8, 128]⟩

abbrev nBuf : Space → Nat
  | .hbm => 79
  | .vmem => 19
  | .smem => 1
  | _ => 0

abbrev bufTy : (tb : Table) → Fin (tcTables nBuf tb) → BufTy
  | .hbm, ⟨0, _⟩ => ⟨S4352x4096, .bf16⟩
  | .hbm, ⟨1, _⟩ => ⟨S4352x8192, .bf16⟩
  | .hbm, ⟨2, _⟩ => ⟨S4352x4096, .bf16⟩
  | .hbm, ⟨3, _⟩ => ⟨S1x8, .f32⟩
  | .hbm, ⟨4, _⟩ => ⟨S4352, .i32⟩
  | .hbm, ⟨5, _⟩ => ⟨S_, .i32⟩
  | .hbm, ⟨6, _⟩ => ⟨S4352, .i32⟩
  | .hbm, ⟨7, _⟩ => ⟨S4352, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S4352, .i32⟩
  | .hbm, ⟨15, _⟩ => ⟨S4352, .i32⟩
  | .hbm, ⟨16, _⟩ => ⟨S_, .i32⟩
  | .hbm, ⟨17, _⟩ => ⟨S4352, .i32⟩
  | .hbm, ⟨18, _⟩ => ⟨S4352, .i1⟩
  | .hbm, ⟨19, _⟩ => ⟨S_, .i32⟩
  | .hbm, ⟨20, _⟩ => ⟨S4352, .i32⟩
  | .hbm, ⟨21, _⟩ => ⟨S4352, .i1⟩
  | .hbm, ⟨22, _⟩ => ⟨S_, .i32⟩
  | .hbm, ⟨23, _⟩ => ⟨S_, .i1⟩
  | .hbm, ⟨24, _⟩ => ⟨S4352, .i1⟩
  | .hbm, ⟨25, _⟩ => ⟨S4352, .i1⟩
  | .hbm, ⟨26, _⟩ => ⟨S4352, .i1⟩
  | .hbm, ⟨27, _⟩ => ⟨S4352, .i32⟩
  | .hbm, ⟨28, _⟩ => ⟨S4352, .i32⟩
  | .hbm, ⟨29, _⟩ => ⟨S4352, .i32⟩
  | .hbm, ⟨30, _⟩ => ⟨S4352x2048, .bf16⟩
  | .hbm, ⟨31, _⟩ => ⟨S4352x2048, .f32⟩
  | .hbm, ⟨32, _⟩ => ⟨S4352x8x256, .f32⟩
  | .hbm, ⟨33, _⟩ => ⟨S4352x4096, .bf16⟩
  | .hbm, ⟨34, _⟩ => ⟨S4352x4096, .f32⟩
  | .hbm, ⟨35, _⟩ => ⟨S4352x8x512, .f32⟩
  | .hbm, ⟨36, _⟩ => ⟨S17, .i32⟩
  | .hbm, ⟨37, _⟩ => ⟨S17x1, .i32⟩
  | .hbm, ⟨38, _⟩ => ⟨S_, .i32⟩
  | .hbm, ⟨39, _⟩ => ⟨S17x1, .i32⟩
  | .hbm, ⟨40, _⟩ => ⟨S17x1, .i32⟩
  | .hbm, ⟨41, _⟩ => ⟨S_, .i32⟩
  | .hbm, ⟨42, _⟩ => ⟨S17x1, .i32⟩
  | .hbm, ⟨43, _⟩ => ⟨S17x1, .i32⟩
  | .hbm, ⟨44, _⟩ => ⟨S1x4352, .i32⟩
  | .hbm, ⟨45, _⟩ => ⟨S17x4352, .i32⟩
  | .hbm, ⟨46, _⟩ => ⟨S17x4352, .i32⟩
  | .hbm, ⟨47, _⟩ => ⟨S17x4352, .i32⟩
  | .hbm, ⟨48, _⟩ => ⟨S_, .i32⟩
  | .hbm, ⟨49, _⟩ => ⟨S17x4352, .i32⟩
  | .hbm, ⟨50, _⟩ => ⟨S17x4352, .i1⟩
  | .hbm, ⟨51, _⟩ => ⟨S8, .f32⟩
  | .hbm, ⟨52, _⟩ => ⟨S8x1x1, .f32⟩
  | .hbm, ⟨53, _⟩ => ⟨S_, .i32⟩
  | .hbm, ⟨54, _⟩ => ⟨S17x4352, .i32⟩
  | .hbm, ⟨55, _⟩ => ⟨S17x4352, .i32⟩
  | .hbm, ⟨56, _⟩ => ⟨S17x4352, .f32⟩
  | .hbm, ⟨57, _⟩ => ⟨S1x17x4352, .f32⟩
  | .hbm, ⟨58, _⟩ => ⟨S8x17x4352, .f32⟩
  | .hbm, ⟨59, _⟩ => ⟨S8x17x4352, .f32⟩
  | .hbm, ⟨60, _⟩ => ⟨S8x17x4352, .f32⟩
  | .hbm, ⟨61, _⟩ => ⟨S8x17x4352, .f32⟩
  | .hbm, ⟨62, _⟩ => ⟨S_, .f32⟩
  | .hbm, ⟨63, _⟩ => ⟨S_, .f32⟩
  | .hbm, ⟨64, _⟩ => ⟨S8x17x4352, .i1⟩
  | .hbm, ⟨65, _⟩ => ⟨S8x17x4352, .f32⟩
  | .hbm, ⟨66, _⟩ => ⟨S8x17x4352, .f32⟩
  | .hbm, ⟨67, _⟩ => ⟨S8x17x4352x1, .f32⟩
  | .hbm, ⟨68, _⟩ => ⟨S8x4352x256, .f32⟩
  | .hbm, ⟨69, _⟩ => ⟨S8x1x4352x256, .f32⟩
  | .hbm, ⟨70, _⟩ => ⟨S8x17x4352x256, .f32⟩
  | .hbm, ⟨71, _⟩ => ⟨S8x17x4352x256, .f32⟩
  | .hbm, ⟨72, _⟩ => ⟨S8x17x4352x256, .f32⟩
  | .hbm, ⟨73, _⟩ => ⟨S8x17x256x512, .f32⟩
  | .hbm, ⟨74, _⟩ => ⟨S8x17x256x512, .bf16⟩
  | .hbm, ⟨75, _⟩ => ⟨S4352x2048, .bf16⟩
  | .hbm, ⟨76, _⟩ => ⟨S4352x2048, .bf16⟩
  | .hbm, ⟨77, _⟩ => ⟨S4352x4096, .bf16⟩
  | .hbm, ⟨78, _⟩ => ⟨S8x8x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S4x1x256x512, .bf16⟩
  | .local _ .vmem, ⟨9, _⟩ => ⟨S4x1x256x512, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x2048, .bf16⟩
  | .local _ .vmem, ⟨15, _⟩ => ⟨S256x2048, .bf16⟩
  | .local _ .vmem, ⟨16, _⟩ => ⟨S4x8x128, .f32⟩
  | .local _ .vmem, ⟨17, _⟩ => ⟨S4x8x128, .f32⟩
  | .local _ .vmem, ⟨18, _⟩ => ⟨S4x256x512, .f32⟩
  | .local _ .smem, ⟨0, _⟩ => ⟨S1x8, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_c_1 : Ref sig .tc := ⟨.hbm, 38, rfl⟩
abbrev main_v12 : Ref sig .tc := ⟨.hbm, 39, rfl⟩
abbrev main_v13 : Ref sig .tc := ⟨.hbm, 40, rfl⟩
abbrev main_c_2 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c_3 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_4 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41_0 : Ref sig .tc := ⟨.hbm, 75, rfl⟩
abbrev main_v41_1 : Ref sig .tc := ⟨.hbm, 76, rfl⟩
abbrev main_v41_2 : Ref sig .tc := ⟨.hbm, 77, rfl⟩
abbrev main_v41_3 : Ref sig .tc := ⟨.hbm, 78, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 17], ![false, false]⟩

def k0_off1 (i : grid0.Coords) (c0_i32_1 : BitVec 32) : Fin 2 → Nat :=
  let c0 : Index := 0#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v5 : Index := Scalar.indexCast v4
  ![0, v5.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c16_i32_0 : BitVec 32 := 16#32
  let v1 : BitVec 32 := Scalar.addi v0 c16_i32_0
  let c17_i32 : BitVec 32 := 17#32
  let c0_i32 : BitVec 32 := 0#32
  let v2 : BitVec 1 := Scalar.cmpi .eq c17_i32 c0_i32
  let c1_i32 : BitVec 32 := 1#32
  let v3 : BitVec 32 := Scalar.select v2 c1_i32 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  ![v11.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c16_i32_0 : BitVec 32 := 16#32
  let v1 : BitVec 32 := Scalar.addi v0 c16_i32_0
  let c17_i32 : BitVec 32 := 17#32
  let c0_i32 : BitVec 32 := 0#32
  let v2 : BitVec 1 := Scalar.cmpi .eq c17_i32 c0_i32
  let c1_i32 : BitVec 32 := 1#32
  let v3 : BitVec 32 := Scalar.select v2 c1_i32 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c2_i32 : BitVec 32 := 2#32
  let v12 : BitVec 32 := Scalar.addi c2_i32 arg0
  let c0_i32_4 : BitVec 32 := 0#32
  ![v11.toNat, v12.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c16_i32_0 : BitVec 32 := 16#32
  let v1 : BitVec 32 := Scalar.addi v0 c16_i32_0
  let c17_i32 : BitVec 32 := 17#32
  let c0_i32 : BitVec 32 := 0#32
  let v2 : BitVec 1 := Scalar.cmpi .eq c17_i32 c0_i32
  let c1_i32 : BitVec 32 := 1#32
  let v3 : BitVec 32 := Scalar.select v2 c1_i32 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  ![v11.toNat, arg0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c16_i32_0 : BitVec 32 := 16#32
  let v1 : BitVec 32 := Scalar.addi v0 c16_i32_0
  let c17_i32 : BitVec 32 := 17#32
  let c0_i32 : BitVec 32 := 0#32
  let v2 : BitVec 1 := Scalar.cmpi .eq c17_i32 c0_i32
  let c1_i32 : BitVec 32 := 1#32
  let v3 : BitVec 32 := Scalar.select v2 c1_i32 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  ![v11.toNat, arg0.toNat]

def cc0_transform_5 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c16_i32_0 : BitVec 32 := 16#32
  let v1 : BitVec 32 := Scalar.addi v0 c16_i32_0
  let c17_i32 : BitVec 32 := 17#32
  let c0_i32 : BitVec 32 := 0#32
  let v2 : BitVec 1 := Scalar.cmpi .eq c17_i32 c0_i32
  let c1_i32 : BitVec 32 := 1#32
  let v3 : BitVec 32 := Scalar.select v2 c1_i32 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  ![v11.toNat, arg0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c16_i32_0 : BitVec 32 := 16#32
  let v1 : BitVec 32 := Scalar.addi v0 c16_i32_0
  let c17_i32 : BitVec 32 := 17#32
  let c0_i32 : BitVec 32 := 0#32
  let v2 : BitVec 1 := Scalar.cmpi .eq c17_i32 c0_i32
  let c1_i32 : BitVec 32 := 1#32
  let v3 : BitVec 32 := Scalar.select v2 c1_i32 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  ![v11.toNat, arg0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c16_i32_0 : BitVec 32 := 16#32
  let v1 : BitVec 32 := Scalar.addi v0 c16_i32_0
  let c17_i32 : BitVec 32 := 17#32
  let c0_i32 : BitVec 32 := 0#32
  let v2 : BitVec 1 := Scalar.cmpi .eq c17_i32 c0_i32
  let c1_i32 : BitVec 32 := 1#32
  let v3 : BitVec 32 := Scalar.select v2 c1_i32 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  ![v11.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S4352x4096 : Shape := ⟨2, ![4352, 4096]⟩
abbrev S4352x8192 : Shape := ⟨2, ![4352, 8192]⟩
abbrev S1x8 : Shape := ⟨2, ![1, 8]⟩
abbrev S4352 : Shape := ⟨1, ![4352]⟩
abbrev S_ : Shape := ⟨0, ![]⟩
abbrev S4352x2048 : Shape := ⟨2, ![4352, 2048]⟩
abbrev S4352x8x256 : Shape := ⟨3, ![4352, 8, 256]⟩
abbrev S4352x8x512 : Shape := ⟨3, ![4352, 8, 512]⟩
abbrev S8 : Shape := ⟨1, ![8]⟩
abbrev S4352x1 : Shape := ⟨2, ![4352, 1]⟩
abbrev S1x4352 : Shape := ⟨2, ![1, 4352]⟩
abbrev S4352x4352 : Shape := ⟨2, ![4352, 4352]⟩
abbrev S8x1x1 : Shape := ⟨3, ![8, 1, 1]⟩
abbrev S1x4352x4352 : Shape := ⟨3, ![1, 4352, 4352]⟩
abbrev S8x4352x4352 : Shape := ⟨3, ![8, 4352, 4352]⟩
abbrev S8x512x4352 : Shape := ⟨3, ![8, 512, 4352]⟩
abbrev S8x4352x256 : Shape := ⟨3, ![8, 4352, 256]⟩
abbrev S8x8x128 : Shape := ⟨3, ![8, 8, 128]⟩

abbrev nBuf : Space → Nat
  | .hbm => 100
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4352x8192, .bf16⟩
  | .hbm, ⟨2, _⟩ => ⟨S4352x4096, .bf16⟩
  | .hbm, ⟨3, _⟩ => ⟨S1x8, .f32⟩
  | .hbm, ⟨4, _⟩ => ⟨S4352, .i32⟩
  | .hbm, ⟨5, _⟩ => ⟨S_, .i32⟩
  | .hbm, ⟨6, _⟩ => ⟨S4352, .i32⟩
  | .hbm, ⟨7, _⟩ => ⟨S4352, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S4352, .i32⟩
  | .hbm, ⟨15, _⟩ => ⟨S4352, .i32⟩
  | .hbm, ⟨16, _⟩ => ⟨S_, .i32⟩
  | .hbm, ⟨17, _⟩ => ⟨S4352, .i32⟩
  | .hbm, ⟨18, _⟩ => ⟨S4352, .i1⟩
  | .hbm, ⟨19, _⟩ => ⟨S_, .i32⟩
  | .hbm, ⟨20, _⟩ => ⟨S4352, .i32⟩
  | .hbm, ⟨21, _⟩ => ⟨S4352, .i1⟩
  | .hbm, ⟨22, _⟩ => ⟨S_, .i32⟩
  | .hbm, ⟨23, _⟩ => ⟨S_, .i1⟩
  | .hbm, ⟨24, _⟩ => ⟨S4352, .i1⟩
  | .hbm, ⟨25, _⟩ => ⟨S4352, .i1⟩
  | .hbm, ⟨26, _⟩ => ⟨S4352, .i1⟩
  | .hbm, ⟨27, _⟩ => ⟨S4352, .i32⟩
  | .hbm, ⟨28, _⟩ => ⟨S4352, .i32⟩
  | .hbm, ⟨29, _⟩ => ⟨S4352, .i32⟩
  | .hbm, ⟨30, _⟩ => ⟨S4352x2048, .bf16⟩
  | .hbm, ⟨31, _⟩ => ⟨S4352x2048, .f32⟩
  | .hbm, ⟨32, _⟩ => ⟨S4352x8x256, .f32⟩
  | .hbm, ⟨33, _⟩ => ⟨S4352x2048, .bf16⟩
  | .hbm, ⟨34, _⟩ => ⟨S4352x2048, .f32⟩
  | .hbm, ⟨35, _⟩ => ⟨S4352x8x256, .f32⟩
  | .hbm, ⟨36, _⟩ => ⟨S4352x4096, .bf16⟩
  | .hbm, ⟨37, _⟩ => ⟨S4352x4096, .f32⟩
  | .hbm, ⟨38, _⟩ => ⟨S4352x8x512, .f32⟩
  | .hbm, ⟨39, _⟩ => ⟨S4352x4096, .f32⟩
  | .hbm, ⟨40, _⟩ => ⟨S4352x8x512, .f32⟩
  | .hbm, ⟨41, _⟩ => ⟨S8, .f32⟩
  | .hbm, ⟨42, _⟩ => ⟨S4352x1, .i32⟩
  | .hbm, ⟨43, _⟩ => ⟨S1x4352, .i32⟩
  | .hbm, ⟨44, _⟩ => ⟨S4352x4352, .i32⟩
  | .hbm, ⟨45, _⟩ => ⟨S4352x4352, .i32⟩
  | .hbm, ⟨46, _⟩ => ⟨S4352x4352, .i32⟩
  | .hbm, ⟨47, _⟩ => ⟨S_, .i32⟩
  | .hbm, ⟨48, _⟩ => ⟨S4352x4352, .i32⟩
  | .hbm, ⟨49, _⟩ => ⟨S4352x4352, .i1⟩
  | .hbm, ⟨50, _⟩ => ⟨S8x1x1, .f32⟩
  | .hbm, ⟨51, _⟩ => ⟨S_, .i32⟩
  | .hbm, ⟨52, _⟩ => ⟨S4352x4352, .i32⟩
  | .hbm, ⟨53, _⟩ => ⟨S4352x4352, .i32⟩
  | .hbm, ⟨54, _⟩ => ⟨S4352x4352, .f32⟩
  | .hbm, ⟨55, _⟩ => ⟨S1x4352x4352, .f32⟩
  | .hbm, ⟨56, _⟩ => ⟨S8x4352x4352, .f32⟩
  | .hbm, ⟨57, _⟩ => ⟨S8x4352x4352, .f32⟩
  | .hbm, ⟨58, _⟩ => ⟨S8x4352x4352, .f32⟩
  | .hbm, ⟨59, _⟩ => ⟨S8x4352x4352, .f32⟩
  | .hbm, ⟨60, _⟩ => ⟨S_, .f32⟩
  | .hbm, ⟨61, _⟩ => ⟨S_, .f32⟩
  | .hbm, ⟨62, _⟩ => ⟨S8x4352x4352, .i1⟩
  | .hbm, ⟨63, _⟩ => ⟨S8x4352x4352, .f32⟩
  | .hbm, ⟨64, _⟩ => ⟨S8x4352x4352, .f32⟩
  | .hbm, ⟨65, _⟩ => ⟨S_, .f32⟩
  | .hbm, ⟨66, _⟩ => ⟨S8x4352x4352, .f32⟩
  | .hbm, ⟨67, _⟩ => ⟨S8x4352x4352, .f32⟩
  | .hbm, ⟨68, _⟩ => ⟨S8x4352x4352, .f32⟩
  | .hbm, ⟨69, _⟩ => ⟨S8x512x4352, .f32⟩
  | .hbm, ⟨70, _⟩ => ⟨S4352x8x512, .f32⟩
  | .hbm, ⟨71, _⟩ => ⟨S8x512x4352, .f32⟩
  | .hbm, ⟨72, _⟩ => ⟨S8x4352x4352, .f32⟩
  | .hbm, ⟨73, _⟩ => ⟨S8x512x4352, .f32⟩
  | .hbm, ⟨74, _⟩ => ⟨S4352x8x512, .f32⟩
  | .hbm, ⟨75, _⟩ => ⟨S8x4352x4352, .f32⟩
  | .hbm, ⟨76, _⟩ => ⟨S8x4352x4352, .f32⟩
  | .hbm, ⟨77, _⟩ => ⟨S8x4352x256, .f32⟩
  | .hbm, ⟨78, _⟩ => ⟨S4352x8x256, .f32⟩
  | .hbm, ⟨79, _⟩ => ⟨S8x4352x256, .f32⟩
  | .hbm, ⟨80, _⟩ => ⟨S4352x8x256, .f32⟩
  | .hbm, ⟨81, _⟩ => ⟨S_, .f32⟩
  | .hbm, ⟨82, _⟩ => ⟨S8x4352x4352, .f32⟩
  | .hbm, ⟨83, _⟩ => ⟨S8x4352x4352, .f32⟩
  | .hbm, ⟨84, _⟩ => ⟨S8x4352x4352, .f32⟩
  | .hbm, ⟨85, _⟩ => ⟨S8x4352x4352, .f32⟩
  | .hbm, ⟨86, _⟩ => ⟨S8x4352x4352, .f32⟩
  | .hbm, ⟨87, _⟩ => ⟨S_, .f32⟩
  | .hbm, ⟨88, _⟩ => ⟨S8, .f32⟩
  | .hbm, ⟨89, _⟩ => ⟨S8x1x1, .f32⟩
  | .hbm, ⟨90, _⟩ => ⟨S_, .f32⟩
  | .hbm, ⟨91, _⟩ => ⟨S8, .f32⟩
  | .hbm, ⟨92, _⟩ => ⟨S4352x2048, .f32⟩
  | .hbm, ⟨93, _⟩ => ⟨S4352x2048, .bf16⟩
  | .hbm, ⟨94, _⟩ => ⟨S4352x2048, .f32⟩
  | .hbm, ⟨95, _⟩ => ⟨S4352x2048, .bf16⟩
  | .hbm, ⟨96, _⟩ => ⟨S4352x4096, .f32⟩
  | .hbm, ⟨97, _⟩ => ⟨S4352x4096, .bf16⟩
  | .hbm, ⟨98, _⟩ => ⟨S8x1x1, .f32⟩
  | .hbm, ⟨99, _⟩ => ⟨S8x8x128, .f32⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_1 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_2 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst : Ref sig .tc := ⟨.hbm, 60, rfl⟩
abbrev main_call1_v0 : Ref sig .tc := ⟨.hbm, 61, rfl⟩
abbrev main_v32_1 : Ref sig .tc := ⟨.hbm, 62, rfl⟩
abbrev main_call1_v2 : Ref sig .tc := ⟨.hbm, 63, rfl⟩
abbrev main_v32_0 : Ref sig .tc := ⟨.hbm, 64, rfl⟩
abbrev main_call1_cst : Ref sig .tc := ⟨.hbm, 65, rfl⟩
abbrev main_v32_2 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_call2_cst : Ref sig .tc := ⟨.hbm, 81, rfl⟩
abbrev main_call2_v0 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_3 : Ref sig .tc := ⟨.hbm, 87, rfl⟩
abbrev main_v51 : Ref sig .tc := ⟨.hbm, 88, rfl⟩
abbrev main_v52 : Ref sig .tc := ⟨.hbm, 89, rfl⟩
abbrev main_cst_4 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩

abbrev nD : Nat := 1
abbrev τ : Topo := Topo.v7x

variable {F : FTy → Type} [FloatOps F]
-- ==== Kernel2.lean ====
abbrev S4352x4096 : Shape := ⟨2, ![4352, 4096]⟩
abbrev S4352x8192 : Shape := ⟨2, ![4352, 8192]⟩
abbrev S1x8 : Shape := ⟨2, ![1, 8]⟩
abbrev S4352 : Shape := ⟨1, ![4352]⟩
abbrev S_ : Shape := ⟨0, ![]⟩
abbrev S4352x2048 : Shape := ⟨2, ![4352, 2048]⟩
abbrev S4352x8x256 : Shape := ⟨3, ![4352, 8, 256]⟩
abbrev S4352x8x512 : Shape := ⟨3, ![4352, 8, 512]⟩
abbrev S17 : Shape := ⟨1, ![17]⟩
abbrev S17x1 : Shape := ⟨2, ![17, 1]⟩
abbrev S1x4352 : Shape := ⟨2, ![1, 4352]⟩
abbrev S17x4352 : Shape := ⟨2, ![17, 4352]⟩
abbrev S8 : Shape := ⟨1, ![8]⟩
abbrev S8x1x1 : Shape := ⟨3, ![8, 1, 1]⟩
abbrev S1x17x4352 : Shape := ⟨3, ![1, 17, 4352]⟩
abbrev S8x17x4352 : Shape := ⟨3, ![8, 17, 4352]⟩
abbrev S8x17x4352x1 : Shape := ⟨4, ![8, 17, 4352, 1]⟩
abbrev S8x4352x256 : Shape := ⟨3, ![8, 4352, 256]⟩
abbrev S8x1x4352x256 : Shape := ⟨4, ![8, 1, 4352, 256]⟩
abbrev S8x17x4352x256 : Shape := ⟨4, ![8, 17, 4352, 256]⟩
abbrev S8x17x256x512 : Shape := ⟨4, ![8, 17, 256, 512]⟩
abbrev S8x8x128 : Shape := ⟨3, ![8, 8, 128]⟩
abbrev S256x1024 : Shape := ⟨2, ![256, 1024]⟩
abbrev S256x2048 : Shape := ⟨2, ![256, 2048]⟩
abbrev S4x1x256x512 : Shape := ⟨4, ![4, 1, 256, 512]⟩
abbrev S4x8x128 : Shape := ⟨3, ![4, 8, 128]⟩
abbrev S4x256x512 : Shape := ⟨3, ![4, 256, 512]⟩
abbrev S1x1 : Shape := ⟨2, ![1, 1]⟩
abbrev S256x256 : Shape := ⟨2, ![256, 256]⟩
abbrev S256x1 : Shape := ⟨2, ![256, 1]⟩
abbrev S256x512 : Shape := ⟨2, ![256, 512]⟩
abbrev S1x1x256x512 : Shape := ⟨4, ![1, 1, 256, 512]⟩
abbrev S1x256x512 : Shape := ⟨3, ![1, 256, 512]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩
abbrev S1x8x128 : Shape := ⟨3, ![1, 8, 128]⟩
abbrev S8x128 : Shape := ⟨2, ![8, 128]⟩

abbrev nBuf : Space → Nat
  | .hbm => 57
  | .vmem => 19
  | .smem => 1
  | _ => 0

abbrev bufTy : (tb : Table) → Fin (tcTables nBuf tb) → BufTy
  | .hbm, ⟨0, _⟩ => ⟨S4352x4096, .bf16⟩
  | .hbm, ⟨1, _⟩ => ⟨S4352x8192, .bf16⟩
  | .hbm, ⟨2, _⟩ => ⟨S4352x4096, .bf16⟩
  | .hbm, ⟨3, _⟩ => ⟨S1x8, .f32⟩
  | .hbm, ⟨4, _⟩ => ⟨S4352, .i32⟩
  | .hbm, ⟨5, _⟩ => ⟨S_, .i32⟩
  | .hbm, ⟨6, _⟩ => ⟨S4352, .i32⟩
  | .hbm, ⟨7, _⟩ => ⟨S4352, .i32⟩
  | .hbm, ⟨8, _⟩ => ⟨S4352x2048, .bf16⟩
  | .hbm, ⟨9, _⟩ => ⟨S4352x2048, .f32⟩
  | .hbm, ⟨10, _⟩ => ⟨S4352x8x256, .f32⟩
  | .hbm, ⟨11, _⟩ => ⟨S4352x4096, .bf16⟩
  | .hbm, ⟨12, _⟩ => ⟨S4352x4096, .f32⟩
  | .hbm, ⟨13, _⟩ => ⟨S4352x8x512, .f32⟩
  | .hbm, ⟨14, _⟩ => ⟨S17, .i32⟩
  | .hbm, ⟨15, _⟩ => ⟨S17x1, .i32⟩
  | .hbm, ⟨16, _⟩ => ⟨S_, .i32⟩
  | .hbm, ⟨17, _⟩ => ⟨S17x1, .i32⟩
  | .hbm, ⟨18, _⟩ => ⟨S17x1, .i32⟩
  | .hbm, ⟨19, _⟩ => ⟨S_, .i32⟩
  | .hbm, ⟨20, _⟩ => ⟨S17x1, .i32⟩
  | .hbm, ⟨21, _⟩ => ⟨S17x1, .i32⟩
  | .hbm, ⟨22, _⟩ => ⟨S1x4352, .i32⟩
  | .hbm, ⟨23, _⟩ => ⟨S17x4352, .i32⟩
  | .hbm, ⟨24, _⟩ => ⟨S17x4352, .i32⟩
  | .hbm, ⟨25, _⟩ => ⟨S17x4352, .i32⟩
  | .hbm, ⟨26, _⟩ => ⟨S_, .i32⟩
  | .hbm, ⟨27, _⟩ => ⟨S17x4352, .i32⟩
  | .hbm, ⟨28, _⟩ => ⟨S17x4352, .i1⟩
  | .hbm, ⟨29, _⟩ => ⟨S8, .f32⟩
  | .hbm, ⟨30, _⟩ => ⟨S8x1x1, .f32⟩
  | .hbm, ⟨31, _⟩ => ⟨S_, .i32⟩
  | .hbm, ⟨32, _⟩ => ⟨S17x4352, .i32⟩
  | .hbm, ⟨33, _⟩ => ⟨S17x4352, .i32⟩
  | .hbm, ⟨34, _⟩ => ⟨S17x4352, .f32⟩
  | .hbm, ⟨35, _⟩ => ⟨S1x17x4352, .f32⟩
  | .hbm, ⟨36, _⟩ => ⟨S8x17x4352, .f32⟩
  | .hbm, ⟨37, _⟩ => ⟨S8x17x4352, .f32⟩
  | .hbm, ⟨38, _⟩ => ⟨S8x17x4352, .f32⟩
  | .hbm, ⟨39, _⟩ => ⟨S8x17x4352, .f32⟩
  | .hbm, ⟨40, _⟩ => ⟨S_, .f32⟩
  | .hbm, ⟨41, _⟩ => ⟨S_, .f32⟩
  | .hbm, ⟨42, _⟩ => ⟨S8x17x4352, .i1⟩
  | .hbm, ⟨43, _⟩ => ⟨S8x17x4352, .f32⟩
  | .hbm, ⟨44, _⟩ => ⟨S8x17x4352, .f32⟩
  | .hbm, ⟨45, _⟩ => ⟨S8x17x4352x1, .f32⟩
  | .hbm, ⟨46, _⟩ => ⟨S8x4352x256, .f32⟩
  | .hbm, ⟨47, _⟩ => ⟨S8x1x4352x256, .f32⟩
  | .hbm, ⟨48, _⟩ => ⟨S8x17x4352x256, .f32⟩
  | .hbm, ⟨49, _⟩ => ⟨S8x17x4352x256, .f32⟩
  | .hbm, ⟨50, _⟩ => ⟨S8x17x4352x256, .f32⟩
  | .hbm, ⟨51, _⟩ => ⟨S8x17x256x512, .f32⟩
  | .hbm, ⟨52, _⟩ => ⟨S8x17x256x512, .bf16⟩
  | .hbm, ⟨53, _⟩ => ⟨S4352x2048, .bf16⟩
  | .hbm, ⟨54, _⟩ => ⟨S4352x2048, .bf16⟩
  | .hbm, ⟨55, _⟩ => ⟨S4352x4096, .bf16⟩
  | .hbm, ⟨56, _⟩ => ⟨S8x8x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S4x1x256x512, .bf16⟩
  | .local _ .vmem, ⟨9, _⟩ => ⟨S4x1x256x512, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x2048, .bf16⟩
  | .local _ .vmem, ⟨15, _⟩ => ⟨S256x2048, .bf16⟩
  | .local _ .vmem, ⟨16, _⟩ => ⟨S4x8x128, .f32⟩
  | .local _ .vmem, ⟨17, _⟩ => ⟨S4x8x128, .f32⟩
  | .local _ .vmem, ⟨18, _⟩ => ⟨S4x256x512, .f32⟩
  | .local _ .smem, ⟨0, _⟩ => ⟨S1x8, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40_0 : Ref sig .tc := ⟨.hbm, 53, rfl⟩
abbrev main_v40_1 : Ref sig .tc := ⟨.hbm, 54, rfl⟩
abbrev main_v40_2 : Ref sig .tc := ⟨.hbm, 55, rfl⟩
abbrev main_v40_3 : Ref sig .tc := ⟨.hbm, 56, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 17], ![false, false]⟩

def k0_off1 (i : grid0.Coords) (c0_i32_1 : BitVec 32) : Fin 2 → Nat :=
  let c0 : Index := 0#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v5 : Index := Scalar.indexCast v4
  ![0, v5.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c16_i32_0 : BitVec 32 := 16#32
  let v1 : BitVec 32 := Scalar.subi c16_i32_0 v0
  let c0_i32 : BitVec 32 := 0#32
  ![v1.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c16_i32_0 : BitVec 32 := 16#32
  let v1 : BitVec 32 := Scalar.subi c16_i32_0 v0
  let c2_i32 : BitVec 32 := 2#32
  let v2 : BitVec 32 := Scalar.addi c2_i32 arg0
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c16_i32_0 : BitVec 32 := 16#32
  let v1 : BitVec 32 := Scalar.subi c16_i32_0 v0
  let c0_i32 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c16_i32_0 : BitVec 32 := 16#32
  let v1 : BitVec 32 := Scalar.subi c16_i32_0 v0
  let c0_i32 : BitVec 32 := 0#32
  ![v1.toNat, arg0.toNat]

def cc0_transform_5 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c16_i32_0 : BitVec 32 := 16#32
  let v1 : BitVec 32 := Scalar.subi c16_i32_0 v0
  let c0_i32 : BitVec 32 := 0#32
  ![v1.toNat, arg0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c16_i32_0 : BitVec 32 := 16#32
  let v1 : BitVec 32 := Scalar.subi c16_i32_0 v0
  let c0_i32 : BitVec 32 := 0#32
  ![v1.toNat, arg0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c16_i32_0 : BitVec 32 := 16#32
  let v1 : BitVec 32 := Scalar.subi c16_i32_0 v0
  let c0_i32 : BitVec 32 := 0#32
  ![v1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S4352x4096 : Shape := ⟨2, ![4352, 4096]⟩
abbrev S4352x8192 : Shape := ⟨2, ![4352, 8192]⟩
abbrev S1x8 : Shape := ⟨2, ![1, 8]⟩
abbrev S4352 : Shape := ⟨1, ![4352]⟩
abbrev S_ : Shape := ⟨0, ![]⟩
abbrev S4352x2048 : Shape := ⟨2, ![4352, 2048]⟩
abbrev S4352x8x256 : Shape := ⟨3, ![4352, 8, 256]⟩
abbrev S4352x8x512 : Shape := ⟨3, ![4352, 8, 512]⟩
abbrev S8 : Shape := ⟨1, ![8]⟩
abbrev S4352x1 : Shape := ⟨2, ![4352, 1]⟩
abbrev S1x4352 : Shape := ⟨2, ![1, 4352]⟩
abbrev S4352x4352 : Shape := ⟨2, ![4352, 4352]⟩
abbrev S8x1x1 : Shape := ⟨3, ![8, 1, 1]⟩
abbrev S1x4352x4352 : Shape := ⟨3, ![1, 4352, 4352]⟩
abbrev S8x4352x4352 : Shape := ⟨3, ![8, 4352, 4352]⟩
abbrev S8x512x4352 : Shape := ⟨3, ![8, 512, 4352]⟩
abbrev S8x4352x256 : Shape := ⟨3, ![8, 4352, 256]⟩
abbrev S8x8x128 : Shape := ⟨3, ![8, 8, 128]⟩

abbrev nBuf : Space → Nat
  | .hbm => 78
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4352x8192, .bf16⟩
  | .hbm, ⟨2, _⟩ => ⟨S4352x4096, .bf16⟩
  | .hbm, ⟨3, _⟩ => ⟨S1x8, .f32⟩
  | .hbm, ⟨4, _⟩ => ⟨S4352, .i32⟩
  | .hbm, ⟨5, _⟩ => ⟨S_, .i32⟩
  | .hbm, ⟨6, _⟩ => ⟨S4352, .i32⟩
  | .hbm, ⟨7, _⟩ => ⟨S4352, .i32⟩
  | .hbm, ⟨8, _⟩ => ⟨S4352x2048, .bf16⟩
  | .hbm, ⟨9, _⟩ => ⟨S4352x2048, .f32⟩
  | .hbm, ⟨10, _⟩ => ⟨S4352x8x256, .f32⟩
  | .hbm, ⟨11, _⟩ => ⟨S4352x2048, .bf16⟩
  | .hbm, ⟨12, _⟩ => ⟨S4352x2048, .f32⟩
  | .hbm, ⟨13, _⟩ => ⟨S4352x8x256, .f32⟩
  | .hbm, ⟨14, _⟩ => ⟨S4352x4096, .bf16⟩
  | .hbm, ⟨15, _⟩ => ⟨S4352x4096, .f32⟩
  | .hbm, ⟨16, _⟩ => ⟨S4352x8x512, .f32⟩
  | .hbm, ⟨17, _⟩ => ⟨S4352x4096, .f32⟩
  | .hbm, ⟨18, _⟩ => ⟨S4352x8x512, .f32⟩
  | .hbm, ⟨19, _⟩ => ⟨S8, .f32⟩
  | .hbm, ⟨20, _⟩ => ⟨S4352x1, .i32⟩
  | .hbm, ⟨21, _⟩ => ⟨S1x4352, .i32⟩
  | .hbm, ⟨22, _⟩ => ⟨S4352x4352, .i32⟩
  | .hbm, ⟨23, _⟩ => ⟨S4352x4352, .i32⟩
  | .hbm, ⟨24, _⟩ => ⟨S4352x4352, .i32⟩
  | .hbm, ⟨25, _⟩ => ⟨S_, .i32⟩
  | .hbm, ⟨26, _⟩ => ⟨S4352x4352, .i32⟩
  | .hbm, ⟨27, _⟩ => ⟨S4352x4352, .i1⟩
  | .hbm, ⟨28, _⟩ => ⟨S8x1x1, .f32⟩
  | .hbm, ⟨29, _⟩ => ⟨S_, .i32⟩
  | .hbm, ⟨30, _⟩ => ⟨S4352x4352, .i32⟩
  | .hbm, ⟨31, _⟩ => ⟨S4352x4352, .i32⟩
  | .hbm, ⟨32, _⟩ => ⟨S4352x4352, .f32⟩
  | .hbm, ⟨33, _⟩ => ⟨S1x4352x4352, .f32⟩
  | .hbm, ⟨34, _⟩ => ⟨S8x4352x4352, .f32⟩
  | .hbm, ⟨35, _⟩ => ⟨S8x4352x4352, .f32⟩
  | .hbm, ⟨36, _⟩ => ⟨S8x4352x4352, .f32⟩
  | .hbm, ⟨37, _⟩ => ⟨S8x4352x4352, .f32⟩
  | .hbm, ⟨38, _⟩ => ⟨S_, .f32⟩
  | .hbm, ⟨39, _⟩ => ⟨S_, .f32⟩
  | .hbm, ⟨40, _⟩ => ⟨S8x4352x4352, .i1⟩
  | .hbm, ⟨41, _⟩ => ⟨S8x4352x4352, .f32⟩
  | .hbm, ⟨42, _⟩ => ⟨S8x4352x4352, .f32⟩
  | .hbm, ⟨43, _⟩ => ⟨S_, .f32⟩
  | .hbm, ⟨44, _⟩ => ⟨S8x4352x4352, .f32⟩
  | .hbm, ⟨45, _⟩ => ⟨S8x4352x4352, .f32⟩
  | .hbm, ⟨46, _⟩ => ⟨S8x4352x4352, .f32⟩
  | .hbm, ⟨47, _⟩ => ⟨S8x512x4352, .f32⟩
  | .hbm, ⟨48, _⟩ => ⟨S4352x8x512, .f32⟩
  | .hbm, ⟨49, _⟩ => ⟨S8x512x4352, .f32⟩
  | .hbm, ⟨50, _⟩ => ⟨S8x4352x4352, .f32⟩
  | .hbm, ⟨51, _⟩ => ⟨S8x512x4352, .f32⟩
  | .hbm, ⟨52, _⟩ => ⟨S4352x8x512, .f32⟩
  | .hbm, ⟨53, _⟩ => ⟨S8x4352x4352, .f32⟩
  | .hbm, ⟨54, _⟩ => ⟨S8x4352x4352, .f32⟩
  | .hbm, ⟨55, _⟩ => ⟨S8x4352x256, .f32⟩
  | .hbm, ⟨56, _⟩ => ⟨S4352x8x256, .f32⟩
  | .hbm, ⟨57, _⟩ => ⟨S8x4352x256, .f32⟩
  | .hbm, ⟨58, _⟩ => ⟨S4352x8x256, .f32⟩
  | .hbm, ⟨59, _⟩ => ⟨S_, .f32⟩
  | .hbm, ⟨60, _⟩ => ⟨S8x4352x4352, .f32⟩
  | .hbm, ⟨61, _⟩ => ⟨S8x4352x4352, .f32⟩
  | .hbm, ⟨62, _⟩ => ⟨S8x4352x4352, .f32⟩
  | .hbm, ⟨63, _⟩ => ⟨S8x4352x4352, .f32⟩
  | .hbm, ⟨64, _⟩ => ⟨S8x4352x4352, .f32⟩
  | .hbm, ⟨65, _⟩ => ⟨S_, .f32⟩
  | .hbm, ⟨66, _⟩ => ⟨S8, .f32⟩
  | .hbm, ⟨67, _⟩ => ⟨S8x1x1, .f32⟩
  | .hbm, ⟨68, _⟩ => ⟨S_, .f32⟩
  | .hbm, ⟨69, _⟩ => ⟨S8, .f32⟩
  | .hbm, ⟨70, _⟩ => ⟨S4352x2048, .f32⟩
  | .hbm, ⟨71, _⟩ => ⟨S4352x2048, .bf16⟩
  | .hbm, ⟨72, _⟩ => ⟨S4352x2048, .f32⟩
  | .hbm, ⟨73, _⟩ => ⟨S4352x2048, .bf16⟩
  | .hbm, ⟨74, _⟩ => ⟨S4352x4096, .f32⟩
  | .hbm, ⟨75, _⟩ => ⟨S4352x4096, .bf16⟩
  | .hbm, ⟨76, _⟩ => ⟨S8x1x1, .f32⟩
  | .hbm, ⟨77, _⟩ => ⟨S8x8x128, .f32⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst : Ref sig .tc := ⟨.hbm, 38, rfl⟩
abbrev main_call0_v0 : Ref sig .tc := ⟨.hbm, 39, rfl⟩
abbrev main_v31_1 : Ref sig .tc := ⟨.hbm, 40, rfl⟩
abbrev main_call0_v2 : Ref sig .tc := ⟨.hbm, 41, rfl⟩
abbrev main_v31_0 : Ref sig .tc := ⟨.hbm, 42, rfl⟩
abbrev main_call0_cst : Ref sig .tc := ⟨.hbm, 43, rfl⟩
abbrev main_v31_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_call1_cst : Ref sig .tc := ⟨.hbm, 59, rfl⟩
abbrev main_call1_v0 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_2 : Ref sig .tc := ⟨.hbm, 65, rfl⟩
abbrev main_v50 : Ref sig .tc := ⟨.hbm, 66, rfl⟩
abbrev main_v51 : Ref sig .tc := ⟨.hbm, 67, rfl⟩
abbrev main_cst_3 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩

abbrev nD : Nat := 1
abbrev τ : Topo := Topo.v7x

variable {F : FTy → Type} [FloatOps F]
-- ==== Kernel3.lean ====
abbrev S4352x2048 : Shape := ⟨2, ![4352, 2048]⟩
abbrev S2048x8192 : Shape := ⟨2, ![2048, 8192]⟩
abbrev S8192x2048 : Shape := ⟨2, ![8192, 2048]⟩
abbrev S4352x8192 : Shape := ⟨2, ![4352, 8192]⟩
abbrev S_ : Shape := ⟨0, ![]⟩
abbrev S4352x512 : Shape := ⟨2, ![4352, 512]⟩
abbrev S4352x1024 : Shape := ⟨2, ![4352, 1024]⟩
abbrev S512x1024 : Shape := ⟨2, ![512, 1024]⟩

abbrev nBuf : Space → Nat
  | .hbm => 14
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x8192, .bf16⟩
  | .hbm, ⟨2, _⟩ => ⟨S8192x2048, .bf16⟩
  | .hbm, ⟨3, _⟩ => ⟨S4352x2048, .bf16⟩
  | .hbm, ⟨4, _⟩ => ⟨S4352x2048, .f32⟩
  | .hbm, ⟨5, _⟩ => ⟨S2048x8192, .f32⟩
  | .hbm, ⟨6, _⟩ => ⟨S4352x8192, .f32⟩
  | .hbm, ⟨7, _⟩ => ⟨S_, .f32⟩
  | .hbm, ⟨8, _⟩ => ⟨S4352x8192, .f32⟩
  | .hbm, ⟨9, _⟩ => ⟨S4352x8192, .f32⟩
  | .hbm, ⟨10, _⟩ => ⟨S4352x8192, .bf16⟩
  | .hbm, ⟨11, _⟩ => ⟨S4352x8192, .f32⟩
  | .hbm, ⟨12, _⟩ => ⟨S4352x8192, .bf16⟩
  | .hbm, ⟨13, _⟩ => ⟨S8192x2048, .bf16⟩
  | .local _ .vmem, ⟨0, _⟩ => ⟨S4352x512, .bf16⟩
  | .local _ .vmem, ⟨1, _⟩ => ⟨S4352x512, .bf16⟩
  | .local _ .vmem, ⟨2, _⟩ => ⟨S4352x1024, .bf16⟩
  | .local _ .vmem, ⟨3, _⟩ => ⟨S4352x1024, .bf16⟩
  | .local _ .vmem, ⟨4, _⟩ => ⟨S512x1024, .bf16⟩
  | .local _ .vmem, ⟨5, _⟩ => ⟨S512x1024, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4352x2048 : Shape := ⟨2, ![4352, 2048]⟩
abbrev S2048x8192 : Shape := ⟨2, ![2048, 8192]⟩
abbrev S8192x2048 : Shape := ⟨2, ![8192, 2048]⟩
abbrev S4352x8192 : Shape := ⟨2, ![4352, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x8192, .bf16⟩
  | .hbm, ⟨2, _⟩ => ⟨S8192x2048, .bf16⟩
  | .hbm, ⟨3, _⟩ => ⟨S4352x2048, .bf16⟩
  | .hbm, ⟨4, _⟩ => ⟨S4352x2048, .f32⟩
  | .hbm, ⟨5, _⟩ => ⟨S2048x8192, .f32⟩
  | .hbm, ⟨6, _⟩ => ⟨S4352x8192, .f32⟩
  | .hbm, ⟨7, _⟩ => ⟨S8192x2048, .f32⟩
  | .hbm, ⟨8, _⟩ => ⟨S_, .f32⟩
  | .hbm, ⟨9, _⟩ => ⟨S4352x8192, .f32⟩
  | .hbm, ⟨10, _⟩ => ⟨S4352x8192, .f32⟩
  | .hbm, ⟨11, _⟩ => ⟨S4352x8192, .f32⟩
  | .hbm, ⟨12, _⟩ => ⟨S4352x2048, .f32⟩
  | .hbm, ⟨13, _⟩ => ⟨S4352x2048, .f32⟩
  | .hbm, ⟨14, _⟩ => ⟨S2048x8192, .f32⟩
  | .hbm, ⟨15, _⟩ => ⟨S8192x2048, .f32⟩
  | .hbm, ⟨16, _⟩ => ⟨S8192x2048, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel4.lean ====
abbrev S4352x2048 : Shape := ⟨2, ![4352, 2048]⟩
abbrev S2048x8192 : Shape := ⟨2, ![2048, 8192]⟩
abbrev S8192x2048 : Shape := ⟨2, ![8192, 2048]⟩
abbrev S4352x8192 : Shape := ⟨2, ![4352, 8192]⟩
abbrev S_ : Shape := ⟨0, ![]⟩
abbrev S1088x2048 : Shape := ⟨2, ![1088, 2048]⟩
abbrev S1024x2048 : Shape := ⟨2, ![1024, 2048]⟩
abbrev S1088x1024 : Shape := ⟨2, ![1088, 1024]⟩

abbrev nBuf : Space → Nat
  | .hbm => 14
  | .vmem => 8
  | .smem => 0
  | _ => 0

abbrev bufTy : (tb : Table) → Fin (tcTables nBuf tb) → BufTy
  | .hbm, ⟨0, _⟩ => ⟨S4352x2048, .bf16⟩
  | .hbm, ⟨1, _⟩ => ⟨S2048x8192, .bf16⟩
  | .hbm, ⟨2, _⟩ => ⟨S8192x2048, .bf16⟩
  | .hbm, ⟨3, _⟩ => ⟨S4352x2048, .bf16⟩
  | .hbm, ⟨4, _⟩ => ⟨S4352x2048, .f32⟩
  | .hbm, ⟨5, _⟩ => ⟨S2048x8192, .f32⟩
  | .hbm, ⟨6, _⟩ => ⟨S4352x8192, .f32⟩
  | .hbm, ⟨7, _⟩ => ⟨S_, .f32⟩
  | .hbm, ⟨8, _⟩ => ⟨S4352x8192, .f32⟩
  | .hbm, ⟨9, _⟩ => ⟨S4352x8192, .f32⟩
  | .hbm, ⟨10, _⟩ => ⟨S4352x8192, .bf16⟩
  | .hbm, ⟨11, _⟩ => ⟨S4352x8192, .f32⟩
  | .hbm, ⟨12, _⟩ => ⟨S4352x8192, .bf16⟩
  | .hbm, ⟨13, _⟩ => ⟨S4352x8192, .bf16⟩
  | .local _ .vmem, ⟨0, _⟩ => ⟨S1088x2048, .bf16⟩
  | .local _ .vmem, ⟨1, _⟩ => ⟨S1088x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1088x1024, .bf16⟩
  | .local _ .vmem, ⟨5, _⟩ => ⟨S1088x1024, .bf16⟩
  | .local _ .vmem, ⟨6, _⟩ => ⟨S1088x1024, .bf16⟩
  | .local _ .vmem, ⟨7, _⟩ => ⟨S1088x1024, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4352x2048 : Shape := ⟨2, ![4352, 2048]⟩
abbrev S2048x8192 : Shape := ⟨2, ![2048, 8192]⟩
abbrev S8192x2048 : Shape := ⟨2, ![8192, 2048]⟩
abbrev S4352x8192 : Shape := ⟨2, ![4352, 8192]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x8192, .bf16⟩
  | .hbm, ⟨2, _⟩ => ⟨S8192x2048, .bf16⟩
  | .hbm, ⟨3, _⟩ => ⟨S4352x2048, .bf16⟩
  | .hbm, ⟨4, _⟩ => ⟨S4352x2048, .f32⟩
  | .hbm, ⟨5, _⟩ => ⟨S2048x8192, .f32⟩
  | .hbm, ⟨6, _⟩ => ⟨S4352x8192, .f32⟩
  | .hbm, ⟨7, _⟩ => ⟨S8192x2048, .f32⟩
  | .hbm, ⟨8, _⟩ => ⟨S_, .f32⟩
  | .hbm, ⟨9, _⟩ => ⟨S4352x8192, .f32⟩
  | .hbm, ⟨10, _⟩ => ⟨S4352x8192, .f32⟩
  | .hbm, ⟨11, _⟩ => ⟨S_, .f32⟩
  | .hbm, ⟨12, _⟩ => ⟨S4352x8192, .f32⟩
  | .hbm, ⟨13, _⟩ => ⟨S4352x8192, .i1⟩
  | .hbm, ⟨14, _⟩ => ⟨S_, .f32⟩
  | .hbm, ⟨15, _⟩ => ⟨S4352x8192, .f32⟩
  | .hbm, ⟨16, _⟩ => ⟨S4352x8192, .f32⟩
  | .hbm, ⟨17, _⟩ => ⟨S_, .f32⟩
  | .hbm, ⟨18, _⟩ => ⟨S4352x8192, .f32⟩
  | .hbm, ⟨19, _⟩ => ⟨S4352x8192, .f32⟩
  | .hbm, ⟨20, _⟩ => ⟨S4352x2048, .f32⟩
  | .hbm, ⟨21, _⟩ => ⟨S4352x2048, .f32⟩
  | .hbm, ⟨22, _⟩ => ⟨S4352x8192, .f32⟩
  | .hbm, ⟨23, _⟩ => ⟨S4352x8192, .f32⟩
  | .hbm, ⟨24, _⟩ => ⟨S_, .f32⟩
  | .hbm, ⟨25, _⟩ => ⟨S4352x8192, .f32⟩
  | .hbm, ⟨26, _⟩ => ⟨S4352x8192, .f32⟩
  | .hbm, ⟨27, _⟩ => ⟨S4352x8192, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Kernel5.lean ====
abbrev S4352x2048 : Shape := ⟨2, ![4352, 2048]⟩
abbrev S2048x8192 : Shape := ⟨2, ![2048, 8192]⟩
abbrev S8192x2048 : Shape := ⟨2, ![8192, 2048]⟩
abbrev S4352x8192 : Shape := ⟨2, ![4352, 8192]⟩
abbrev S_ : Shape := ⟨0, ![]⟩
abbrev S4352x512 : Shape := ⟨2, ![4352, 512]⟩
abbrev S4352x1024 : Shape := ⟨2, ![4352, 1024]⟩
abbrev S512x1024 : Shape := ⟨2, ![512, 1024]⟩

abbrev nBuf : Space → Nat
  | .hbm => 24
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x8192, .bf16⟩
  | .hbm, ⟨2, _⟩ => ⟨S8192x2048, .bf16⟩
  | .hbm, ⟨3, _⟩ => ⟨S4352x2048, .bf16⟩
  | .hbm, ⟨4, _⟩ => ⟨S4352x2048, .f32⟩
  | .hbm, ⟨5, _⟩ => ⟨S2048x8192, .f32⟩
  | .hbm, ⟨6, _⟩ => ⟨S4352x8192, .f32⟩
  | .hbm, ⟨7, _⟩ => ⟨S_, .f32⟩
  | .hbm, ⟨8, _⟩ => ⟨S4352x8192, .f32⟩
  | .hbm, ⟨9, _⟩ => ⟨S4352x8192, .f32⟩
  | .hbm, ⟨10, _⟩ => ⟨S4352x8192, .bf16⟩
  | .hbm, ⟨11, _⟩ => ⟨S4352x8192, .f32⟩
  | .hbm, ⟨12, _⟩ => ⟨S4352x8192, .bf16⟩
  | .hbm, ⟨13, _⟩ => ⟨S4352x8192, .f32⟩
  | .hbm, ⟨14, _⟩ => ⟨S_, .f32⟩
  | .hbm, ⟨15, _⟩ => ⟨S4352x8192, .f32⟩
  | .hbm, ⟨16, _⟩ => ⟨S4352x8192, .f32⟩
  | .hbm, ⟨17, _⟩ => ⟨S4352x2048, .f32⟩
  | .hbm, ⟨18, _⟩ => ⟨S8192x2048, .f32⟩
  | .hbm, ⟨19, _⟩ => ⟨S2048x8192, .f32⟩
  | .hbm, ⟨20, _⟩ => ⟨S4352x8192, .f32⟩
  | .hbm, ⟨21, _⟩ => ⟨S4352x8192, .f32⟩
  | .hbm, ⟨22, _⟩ => ⟨S4352x8192, .bf16⟩
  | .hbm, ⟨23, _⟩ => ⟨S2048x8192, .bf16⟩
  | .local _ .vmem, ⟨0, _⟩ => ⟨S4352x512, .bf16⟩
  | .local _ .vmem, ⟨1, _⟩ => ⟨S4352x512, .bf16⟩
  | .local _ .vmem, ⟨2, _⟩ => ⟨S4352x1024, .bf16⟩
  | .local _ .vmem, ⟨3, _⟩ => ⟨S4352x1024, .bf16⟩
  | .local _ .vmem, ⟨4, _⟩ => ⟨S512x1024, .bf16⟩
  | .local _ .vmem, ⟨5, _⟩ => ⟨S512x1024, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4352x2048 : Shape := ⟨2, ![4352, 2048]⟩
abbrev S2048x8192 : Shape := ⟨2, ![2048, 8192]⟩
abbrev S8192x2048 : Shape := ⟨2, ![8192, 2048]⟩
abbrev S4352x8192 : Shape := ⟨2, ![4352, 8192]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x8192, .bf16⟩
  | .hbm, ⟨2, _⟩ => ⟨S8192x2048, .bf16⟩
  | .hbm, ⟨3, _⟩ => ⟨S4352x2048, .bf16⟩
  | .hbm, ⟨4, _⟩ => ⟨S4352x2048, .f32⟩
  | .hbm, ⟨5, _⟩ => ⟨S8192x2048, .f32⟩
  | .hbm, ⟨6, _⟩ => ⟨S2048x8192, .f32⟩
  | .hbm, ⟨7, _⟩ => ⟨S4352x8192, .f32⟩
  | .hbm, ⟨8, _⟩ => ⟨S_, .f32⟩
  | .hbm, ⟨9, _⟩ => ⟨S4352x8192, .f32⟩
  | .hbm, ⟨10, _⟩ => ⟨S4352x8192, .f32⟩
  | .hbm, ⟨11, _⟩ => ⟨S_, .f32⟩
  | .hbm, ⟨12, _⟩ => ⟨S4352x8192, .f32⟩
  | .hbm, ⟨13, _⟩ => ⟨S4352x8192, .i1⟩
  | .hbm, ⟨14, _⟩ => ⟨S_, .f32⟩
  | .hbm, ⟨15, _⟩ => ⟨S4352x8192, .f32⟩
  | .hbm, ⟨16, _⟩ => ⟨S4352x8192, .f32⟩
  | .hbm, ⟨17, _⟩ => ⟨S_, .f32⟩
  | .hbm, ⟨18, _⟩ => ⟨S4352x8192, .f32⟩
  | .hbm, ⟨19, _⟩ => ⟨S4352x8192, .f32⟩
  | .hbm, ⟨20, _⟩ => ⟨S4352x2048, .f32⟩
  | .hbm, ⟨21, _⟩ => ⟨S4352x2048, .f32⟩
  | .hbm, ⟨22, _⟩ => ⟨S4352x8192, .f32⟩
  | .hbm, ⟨23, _⟩ => ⟨S4352x8192, .f32⟩
  | .hbm, ⟨24, _⟩ => ⟨S_, .f32⟩
  | .hbm, ⟨25, _⟩ => ⟨S4352x8192, .f32⟩
  | .hbm, ⟨26, _⟩ => ⟨S4352x8192, .f32⟩
  | .hbm, ⟨27, _⟩ => ⟨S8192x2048, .f32⟩
  | .hbm, ⟨28, _⟩ => ⟨S2048x8192, .f32⟩
  | .hbm, ⟨29, _⟩ => ⟨S2048x8192, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Kernel6.lean ====
abbrev S4352x2048 : Shape := ⟨2, ![4352, 2048]⟩
abbrev S2048x8192 : Shape := ⟨2, ![2048, 8192]⟩
abbrev S8192x2048 : Shape := ⟨2, ![8192, 2048]⟩
abbrev S4352x8192 : Shape := ⟨2, ![4352, 8192]⟩
abbrev S_ : Shape := ⟨0, ![]⟩
abbrev S272x8192 : Shape := ⟨2, ![272, 8192]⟩
abbrev S1024x8192 : Shape := ⟨2, ![1024, 8192]⟩
abbrev S272x1024 : Shape := ⟨2, ![272, 1024]⟩

abbrev nBuf : Space → Nat
  | .hbm => 24
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x8192, .bf16⟩
  | .hbm, ⟨2, _⟩ => ⟨S8192x2048, .bf16⟩
  | .hbm, ⟨3, _⟩ => ⟨S4352x2048, .bf16⟩
  | .hbm, ⟨4, _⟩ => ⟨S4352x2048, .f32⟩
  | .hbm, ⟨5, _⟩ => ⟨S2048x8192, .f32⟩
  | .hbm, ⟨6, _⟩ => ⟨S4352x8192, .f32⟩
  | .hbm, ⟨7, _⟩ => ⟨S_, .f32⟩
  | .hbm, ⟨8, _⟩ => ⟨S4352x8192, .f32⟩
  | .hbm, ⟨9, _⟩ => ⟨S4352x8192, .f32⟩
  | .hbm, ⟨10, _⟩ => ⟨S4352x8192, .bf16⟩
  | .hbm, ⟨11, _⟩ => ⟨S4352x8192, .f32⟩
  | .hbm, ⟨12, _⟩ => ⟨S4352x8192, .bf16⟩
  | .hbm, ⟨13, _⟩ => ⟨S4352x8192, .f32⟩
  | .hbm, ⟨14, _⟩ => ⟨S_, .f32⟩
  | .hbm, ⟨15, _⟩ => ⟨S4352x8192, .f32⟩
  | .hbm, ⟨16, _⟩ => ⟨S4352x8192, .f32⟩
  | .hbm, ⟨17, _⟩ => ⟨S4352x2048, .f32⟩
  | .hbm, ⟨18, _⟩ => ⟨S8192x2048, .f32⟩
  | .hbm, ⟨19, _⟩ => ⟨S2048x8192, .f32⟩
  | .hbm, ⟨20, _⟩ => ⟨S4352x8192, .f32⟩
  | .hbm, ⟨21, _⟩ => ⟨S4352x8192, .f32⟩
  | .hbm, ⟨22, _⟩ => ⟨S4352x8192, .bf16⟩
  | .hbm, ⟨23, _⟩ => ⟨S4352x2048, .bf16⟩
  | .local _ .vmem, ⟨0, _⟩ => ⟨S272x8192, .bf16⟩
  | .local _ .vmem, ⟨1, _⟩ => ⟨S272x8192, .bf16⟩
  | .local _ .vmem, ⟨2, _⟩ => ⟨S1024x8192, .bf16⟩
  | .local _ .vmem, ⟨3, _⟩ => ⟨S1024x8192, .bf16⟩
  | .local _ .vmem, ⟨4, _⟩ => ⟨S272x1024, .bf16⟩
  | .local _ .vmem, ⟨5, _⟩ => ⟨S272x1024, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S272x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S272x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4352x2048 : Shape := ⟨2, ![4352, 2048]⟩
abbrev S2048x8192 : Shape := ⟨2, ![2048, 8192]⟩
abbrev S8192x2048 : Shape := ⟨2, ![8192, 2048]⟩
abbrev S4352x8192 : Shape := ⟨2, ![4352, 8192]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x8192, .bf16⟩
  | .hbm, ⟨2, _⟩ => ⟨S8192x2048, .bf16⟩
  | .hbm, ⟨3, _⟩ => ⟨S4352x2048, .bf16⟩
  | .hbm, ⟨4, _⟩ => ⟨S2048x8192, .f32⟩
  | .hbm, ⟨5, _⟩ => ⟨S8192x2048, .f32⟩
  | .hbm, ⟨6, _⟩ => ⟨S4352x2048, .f32⟩
  | .hbm, ⟨7, _⟩ => ⟨S4352x8192, .f32⟩
  | .hbm, ⟨8, _⟩ => ⟨S_, .f32⟩
  | .hbm, ⟨9, _⟩ => ⟨S4352x8192, .f32⟩
  | .hbm, ⟨10, _⟩ => ⟨S4352x8192, .f32⟩
  | .hbm, ⟨11, _⟩ => ⟨S_, .f32⟩
  | .hbm, ⟨12, _⟩ => ⟨S4352x8192, .f32⟩
  | .hbm, ⟨13, _⟩ => ⟨S4352x8192, .i1⟩
  | .hbm, ⟨14, _⟩ => ⟨S_, .f32⟩
  | .hbm, ⟨15, _⟩ => ⟨S4352x8192, .f32⟩
  | .hbm, ⟨16, _⟩ => ⟨S4352x8192, .f32⟩
  | .hbm, ⟨17, _⟩ => ⟨S_, .f32⟩
  | .hbm, ⟨18, _⟩ => ⟨S4352x8192, .f32⟩
  | .hbm, ⟨19, _⟩ => ⟨S4352x8192, .f32⟩
  | .hbm, ⟨20, _⟩ => ⟨S4352x2048, .f32⟩
  | .hbm, ⟨21, _⟩ => ⟨S4352x2048, .f32⟩
  | .hbm, ⟨22, _⟩ => ⟨S4352x8192, .f32⟩
  | .hbm, ⟨23, _⟩ => ⟨S4352x8192, .f32⟩
  | .hbm, ⟨24, _⟩ => ⟨S_, .f32⟩
  | .hbm, ⟨25, _⟩ => ⟨S4352x8192, .f32⟩
  | .hbm, ⟨26, _⟩ => ⟨S4352x8192, .f32⟩
  | .hbm, ⟨27, _⟩ => ⟨S4352x2048, .f32⟩
  | .hbm, ⟨28, _⟩ => ⟨S4352x2048, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel7.lean ====
abbrev S4352x2048 : Shape := ⟨2, ![4352, 2048]⟩
abbrev S2048x12288 : Shape := ⟨2, ![2048, 12288]⟩
abbrev S4352x12288 : Shape := ⟨2, ![4352, 12288]⟩
abbrev S4352x512 : Shape := ⟨2, ![4352, 512]⟩
abbrev S4352x1024 : Shape := ⟨2, ![4352, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x12288, .bf16⟩
  | .hbm, ⟨2, _⟩ => ⟨S4352x12288, .bf16⟩
  | .hbm, ⟨3, _⟩ => ⟨S2048x12288, .bf16⟩
  | .local _ .vmem, ⟨0, _⟩ => ⟨S4352x512, .bf16⟩
  | .local _ .vmem, ⟨1, _⟩ => ⟨S4352x512, .bf16⟩
  | .local _ .vmem, ⟨2, _⟩ => ⟨S4352x1024, .bf16⟩
  | .local _ .vmem, ⟨3, _⟩ => ⟨S4352x1024, .bf16⟩
  | .local _ .vmem, ⟨4, _⟩ => ⟨S512x1024, .bf16⟩
  | .local _ .vmem, ⟨5, _⟩ => ⟨S512x1024, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4352x2048 : Shape := ⟨2, ![4352, 2048]⟩
abbrev S2048x12288 : Shape := ⟨2, ![2048, 12288]⟩
abbrev S4352x12288 : Shape := ⟨2, ![4352, 12288]⟩
abbrev S12288x2048 : Shape := ⟨2, ![12288, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x12288, .bf16⟩
  | .hbm, ⟨2, _⟩ => ⟨S4352x12288, .bf16⟩
  | .hbm, ⟨3, _⟩ => ⟨S4352x2048, .f32⟩
  | .hbm, ⟨4, _⟩ => ⟨S2048x12288, .f32⟩
  | .hbm, ⟨5, _⟩ => ⟨S4352x12288, .f32⟩
  | .hbm, ⟨6, _⟩ => ⟨S4352x12288, .f32⟩
  | .hbm, ⟨7, _⟩ => ⟨S12288x2048, .f32⟩
  | .hbm, ⟨8, _⟩ => ⟨S2048x12288, .f32⟩
  | .hbm, ⟨9, _⟩ => ⟨S2048x12288, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4352x2048 : Shape := ⟨2, ![4352, 2048]⟩
abbrev S2048x12288 : Shape := ⟨2, ![2048, 12288]⟩
abbrev S4352x12288 : Shape := ⟨2, ![4352, 12288]⟩
abbrev S272x12288 : Shape := ⟨2, ![272, 12288]⟩
abbrev S1024x12288 : Shape := ⟨2, ![1024, 12288]⟩
abbrev S272x1024 : Shape := ⟨2, ![272, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4352x2048, .bf16⟩
  | .hbm, ⟨1, _⟩ => ⟨S2048x12288, .bf16⟩
  | .hbm, ⟨2, _⟩ => ⟨S4352x12288, .bf16⟩
  | .hbm, ⟨3, _⟩ => ⟨S4352x2048, .bf16⟩
  | .local _ .vmem, ⟨0, _⟩ => ⟨S272x12288, .bf16⟩
  | .local _ .vmem, ⟨1, _⟩ => ⟨S272x12288, .bf16⟩
  | .local _ .vmem, ⟨2, _⟩ => ⟨S1024x12288, .bf16⟩
  | .local _ .vmem, ⟨3, _⟩ => ⟨S272x1024, .bf16⟩
  | .local _ .vmem, ⟨4, _⟩ => ⟨S272x1024, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S272x12288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x12288 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S272x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4352x2048 : Shape := ⟨2, ![4352, 2048]⟩
abbrev S2048x12288 : Shape := ⟨2, ![2048, 12288]⟩
abbrev S4352x12288 : Shape := ⟨2, ![4352, 12288]⟩

abbrev nBuf : Space → Nat
  | .hbm => 9
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x12288, .bf16⟩
  | .hbm, ⟨2, _⟩ => ⟨S4352x12288, .bf16⟩
  | .hbm, ⟨3, _⟩ => ⟨S4352x2048, .f32⟩
  | .hbm, ⟨4, _⟩ => ⟨S2048x12288, .f32⟩
  | .hbm, ⟨5, _⟩ => ⟨S4352x12288, .f32⟩
  | .hbm, ⟨6, _⟩ => ⟨S4352x12288, .f32⟩
  | .hbm, ⟨7, _⟩ => ⟨S4352x2048, .f32⟩
  | .hbm, ⟨8, _⟩ => ⟨S4352x2048, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4352x4096 : Shape := ⟨2, ![4352, 4096]⟩
abbrev S4096x2048 : Shape := ⟨2, ![4096, 2048]⟩
abbrev S4352x2048 : Shape := ⟨2, ![4352, 2048]⟩
abbrev S4352x512 : Shape := ⟨2, ![4352, 512]⟩
abbrev S4352x1024 : Shape := ⟨2, ![4352, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4352x4096, .bf16⟩
  | .hbm, ⟨1, _⟩ => ⟨S4096x2048, .bf16⟩
  | .hbm, ⟨2, _⟩ => ⟨S4352x2048, .bf16⟩
  | .hbm, ⟨3, _⟩ => ⟨S4096x2048, .bf16⟩
  | .local _ .vmem, ⟨0, _⟩ => ⟨S4352x512, .bf16⟩
  | .local _ .vmem, ⟨1, _⟩ => ⟨S4352x512, .bf16⟩
  | .local _ .vmem, ⟨2, _⟩ => ⟨S4352x1024, .bf16⟩
  | .local _ .vmem, ⟨3, _⟩ => ⟨S4352x1024, .bf16⟩
  | .local _ .vmem, ⟨4, _⟩ => ⟨S512x1024, .bf16⟩
  | .local _ .vmem, ⟨5, _⟩ => ⟨S512x1024, .bf16⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4352x4096 : Shape := ⟨2, ![4352, 4096]⟩
abbrev S4096x2048 : Shape := ⟨2, ![4096, 2048]⟩
abbrev S4352x2048 : Shape := ⟨2, ![4352, 2048]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4096x2048, .bf16⟩
  | .hbm, ⟨2, _⟩ => ⟨S4352x2048, .bf16⟩
  | .hbm, ⟨3, _⟩ => ⟨S4352x4096, .f32⟩
  | .hbm, ⟨4, _⟩ => ⟨S4096x2048, .f32⟩
  | .hbm, ⟨5, _⟩ => ⟨S4352x2048, .f32⟩
  | .hbm, ⟨6, _⟩ => ⟨S4352x2048, .f32⟩
  | .hbm, ⟨7, _⟩ => ⟨S2048x4096, .f32⟩
  | .hbm, ⟨8, _⟩ => ⟨S4096x2048, .f32⟩
  | .hbm, ⟨9, _⟩ => ⟨S4096x2048, .bf16⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4352x4096 : Shape := ⟨2, ![4352, 4096]⟩
abbrev S4096x2048 : Shape := ⟨2, ![4096, 2048]⟩
abbrev S4352x2048 : Shape := ⟨2, ![4352, 2048]⟩
abbrev S1088x2048 : Shape := ⟨2, ![1088, 2048]⟩
abbrev S1024x2048 : Shape := ⟨2, ![1024, 2048]⟩
abbrev S1088x1024 : Shape := ⟨2, ![1088, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4352x4096, .bf16⟩
  | .hbm, ⟨1, _⟩ => ⟨S4096x2048, .bf16⟩
  | .hbm, ⟨2, _⟩ => ⟨S4352x2048, .bf16⟩
  | .hbm, ⟨3, _⟩ => ⟨S4352x4096, .bf16⟩
  | .local _ .vmem, ⟨0, _⟩ => ⟨S1088x2048, .bf16⟩
  | .local _ .vmem, ⟨1, _⟩ => ⟨S1088x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1088x1024, .bf16⟩
  | .local _ .vmem, ⟨5, _⟩ => ⟨S1088x1024, .bf16⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4352x4096 : Shape := ⟨2, ![4352, 4096]⟩
abbrev S4096x2048 : Shape := ⟨2, ![4096, 2048]⟩
abbrev S4352x2048 : Shape := ⟨2, ![4352, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4096x2048, .bf16⟩
  | .hbm, ⟨2, _⟩ => ⟨S4352x2048, .bf16⟩
  | .hbm, ⟨3, _⟩ => ⟨S4352x4096, .f32⟩
  | .hbm, ⟨4, _⟩ => ⟨S4096x2048, .f32⟩
  | .hbm, ⟨5, _⟩ => ⟨S4352x2048, .f32⟩
  | .hbm, ⟨6, _⟩ => ⟨S4352x2048, .f32⟩
  | .hbm, ⟨7, _⟩ => ⟨S4352x4096, .f32⟩
  | .hbm, ⟨8, _⟩ => ⟨S4352x4096, .bf16⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4352x2048 : Shape := ⟨2, ![4352, 2048]⟩
abbrev S2048x3072 : Shape := ⟨2, ![2048, 3072]⟩
abbrev S4352x3072 : Shape := ⟨2, ![4352, 3072]⟩
abbrev S4352x512 : Shape := ⟨2, ![4352, 512]⟩
abbrev S4352x1024 : Shape := ⟨2, ![4352, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x3072, .bf16⟩
  | .hbm, ⟨2, _⟩ => ⟨S4352x3072, .bf16⟩
  | .hbm, ⟨3, _⟩ => ⟨S2048x3072, .bf16⟩
  | .local _ .vmem, ⟨0, _⟩ => ⟨S4352x512, .bf16⟩
  | .local _ .vmem, ⟨1, _⟩ => ⟨S4352x512, .bf16⟩
  | .local _ .vmem, ⟨2, _⟩ => ⟨S4352x1024, .bf16⟩
  | .local _ .vmem, ⟨3, _⟩ => ⟨S4352x1024, .bf16⟩
  | .local _ .vmem, ⟨4, _⟩ => ⟨S512x1024, .bf16⟩
  | .local _ .vmem, ⟨5, _⟩ => ⟨S512x1024, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4352x2048 : Shape := ⟨2, ![4352, 2048]⟩
abbrev S2048x3072 : Shape := ⟨2, ![2048, 3072]⟩
abbrev S4352x3072 : Shape := ⟨2, ![4352, 3072]⟩
abbrev S3072x2048 : Shape := ⟨2, ![3072, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x3072, .bf16⟩
  | .hbm, ⟨2, _⟩ => ⟨S4352x3072, .bf16⟩
  | .hbm, ⟨3, _⟩ => ⟨S4352x2048, .f32⟩
  | .hbm, ⟨4, _⟩ => ⟨S2048x3072, .f32⟩
  | .hbm, ⟨5, _⟩ => ⟨S4352x3072, .f32⟩
  | .hbm, ⟨6, _⟩ => ⟨S4352x3072, .f32⟩
  | .hbm, ⟨7, _⟩ => ⟨S3072x2048, .f32⟩
  | .hbm, ⟨8, _⟩ => ⟨S2048x3072, .f32⟩
  | .hbm, ⟨9, _⟩ => ⟨S2048x3072, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4352x2048 : Shape := ⟨2, ![4352, 2048]⟩
abbrev S2048x3072 : Shape := ⟨2, ![2048, 3072]⟩
abbrev S4352x3072 : Shape := ⟨2, ![4352, 3072]⟩
abbrev S1088x3072 : Shape := ⟨2, ![1088, 3072]⟩
abbrev S1024x3072 : Shape := ⟨2, ![1024, 3072]⟩
abbrev S1088x1024 : Shape := ⟨2, ![1088, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x3072, .bf16⟩
  | .hbm, ⟨2, _⟩ => ⟨S4352x3072, .bf16⟩
  | .hbm, ⟨3, _⟩ => ⟨S4352x2048, .bf16⟩
  | .local _ .vmem, ⟨0, _⟩ => ⟨S1088x3072, .bf16⟩
  | .local _ .vmem, ⟨1, _⟩ => ⟨S1088x3072, .bf16⟩
  | .local _ .vmem, ⟨2, _⟩ => ⟨S1024x3072, .bf16⟩
  | .local _ .vmem, ⟨3, _⟩ => ⟨S1024x3072, .bf16⟩
  | .local _ .vmem, ⟨4, _⟩ => ⟨S1088x1024, .bf16⟩
  | .local _ .vmem, ⟨5, _⟩ => ⟨S1088x1024, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4352x2048 : Shape := ⟨2, ![4352, 2048]⟩
abbrev S2048x3072 : Shape := ⟨2, ![2048, 3072]⟩
abbrev S4352x3072 : Shape := ⟨2, ![4352, 3072]⟩

abbrev nBuf : Space → Nat
  | .hbm => 9
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x3072, .bf16⟩
  | .hbm, ⟨2, _⟩ => ⟨S4352x3072, .bf16⟩
  | .hbm, ⟨3, _⟩ => ⟨S4352x2048, .f32⟩
  | .hbm, ⟨4, _⟩ => ⟨S2048x3072, .f32⟩
  | .hbm, ⟨5, _⟩ => ⟨S4352x3072, .f32⟩
  | .hbm, ⟨6, _⟩ => ⟨S4352x3072, .f32⟩
  | .hbm, ⟨7, _⟩ => ⟨S4352x2048, .f32⟩
  | .hbm, ⟨8, _⟩ => ⟨S4352x2048, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S4096x2048 : Shape := ⟨2, ![4096, 2048]⟩
abbrev S2048x2048 : Shape := ⟨2, ![2048, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S4096x2048 : Shape := ⟨2, ![4096, 2048]⟩
abbrev S2048x8192 : Shape := ⟨2, ![2048, 8192]⟩
abbrev S4096x8192 : Shape := ⟨2, ![4096, 8192]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S2048x8192, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x2048 : Shape := ⟨2, ![4096, 2048]⟩
abbrev S2048x8192 : Shape := ⟨2, ![2048, 8192]⟩
abbrev S4096x8192 : Shape := ⟨2, ![4096, 8192]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S4096x2048 : Shape := ⟨2, ![4096, 2048]⟩
abbrev S2048x8192 : Shape := ⟨2, ![2048, 8192]⟩
abbrev S4096x8192 : Shape := ⟨2, ![4096, 8192]⟩
abbrev S256x8192 : Shape := ⟨2, ![256, 8192]⟩
abbrev S1024x8192 : Shape := ⟨2, ![1024, 8192]⟩
abbrev S256x1024 : Shape := ⟨2, ![256, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S4096x2048, .bf16⟩
  | .local _ .vmem, ⟨0, _⟩ => ⟨S256x8192, .bf16⟩
  | .local _ .vmem, ⟨1, _⟩ => ⟨S256x8192, .bf16⟩
  | .local _ .vmem, ⟨2, _⟩ => ⟨S1024x8192, .bf16⟩
  | .local _ .vmem, ⟨3, _⟩ => ⟨S1024x8192, .bf16⟩
  | .local _ .vmem, ⟨4, _⟩ => ⟨S256x1024, .bf16⟩
  | .local _ .vmem, ⟨5, _⟩ => ⟨S256x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x2048 : Shape := ⟨2, ![4096, 2048]⟩
abbrev S2048x8192 : Shape := ⟨2, ![2048, 8192]⟩
abbrev S4096x8192 : Shape := ⟨2, ![4096, 8192]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 9
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S8192x2048, .bf16⟩
  | .hbm, ⟨2, _⟩ => ⟨S4096x2048, .bf16⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .bf16⟩
  | .hbm, ⟨8, _⟩ => ⟨S8192x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S2048x8192 : Shape := ⟨2, ![2048, 8192]⟩

abbrev nBuf : Space → Nat
  | .hbm => 13
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .bf16⟩
  | .hbm, ⟨2, _⟩ => ⟨S4096x2048, .bf16⟩
  | .hbm, ⟨3, _⟩ => ⟨S8192x2048, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x2048, .f32⟩
  | .hbm, ⟨9, _⟩ => ⟨S4096x2048, .f32⟩
  | .hbm, ⟨10, _⟩ => ⟨S2048x8192, .f32⟩
  | .hbm, ⟨11, _⟩ => ⟨S8192x2048, .f32⟩
  | .hbm, ⟨12, _⟩ => ⟨S8192x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel18.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S1024x2048 : Shape := ⟨2, ![1024, 2048]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S8192x2048, .bf16⟩
  | .hbm, ⟨2, _⟩ => ⟨S4096x2048, .bf16⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .bf16⟩
  | .hbm, ⟨7, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .bf16⟩
  | .hbm, ⟨2, _⟩ => ⟨S4096x2048, .bf16⟩
  | .hbm, ⟨3, _⟩ => ⟨S8192x2048, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x2048, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel19.lean ====
abbrev S4352x2048 : Shape := ⟨2, ![4352, 2048]⟩
abbrev S2048x8192 : Shape := ⟨2, ![2048, 8192]⟩
abbrev S4352x8192 : Shape := ⟨2, ![4352, 8192]⟩
abbrev S1088x2048 : Shape := ⟨2, ![1088, 2048]⟩
abbrev S2048x1024 : Shape := ⟨2, ![2048, 1024]⟩
abbrev S1088x1024 : Shape := ⟨2, ![1088, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4352x2048, .bf16⟩
  | .hbm, ⟨1, _⟩ => ⟨S2048x8192, .bf16⟩
  | .hbm, ⟨2, _⟩ => ⟨S4352x8192, .bf16⟩
  | .hbm, ⟨3, _⟩ => ⟨S4352x8192, .bf16⟩
  | .local _ .vmem, ⟨0, _⟩ => ⟨S1088x2048, .bf16⟩
  | .local _ .vmem, ⟨1, _⟩ => ⟨S1088x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1088x1024, .bf16⟩
  | .local _ .vmem, ⟨5, _⟩ => ⟨S1088x1024, .bf16⟩
  | .local _ .vmem, ⟨6, _⟩ => ⟨S1088x1024, .bf16⟩
  | .local _ .vmem, ⟨7, _⟩ => ⟨S1088x1024, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference19Ideal.lean ====
abbrev S4352x2048 : Shape := ⟨2, ![4352, 2048]⟩
abbrev S2048x8192 : Shape := ⟨2, ![2048, 8192]⟩
abbrev S4352x8192 : Shape := ⟨2, ![4352, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x8192, .bf16⟩
  | .hbm, ⟨2, _⟩ => ⟨S4352x2048, .f32⟩
  | .hbm, ⟨3, _⟩ => ⟨S2048x8192, .f32⟩
  | .hbm, ⟨4, _⟩ => ⟨S4352x8192, .f32⟩
  | .hbm, ⟨5, _⟩ => ⟨S_, .f32⟩
  | .hbm, ⟨6, _⟩ => ⟨S4352x8192, .f32⟩
  | .hbm, ⟨7, _⟩ => ⟨S4352x8192, .f32⟩
  | .hbm, ⟨8, _⟩ => ⟨S4352x8192, .bf16⟩
  | .hbm, ⟨9, _⟩ => ⟨S4352x8192, .f32⟩
  | .hbm, ⟨10, _⟩ => ⟨S4352x8192, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel20.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference20Ideal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .bf16⟩
  | .hbm, ⟨9, _⟩ => ⟨S4096x8192, .f32⟩
  | .hbm, ⟨10, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel21.lean ====
abbrev S4352x8192 : Shape := ⟨2, ![4352, 8192]⟩
abbrev S8192x2048 : Shape := ⟨2, ![8192, 2048]⟩
abbrev S4352x2048 : Shape := ⟨2, ![4352, 2048]⟩
abbrev S2x2048 : Shape := ⟨2, ![2, 2048]⟩
abbrev S272x8192 : Shape := ⟨2, ![272, 8192]⟩
abbrev S8192x1024 : Shape := ⟨2, ![8192, 1024]⟩
abbrev S272x1024 : Shape := ⟨2, ![272, 1024]⟩
abbrev S2x1024 : Shape := ⟨2, ![2, 1024]⟩
abbrev S272x1 : Shape := ⟨2, ![272, 1]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4352x8192, .bf16⟩
  | .hbm, ⟨1, _⟩ => ⟨S8192x2048, .bf16⟩
  | .hbm, ⟨2, _⟩ => ⟨S4352x2048, .f32⟩
  | .hbm, ⟨3, _⟩ => ⟨S2x2048, .f32⟩
  | .hbm, ⟨4, _⟩ => ⟨S4352x2048, .f32⟩
  | .hbm, ⟨5, _⟩ => ⟨S4352x2048, .bf16⟩
  | .local _ .vmem, ⟨0, _⟩ => ⟨S272x8192, .bf16⟩
  | .local _ .vmem, ⟨1, _⟩ => ⟨S272x8192, .bf16⟩
  | .local _ .vmem, ⟨2, _⟩ => ⟨S8192x1024, .bf16⟩
  | .local _ .vmem, ⟨3, _⟩ => ⟨S8192x1024, .bf16⟩
  | .local _ .vmem, ⟨4, _⟩ => ⟨S272x1024, .f32⟩
  | .local _ .vmem, ⟨5, _⟩ => ⟨S272x1024, .f32⟩
  | .local _ .vmem, ⟨6, _⟩ => ⟨S2x1024, .f32⟩
  | .local _ .vmem, ⟨7, _⟩ => ⟨S2x1024, .f32⟩
  | .local _ .vmem, ⟨8, _⟩ => ⟨S272x1024, .f32⟩
  | .local _ .vmem, ⟨9, _⟩ => ⟨S272x1024, .f32⟩
  | .local _ .vmem, ⟨10, _⟩ => ⟨S272x1024, .bf16⟩
  | .local _ .vmem, ⟨11, _⟩ => ⟨S272x1024, .bf16⟩
  | _, _ => ⟨S4352x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S272x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S8192x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S272x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S272x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference21Ideal.lean ====
abbrev S4352x8192 : Shape := ⟨2, ![4352, 8192]⟩
abbrev S8192x2048 : Shape := ⟨2, ![8192, 2048]⟩
abbrev S4352x2048 : Shape := ⟨2, ![4352, 2048]⟩
abbrev S2x2048 : Shape := ⟨2, ![2, 2048]⟩
abbrev S4352 : Shape := ⟨1, ![4352]⟩
abbrev S4352x1 : Shape := ⟨2, ![4352, 1]⟩
abbrev S_ : Shape := ⟨0, ![]⟩
abbrev S1x2048 : Shape := ⟨2, ![1, 2048]⟩
abbrev S2048 : Shape := ⟨1, ![2048]⟩

abbrev nBuf : Space → Nat
  | .hbm => 23
  | .vmem => 0
  | .smem => 0
  | _ => 0

abbrev bufTy : (tb : Table) → Fin (tcTables nBuf tb) → BufTy
  | .hbm, ⟨0, _⟩ => ⟨S4352x8192, .bf16⟩
  | .hbm, ⟨1, _⟩ => ⟨S8192x2048, .bf16⟩
  | .hbm, ⟨2, _⟩ => ⟨S4352x2048, .f32⟩
  | .hbm, ⟨3, _⟩ => ⟨S2x2048, .f32⟩
  | .hbm, ⟨4, _⟩ => ⟨S4352x8192, .f32⟩
  | .hbm, ⟨5, _⟩ => ⟨S8192x2048, .f32⟩
  | .hbm, ⟨6, _⟩ => ⟨S4352x2048, .f32⟩
  | .hbm, ⟨7, _⟩ => ⟨S4352, .i32⟩
  | .hbm, ⟨8, _⟩ => ⟨S4352x1, .i32⟩
  | .hbm, ⟨9, _⟩ => ⟨S_, .i32⟩
  | .hbm, ⟨10, _⟩ => ⟨S4352x1, .i32⟩
  | .hbm, ⟨11, _⟩ => ⟨S4352x1, .i1⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S2048, .f32⟩
  | .hbm, ⟨16, _⟩ => ⟨S4352x2048, .i1⟩
  | .hbm, ⟨17, _⟩ => ⟨S4352x2048, .f32⟩
  | .hbm, ⟨18, _⟩ => ⟨S4352x2048, .f32⟩
  | .hbm, ⟨19, _⟩ => ⟨S4352x2048, .f32⟩
  | .hbm, ⟨20, _⟩ => ⟨S4352x2048, .f32⟩
  | .hbm, ⟨21, _⟩ => ⟨S4352x2048, .f32⟩
  | .hbm, ⟨22, _⟩ => ⟨S4352x2048, .bf16⟩
  | _, _ => ⟨S4352x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Kernel22.lean ====
abbrev S4096x8192 : Shape := ⟨2, ![4096, 8192]⟩
abbrev S8192x2048 : Shape := ⟨2, ![8192, 2048]⟩
abbrev S4096x2048 : Shape := ⟨2, ![4096, 2048]⟩
abbrev S2x2048 : Shape := ⟨2, ![2, 2048]⟩
abbrev S256x8192 : Shape := ⟨2, ![256, 8192]⟩
abbrev S8192x1024 : Shape := ⟨2, ![8192, 1024]⟩
abbrev S256x1024 : Shape := ⟨2, ![256, 1024]⟩
abbrev S2x1024 : Shape := ⟨2, ![2, 1024]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S2x2048, .f32⟩
  | .hbm, ⟨4, _⟩ => ⟨S4096x2048, .f32⟩
  | .hbm, ⟨5, _⟩ => ⟨S4096x2048, .bf16⟩
  | .local _ .vmem, ⟨0, _⟩ => ⟨S256x8192, .bf16⟩
  | .local _ .vmem, ⟨1, _⟩ => ⟨S256x8192, .bf16⟩
  | .local _ .vmem, ⟨2, _⟩ => ⟨S8192x1024, .bf16⟩
  | .local _ .vmem, ⟨3, _⟩ => ⟨S8192x1024, .bf16⟩
  | .local _ .vmem, ⟨4, _⟩ => ⟨S256x1024, .f32⟩
  | .local _ .vmem, ⟨5, _⟩ => ⟨S256x1024, .f32⟩
  | .local _ .vmem, ⟨6, _⟩ => ⟨S2x1024, .f32⟩
  | .local _ .vmem, ⟨7, _⟩ => ⟨S2x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S8192x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference22Ideal.lean ====
abbrev S4096x8192 : Shape := ⟨2, ![4096, 8192]⟩
abbrev S8192x2048 : Shape := ⟨2, ![8192, 2048]⟩
abbrev S4096x2048 : Shape := ⟨2, ![4096, 2048]⟩
abbrev S2x2048 : Shape := ⟨2, ![2, 2048]⟩
abbrev S1x2048 : Shape := ⟨2, ![1, 2048]⟩
abbrev S2048 : Shape := ⟨1, ![2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S2x2048, .f32⟩
  | .hbm, ⟨4, _⟩ => ⟨S4096x8192, .f32⟩
  | .hbm, ⟨5, _⟩ => ⟨S8192x2048, .f32⟩
  | .hbm, ⟨6, _⟩ => ⟨S4096x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel23.lean ====
abbrev S4352x2048 : Shape := ⟨2, ![4352, 2048]⟩
abbrev S2048x12288 : Shape := ⟨2, ![2048, 12288]⟩
abbrev S4352x8192 : Shape := ⟨2, ![4352, 8192]⟩
abbrev S1088x2048 : Shape := ⟨2, ![1088, 2048]⟩
abbrev S2048x1024 : Shape := ⟨2, ![2048, 1024]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x12288, .bf16⟩
  | .hbm, ⟨2, _⟩ => ⟨S4352x8192, .bf16⟩
  | .local _ .vmem, ⟨0, _⟩ => ⟨S1088x2048, .bf16⟩
  | .local _ .vmem, ⟨1, _⟩ => ⟨S1088x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1088x1024, .bf16⟩
  | .local _ .vmem, ⟨5, _⟩ => ⟨S1088x1024, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4352x2048 : Shape := ⟨2, ![4352, 2048]⟩
abbrev S2048x12288 : Shape := ⟨2, ![2048, 12288]⟩
abbrev S4352x12288 : Shape := ⟨2, ![4352, 12288]⟩
abbrev S4352x8192 : Shape := ⟨2, ![4352, 8192]⟩

abbrev nBuf : Space → Nat
  | .hbm => 7
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x12288, .bf16⟩
  | .hbm, ⟨2, _⟩ => ⟨S4352x2048, .f32⟩
  | .hbm, ⟨3, _⟩ => ⟨S2048x12288, .f32⟩
  | .hbm, ⟨4, _⟩ => ⟨S4352x12288, .f32⟩
  | .hbm, ⟨5, _⟩ => ⟨S4352x8192, .f32⟩
  | .hbm, ⟨6, _⟩ => ⟨S4352x8192, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel24.lean ====
abbrev S4352x4096 : Shape := ⟨2, ![4352, 4096]⟩
abbrev S4096x2048 : Shape := ⟨2, ![4096, 2048]⟩
abbrev S4352x2048 : Shape := ⟨2, ![4352, 2048]⟩
abbrev S2x2048 : Shape := ⟨2, ![2, 2048]⟩
abbrev S544x4096 : Shape := ⟨2, ![544, 4096]⟩
abbrev S4096x1024 : Shape := ⟨2, ![4096, 1024]⟩
abbrev S544x1024 : Shape := ⟨2, ![544, 1024]⟩
abbrev S2x1024 : Shape := ⟨2, ![2, 1024]⟩
abbrev S544x1 : Shape := ⟨2, ![544, 1]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4352x4096, .bf16⟩
  | .hbm, ⟨1, _⟩ => ⟨S4096x2048, .bf16⟩
  | .hbm, ⟨2, _⟩ => ⟨S4352x2048, .f32⟩
  | .hbm, ⟨3, _⟩ => ⟨S2x2048, .f32⟩
  | .hbm, ⟨4, _⟩ => ⟨S4352x2048, .f32⟩
  | .hbm, ⟨5, _⟩ => ⟨S4352x2048, .bf16⟩
  | .local _ .vmem, ⟨0, _⟩ => ⟨S544x4096, .bf16⟩
  | .local _ .vmem, ⟨1, _⟩ => ⟨S544x4096, .bf16⟩
  | .local _ .vmem, ⟨2, _⟩ => ⟨S4096x1024, .bf16⟩
  | .local _ .vmem, ⟨3, _⟩ => ⟨S4096x1024, .bf16⟩
  | .local _ .vmem, ⟨4, _⟩ => ⟨S544x1024, .f32⟩
  | .local _ .vmem, ⟨5, _⟩ => ⟨S544x1024, .f32⟩
  | .local _ .vmem, ⟨6, _⟩ => ⟨S2x1024, .f32⟩
  | .local _ .vmem, ⟨7, _⟩ => ⟨S2x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .bf16⟩
  | .local _ .vmem, ⟨11, _⟩ => ⟨S544x1024, .bf16⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S544x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference24Ideal.lean ====
abbrev S4352x4096 : Shape := ⟨2, ![4352, 4096]⟩
abbrev S4096x2048 : Shape := ⟨2, ![4096, 2048]⟩
abbrev S4352x2048 : Shape := ⟨2, ![4352, 2048]⟩
abbrev S2x2048 : Shape := ⟨2, ![2, 2048]⟩
abbrev S4352 : Shape := ⟨1, ![4352]⟩
abbrev S4352x1 : Shape := ⟨2, ![4352, 1]⟩
abbrev S_ : Shape := ⟨0, ![]⟩
abbrev S1x2048 : Shape := ⟨2, ![1, 2048]⟩
abbrev S2048 : Shape := ⟨1, ![2048]⟩

abbrev nBuf : Space → Nat
  | .hbm => 23
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4096x2048, .bf16⟩
  | .hbm, ⟨2, _⟩ => ⟨S4352x2048, .f32⟩
  | .hbm, ⟨3, _⟩ => ⟨S2x2048, .f32⟩
  | .hbm, ⟨4, _⟩ => ⟨S4352x4096, .f32⟩
  | .hbm, ⟨5, _⟩ => ⟨S4096x2048, .f32⟩
  | .hbm, ⟨6, _⟩ => ⟨S4352x2048, .f32⟩
  | .hbm, ⟨7, _⟩ => ⟨S4352, .i32⟩
  | .hbm, ⟨8, _⟩ => ⟨S4352x1, .i32⟩
  | .hbm, ⟨9, _⟩ => ⟨S_, .i32⟩
  | .hbm, ⟨10, _⟩ => ⟨S4352x1, .i32⟩
  | .hbm, ⟨11, _⟩ => ⟨S4352x1, .i1⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S2048, .f32⟩
  | .hbm, ⟨16, _⟩ => ⟨S4352x2048, .i1⟩
  | .hbm, ⟨17, _⟩ => ⟨S4352x2048, .f32⟩
  | .hbm, ⟨18, _⟩ => ⟨S4352x2048, .f32⟩
  | .hbm, ⟨19, _⟩ => ⟨S4352x2048, .f32⟩
  | .hbm, ⟨20, _⟩ => ⟨S4352x2048, .f32⟩
  | .hbm, ⟨21, _⟩ => ⟨S4352x2048, .f32⟩
  | .hbm, ⟨22, _⟩ => ⟨S4352x2048, .bf16⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Kernel25.lean ====
abbrev S4352x2048 : Shape := ⟨2, ![4352, 2048]⟩
abbrev S2048x3072 : Shape := ⟨2, ![2048, 3072]⟩
abbrev S4352x512 : Shape := ⟨2, ![4352, 512]⟩
abbrev S1088x2048 : Shape := ⟨2, ![1088, 2048]⟩
abbrev S2048x512 : Shape := ⟨2, ![2048, 512]⟩
abbrev S1088x512 : Shape := ⟨2, ![1088, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x2048, .bf16⟩
  | .hbm, ⟨1, _⟩ => ⟨S2048x3072, .bf16⟩
  | .hbm, ⟨2, _⟩ => ⟨S4352x512, .bf16⟩
  | .local _ .vmem, ⟨0, _⟩ => ⟨S1088x2048, .bf16⟩
  | .local _ .vmem, ⟨1, _⟩ => ⟨S1088x2048, .bf16⟩
  | .local _ .vmem, ⟨2, _⟩ => ⟨S2048x512, .bf16⟩
  | .local _ .vmem, ⟨3, _⟩ => ⟨S1088x512, .bf16⟩
  | .local _ .vmem, ⟨4, _⟩ => ⟨S1088x512, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg1 c5_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S4352x2048 : Shape := ⟨2, ![4352, 2048]⟩
abbrev S2048x3072 : Shape := ⟨2, ![2048, 3072]⟩
abbrev S4352x3072 : Shape := ⟨2, ![4352, 3072]⟩
abbrev S4352x512 : Shape := ⟨2, ![4352, 512]⟩

abbrev nBuf : Space → Nat
  | .hbm => 7
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x3072, .bf16⟩
  | .hbm, ⟨2, _⟩ => ⟨S4352x2048, .f32⟩
  | .hbm, ⟨3, _⟩ => ⟨S2048x3072, .f32⟩
  | .hbm, ⟨4, _⟩ => ⟨S4352x3072, .f32⟩
  | .hbm, ⟨5, _⟩ => ⟨S4352x512, .f32⟩
  | .hbm, ⟨6, _⟩ => ⟨S4352x512, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel26.lean ====
abbrev S4096x2048 : Shape := ⟨2, ![4096, 2048]⟩
abbrev S2048x2048 : Shape := ⟨2, ![2048, 2048]⟩
abbrev S2x2048 : Shape := ⟨2, ![2, 2048]⟩
abbrev S1024x2048 : Shape := ⟨2, ![1024, 2048]⟩
abbrev S2048x1024 : Shape := ⟨2, ![2048, 1024]⟩
abbrev S1024x1024 : Shape := ⟨2, ![1024, 1024]⟩
abbrev S2x1024 : Shape := ⟨2, ![2, 1024]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2x2048, .f32⟩
  | .hbm, ⟨4, _⟩ => ⟨S4096x2048, .f32⟩
  | .hbm, ⟨5, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S2x1024, .f32⟩
  | .local _ .vmem, ⟨7, _⟩ => ⟨S2x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference26Ideal.lean ====
abbrev S4096x2048 : Shape := ⟨2, ![4096, 2048]⟩
abbrev S2048x2048 : Shape := ⟨2, ![2048, 2048]⟩
abbrev S2x2048 : Shape := ⟨2, ![2, 2048]⟩
abbrev S1x2048 : Shape := ⟨2, ![1, 2048]⟩
abbrev S2048 : Shape := ⟨1, ![2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel27.lean ====
abbrev S4352x2048 : Shape := ⟨2, ![4352, 2048]⟩
abbrev S2048x12288 : Shape := ⟨2, ![2048, 12288]⟩
abbrev S4352x128 : Shape := ⟨2, ![4352, 128]⟩
abbrev S4352x4096 : Shape := ⟨2, ![4352, 4096]⟩
abbrev S1088x2048 : Shape := ⟨2, ![1088, 2048]⟩
abbrev S2048x1024 : Shape := ⟨2, ![2048, 1024]⟩
abbrev S1088x128 : Shape := ⟨2, ![1088, 128]⟩
abbrev S1088x1024 : Shape := ⟨2, ![1088, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4352x2048, .bf16⟩
  | .hbm, ⟨1, _⟩ => ⟨S2048x12288, .bf16⟩
  | .hbm, ⟨2, _⟩ => ⟨S4352x128, .f32⟩
  | .hbm, ⟨3, _⟩ => ⟨S4352x128, .f32⟩
  | .hbm, ⟨4, _⟩ => ⟨S4352x4096, .bf16⟩
  | .local _ .vmem, ⟨0, _⟩ => ⟨S1088x2048, .bf16⟩
  | .local _ .vmem, ⟨1, _⟩ => ⟨S1088x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1088x128, .f32⟩
  | .local _ .vmem, ⟨5, _⟩ => ⟨S1088x128, .f32⟩
  | .local _ .vmem, ⟨6, _⟩ => ⟨S1088x128, .f32⟩
  | .local _ .vmem, ⟨7, _⟩ => ⟨S1088x128, .f32⟩
  | .local _ .vmem, ⟨8, _⟩ => ⟨S1088x1024, .bf16⟩
  | .local _ .vmem, ⟨9, _⟩ => ⟨S1088x1024, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1088x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1088x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference27Ideal.lean ====
abbrev S4352x2048 : Shape := ⟨2, ![4352, 2048]⟩
abbrev S2048x12288 : Shape := ⟨2, ![2048, 12288]⟩
abbrev S4352x128 : Shape := ⟨2, ![4352, 128]⟩
abbrev S4352x12288 : Shape := ⟨2, ![4352, 12288]⟩
abbrev S4352x4096 : Shape := ⟨2, ![4352, 4096]⟩
abbrev S4352x16x256 : Shape := ⟨3, ![4352, 16, 256]⟩
abbrev S4352x16x128 : Shape := ⟨3, ![4352, 16, 128]⟩
abbrev S4352x1x128 : Shape := ⟨3, ![4352, 1, 128]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x12288, .bf16⟩
  | .hbm, ⟨2, _⟩ => ⟨S4352x128, .f32⟩
  | .hbm, ⟨3, _⟩ => ⟨S4352x128, .f32⟩
  | .hbm, ⟨4, _⟩ => ⟨S4352x2048, .f32⟩
  | .hbm, ⟨5, _⟩ => ⟨S2048x12288, .f32⟩
  | .hbm, ⟨6, _⟩ => ⟨S4352x12288, .f32⟩
  | .hbm, ⟨7, _⟩ => ⟨S4352x4096, .f32⟩
  | .hbm, ⟨8, _⟩ => ⟨S4352x16x256, .f32⟩
  | .hbm, ⟨9, _⟩ => ⟨S4352x16x128, .f32⟩
  | .hbm, ⟨10, _⟩ => ⟨S4352x16x128, .f32⟩
  | .hbm, ⟨11, _⟩ => ⟨S4352x1x128, .f32⟩
  | .hbm, ⟨12, _⟩ => ⟨S4352x1x128, .f32⟩
  | .hbm, ⟨13, _⟩ => ⟨S4352x16x128, .f32⟩
  | .hbm, ⟨14, _⟩ => ⟨S4352x16x128, .f32⟩
  | .hbm, ⟨15, _⟩ => ⟨S4352x16x128, .f32⟩
  | .hbm, ⟨16, _⟩ => ⟨S4352x16x128, .f32⟩
  | .hbm, ⟨17, _⟩ => ⟨S4352x16x128, .f32⟩
  | .hbm, ⟨18, _⟩ => ⟨S4352x16x128, .f32⟩
  | .hbm, ⟨19, _⟩ => ⟨S4352x16x128, .f32⟩
  | .hbm, ⟨20, _⟩ => ⟨S4352x16x128, .f32⟩
  | .hbm, ⟨21, _⟩ => ⟨S4352x16x128, .f32⟩
  | .hbm, ⟨22, _⟩ => ⟨S4352x16x128, .f32⟩
  | .hbm, ⟨23, _⟩ => ⟨S4352x16x256, .f32⟩
  | .hbm, ⟨24, _⟩ => ⟨S4352x4096, .f32⟩
  | .hbm, ⟨25, _⟩ => ⟨S4352x2048, .f32⟩
  | .hbm, ⟨26, _⟩ => ⟨S4352x2048, .f32⟩
  | .hbm, ⟨27, _⟩ => ⟨S_, .f32⟩
  | .hbm, ⟨28, _⟩ => ⟨S4352x2048, .f32⟩
  | .hbm, ⟨29, _⟩ => ⟨S4352x2048, .f32⟩
  | .hbm, ⟨30, _⟩ => ⟨S4352x4096, .f32⟩
  | .hbm, ⟨31, _⟩ => ⟨S4352x4096, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== Kernel28.lean ====
abbrev S4352x2048 : Shape := ⟨2, ![4352, 2048]⟩
abbrev S2048x3072 : Shape := ⟨2, ![2048, 3072]⟩
abbrev S4352x128 : Shape := ⟨2, ![4352, 128]⟩
abbrev S4096x2048 : Shape := ⟨2, ![4096, 2048]⟩
abbrev S1024x2048 : Shape := ⟨2, ![1024, 2048]⟩
abbrev S2048x1024 : Shape := ⟨2, ![2048, 1024]⟩
abbrev S1024x128 : Shape := ⟨2, ![1024, 128]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4352x2048, .bf16⟩
  | .hbm, ⟨1, _⟩ => ⟨S2048x3072, .bf16⟩
  | .hbm, ⟨2, _⟩ => ⟨S4352x128, .f32⟩
  | .hbm, ⟨3, _⟩ => ⟨S4352x128, .f32⟩
  | .hbm, ⟨4, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference28Ideal.lean ====
abbrev S4352x2048 : Shape := ⟨2, ![4352, 2048]⟩
abbrev S2048x3072 : Shape := ⟨2, ![2048, 3072]⟩
abbrev S4352x128 : Shape := ⟨2, ![4352, 128]⟩
abbrev S4352x3072 : Shape := ⟨2, ![4352, 3072]⟩
abbrev S4096x2048 : Shape := ⟨2, ![4096, 2048]⟩
abbrev S4096x16x128 : Shape := ⟨3, ![4096, 16, 128]⟩
abbrev S4096x16x32 : Shape := ⟨3, ![4096, 16, 32]⟩
abbrev S4096x128 : Shape := ⟨2, ![4096, 128]⟩
abbrev S4096x1x128 : Shape := ⟨3, ![4096, 1, 128]⟩

abbrev nBuf : Space → Nat
  | .hbm => 25
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x3072, .bf16⟩
  | .hbm, ⟨2, _⟩ => ⟨S4352x128, .f32⟩
  | .hbm, ⟨3, _⟩ => ⟨S4352x128, .f32⟩
  | .hbm, ⟨4, _⟩ => ⟨S4352x2048, .f32⟩
  | .hbm, ⟨5, _⟩ => ⟨S2048x3072, .f32⟩
  | .hbm, ⟨6, _⟩ => ⟨S4352x3072, .f32⟩
  | .hbm, ⟨7, _⟩ => ⟨S4096x2048, .f32⟩
  | .hbm, ⟨8, _⟩ => ⟨S4096x16x128, .f32⟩
  | .hbm, ⟨9, _⟩ => ⟨S4096x16x32, .f32⟩
  | .hbm, ⟨10, _⟩ => ⟨S4096x16x32, .f32⟩
  | .hbm, ⟨11, _⟩ => ⟨S4096x16x32, .f32⟩
  | .hbm, ⟨12, _⟩ => ⟨S4096x16x32, .f32⟩
  | .hbm, ⟨13, _⟩ => ⟨S4096x16x128, .f32⟩
  | .hbm, ⟨14, _⟩ => ⟨S4096x128, .f32⟩
  | .hbm, ⟨15, _⟩ => ⟨S4096x1x128, .f32⟩
  | .hbm, ⟨16, _⟩ => ⟨S4096x16x128, .f32⟩
  | .hbm, ⟨17, _⟩ => ⟨S4096x16x128, .f32⟩
  | .hbm, ⟨18, _⟩ => ⟨S4096x128, .f32⟩
  | .hbm, ⟨19, _⟩ => ⟨S4096x1x128, .f32⟩
  | .hbm, ⟨20, _⟩ => ⟨S4096x16x128, .f32⟩
  | .hbm, ⟨21, _⟩ => ⟨S4096x16x128, .f32⟩
  | .hbm, ⟨22, _⟩ => ⟨S4096x16x128, .f32⟩
  | .hbm, ⟨23, _⟩ => ⟨S4096x2048, .f32⟩
  | .hbm, ⟨24, _⟩ => ⟨S4096x2048, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== Kernel29.lean ====
abbrev S4352x2048 : Shape := ⟨2, ![4352, 2048]⟩
abbrev S2048x3072 : Shape := ⟨2, ![2048, 3072]⟩
abbrev S4352x128 : Shape := ⟨2, ![4352, 128]⟩
abbrev S4352x512 : Shape := ⟨2, ![4352, 512]⟩
abbrev S1088x2048 : Shape := ⟨2, ![1088, 2048]⟩
abbrev S2048x512 : Shape := ⟨2, ![2048, 512]⟩
abbrev S1088x128 : Shape := ⟨2, ![1088, 128]⟩
abbrev S1088x512 : Shape := ⟨2, ![1088, 512]⟩

abbrev nBuf : Space → Nat
  | .hbm => 5
  | .vmem => 9
  | .smem => 0
  | _ => 0

abbrev bufTy : (tb : Table) → Fin (tcTables nBuf tb) → BufTy
  | .hbm, ⟨0, _⟩ => ⟨S4352x2048, .bf16⟩
  | .hbm, ⟨1, _⟩ => ⟨S2048x3072, .bf16⟩
  | .hbm, ⟨2, _⟩ => ⟨S4352x128, .f32⟩
  | .hbm, ⟨3, _⟩ => ⟨S4352x128, .f32⟩
  | .hbm, ⟨4, _⟩ => ⟨S4352x512, .bf16⟩
  | .local _ .vmem, ⟨0, _⟩ => ⟨S1088x2048, .bf16⟩
  | .local _ .vmem, ⟨1, _⟩ => ⟨S1088x2048, .bf16⟩
  | .local _ .vmem, ⟨2, _⟩ => ⟨S2048x512, .bf16⟩
  | .local _ .vmem, ⟨3, _⟩ => ⟨S1088x128, .f32⟩
  | .local _ .vmem, ⟨4, _⟩ => ⟨S1088x128, .f32⟩
  | .local _ .vmem, ⟨5, _⟩ => ⟨S1088x128, .f32⟩
  | .local _ .vmem, ⟨6, _⟩ => ⟨S1088x128, .f32⟩
  | .local _ .vmem, ⟨7, _⟩ => ⟨S1088x512, .bf16⟩
  | .local _ .vmem, ⟨8, _⟩ => ⟨S1088x512, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1088x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1088x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference29Ideal.lean ====
abbrev S4352x2048 : Shape := ⟨2, ![4352, 2048]⟩
abbrev S2048x3072 : Shape := ⟨2, ![2048, 3072]⟩
abbrev S4352x128 : Shape := ⟨2, ![4352, 128]⟩
abbrev S4352x3072 : Shape := ⟨2, ![4352, 3072]⟩
abbrev S4352x512 : Shape := ⟨2, ![4352, 512]⟩
abbrev S4352x4x128 : Shape := ⟨3, ![4352, 4, 128]⟩
abbrev S4352x4x32 : Shape := ⟨3, ![4352, 4, 32]⟩
abbrev S4352x1x128 : Shape := ⟨3, ![4352, 1, 128]⟩

abbrev nBuf : Space → Nat
  | .hbm => 23
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x3072, .bf16⟩
  | .hbm, ⟨2, _⟩ => ⟨S4352x128, .f32⟩
  | .hbm, ⟨3, _⟩ => ⟨S4352x128, .f32⟩
  | .hbm, ⟨4, _⟩ => ⟨S4352x2048, .f32⟩
  | .hbm, ⟨5, _⟩ => ⟨S2048x3072, .f32⟩
  | .hbm, ⟨6, _⟩ => ⟨S4352x3072, .f32⟩
  | .hbm, ⟨7, _⟩ => ⟨S4352x512, .f32⟩
  | .hbm, ⟨8, _⟩ => ⟨S4352x4x128, .f32⟩
  | .hbm, ⟨9, _⟩ => ⟨S4352x4x32, .f32⟩
  | .hbm, ⟨10, _⟩ => ⟨S4352x4x32, .f32⟩
  | .hbm, ⟨11, _⟩ => ⟨S4352x4x32, .f32⟩
  | .hbm, ⟨12, _⟩ => ⟨S4352x4x32, .f32⟩
  | .hbm, ⟨13, _⟩ => ⟨S4352x4x128, .f32⟩
  | .hbm, ⟨14, _⟩ => ⟨S4352x1x128, .f32⟩
  | .hbm, ⟨15, _⟩ => ⟨S4352x4x128, .f32⟩
  | .hbm, ⟨16, _⟩ => ⟨S4352x4x128, .f32⟩
  | .hbm, ⟨17, _⟩ => ⟨S4352x1x128, .f32⟩
  | .hbm, ⟨18, _⟩ => ⟨S4352x4x128, .f32⟩
  | .hbm, ⟨19, _⟩ => ⟨S4352x4x128, .f32⟩
  | .hbm, ⟨20, _⟩ => ⟨S4352x4x128, .f32⟩
  | .hbm, ⟨21, _⟩ => ⟨S4352x512, .f32⟩
  | .hbm, ⟨22, _⟩ => ⟨S4352x512, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== Kernel30.lean ====
abbrev S4352x2048 : Shape := ⟨2, ![4352, 2048]⟩
abbrev S1x2048 : Shape := ⟨2, ![1, 2048]⟩
abbrev S4x2048 : Shape := ⟨2, ![4, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S4352x2048, .f32⟩
  | .hbm, ⟨1, _⟩ => ⟨S1x2048, .f32⟩
  | .hbm, ⟨2, _⟩ => ⟨S4x2048, .f32⟩
  | .hbm, ⟨3, _⟩ => ⟨S4352x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S4x2048, .f32⟩
  | .local _ .vmem, ⟨4, _⟩ => ⟨S256x2048, .bf16⟩
  | .local _ .vmem, ⟨5, _⟩ => ⟨S256x2048, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference30Ideal.lean ====
abbrev S4352x2048 : Shape := ⟨2, ![4352, 2048]⟩
abbrev S1x2048 : Shape := ⟨2, ![1, 2048]⟩
abbrev S4x2048 : Shape := ⟨2, ![4, 2048]⟩
abbrev S_ : Shape := ⟨0, ![]⟩
abbrev S4352 : Shape := ⟨1, ![4352]⟩
abbrev S4352x1 : Shape := ⟨2, ![4352, 1]⟩
abbrev S4096x2048 : Shape := ⟨2, ![4096, 2048]⟩
abbrev S2048 : Shape := ⟨1, ![2048]⟩
abbrev S256x2048 : Shape := ⟨2, ![256, 2048]⟩

abbrev nBuf : Space → Nat
  | .hbm => 48
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S1x2048, .f32⟩
  | .hbm, ⟨2, _⟩ => ⟨S4x2048, .f32⟩
  | .hbm, ⟨3, _⟩ => ⟨S4352x2048, .f32⟩
  | .hbm, ⟨4, _⟩ => ⟨S_, .f32⟩
  | .hbm, ⟨5, _⟩ => ⟨S4352, .f32⟩
  | .hbm, ⟨6, _⟩ => ⟨S4352x1, .f32⟩
  | .hbm, ⟨7, _⟩ => ⟨S_, .f32⟩
  | .hbm, ⟨8, _⟩ => ⟨S4352x1, .f32⟩
  | .hbm, ⟨9, _⟩ => ⟨S4352x1, .f32⟩
  | .hbm, ⟨10, _⟩ => ⟨S_, .f32⟩
  | .hbm, ⟨11, _⟩ => ⟨S4352x1, .f32⟩
  | .hbm, ⟨12, _⟩ => ⟨S4352x1, .f32⟩
  | .hbm, ⟨13, _⟩ => ⟨S4352x1, .f32⟩
  | .hbm, ⟨14, _⟩ => ⟨S4352x2048, .f32⟩
  | .hbm, ⟨15, _⟩ => ⟨S4352x2048, .f32⟩
  | .hbm, ⟨16, _⟩ => ⟨S4352x2048, .f32⟩
  | .hbm, ⟨17, _⟩ => ⟨S4352x2048, .f32⟩
  | .hbm, ⟨18, _⟩ => ⟨S4096x2048, .f32⟩
  | .hbm, ⟨19, _⟩ => ⟨S1x2048, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S1x2048, .f32⟩
  | .hbm, ⟨28, _⟩ => ⟨S2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S256x2048, .f32⟩
  | .hbm, ⟨33, _⟩ => ⟨S1x2048, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S1x2048, .f32⟩
  | .hbm, ⟨39, _⟩ => ⟨S256x2048, .f32⟩
  | .hbm, ⟨40, _⟩ => ⟨S256x2048, .f32⟩
  | .hbm, ⟨41, _⟩ => ⟨S1x2048, .f32⟩
  | .hbm, ⟨42, _⟩ => ⟨S2048, .f32⟩
  | .hbm, ⟨43, _⟩ => ⟨S1x2048, .f32⟩
  | .hbm, ⟨44, _⟩ => ⟨S256x2048, .f32⟩
  | .hbm, ⟨45, _⟩ => ⟨S256x2048, .f32⟩
  | .hbm, ⟨46, _⟩ => ⟨S4352x2048, .f32⟩
  | .hbm, ⟨47, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== Kernel31.lean ====
abbrev S4096x2048 : Shape := ⟨2, ![4096, 2048]⟩
abbrev S1x2048 : Shape := ⟨2, ![1, 2048]⟩
abbrev S4x2048 : Shape := ⟨2, ![4, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S4x2048, .f32⟩
  | .local _ .vmem, ⟨4, _⟩ => ⟨S256x2048, .bf16⟩
  | .local _ .vmem, ⟨5, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference31Ideal.lean ====
abbrev S4096x2048 : Shape := ⟨2, ![4096, 2048]⟩
abbrev S1x2048 : Shape := ⟨2, ![1, 2048]⟩
abbrev S4x2048 : Shape := ⟨2, ![4, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S1x2048, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel32.lean ====
abbrev S4352x4096 : Shape := ⟨2, ![4352, 4096]⟩
abbrev S4352x8192 : Shape := ⟨2, ![4352, 8192]⟩
abbrev S128x4096 : Shape := ⟨2, ![128, 4096]⟩
abbrev S128x512 : Shape := ⟨2, ![128, 512]⟩
abbrev S128 : Shape := ⟨1, ![128]⟩
abbrev S128x1 : Shape := ⟨2, ![128, 1]⟩

abbrev nBuf : Space → Nat
  | .hbm => 3
  | .vmem => 6
  | .smem => 0
  | _ => 0

abbrev bufTy : (tb : Table) → Fin (tcTables nBuf tb) → BufTy
  | .hbm, ⟨0, _⟩ => ⟨S4352x4096, .f32⟩
  | .hbm, ⟨1, _⟩ => ⟨S4352x8192, .bf16⟩
  | .hbm, ⟨2, _⟩ => ⟨S4352x4096, .bf16⟩
  | .local _ .vmem, ⟨0, _⟩ => ⟨S128x4096, .f32⟩
  | .local _ .vmem, ⟨1, _⟩ => ⟨S128x4096, .f32⟩
  | .local _ .vmem, ⟨2, _⟩ => ⟨S128x4096, .bf16⟩
  | .local _ .vmem, ⟨3, _⟩ => ⟨S128x4096, .bf16⟩
  | .local _ .vmem, ⟨4, _⟩ => ⟨S128x4096, .bf16⟩
  | .local _ .vmem, ⟨5, _⟩ => ⟨S128x4096, .bf16⟩
  | _, _ => ⟨S4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  ![v0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference32Ideal.lean ====
abbrev S4352x4096 : Shape := ⟨2, ![4352, 4096]⟩
abbrev S4352x8192 : Shape := ⟨2, ![4352, 8192]⟩
abbrev S4352x8x512 : Shape := ⟨3, ![4352, 8, 512]⟩
abbrev S_ : Shape := ⟨0, ![]⟩
abbrev S4352x8 : Shape := ⟨2, ![4352, 8]⟩
abbrev S4352x8x1 : Shape := ⟨3, ![4352, 8, 1]⟩

abbrev nBuf : Space → Nat
  | .hbm => 30
  | .vmem => 0
  | .smem => 0
  | _ => 0

abbrev bufTy : (tb : Table) → Fin (tcTables nBuf tb) → BufTy
  | .hbm, ⟨0, _⟩ => ⟨S4352x4096, .f32⟩
  | .hbm, ⟨1, _⟩ => ⟨S4352x8192, .bf16⟩
  | .hbm, ⟨2, _⟩ => ⟨S4352x4096, .bf16⟩
  | .hbm, ⟨3, _⟩ => ⟨S4352x4096, .f32⟩
  | .hbm, ⟨4, _⟩ => ⟨S4352x8x512, .f32⟩
  | .hbm, ⟨5, _⟩ => ⟨S4352x8x512, .f32⟩
  | .hbm, ⟨6, _⟩ => ⟨S_, .f32⟩
  | .hbm, ⟨7, _⟩ => ⟨S4352x8, .f32⟩
  | .hbm, ⟨8, _⟩ => ⟨S4352x8x1, .f32⟩
  | .hbm, ⟨9, _⟩ => ⟨S_, .f32⟩
  | .hbm, ⟨10, _⟩ => ⟨S4352x8x1, .f32⟩
  | .hbm, ⟨11, _⟩ => ⟨S4352x8x1, .f32⟩
  | .hbm, ⟨12, _⟩ => ⟨S_, .f32⟩
  | .hbm, ⟨13, _⟩ => ⟨S4352x8x1, .f32⟩
  | .hbm, ⟨14, _⟩ => ⟨S4352x8x1, .f32⟩
  | .hbm, ⟨15, _⟩ => ⟨S4352x8x1, .f32⟩
  | .hbm, ⟨16, _⟩ => ⟨S4352x8x512, .f32⟩
  | .hbm, ⟨17, _⟩ => ⟨S4352x8x512, .f32⟩
  | .hbm, ⟨18, _⟩ => ⟨S4352x4096, .f32⟩
  | .hbm, ⟨19, _⟩ => ⟨S4352x4096, .f32⟩
  | .hbm, ⟨20, _⟩ => ⟨S_, .f32⟩
  | .hbm, ⟨21, _⟩ => ⟨S4352x4096, .f32⟩
  | .hbm, ⟨22, _⟩ => ⟨S4352x4096, .f32⟩
  | .hbm, ⟨23, _⟩ => ⟨S_, .f32⟩
  | .hbm, ⟨24, _⟩ => ⟨S4352x4096, .f32⟩
  | .hbm, ⟨25, _⟩ => ⟨S4352x4096, .f32⟩
  | .hbm, ⟨26, _⟩ => ⟨S4352x4096, .f32⟩
  | .hbm, ⟨27, _⟩ => ⟨S4352x4096, .f32⟩
  | .hbm, ⟨28, _⟩ => ⟨S4352x4096, .f32⟩
  | .hbm, ⟨29, _⟩ => ⟨S4352x4096, .bf16⟩
  | _, _ => ⟨S4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩

abbrev nD : Nat := 1
abbrev τ : Topo := Topo.v7x

variable {F : FTy → Type} [FloatOps F]
-- ==== Proof.Scan.lean ====
/-
  The arithmetic of the retention's gradients over the real numbers, for one head and one direction.

  A row of the sequence is a pair: its time chunk `c` and its row `r` inside the chunk; `p r` is the row's position
  inside the chunk in time order, so that the row's time is `256 c + p r`. The gradients of the parallel form (a sum
  over all pairs of rows, weighted by `decay`) are cut at the chunks: what lies inside a chunk, plus what the state
  before the chunk (`before`) or the gradient of the state after it (`after`) carries.
-/
module

public import Mathlib.Analysis.SpecialFunctions.Exp
public import Mathlib.Algebra.BigOperators.Fin
public import Mathlib.Algebra.BigOperators.Ring.Finset
public import Mathlib.Tactic.Ring
public import Mathlib.Tactic.Linarith

@[expose] public section

noncomputable section

namespace Retention

open scoped BigOperators

/-- The weight between a row at time `τ` and a row at time `σ`: `exp (g (τ - σ))`, nothing when `σ` is later. -/
def decay (g : ℝ) (τ σ : ℕ) : ℝ := if σ ≤ τ then Real.exp (g * ((τ : ℝ) - (σ : ℝ))) else 0
/-- The weight of a row at time `σ` in the state before time `b`. -/
def wBefore (g : ℝ) (b σ : ℕ) : ℝ := if σ < b then Real.exp (g * ((b : ℝ) - 1 - (σ : ℝ))) else 0
/-- The weight of a row at time `τ` in the gradient of the state before time `b`. -/
def wAfter (g : ℝ) (b τ : ℕ) : ℝ := if b ≤ τ then Real.exp (g * ((τ : ℝ) - (b : ℝ) + 1)) else 0
/-- What a row's position lets through of the state before its chunk. -/
def bq (g : ℝ) (a : ℕ) : ℝ := Real.exp (g * ((a : ℝ) + 1))
/-- What a row's position lets through into the state after its chunk. -/
def bk (g : ℝ) (a : ℕ) : ℝ := Real.exp (g * (256 - ((a : ℝ) + 1)))

theorem wAfter_mul_wBefore (g : ℝ) (b τ σ : ℕ) :
    wAfter g b τ * wBefore g b σ = if σ < b ∧ b ≤ τ then decay g τ σ else 0 := by
  unfold wAfter wBefore decay
  by_cases h1 : b ≤ τ <;> by_cases h2 : σ < b
  · rw [if_pos h1, if_pos h2, if_pos ⟨h2, h1⟩, if_pos (by omega), ← Real.exp_add]
    congr 1; ring
  all_goals simp [h1, h2]

/-- The decay onto a row from all rows: from the rows of its own chunk, and through the state before the chunk. -/
theorem decay_before (g : ℝ) (c c' a a' : ℕ) (ha : a < 256) (ha' : a' < 256) :
    decay g (256 * c + a) (256 * c' + a') = (if c' = c then decay g a a' else 0) + wBefore g (256 * c) (256 * c' + a') * bq g a := by
  unfold decay wBefore bq
  rcases lt_trichotomy c' c with h | h | h
  · rw [if_pos (by omega), if_neg (by omega), if_pos (by omega), zero_add, ← Real.exp_add]
    congr 1; push_cast; ring
  · subst h
    rw [if_pos rfl, if_neg (show ¬(256 * c' + a' < 256 * c') by omega), zero_mul, add_zero]
    by_cases h : a' ≤ a
    · rw [if_pos (by omega), if_pos h]; congr 1; push_cast; ring
    · rw [if_neg (by omega), if_neg h]
  · rw [if_neg (by omega), if_neg (by omega), if_neg (by omega), zero_mul, add_zero]

/-- The decay from a row onto all rows: onto the rows of its own chunk, and through the state after the chunk. -/
theorem decay_after (g : ℝ) (c c' a a' : ℕ) (ha : a < 256) (ha' : a' < 256) :
    decay g (256 * c' + a') (256 * c + a) = (if c' = c then decay g a' a else 0) + wAfter g (256 * (c + 1)) (256 * c' + a') * bk g a := by
  unfold decay wAfter bk
  rcases lt_trichotomy c' c with h | h | h
  · rw [if_neg (by omega), if_neg (by omega), if_neg (by omega), zero_mul, add_zero]
  · subst h
    rw [if_pos rfl, if_neg (show ¬(256 * (c' + 1) ≤ 256 * c' + a') by omega), zero_mul, add_zero]
    by_cases h : a ≤ a'
    · rw [if_pos (by omega), if_pos h]; congr 1; push_cast; ring
    · rw [if_neg (by omega), if_neg h]
  · rw [if_pos (by omega), if_neg (by omega), if_pos (by omega), zero_add, ← Real.exp_add]
    congr 1; push_cast; ring

variable (g : ℝ) (p : Fin 256 → ℕ) (hp : ∀ r, p r < 256)
variable (q k : Fin 17 → Fin 256 → Fin 256 → ℝ) (v o : Fin 17 → Fin 256 → Fin 512 → ℝ)

/-- A row's time. -/
def tm (c : Fin 17) (r : Fin 256) : ℕ := 256 * c.val + p r

/-- The state before time chunk `c`. -/
def before (c : ℕ) (d : Fin 256) (e : Fin 512) : ℝ :=
  ∑ c' : Fin 17, ∑ r' : Fin 256, wBefore g (256 * c) (tm p c' r') * k c' r' d * v c' r' e
/-- The gradient of the state before time chunk `c`. -/
def after (c : ℕ) (d : Fin 256) (e : Fin 512) : ℝ :=
  ∑ c' : Fin 17, ∑ r' : Fin 256, wAfter g (256 * c) (tm p c' r') * (q c' r' d * o c' r' e)

theorem after_last (d : Fin 256) (e : Fin 512) (hp : ∀ r, p r < 256) : after g p q o 17 d e = 0 := by
  unfold after wAfter tm
  refine Finset.sum_eq_zero fun c _ => Finset.sum_eq_zero fun r _ => ?_
  rw [if_neg (by have := hp r; have := c.isLt; omega), zero_mul]

/-- One step of the gradient of the state: what the chunk after left, decayed by a chunk, plus the chunk's rows. -/
theorem after_step (hp : ∀ r, p r < 256) (c : Fin 17) (d : Fin 256) (e : Fin 512) :
    after g p q o (c.val + 1) d e * Real.exp (g * 256) + ∑ r : Fin 256, q c r d * (o c r e * bq g (p r)) = after g p q o c.val d e := by
  unfold after
  have hs : ∑ r : Fin 256, q c r d * (o c r e * bq g (p r))
      = ∑ c' : Fin 17, if c' = c then ∑ r : Fin 256, q c' r d * (o c' r e * bq g (p r)) else 0 := by
    rw [Finset.sum_ite_eq' Finset.univ c]; simp
  rw [hs, Finset.sum_mul, ← Finset.sum_add_distrib]
  refine Finset.sum_congr rfl fun c' _ => ?_
  have hi : (if c' = c then ∑ r : Fin 256, q c' r d * (o c' r e * bq g (p r)) else 0)
      = ∑ r : Fin 256, if c' = c then q c' r d * (o c' r e * bq g (p r)) else 0 := by
    by_cases h : c' = c <;> simp [h]
  rw [hi, Finset.sum_mul, ← Finset.sum_add_distrib]
  refine Finset.sum_congr rfl fun r _ => ?_
  have hw : wAfter g (256 * c.val) (tm p c' r)
      = wAfter g (256 * (c.val + 1)) (tm p c' r) * Real.exp (g * 256) + if c' = c then bq g (p r) else 0 := by
    unfold wAfter tm bq
    have := hp r
    rcases lt_trichotomy c'.val c.val with h | h | h
    · rw [if_neg (by omega), if_neg (by omega), if_neg (fun e => by subst e; omega)]; ring
    · have he : c' = c := Fin.ext h
      subst he
      rw [if_pos (by omega), if_neg (by omega), if_pos rfl, zero_mul, zero_add]; congr 1; push_cast; ring
    · rw [if_pos (by omega), if_pos (by omega), if_neg (fun e => by subst e; omega), add_zero, ← Real.exp_add]
      congr 1; push_cast; ring
  rw [hw]
  by_cases h : c' = c
  · rw [if_pos h, if_pos h]; ring
  · rw [if_neg h, if_neg h]; ring

/-- A sum over all rows whose term is a term of the own chunk and a term through the states. -/
theorem sum_split (c : Fin 17) (f₁ : Fin 256 → ℝ) (f₂ f : Fin 17 → Fin 256 → ℝ)
    (h : ∀ c' r', f c' r' = (if c' = c then f₁ r' else 0) + f₂ c' r') :
    ∑ c' : Fin 17, ∑ r' : Fin 256, f c' r' = ∑ r' : Fin 256, f₁ r' + ∑ c' : Fin 17, ∑ r' : Fin 256, f₂ c' r' := by
  have : ∑ r' : Fin 256, f₁ r' = ∑ c' : Fin 17, ∑ r' : Fin 256, if c' = c then f₁ r' else 0 := by
    rw [Finset.sum_comm]
    refine Finset.sum_congr rfl fun r _ => ?_
    rw [Finset.sum_ite_eq' Finset.univ c]; simp
  rw [this, ← Finset.sum_add_distrib]
  refine Finset.sum_congr rfl fun c' _ => ?_
  rw [← Finset.sum_add_distrib]
  exact Finset.sum_congr rfl fun r' _ => h c' r'

/-- The gradient of a row of `q`, in the parallel form. -/
def gq (c : Fin 17) (r : Fin 256) (d : Fin 256) : ℝ :=
  ∑ c' : Fin 17, ∑ r' : Fin 256, (∑ e : Fin 512, o c r e * v c' r' e) * decay g (tm p c r) (tm p c' r') * k c' r' d
/-- The gradient of a row of `k`, in the parallel form. -/
def gk (c : Fin 17) (r : Fin 256) (d : Fin 256) : ℝ :=
  ∑ c' : Fin 17, ∑ r' : Fin 256, (∑ e : Fin 512, o c' r' e * v c r e) * decay g (tm p c' r') (tm p c r) * q c' r' d
/-- The gradient of a row of `v`, in the parallel form. -/
def gv (c : Fin 17) (r : Fin 256) (e : Fin 512) : ℝ :=
  ∑ c' : Fin 17, ∑ r' : Fin 256, (∑ d : Fin 256, q c' r' d * k c r d) * decay g (tm p c' r') (tm p c r) * o c' r' e
/-- The gradient of the decay rate, in the parallel form. -/
def gg : ℝ := ∑ c : Fin 17, ∑ r : Fin 256, ∑ c' : Fin 17, ∑ r' : Fin 256,
  (∑ d : Fin 256, q c r d * k c' r' d) * (∑ e : Fin 512, o c r e * v c' r' e) * decay g (tm p c r) (tm p c' r')
    * ((tm p c r : ℝ) - (tm p c' r' : ℝ))

theorem gq_eq (hp : ∀ r, p r < 256) (c : Fin 17) (r : Fin 256) (d : Fin 256) :
    ∑ r' : Fin 256, (∑ e : Fin 512, o c r e * v c r' e) * decay g (p r) (p r') * k c r' d
      + (∑ e : Fin 512, o c r e * before g p k v c.val d e) * bq g (p r) = gq g p k v o c r d := by
  unfold gq
  rw [sum_split c (fun r' => (∑ e : Fin 512, o c r e * v c r' e) * decay g (p r) (p r') * k c r' d)
    (fun c' r' => (∑ e : Fin 512, o c r e * v c' r' e) * (wBefore g (256 * c.val) (tm p c' r') * bq g (p r)) * k c' r' d)]
  · congr 1
    unfold before
    simp only [Finset.mul_sum, Finset.sum_mul]
    rw [Finset.sum_comm]
    refine Finset.sum_congr rfl fun c' _ => ?_
    rw [Finset.sum_comm]
    exact Finset.sum_congr rfl fun r' _ => Finset.sum_congr rfl fun e _ => by ring
  · intro c' r'
    unfold tm
    rw [decay_before g c.val c'.val (p r) (p r') (hp r) (hp r')]
    by_cases h : c' = c
    · subst h; simp only [if_true]; ring
    · rw [if_neg (fun e => h (Fin.ext e)), if_neg h]; ring

theorem gk_eq (hp : ∀ r, p r < 256) (c : Fin 17) (r : Fin 256) (d : Fin 256) :
    ∑ r' : Fin 256, (∑ e : Fin 512, o c r' e * v c r e) * decay g (p r') (p r) * q c r' d
      + (∑ e : Fin 512, v c r e * after g p q o (c.val + 1) d e) * bk g (p r) = gk g p q v o c r d := by
  unfold gk
  rw [sum_split c (fun r' => (∑ e : Fin 512, o c r' e * v c r e) * decay g (p r') (p r) * q c r' d)
    (fun c' r' => (∑ e : Fin 512, o c' r' e * v c r e) * (wAfter g (256 * (c.val + 1)) (tm p c' r') * bk g (p r)) * q c' r' d)]
  · congr 1
    unfold after
    simp only [Finset.mul_sum, Finset.sum_mul]
    rw [Finset.sum_comm]
    refine Finset.sum_congr rfl fun c' _ => ?_
    rw [Finset.sum_comm]
    exact Finset.sum_congr rfl fun r' _ => Finset.sum_congr rfl fun e _ => by ring
  · intro c' r'
    unfold tm
    rw [decay_after g c.val c'.val (p r) (p r') (hp r) (hp r')]
    by_cases h : c' = c
    · subst h; simp only [if_true]; ring
    · rw [if_neg (fun e => h (Fin.ext e)), if_neg h]; ring

theorem gv_eq (hp : ∀ r, p r < 256) (c : Fin 17) (r : Fin 256) (e : Fin 512) :
    ∑ r' : Fin 256, (∑ d : Fin 256, q c r' d * k c r d) * decay g (p r') (p r) * o c r' e
      + ∑ d : Fin 256, k c r d * bk g (p r) * after g p q o (c.val + 1) d e = gv g p q k o c r e := by
  unfold gv
  rw [sum_split c (fun r' => (∑ d : Fin 256, q c r' d * k c r d) * decay g (p r') (p r) * o c r' e)
    (fun c' r' => (∑ d : Fin 256, q c' r' d * k c r d) * (wAfter g (256 * (c.val + 1)) (tm p c' r') * bk g (p r)) * o c' r' e)]
  · congr 1
    unfold after
    simp only [Finset.mul_sum, Finset.sum_mul]
    rw [Finset.sum_comm]
    refine Finset.sum_congr rfl fun c' _ => ?_
    rw [Finset.sum_comm]
    exact Finset.sum_congr rfl fun r' _ => Finset.sum_congr rfl fun e _ => by ring
  · intro c' r'
    unfold tm
    rw [decay_after g c.val c'.val (p r) (p r') (hp r) (hp r')]
    by_cases h : c' = c
    · subst h; simp only [if_true]; ring
    · rw [if_neg (fun e => h (Fin.ext e)), if_neg h]; ring

/-- The number of chunk boundaries between two times, in time order. -/
theorem sum_boundaries (a b : Fin 17) (w : ℝ) :
    ∑ c : Fin 17, (if b.val < c.val ∧ c.val ≤ a.val then w else 0) = if b.val ≤ a.val then ((a.val : ℝ) - b.val) * w else 0 := by
  rw [← Finset.sum_filter, Finset.sum_const]
  have h : ∀ a b : Fin 17, (Finset.univ.filter fun c : Fin 17 => b.val < c.val ∧ c.val ≤ a.val).card = a.val - b.val := by decide
  rw [h, nsmul_eq_mul]
  by_cases hab : b.val ≤ a.val
  · rw [if_pos hab, Nat.cast_sub hab]
  · rw [if_neg hab, Nat.sub_eq_zero_of_le (by omega)]; simp

/-- One chunk's part of the decay rate's gradient: the positions against the rows' gradients, and the boundary before
    the chunk against the states. Summed over the chunks it is the gradient of the parallel form. -/
theorem gg_eq (hp : ∀ r, p r < 256) :
    ∑ c : Fin 17, (∑ r : Fin 256, ((p r : ℝ) + 1) * (∑ d : Fin 256, (q c r d * gq g p k v o c r d - k c r d * gk g p q v o c r d))
      + 256 * ∑ d : Fin 256, ∑ e : Fin 512, after g p q o c.val d e * before g p k v c.val d e) = gg g p q k v o := by
  set M : Fin 17 → Fin 256 → Fin 17 → Fin 256 → ℝ := fun c r c' r' =>
    (∑ d : Fin 256, q c r d * k c' r' d) * (∑ e : Fin 512, o c r e * v c' r' e) with hM
  have h1 : ∀ c r, ∑ d : Fin 256, q c r d * gq g p k v o c r d = ∑ c' : Fin 17, ∑ r' : Fin 256, M c r c' r' * decay g (tm p c r) (tm p c' r') := by
    intro c r
    unfold gq
    simp only [Finset.mul_sum, hM, Finset.sum_mul]
    rw [Finset.sum_comm]
    refine Finset.sum_congr rfl fun c' _ => ?_
    rw [Finset.sum_comm]
    refine Finset.sum_congr rfl fun r' _ => ?_
    rw [Finset.sum_comm]
    exact Finset.sum_congr rfl fun d _ => Finset.sum_congr rfl fun e _ => by ring
  have h2 : ∀ c r, ∑ d : Fin 256, k c r d * gk g p q v o c r d = ∑ c' : Fin 17, ∑ r' : Fin 256, M c' r' c r * decay g (tm p c' r') (tm p c r) := by
    intro c r
    unfold gk
    simp only [Finset.mul_sum, hM, Finset.sum_mul]
    rw [Finset.sum_comm]
    refine Finset.sum_congr rfl fun c' _ => ?_
    rw [Finset.sum_comm]
    refine Finset.sum_congr rfl fun r' _ => ?_
    rw [Finset.sum_comm]
    exact Finset.sum_congr rfl fun d _ => Finset.sum_congr rfl fun e _ => by ring
  have h3 : ∀ b : ℕ, ∑ d : Fin 256, ∑ e : Fin 512, after g p q o b d e * before g p k v b d e
      = ∑ c : Fin 17, ∑ r : Fin 256, ∑ c' : Fin 17, ∑ r' : Fin 256,
        M c r c' r' * (wAfter g (256 * b) (tm p c r) * wBefore g (256 * b) (tm p c' r')) := by
    intro b
    unfold after before
    have e1 : ∀ d e, (∑ c' : Fin 17, ∑ r' : Fin 256, wAfter g (256 * b) (tm p c' r') * (q c' r' d * o c' r' e))
        * (∑ c' : Fin 17, ∑ r' : Fin 256, wBefore g (256 * b) (tm p c' r') * k c' r' d * v c' r' e)
        = ∑ c : Fin 17, ∑ r : Fin 256, ∑ c' : Fin 17, ∑ r' : Fin 256,
          (q c r d * k c' r' d) * (o c r e * v c' r' e) * (wAfter g (256 * b) (tm p c r) * wBefore g (256 * b) (tm p c' r')) := by
      intro d e
      rw [Finset.sum_mul]
      refine Finset.sum_congr rfl fun c _ => ?_
      rw [Finset.sum_mul]
      refine Finset.sum_congr rfl fun r _ => ?_
      rw [Finset.mul_sum]
      refine Finset.sum_congr rfl fun c' _ => ?_
      rw [Finset.mul_sum]
      exact Finset.sum_congr rfl fun r' _ => by ring
    simp only [e1]
    have e2 : ∀ c r c' r', M c r c' r' * (wAfter g (256 * b) (tm p c r) * wBefore g (256 * b) (tm p c' r'))
        = ∑ d : Fin 256, ∑ e : Fin 512, (q c r d * k c' r' d) * (o c r e * v c' r' e) * (wAfter g (256 * b) (tm p c r) * wBefore g (256 * b) (tm p c' r')) := by
      intro c r c' r'
      simp only [hM, Finset.sum_mul, Finset.mul_sum]
      rw [Finset.sum_comm]
    simp only [e2]
    have sw : ∀ f : Fin 256 → Fin 512 → Fin 17 → Fin 256 → Fin 17 → Fin 256 → ℝ,
        ∑ d : Fin 256, ∑ e : Fin 512, ∑ c : Fin 17, ∑ r : Fin 256, ∑ c' : Fin 17, ∑ r' : Fin 256, f d e c r c' r'
        = ∑ c : Fin 17, ∑ r : Fin 256, ∑ c' : Fin 17, ∑ r' : Fin 256, ∑ d : Fin 256, ∑ e : Fin 512, f d e c r c' r' := by
      intro f
      have s1 : ∀ F : Fin 256 → Fin 512 → Fin 17 → ℝ, ∑ d : Fin 256, ∑ e : Fin 512, ∑ c : Fin 17, F d e c = ∑ c : Fin 17, ∑ d : Fin 256, ∑ e : Fin 512, F d e c :=
        fun F => (Finset.sum_congr rfl fun d _ => Finset.sum_comm).trans Finset.sum_comm
      have s2 : ∀ F : Fin 256 → Fin 512 → Fin 256 → ℝ, ∑ d : Fin 256, ∑ e : Fin 512, ∑ c : Fin 256, F d e c = ∑ c : Fin 256, ∑ d : Fin 256, ∑ e : Fin 512, F d e c :=
        fun F => (Finset.sum_congr rfl fun d _ => Finset.sum_comm).trans Finset.sum_comm
      rw [s1]; refine Finset.sum_congr rfl fun c _ => ?_
      rw [s2]; refine Finset.sum_congr rfl fun r _ => ?_
      rw [s1]; refine Finset.sum_congr rfl fun c' _ => ?_
      rw [s2]
    exact sw _
  -- the two sums over pairs of rows, each pair's positions and the boundaries between its chunks
  have sw : ∀ F : Fin 17 → Fin 256 → Fin 17 → Fin 256 → ℝ,
      ∑ c : Fin 17, ∑ r : Fin 256, ∑ c' : Fin 17, ∑ r' : Fin 256, F c r c' r' = ∑ c : Fin 17, ∑ r : Fin 256, ∑ c' : Fin 17, ∑ r' : Fin 256, F c' r' c r := by
    intro F
    have t1 : ∀ G : Fin 17 × Fin 256 → Fin 17 × Fin 256 → ℝ,
        ∑ c : Fin 17, ∑ r : Fin 256, ∑ c' : Fin 17, ∑ r' : Fin 256, G (c, r) (c', r') = ∑ x, ∑ y, G x y := by
      intro G; simp only [Fintype.sum_prod_type]
    rw [t1 (fun x y => F x.1 x.2 y.1 y.2), Finset.sum_comm, ← t1 (fun x y => F y.1 y.2 x.1 x.2)]
  have sb : ∀ F : Fin 17 → Fin 17 → Fin 256 → Fin 17 → Fin 256 → ℝ,
      ∑ b : Fin 17, ∑ c : Fin 17, ∑ r : Fin 256, ∑ c' : Fin 17, ∑ r' : Fin 256, F b c r c' r'
      = ∑ c : Fin 17, ∑ r : Fin 256, ∑ c' : Fin 17, ∑ r' : Fin 256, ∑ b : Fin 17, F b c r c' r' := by
    intro F
    rw [Finset.sum_comm]; refine Finset.sum_congr rfl fun c _ => ?_
    rw [Finset.sum_comm]; refine Finset.sum_congr rfl fun r _ => ?_
    rw [Finset.sum_comm]; refine Finset.sum_congr rfl fun c' _ => ?_
    rw [Finset.sum_comm]
  simp only [Finset.sum_sub_distrib, h1, h2, h3, mul_sub, Finset.sum_add_distrib, Finset.mul_sum]
  rw [sw (fun c r c' r' => ((p r : ℝ) + 1) * (M c' r' c r * decay g (tm p c' r') (tm p c r))), sb]
  simp only [← Finset.sum_sub_distrib, ← Finset.sum_add_distrib]
  unfold gg
  refine Finset.sum_congr rfl fun c _ => Finset.sum_congr rfl fun r _ => Finset.sum_congr rfl fun c' _ => Finset.sum_congr rfl fun r' _ => ?_
  have hb : ∑ b : Fin 17, 256 * (M c r c' r' * (wAfter g (256 * b.val) (tm p c r) * wBefore g (256 * b.val) (tm p c' r')))
      = 256 * ((c.val : ℝ) - c'.val) * (M c r c' r' * decay g (tm p c r) (tm p c' r')) - (if c'.val ≤ c.val then 0 else 256 * ((c.val : ℝ) - c'.val) * (M c r c' r' * decay g (tm p c r) (tm p c' r'))) := by
    have e : ∀ b : Fin 17, 256 * (M c r c' r' * (wAfter g (256 * b.val) (tm p c r) * wBefore g (256 * b.val) (tm p c' r')))
        = if c'.val < b.val ∧ b.val ≤ c.val then 256 * (M c r c' r' * decay g (tm p c r) (tm p c' r')) else 0 := by
      intro b
      rw [wAfter_mul_wBefore]
      have ha := hp r; have ha' := hp r'
      unfold tm
      by_cases h : c'.val < b.val ∧ b.val ≤ c.val
      · rw [if_pos h, if_pos (by omega)]
      · rw [if_neg h, if_neg (by omega)]; ring
    simp only [e]
    rw [sum_boundaries]
    by_cases h : c'.val ≤ c.val
    · rw [if_pos h, if_pos h]; ring
    · rw [if_neg h, if_neg h]; ring
  rw [hb]
  have hz : ¬ c'.val ≤ c.val → decay g (tm p c r) (tm p c' r') = 0 := by
    intro h; unfold decay tm; rw [if_neg (by have := hp r; have := hp r'; omega)]
  have ht : (tm p c r : ℝ) - (tm p c' r' : ℝ) = 256 * ((c.val : ℝ) - c'.val) + ((p r : ℝ) - p r') := by
    unfold tm; push_cast; ring
  rw [ht]
  by_cases h : c'.val ≤ c.val
  · rw [if_pos h]; simp only [hM]; ring
  · rw [if_neg h, hz h]; ring

end Retention

end
-- ==== Proof.Words.lean ====
/-
  The decay between two rows as both programs compute it: a difference of two 32-bit words, clamped at zero, times the
  decay's logarithm, exponentiated, and masked.
-/
module

public import proofs.«01_k».proof.Proof.Scan
public import Idealize.ShloMosaic.Lib.Pointwise
public import Idealize.ShloMosaic.Lib.IdealHost

@[expose] public section

noncomputable section

namespace Retention

open Idealize.ShloMosaic

/-- A number below `2 ^ 31` is its own word's signed value. -/
theorem toInt_word (n : ℕ) (h : n < 2 ^ 31) : (BitVec.ofNat 32 n).toInt = n := by
  rw [BitVec.toInt_ofNat', Int.bmod_eq_of_le] <;> omega

theorem toInt_subi (n m : ℕ) (hn : n < 2 ^ 30) (hm : m < 2 ^ 30) :
    (IntOp.subi (BitVec.ofNat 32 n) (BitVec.ofNat 32 m)).toInt = (n : ℤ) - m := by
  unfold IntOp.subi
  rw [BitVec.toInt_sub, toInt_word n (by omega), toInt_word m (by omega), Int.bmod_eq_of_le] <;> omega

theorem sge_subi (n m : ℕ) (hn : n < 2 ^ 30) (hm : m < 2 ^ 30) :
    IntOp.cmpi .sge (IntOp.subi (BitVec.ofNat 32 n) (BitVec.ofNat 32 m)) 0#32 = BitVec.ofBool (decide (m ≤ n)) := by
  have h : IntOp.cmpi .sge (IntOp.subi (BitVec.ofNat 32 n) (BitVec.ofNat 32 m)) 0#32
      = BitVec.ofBool ((0#32).sle (IntOp.subi (BitVec.ofNat 32 n) (BitVec.ofNat 32 m))) := rfl
  rw [h, BitVec.sle, toInt_subi n m hn hm]
  congr 1
  simp

theorem toInt_maxsi (n m : ℕ) (hn : n < 2 ^ 30) (hm : m < 2 ^ 30) :
    (IntOp.maxsi (IntOp.subi (BitVec.ofNat 32 n) (BitVec.ofNat 32 m)) 0#32).toInt = ((n - m : ℕ) : ℤ) := by
  unfold IntOp.maxsi
  rw [BitVec.slt, toInt_subi n m hn hm]
  by_cases h : m ≤ n
  · by_cases h' : n = m
    · subst h'; simp [toInt_subi n n hn hn]
    · rw [if_pos (by simp; omega), toInt_subi n m hn hm]; omega
  · rw [if_neg (by simp; omega)]; simp; omega

/-- The clamped difference of two times, as a number. -/
theorem sitofp_maxsi (n m : ℕ) (hn : n < 2 ^ 30) (hm : m < 2 ^ 30) :
    (FloatOps.sitofp .f32 (IntOp.maxsi (IntOp.subi (BitVec.ofNat 32 n) (BitVec.ofNat 32 m)) 0#32) : Ideal .f32) = (((n - m : ℕ) : ℝ) : EReal) := by
  have h : (FloatOps.sitofp .f32 (IntOp.maxsi (IntOp.subi (BitVec.ofNat 32 n) (BitVec.ofNat 32 m)) 0#32) : Ideal .f32)
      = (((IntOp.maxsi (IntOp.subi (BitVec.ofNat 32 n) (BitVec.ofNat 32 m)) 0#32).toInt : ℝ) : EReal) := rfl
  rw [h, toInt_maxsi n m hn hm]; norm_cast

theorem sitofp_word (n : ℕ) (hn : n < 2 ^ 31) : (FloatOps.sitofp .f32 (BitVec.ofNat 32 n) : Ideal .f32) = ((n : ℝ) : EReal) := by
  have h : (FloatOps.sitofp .f32 (BitVec.ofNat 32 n) : Ideal .f32) = (((BitVec.ofNat 32 n).toInt : ℝ) : EReal) := rfl
  rw [h, toInt_word n hn]; norm_cast

theorem decay_sub (g : ℝ) (n m : ℕ) : decay g n m = if m ≤ n then Real.exp (g * ((n - m : ℕ) : ℝ)) else 0 := by
  unfold decay
  by_cases h : m ≤ n
  · rw [if_pos h, if_pos h, Nat.cast_sub h]
  · rw [if_neg h, if_neg h]

theorem select_decay (g : ℝ) (n m : ℕ) (hn : n < 2 ^ 30) (hm : m < 2 ^ 30) :
    Scalar.select (IntOp.cmpi .sge (IntOp.subi (BitVec.ofNat 32 n) (BitVec.ofNat 32 m)) 0#32)
      (Ideal.exp ((g : EReal) * (FloatOps.sitofp .f32 (IntOp.maxsi (IntOp.subi (BitVec.ofNat 32 n) (BitVec.ofNat 32 m)) 0#32) : Ideal .f32))) (0 : EReal)
      = ((decay g n m : ℝ) : EReal) := by
  rw [sge_subi n m hn hm, sitofp_maxsi n m hn hm, ← EReal.coe_mul, Ideal.exp_coe, Scalar.select_ofBool, decay_sub]
  by_cases h : m ≤ n
  · simp [h]
  · simp [h]

/-- Turning the order of the rows of a chunk round turns the decay round. -/
theorem decay_rev (g : ℝ) (r s : ℕ) (hr : r < 256) (hs : s < 256) : decay g (255 - r) (255 - s) = decay g s r := by
  rw [decay_sub, decay_sub]
  by_cases h : r ≤ s
  · rw [if_pos (by omega), if_pos h]; congr 3; omega
  · rw [if_neg (by omega), if_neg h]

end Retention
-- ==== Proof.Head.lean ====
/-
  One head of one chunk: the values the kernel stores, on real inputs, as formulas over the real numbers.
-/
module

public import proofs.«01_k».proof.Proof.Gen.KernelIdeal.Skeleton
public import proofs.«01_k».proof.Proof.Gen.Kernel2Ideal.Skeleton
public import proofs.«01_k».proof.Proof.Words
public import Idealize.ShloMosaic.Lib.Pointwise
public import Idealize.ShloMosaic.Lib.IdealHost

@[expose] public section

set_option maxRecDepth 16384

noncomputable section

namespace Retention.Head

open Cert.KernelIdeal Cert.KernelIdeal.Gen Idealize.ShloMosaic
open scoped BigOperators

theorem ofBits_256 : Ideal.ofBits .f32 0x43800000#32 = ((256 : ℝ) : EReal) := by
  simp [Ideal.ofBits, Ideal.ieee]; rw [← EReal.coe_mul]; norm_num

/-- A finite sum of reals, read as extended reals. -/
theorem coe_sum {ι : Type*} (s : Finset ι) (f : ι → ℝ) : ∑ i ∈ s, (f i : EReal) = ((∑ i ∈ s, f i : ℝ) : EReal) :=
  (map_sum (⟨⟨Real.toEReal, EReal.coe_zero⟩, EReal.coe_add⟩ : ℝ →+ EReal) f s).symm

variable (A : Fin 256 → Fin 256 → ℝ) (B : Fin 256 → ℝ)
variable (Q K : Fin 256 → Fin 256 → ℝ) (V O S D : Fin 256 → Fin 512 → ℝ)
variable (amat : FVec Ideal S256x256 .f32) (b : FVec Ideal S256x1 .f32) (q k : Vec Ideal S256x256 .bf16)
  (v o : Vec Ideal S256x512 .bf16) (st : Vec Ideal S1x1x256x512 .bf16) (ds : Vec Ideal S1x256x512 .f32)

theorem dq_apply (hA : ∀ r s, amat (ix2 r s) = (A r s : EReal)) (hB : ∀ r, b (ix2 r 0) = (B r : EReal))
    (hK : ∀ r s, k (ix2 r s) = (K r s : EReal)) (hV : ∀ r s, v (ix2 r s) = (V r s : EReal)) (hO : ∀ r s, o (ix2 r s) = (O r s : EReal))
    (hS : ∀ r s, st (ix4 0 0 r s) = (S r s : EReal)) (r d : Fin 256) :
    k0_pay13 (F := Ideal) amat b k v o st (ix2 r d)
      = ((∑ r' : Fin 256, (∑ e : Fin 512, O r e * V r' e) * A r r' * K r' d + (∑ e : Fin 512, O r e * S d e) * B r : ℝ) : EReal) := by
  pointwise [k0_pay13, k0_pay12, k0_pay7]
  simp only [hA, hB, hK, hV, hO, hS, ← EReal.coe_mul, coe_sum, ← EReal.coe_add]

theorem dk_apply (hA : ∀ r s, amat (ix2 r s) = (A r s : EReal)) (hB : ∀ r, b (ix2 r 0) = (B r : EReal))
    (hQ : ∀ r s, q (ix2 r s) = (Q r s : EReal)) (hV : ∀ r s, v (ix2 r s) = (V r s : EReal)) (hO : ∀ r s, o (ix2 r s) = (O r s : EReal))
    (hD : ∀ r s, ds (ix3 0 r s) = (D r s : EReal)) (r d : Fin 256) :
    k0_pay14 (F := Ideal) amat b q v o ds (ix2 r d)
      = ((∑ r' : Fin 256, (∑ e : Fin 512, O r' e * V r e) * A r' r * Q r' d + (∑ e : Fin 512, V r e * D d e) * B r : ℝ) : EReal) := by
  pointwise [k0_pay14, k0_pay12, k0_pay9, k0_pay8]
  simp only [hA, hB, hQ, hV, hO, hD, ← EReal.coe_mul, coe_sum, ← EReal.coe_add]

theorem dv_apply (hA : ∀ r s, amat (ix2 r s) = (A r s : EReal)) (hB : ∀ r, b (ix2 r 0) = (B r : EReal))
    (hQ : ∀ r s, q (ix2 r s) = (Q r s : EReal)) (hK : ∀ r s, k (ix2 r s) = (K r s : EReal)) (hO : ∀ r s, o (ix2 r s) = (O r s : EReal))
    (hD : ∀ r s, ds (ix3 0 r s) = (D r s : EReal)) (r : Fin 256) (e : Fin 512) :
    k0_pay15 (F := Ideal) amat b q k o ds (ix2 r e)
      = ((∑ r' : Fin 256, (∑ d : Fin 256, Q r' d * K r d) * A r' r * O r' e + ∑ d : Fin 256, K r d * B r * D d e : ℝ) : EReal) := by
  pointwise [k0_pay15, k0_pay11, k0_pay9, k0_pay8]
  simp only [hA, hB, hQ, hK, hO, hD, ← EReal.coe_mul, coe_sum, ← EReal.coe_add]

theorem ds_apply (g : ℝ) (lg : Ideal .f32) (hg : lg = (g : EReal)) (hB : ∀ r, b (ix2 r 0) = (B r : EReal))
    (hQ : ∀ r s, q (ix2 r s) = (Q r s : EReal)) (hO : ∀ r s, o (ix2 r s) = (O r s : EReal))
    (hD : ∀ r s, ds (ix3 0 r s) = (D r s : EReal)) (d : Fin 256) (e : Fin 512) :
    k0_pay16 (F := Ideal) lg b q o ds (ix2 d e)
      = ((D d e * Real.exp (g * 256) + ∑ r : Fin 256, Q r d * (O r e * B r) : ℝ) : EReal) := by
  pointwise [k0_pay16, k0_pay8]
  have hs : ∀ x : ℝ, (Scalar.exp ((x : EReal) : Ideal .f32) : Ideal .f32) = ((Real.exp x : ℝ) : EReal) := fun _ => rfl
  simp only [hg, hB, hQ, hO, hD, ofBits_256, ← EReal.coe_mul, hs, coe_sum, ← EReal.coe_add]

/-- What a chunk adds to the gradient of the decay's logarithm. -/
theorem dlg_apply (pos : FVec Ideal S256x1 .f32) (P : Fin 256 → ℝ) (st' : FVec Ideal S256x512 .bf16) (qf kf dq dk : FVec Ideal S256x256 .f32)
    (dq' dk' : Fin 256 → Fin 256 → ℝ) (dn : FVec Ideal S256x512 .f32) (acc : Vec Ideal S1x8x128 .f32) (a : ℝ)
    (hP : ∀ r, pos (ix2 r 0) = (P r : EReal)) (hS : ∀ r s, st' (ix2 r s) = (S r s : EReal))
    (hQ : ∀ r s, qf (ix2 r s) = (Q r s : EReal)) (hK : ∀ r s, kf (ix2 r s) = (K r s : EReal))
    (hdq : ∀ r s, dq (ix2 r s) = (dq' r s : EReal)) (hdk : ∀ r s, dk (ix2 r s) = (dk' r s : EReal))
    (hD : ∀ r s, dn (ix2 r s) = (D r s : EReal)) (i : Fin 8) (l : Fin 128) (ha : acc (ix3 0 i l) = (a : EReal)) :
    k0_pay21 (F := Ideal) pos st' qf kf dq dk dn acc (ix3 0 i l)
      = ((a + (∑ r : Fin 256, P r * (∑ d : Fin 256, (Q r d * dq' r d - K r d * dk' r d))
        + 256 * ∑ d : Fin 256, ∑ e : Fin 512, D d e * S d e) : ℝ) : EReal) := by
  pointwise [k0_pay21]
  simp only [ha, hP, hS, hQ, hK, hdq, hdk, hD, ofBits_256, ← EReal.coe_mul, ← EReal.coe_sub, coe_sum, ← EReal.coe_add]
  simp only [Finset.univ_unique, Finset.sum_singleton]

theorem amatF_apply (g : ℝ) (lg : Ideal .f32) (hg : lg = (g : EReal)) (r s : Fin 256) :
    k0_pay3 (F := Ideal) lg (ix2 r s) = (Retention.decay g r.val s.val : EReal) := by
  pointwise [k0_pay3]
  rw [hg]; exact Retention.select_decay g r.val s.val (by omega) (by omega)

theorem amatB_apply (g : ℝ) (lg : Ideal .f32) (hg : lg = (g : EReal)) (r s : Fin 256) :
    Cert.Kernel2Ideal.Gen.k0_pay3 (F := Ideal) lg (ix2 r s) = (Retention.decay g (255 - r.val) (255 - s.val) : EReal) := by
  pointwise [Cert.Kernel2Ideal.Gen.k0_pay3]
  rw [hg, Retention.decay_rev g r.val s.val r.isLt s.isLt]; exact Retention.select_decay g s.val r.val (by omega) (by omega)

theorem posF_apply (r : Fin 256) : k0_pay4 (F := Ideal) (ix2 r 0) = (((r.val : ℝ) + 1 : ℝ) : EReal) := by
  pointwise [k0_pay4]
  rw [Retention.sitofp_word r.val (by omega)]; norm_cast

theorem posB_apply (r : Fin 256) : Cert.Kernel2Ideal.Gen.k0_pay4 (F := Ideal) (ix2 r 0) = ((((255 - r.val : ℕ) : ℝ) + 1 : ℝ) : EReal) := by
  pointwise [Cert.Kernel2Ideal.Gen.k0_pay4]
  rw [Retention.sitofp_word r.val (by omega), ofBits_256, ← EReal.coe_sub, Nat.cast_sub (by omega)]
  congr 1; push_cast; ring

/-- A row's decay into its chunk, from its position counted from one. -/
def bqOf {F : FTy → Type} [FloatOps F] (ps : FVec F S256x1 .f32) (g : F .f32) : FVec F S256x1 .f32 :=
  exp (mulf (broadcast S256x1 g) ps)
/-- A row's decay out of its chunk, from its position counted from one. -/
def bkOf {F : FTy → Type} [FloatOps F] (ps : FVec F S256x1 .f32) (g : F .f32) : FVec F S256x1 .f32 :=
  exp (mulf (broadcast S256x1 g) (subf (broadcast S256x1 (Scalar.ofBits .f32 0x43800000#32)) ps))

theorem bq_apply (g : ℝ) (lg : Ideal .f32) (hg : lg = (g : EReal)) (ps : FVec Ideal S256x1 .f32) (p : Fin 256 → ℕ)
    (hps : ∀ r, ps (ix2 r 0) = (((p r : ℝ) + 1 : ℝ) : EReal)) (r : Fin 256) : bqOf ps lg (ix2 r 0) = (Retention.bq g (p r) : EReal) := by
  pointwise [bqOf]
  have hs : ∀ x : ℝ, (Scalar.exp ((x : EReal) : Ideal .f32) : Ideal .f32) = ((Real.exp x : ℝ) : EReal) := fun _ => rfl
  simp only [hg, hps, ← EReal.coe_mul, hs]; rfl

theorem bk_apply (g : ℝ) (lg : Ideal .f32) (hg : lg = (g : EReal)) (ps : FVec Ideal S256x1 .f32) (p : Fin 256 → ℕ)
    (hps : ∀ r, ps (ix2 r 0) = (((p r : ℝ) + 1 : ℝ) : EReal)) (r : Fin 256) : bkOf ps lg (ix2 r 0) = (Retention.bk g (p r) : EReal) := by
  pointwise [bkOf]
  have hs : ∀ x : ℝ, (Scalar.exp ((x : EReal) : Ideal .f32) : Ideal .f32) = ((Real.exp x : ℝ) : EReal) := fun _ => rfl
  simp only [hg, hps, ofBits_256, ← EReal.coe_sub, ← EReal.coe_mul, hs]; rfl

end Retention.Head
-- ==== Proof.Slices.lean ====
/-
  The slices of a grid point's blocks that belong to one head, how the body's loads read them, and how its stores are
  read back: a grid point works on four heads, head `hh` on columns `256 hh …` (queries, keys) and `512 hh …` (values).
-/
module

public import proofs.«01_k».proof.Proof.Head
public import Idealize.ShloMosaic.Lib.Pipeline.Value
public import Idealize.ShloMosaic.Lib.Pipeline.ValueKit
public import Idealize.ShloMosaic.Lib.Pipeline.ReadBack

@[expose] public section

set_option maxRecDepth 16384

noncomputable section

namespace Retention.Head

open Cert.KernelIdeal Cert.KernelIdeal.Gen Idealize.ShloMosaic

variable {F : FTy → Type} [FloatOps F]

def qs (x : Vec F S256x1024 .bf16) (hh : Fin 4) : Vec F S256x256 .bf16 :=
  fun j => x (ix2 (n0 := 256) (n1 := 1024) (j 0) ⟨256 * hh.val + (j 1).val, by have := (j 1).isLt; have : (j 1).val < 256 := this; omega⟩)
def vs (x : Vec F S256x2048 .bf16) (hh : Fin 4) : Vec F S256x512 .bf16 :=
  fun j => x (ix2 (n0 := 256) (n1 := 2048) (j 0) ⟨512 * hh.val + (j 1).val, by have := (j 1).isLt; have : (j 1).val < 512 := this; omega⟩)
def ss (x : Vec F S4x1x256x512 .bf16) (hh : Fin 4) : Vec F S1x1x256x512 .bf16 :=
  fun j => x (ix4 (n0 := 4) (n1 := 1) (n2 := 256) (n3 := 512) hh 0 (j 2) (j 3))
def dd (x : Vec F S4x256x512 .f32) (hh : Fin 4) : Vec F S1x256x512 .f32 :=
  fun j => x (ix3 (n0 := 4) (n1 := 256) (n2 := 512) hh (j 1) (j 2))
def gs (x : Vec F S4x8x128 .f32) (hh : Fin 4) : Vec F S1x8x128 .f32 :=
  fun j => x (ix3 (n0 := 4) (n1 := 8) (n2 := 128) hh (j 1) (j 2))
def lgs (x : Vec F S1x8 .f32) (n : ℕ) (hn : n < 2) (hh : Fin 4) : F .f32 :=
  x (ix2 (n0 := 1) (n1 := 8) 0 ⟨4 * n + hh.val, by omega⟩)

theorem ld_q (x : Vec F S256x1024 .bf16) (hh : Fin 4) (o : ℕ) (ho : o = 256 * hh.val) (inb) :
    View.ld x (Rect.unit ![0, o] ![256, 256] inb) = qs x hh := by
  subst ho; funext j
  exact View.ld_unit_apply_of x _ _ inb j _ fun a => by match a with | ⟨0, _⟩ => exact (Nat.zero_add _).symm | ⟨1, _⟩ => rfl
theorem ld_v (x : Vec F S256x2048 .bf16) (hh : Fin 4) (o : ℕ) (ho : o = 512 * hh.val) (inb) :
    View.ld x (Rect.unit ![0, o] ![256, 512] inb) = vs x hh := by
  subst ho; funext j
  exact View.ld_unit_apply_of x _ _ inb j _ fun a => by match a with | ⟨0, _⟩ => exact (Nat.zero_add _).symm | ⟨1, _⟩ => rfl
theorem ld_s (x : Vec F S4x1x256x512 .bf16) (hh : Fin 4) (o : ℕ) (ho : o = hh.val) (inb) :
    View.ld x (Rect.unit ![o, 0, 0, 0] ![1, 1, 256, 512] inb) = ss x hh := by
  subst ho; funext j
  have h0 : (j 0).val < 1 := (j 0).isLt
  have h1 : (j 1).val < 1 := (j 1).isLt
  exact View.ld_unit_apply_of x _ _ inb j _ fun a => by
    match a with
    | ⟨0, _⟩ => show hh.val = hh.val + (j 0).val; omega
    | ⟨1, _⟩ => show 0 = 0 + (j 1).val; omega
    | ⟨2, _⟩ => exact (Nat.zero_add _).symm
    | ⟨3, _⟩ => exact (Nat.zero_add _).symm
theorem ld_d (x : Vec F S4x256x512 .f32) (hh : Fin 4) (o : ℕ) (ho : o = hh.val) (inb) :
    View.ld x (Rect.unit ![o, 0, 0] ![1, 256, 512] inb) = dd x hh := by
  subst ho; funext j
  have h0 : (j 0).val < 1 := (j 0).isLt
  exact View.ld_unit_apply_of x _ _ inb j _ fun a => by
    match a with
    | ⟨0, _⟩ => show hh.val = hh.val + (j 0).val; omega
    | ⟨1, _⟩ => exact (Nat.zero_add _).symm
    | ⟨2, _⟩ => exact (Nat.zero_add _).symm
theorem ld_g (x : Vec F S4x8x128 .f32) (hh : Fin 4) (o : ℕ) (ho : o = hh.val) (inb) :
    View.ld x (Rect.unit ![o, 0, 0] ![1, 8, 128] inb) = gs x hh := by
  subst ho; funext j
  have h0 : (j 0).val < 1 := (j 0).isLt
  exact View.ld_unit_apply_of x _ _ inb j _ fun a => by
    match a with
    | ⟨0, _⟩ => show hh.val = hh.val + (j 0).val; omega
    | ⟨1, _⟩ => exact (Nat.zero_add _).symm
    | ⟨2, _⟩ => exact (Nat.zero_add _).symm

/-- The place of a head's decay among the eight. -/
theorem word_head (n : ℕ) (h : n < 2) (hh : Fin 4) :
    (Scalar.indexCast (Scalar.addi (Scalar.muli (BitVec.ofNat 32 n) 4#32) (BitVec.ofNat 32 hh.val))).toNat = 4 * n + hh.val := by
  interval_cases n <;> fin_cases hh <;> rfl

theorem ld_lg (x : Vec F S1x8 .f32) (n : ℕ) (hn : n < 2) (hh : Fin 4) (w : BitVec 32) (hw : w = BitVec.ofNat 32 hh.val) (inb) (h) :
    View.ld x (Rect.unit ![0, (Scalar.indexCast (Scalar.addi (Scalar.muli (BitVec.ofNat 32 n) 4#32) w)).toNat] ![1, 1] inb) (Shape.Idx.first h) = lgs x n hn hh := by
  subst hw
  exact View.ld_unit_apply_of x _ _ inb _ _ fun a => by
    match a with
    | ⟨0, _⟩ => rfl
    | ⟨1, _⟩ => exact ((congrArg (· + 0) (word_head n hn hh)).trans (Nat.add_zero _)).symm

/-- The four loads of each kind, as the body spells them. -/
theorem ld_qs (x : Vec F S256x1024 .bf16) :
    (∀ inb, View.ld x (Rect.unit ![0, 0] ![256, 256] inb) = qs x 0) ∧ (∀ inb, View.ld x (Rect.unit ![0, 256] ![256, 256] inb) = qs x 1)
    ∧ (∀ inb, View.ld x (Rect.unit ![0, 512] ![256, 256] inb) = qs x 2) ∧ (∀ inb, View.ld x (Rect.unit ![0, 768] ![256, 256] inb) = qs x 3) :=
  ⟨ld_q x 0 0 rfl, ld_q x 1 256 rfl, ld_q x 2 512 rfl, ld_q x 3 768 rfl⟩
theorem ld_vs (x : Vec F S256x2048 .bf16) :
    (∀ inb, View.ld x (Rect.unit ![0, 0] ![256, 512] inb) = vs x 0) ∧ (∀ inb, View.ld x (Rect.unit ![0, 512] ![256, 512] inb) = vs x 1)
    ∧ (∀ inb, View.ld x (Rect.unit ![0, 1024] ![256, 512] inb) = vs x 2) ∧ (∀ inb, View.ld x (Rect.unit ![0, 1536] ![256, 512] inb) = vs x 3) :=
  ⟨ld_v x 0 0 rfl, ld_v x 1 512 rfl, ld_v x 2 1024 rfl, ld_v x 3 1536 rfl⟩
theorem ld_ss (x : Vec F S4x1x256x512 .bf16) :
    (∀ inb, View.ld x (Rect.unit ![0, 0, 0, 0] ![1, 1, 256, 512] inb) = ss x 0) ∧ (∀ inb, View.ld x (Rect.unit ![1, 0, 0, 0] ![1, 1, 256, 512] inb) = ss x 1)
    ∧ (∀ inb, View.ld x (Rect.unit ![2, 0, 0, 0] ![1, 1, 256, 512] inb) = ss x 2) ∧ (∀ inb, View.ld x (Rect.unit ![3, 0, 0, 0] ![1, 1, 256, 512] inb) = ss x 3) :=
  ⟨ld_s x 0 0 rfl, ld_s x 1 1 rfl, ld_s x 2 2 rfl, ld_s x 3 3 rfl⟩
theorem ld_gs (x : Vec F S4x8x128 .f32) :
    (∀ inb, View.ld x (Rect.unit ![0, 0, 0] ![1, 8, 128] inb) = gs x 0) ∧ (∀ inb, View.ld x (Rect.unit ![1, 0, 0] ![1, 8, 128] inb) = gs x 1)
    ∧ (∀ inb, View.ld x (Rect.unit ![2, 0, 0] ![1, 8, 128] inb) = gs x 2) ∧ (∀ inb, View.ld x (Rect.unit ![3, 0, 0] ![1, 8, 128] inb) = gs x 3) :=
  ⟨ld_g x 0 0 rfl, ld_g x 1 1 rfl, ld_g x 2 2 rfl, ld_g x 3 3 rfl⟩
theorem ld_ds (x : Vec F S4x256x512 .f32) :
    (∀ inb, View.ld x (Rect.unit ![0, 0, 0] ![1, 256, 512] inb) = dd x 0) ∧ (∀ inb, View.ld x (Rect.unit ![1, 0, 0] ![1, 256, 512] inb) = dd x 1)
    ∧ (∀ inb, View.ld x (Rect.unit ![2, 0, 0] ![1, 256, 512] inb) = dd x 2) ∧ (∀ inb, View.ld x (Rect.unit ![3, 0, 0] ![1, 256, 512] inb) = dd x 3) :=
  ⟨ld_d x 0 0 rfl, ld_d x 1 1 rfl, ld_d x 2 2 rfl, ld_d x 3 3 rfl⟩
theorem ld_lgs (x : Vec F S1x8 .f32) (n : ℕ) (hn : n < 2) :
    (∀ inb h, View.ld x (Rect.unit ![0, (Scalar.indexCast (Scalar.addi (Scalar.muli (BitVec.ofNat 32 n) 4#32) 0#32)).toNat] ![1, 1] inb) (Shape.Idx.first h) = lgs x n hn 0)
    ∧ (∀ inb h, View.ld x (Rect.unit ![0, (Scalar.indexCast (Scalar.addi (Scalar.muli (BitVec.ofNat 32 n) 4#32) 1#32)).toNat] ![1, 1] inb) (Shape.Idx.first h) = lgs x n hn 1)
    ∧ (∀ inb h, View.ld x (Rect.unit ![0, (Scalar.indexCast (Scalar.addi (Scalar.muli (BitVec.ofNat 32 n) 4#32) 2#32)).toNat] ![1, 1] inb) (Shape.Idx.first h) = lgs x n hn 2)
    ∧ (∀ inb h, View.ld x (Rect.unit ![0, (Scalar.indexCast (Scalar.addi (Scalar.muli (BitVec.ofNat 32 n) 4#32) 3#32)).toNat] ![1, 1] inb) (Shape.Idx.first h) = lgs x n hn 3) :=
  ⟨ld_lg x n hn 0 _ rfl, ld_lg x n hn 1 _ rfl, ld_lg x n hn 2 _ rfl, ld_lg x n hn 3 _ rfl⟩

end Retention.Head
-- ==== Proof.Stores.lean ====
/-
  How a grid point's stores are read back: four stores side by side, one per head, of each output block and of the
  carried state; where the point first fills the block, the fill lies below them.
-/
module

public import proofs.«01_k».proof.Proof.Slices

@[expose] public section

set_option maxRecDepth 16384

noncomputable section

namespace Retention.Head

open Cert.KernelIdeal Cert.KernelIdeal.Gen Idealize.ShloMosaic

variable {F : FTy → Type} [FloatOps F]

/-- Column `d` of head `hh` among the four heads' `256` columns each. -/
def col (hh : Fin 4) (d : Fin 256) : Fin 1024 := ⟨256 * hh.val + d.val, by omega⟩
/-- Column `e` of head `hh` among the four heads' `512` columns each. -/
def colv (hh : Fin 4) (e : Fin 512) : Fin 2048 := ⟨512 * hh.val + e.val, by omega⟩

theorem canon_q (P : Fin 4 → Vec F S256x256 .bf16) (i0 i1 i2 i3) (hh : Fin 4) (r : Fin 256) (d : Fin 256) :
    View.canon (Val := Elt F) (s := S256x1024) (e := .bf16) [⟨Rect.unit ![0, 768] ![256, 256] i3, P 3⟩, ⟨Rect.unit ![0, 512] ![256, 256] i2, P 2⟩, ⟨Rect.unit ![0, 256] ![256, 256] i1, P 1⟩, ⟨Rect.unit ![0, 0] ![256, 256] i0, P 0⟩] (ix2 r (col hh d)) = P hh (ix2 r d) := by
  have key : ∀ (k : Fin 4) (o : ℕ), o = 256 * k.val → View.TileAt (S := S256x1024) (Val := Elt F) (e := .bf16) (ix2 r (col hh d)) ![0, o] ![256, 256] (P k) (P hh (ix2 r d)) := by
    rintro k o rfl x hx
    have h0 : r.val = 0 + (x 0).val := hx 0
    have h1 : 256 * hh.val + d.val = 256 * k.val + (x 1).val := hx 1
    have hx1 : (x 1).val < 256 := (x 1).isLt
    obtain rfl : k = hh := Fin.ext (by omega)
    congr 1; funext a
    match a with
    | ⟨0, _⟩ => exact Fin.ext (by show (x 0).val = r.val; omega)
    | ⟨1, _⟩ => exact Fin.ext (by show (x 1).val = d.val; omega)
  have mem : ∀ (o : ℕ) (inb), o = 256 * hh.val → (ix2 r (col hh d) : S256x1024.Idx) ∈ (Rect.unit (s := S256x1024) ![0, o] ![256, 256] inb).set := by
    rintro o inb rfl
    refine Rect.mem_set_unit.mpr fun a => ?_
    match a with
    | ⟨0, _⟩ => exact ⟨Nat.zero_le _, by show r.val < 0 + 256; omega⟩
    | ⟨1, _⟩ => exact ⟨by show 256 * hh.val ≤ 256 * hh.val + d.val; omega, by show 256 * hh.val + d.val < 256 * hh.val + 256; omega⟩
  refine View.canon_eq_of_allAt _ _ _ ?_ (View.allAt_cons_unit _ _ _ _ _ (key 3 _ rfl) (View.allAt_cons_unit _ _ _ _ _ (key 2 _ rfl)
    (View.allAt_cons_unit _ _ _ _ _ (key 1 _ rfl) (View.allAt_cons_unit _ _ _ _ _ (key 0 _ rfl) (View.allAt_nil _ _)))))
  have hlt := hh.isLt
  by_cases h0 : hh.val = 0
  · exact ⟨⟨_, P 0⟩, List.mem_cons_of_mem _ (List.mem_cons_of_mem _ (List.mem_cons_of_mem _ List.mem_cons_self)), mem 0 i0 (by omega)⟩
  by_cases h1 : hh.val = 1
  · exact ⟨⟨_, P 1⟩, List.mem_cons_of_mem _ (List.mem_cons_of_mem _ List.mem_cons_self), mem 256 i1 (by omega)⟩
  by_cases h2 : hh.val = 2
  · exact ⟨⟨_, P 2⟩, List.mem_cons_of_mem _ List.mem_cons_self, mem 512 i2 (by omega)⟩
  · exact ⟨⟨_, P 3⟩, List.mem_cons_self, mem 768 i3 (by omega)⟩

theorem canon_v (P : Fin 4 → Vec F S256x512 .bf16) (i0 i1 i2 i3) (hh : Fin 4) (r : Fin 256) (d : Fin 512) :
    View.canon (Val := Elt F) (s := S256x2048) (e := .bf16) [⟨Rect.unit ![0, 1536] ![256, 512] i3, P 3⟩, ⟨Rect.unit ![0, 1024] ![256, 512] i2, P 2⟩, ⟨Rect.unit ![0, 512] ![256, 512] i1, P 1⟩, ⟨Rect.unit ![0, 0] ![256, 512] i0, P 0⟩] (ix2 r (colv hh d)) = P hh (ix2 r d) := by
  have key : ∀ (k : Fin 4) (o : ℕ), o = 512 * k.val → View.TileAt (S := S256x2048) (Val := Elt F) (e := .bf16) (ix2 r (colv hh d)) ![0, o] ![256, 512] (P k) (P hh (ix2 r d)) := by
    rintro k o rfl x hx
    have h0 : r.val = 0 + (x 0).val := hx 0
    have h1 : 512 * hh.val + d.val = 512 * k.val + (x 1).val := hx 1
    have hx1 : (x 1).val < 512 := (x 1).isLt
    obtain rfl : k = hh := Fin.ext (by omega)
    congr 1; funext a
    match a with
    | ⟨0, _⟩ => exact Fin.ext (by show (x 0).val = r.val; omega)
    | ⟨1, _⟩ => exact Fin.ext (by show (x 1).val = d.val; omega)
  have mem : ∀ (o : ℕ) (inb), o = 512 * hh.val → (ix2 r (colv hh d) : S256x2048.Idx) ∈ (Rect.unit (s := S256x2048) ![0, o] ![256, 512] inb).set := by
    rintro o inb rfl
    refine Rect.mem_set_unit.mpr fun a => ?_
    match a with
    | ⟨0, _⟩ => exact ⟨Nat.zero_le _, by show r.val < 0 + 256; omega⟩
    | ⟨1, _⟩ => exact ⟨by show 512 * hh.val ≤ 512 * hh.val + d.val; omega, by show 512 * hh.val + d.val < 512 * hh.val + 512; omega⟩
  refine View.canon_eq_of_allAt _ _ _ ?_ (View.allAt_cons_unit _ _ _ _ _ (key 3 _ rfl) (View.allAt_cons_unit _ _ _ _ _ (key 2 _ rfl)
    (View.allAt_cons_unit _ _ _ _ _ (key 1 _ rfl) (View.allAt_cons_unit _ _ _ _ _ (key 0 _ rfl) (View.allAt_nil _ _)))))
  have hlt := hh.isLt
  by_cases h0 : hh.val = 0
  · exact ⟨⟨_, P 0⟩, List.mem_cons_of_mem _ (List.mem_cons_of_mem _ (List.mem_cons_of_mem _ List.mem_cons_self)), mem 0 i0 (by omega)⟩
  by_cases h1 : hh.val = 1
  · exact ⟨⟨_, P 1⟩, List.mem_cons_of_mem _ (List.mem_cons_of_mem _ List.mem_cons_self), mem 512 i1 (by omega)⟩
  by_cases h2 : hh.val = 2
  · exact ⟨⟨_, P 2⟩, List.mem_cons_of_mem _ List.mem_cons_self, mem 1024 i2 (by omega)⟩
  · exact ⟨⟨_, P 3⟩, List.mem_cons_self, mem 1536 i3 (by omega)⟩

theorem canon_d (P : Fin 4 → Vec F S1x256x512 .f32) (i0 i1 i2 i3) (L : List (View.Piece (Elt F) S4x256x512 .f32)) (hh : Fin 4) (r : Fin 256) (d : Fin 512) :
    View.canon (Val := Elt F) (s := S4x256x512) (e := .f32) ([⟨Rect.unit ![3, 0, 0] ![1, 256, 512] i3, P 3⟩, ⟨Rect.unit ![2, 0, 0] ![1, 256, 512] i2, P 2⟩, ⟨Rect.unit ![1, 0, 0] ![1, 256, 512] i1, P 1⟩, ⟨Rect.unit ![0, 0, 0] ![1, 256, 512] i0, P 0⟩] ++ L)
      (ix3 hh r d) = P hh (ix3 0 r d) := by
  have key : ∀ (k : Fin 4) (o : ℕ) (inb), o = k.val → ∀ x, P k x = P ((Rect.unit (s := S4x256x512) ![o, 0, 0] ![1, 256, 512] inb).emb x 0)
      (ix3 0 ((Rect.unit (s := S4x256x512) ![o, 0, 0] ![1, 256, 512] inb).emb x 1) ((Rect.unit (s := S4x256x512) ![o, 0, 0] ![1, 256, 512] inb).emb x 2)) := by
    rintro k o inb rfl x
    have hx0 : (x 0).val < 1 := (x 0).isLt
    have hk : (Rect.unit (s := S4x256x512) ![k.val, 0, 0] ![1, 256, 512] inb).emb x 0 = k := Fin.ext (by show k.val + 1 * (x 0).val = k.val; omega)
    rw [hk]; congr 1; funext c
    match c with
    | ⟨0, _⟩ => exact Fin.ext (by show (x 0).val = 0; omega)
    | ⟨1, _⟩ => exact Fin.ext (by show (x 1).val = 0 + 1 * (x 1).val; omega)
    | ⟨2, _⟩ => exact Fin.ext (by show (x 2).val = 0 + 1 * (x 2).val; omega)
  have mem : ∀ (o : ℕ) (inb), o = hh.val → (ix3 hh r d : S4x256x512.Idx) ∈ (Rect.unit (s := S4x256x512) ![o, 0, 0] ![1, 256, 512] inb).set := by
    rintro o inb rfl
    refine Rect.mem_set_unit.mpr fun a => ?_
    match a with
    | ⟨0, _⟩ => exact ⟨Nat.le_refl _, Nat.lt_succ_self _⟩
    | ⟨1, _⟩ => exact ⟨Nat.zero_le _, by show r.val < 0 + 256; omega⟩
    | ⟨2, _⟩ => exact ⟨Nat.zero_le _, by show d.val < 0 + 512; omega⟩
  refine View.canon_append_of_pieces (fun y => P (y 0) (ix3 0 (y 1) (y 2))) L _ ?_ (ix3 hh r d) ?_
  · intro p hp
    rcases List.mem_cons.mp hp with rfl | hp
    · exact key 3 _ i3 rfl
    rcases List.mem_cons.mp hp with rfl | hp
    · exact key 2 _ i2 rfl
    rcases List.mem_cons.mp hp with rfl | hp
    · exact key 1 _ i1 rfl
    rcases List.mem_cons.mp hp with rfl | hp
    · exact key 0 _ i0 rfl
    · exact absurd hp List.not_mem_nil
  have hlt := hh.isLt
  by_cases h0 : hh.val = 0
  · exact ⟨⟨_, P 0⟩, List.mem_cons_of_mem _ (List.mem_cons_of_mem _ (List.mem_cons_of_mem _ List.mem_cons_self)), mem 0 i0 (by omega)⟩
  by_cases h1 : hh.val = 1
  · exact ⟨⟨_, P 1⟩, List.mem_cons_of_mem _ (List.mem_cons_of_mem _ List.mem_cons_self), mem 1 i1 (by omega)⟩
  by_cases h2 : hh.val = 2
  · exact ⟨⟨_, P 2⟩, List.mem_cons_of_mem _ List.mem_cons_self, mem 2 i2 (by omega)⟩
  · exact ⟨⟨_, P 3⟩, List.mem_cons_self, mem 3 i3 (by omega)⟩

theorem canon_g (P : Fin 4 → Vec F S1x8x128 .f32) (i0 i1 i2 i3) (L : List (View.Piece (Elt F) S4x8x128 .f32)) (hh : Fin 4) (r : Fin 8) (d : Fin 128) :
    View.canon (Val := Elt F) (s := S4x8x128) (e := .f32) ([⟨Rect.unit ![3, 0, 0] ![1, 8, 128] i3, P 3⟩, ⟨Rect.unit ![2, 0, 0] ![1, 8, 128] i2, P 2⟩, ⟨Rect.unit ![1, 0, 0] ![1, 8, 128] i1, P 1⟩, ⟨Rect.unit ![0, 0, 0] ![1, 8, 128] i0, P 0⟩] ++ L)
      (ix3 hh r d) = P hh (ix3 0 r d) := by
  have key : ∀ (k : Fin 4) (o : ℕ) (inb), o = k.val → ∀ x, P k x = P ((Rect.unit (s := S4x8x128) ![o, 0, 0] ![1, 8, 128] inb).emb x 0)
      (ix3 0 ((Rect.unit (s := S4x8x128) ![o, 0, 0] ![1, 8, 128] inb).emb x 1) ((Rect.unit (s := S4x8x128) ![o, 0, 0] ![1, 8, 128] inb).emb x 2)) := by
    rintro k o inb rfl x
    have hx0 : (x 0).val < 1 := (x 0).isLt
    have hk : (Rect.unit (s := S4x8x128) ![k.val, 0, 0] ![1, 8, 128] inb).emb x 0 = k := Fin.ext (by show k.val + 1 * (x 0).val = k.val; omega)
    rw [hk]; congr 1; funext c
    match c with
    | ⟨0, _⟩ => exact Fin.ext (by show (x 0).val = 0; omega)
    | ⟨1, _⟩ => exact Fin.ext (by show (x 1).val = 0 + 1 * (x 1).val; omega)
    | ⟨2, _⟩ => exact Fin.ext (by show (x 2).val = 0 + 1 * (x 2).val; omega)
  have mem : ∀ (o : ℕ) (inb), o = hh.val → (ix3 hh r d : S4x8x128.Idx) ∈ (Rect.unit (s := S4x8x128) ![o, 0, 0] ![1, 8, 128] inb).set := by
    rintro o inb rfl
    refine Rect.mem_set_unit.mpr fun a => ?_
    match a with
    | ⟨0, _⟩ => exact ⟨Nat.le_refl _, Nat.lt_succ_self _⟩
    | ⟨1, _⟩ => exact ⟨Nat.zero_le _, by show r.val < 0 + 8; omega⟩
    | ⟨2, _⟩ => exact ⟨Nat.zero_le _, by show d.val < 0 + 128; omega⟩
  refine View.canon_append_of_pieces (fun y => P (y 0) (ix3 0 (y 1) (y 2))) L _ ?_ (ix3 hh r d) ?_
  · intro p hp
    rcases List.mem_cons.mp hp with rfl | hp
    · exact key 3 _ i3 rfl
    rcases List.mem_cons.mp hp with rfl | hp
    · exact key 2 _ i2 rfl
    rcases List.mem_cons.mp hp with rfl | hp
    · exact key 1 _ i1 rfl
    rcases List.mem_cons.mp hp with rfl | hp
    · exact key 0 _ i0 rfl
    · exact absurd hp List.not_mem_nil
  have hlt := hh.isLt
  by_cases h0 : hh.val = 0
  · exact ⟨⟨_, P 0⟩, List.mem_cons_of_mem _ (List.mem_cons_of_mem _ (List.mem_cons_of_mem _ List.mem_cons_self)), mem 0 i0 (by omega)⟩
  by_cases h1 : hh.val = 1
  · exact ⟨⟨_, P 1⟩, List.mem_cons_of_mem _ (List.mem_cons_of_mem _ List.mem_cons_self), mem 1 i1 (by omega)⟩
  by_cases h2 : hh.val = 2
  · exact ⟨⟨_, P 2⟩, List.mem_cons_of_mem _ List.mem_cons_self, mem 2 i2 (by omega)⟩
  · exact ⟨⟨_, P 3⟩, List.mem_cons_self, mem 3 i3 (by omega)⟩

end Retention.Head
-- ==== Proof.Point.lean ====
/-
  What a grid point stores for each of its four heads, over the decay matrix and the rows' positions: the two directions
  run the same body, on another decay matrix and other positions.
-/
module

public import proofs.«01_k».proof.Proof.Stores

@[expose] public section

set_option maxRecDepth 16384

noncomputable section

namespace Retention.Head

open Cert.KernelIdeal Cert.KernelIdeal.Gen Idealize.ShloMosaic

variable {F : FTy → Type} [FloatOps F]
variable (am : F .f32 → FVec F S256x256 .f32) (ps : FVec F S256x1 .f32)
variable (n : ℕ) (hn : n < 2) (x0 : Vec F S1x8 .f32) (x1 x2 : Vec F S256x1024 .bf16) (x3 x4 : Vec F S256x2048 .bf16) (x5 : Vec F S4x1x256x512 .bf16)
  (sp : Vec F S4x256x512 .f32) (gp : Vec F S4x8x128 .f32) (hh : Fin 4)

/-- A head's gradient of the queries, before it is rounded. -/
def hq : FVec F S256x256 .f32 :=
  k0_pay13 (am (lgs x0 n hn hh)) (bqOf ps (lgs x0 n hn hh)) (qs x2 hh) (vs x3 hh) (vs x4 hh) (ss x5 hh)
/-- A head's gradient of the keys, before it is rounded. -/
def hk : FVec F S256x256 .f32 :=
  k0_pay14 (am (lgs x0 n hn hh)) (bkOf ps (lgs x0 n hn hh)) (qs x1 hh) (vs x3 hh) (vs x4 hh) (dd sp hh)
/-- A head's gradient of the values, before it is rounded. -/
def hv : FVec F S256x512 .f32 :=
  k0_pay15 (am (lgs x0 n hn hh)) (bkOf ps (lgs x0 n hn hh)) (qs x1 hh) (qs x2 hh) (vs x4 hh) (dd sp hh)
/-- A head's gradient of the state before the chunk. -/
def hs : FVec F S256x512 .f32 :=
  k0_pay16 (lgs x0 n hn hh) (bqOf ps (lgs x0 n hn hh)) (qs x1 hh) (vs x4 hh) (dd sp hh)

def putQ : Vec F S256x256 .bf16 := k0_pay18 (hq am ps n hn x0 x2 x3 x4 x5 hh)
def putK : Vec F S256x256 .bf16 := k0_pay19 (hk am ps n hn x0 x1 x3 x4 sp hh)
def putV : Vec F S256x512 .bf16 := k0_pay20 (hv am ps n hn x0 x1 x2 x4 sp hh)
def putS : Vec F S1x256x512 .f32 :=
  k0_pay17 (lgs x0 n hn hh) (bqOf ps (lgs x0 n hn hh)) (qs x1 hh) (vs x4 hh) (dd sp hh)
def putG : Vec F S1x8x128 .f32 :=
  k0_pay21 ps (k0_pay7 (ss x5 hh)) (k0_pay10 (qs x1 hh)) (k0_pay11 (qs x2 hh)) (hq am ps n hn x0 x2 x3 x4 x5 hh)
    (hk am ps n hn x0 x1 x3 x4 sp hh) (hs ps n hn x0 x1 x4 sp hh) (gs gp hh)

/-- Four stores, each with another spelling of its payload. -/
theorem canon_congr {s : Shape} {e : EltTy} {r3 r2 r1 r0 : Rect s} {w3 w3' : r3.shape.Idx → Elt F e} {w2 w2' : r2.shape.Idx → Elt F e}
    {w1 w1' : r1.shape.Idx → Elt F e} {w0 w0' : r0.shape.Idx → Elt F e} {L : List (View.Piece (Elt F) s e)}
    (h3 : w3 = w3') (h2 : w2 = w2') (h1 : w1 = w1') (h0 : w0 = w0') (x : s.Idx) :
    View.canon (⟨r3, w3⟩ :: ⟨r2, w2⟩ :: ⟨r1, w1⟩ :: ⟨r0, w0⟩ :: L) x = View.canon (⟨r3, w3'⟩ :: ⟨r2, w2'⟩ :: ⟨r1, w1'⟩ :: ⟨r0, w0'⟩ :: L) x := by
  rw [h3, h2, h1, h0]

end Retention.Head
-- ==== Proof.BodyF.lean ====
/-
  The forward direction's grid points: what each leaves in its outputs and in the carried gradient of the state, as the
  payloads of `Point`, on its blocks and on what the point before left.
-/
module

public import proofs.«01_k».proof.Proof.Point
public import proofs.«01_k».proof.Proof.Gen.KernelIdeal.Value

@[expose] public section

set_option maxRecDepth 16384

noncomputable section

namespace Cert.KernelIdeal.Own

open Idealize.SL Idealize.SL.Sem Idealize.ShloMosaic.Tactic Cert.KernelIdeal Cert.KernelIdeal.Gen Idealize.ShloMosaic Idealize.ShloMosaic.TcCoe
open Retention.Head

variable {F : FTy → Type} [FloatOps F]

theorem bodyQ_A (c : Dev nD) (i : grid0.Coords) (arg2 : Memref sig .tc .smem S1x8 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S4x1x256x512 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S4x8x128 .f32) (harg11 : arg11.IsWhole) (arg12 : Memref sig .tc .vmem S4x256x512 .f32) (harg12 : arg12.IsWhole) (hc0 : cond0_0 i)     (x0 : Vec F S1x8 .f32) (x1 : Vec F S256x1024 .bf16) (x2 : Vec F S256x1024 .bf16) (x3 : Vec F S256x2048 .bf16) (x4 : Vec F S256x2048 .bf16) (x5 : Vec F S4x1x256x512 .bf16) (hh : Fin 4) (r d : Fin 256) :
    out0_A_6 c i arg2 harg2 arg3 harg3 arg4 harg4 arg5 harg5 arg6 harg6 arg7 harg7 arg8 harg8 arg9 harg9 arg10 harg10 arg11 harg11 arg12 harg12 hc0 x0 x1 x2 x3 x4 x5 (ix2 r (Retention.Head.col hh d)) = putQ k0_pay3 k0_pay4 (i 0).val (i 0).isLt x0 x2 x3 x4 x5 hh (ix2 r d) := by
  unfold out0_A_6
  rw [View.read_writes_junk_eq_canon]
  unfold kernelRun0_A
  dsimp only
  sl_unfold_words
  simp (disch := decide) only [↓View.readCov_skip, ↓View.readCov_fill, View.readAt_eq_ld, Memref.IsWhole.read_unread]
  refine Eq.trans ?_ (canon_q (putQ k0_pay3 k0_pay4 (i 0).val (i 0).isLt x0 x2 x3 x4 x5) inb_S256x1024_S256x256_0_0 inb_S256x1024_S256x256_0_256 inb_S256x1024_S256x256_0_512 inb_S256x1024_S256x256_0_768 hh r d)
  simp only [(ld_qs x1).1, (ld_qs x1).2.1, (ld_qs x1).2.2.1, (ld_qs x1).2.2.2, (ld_qs x2).1, (ld_qs x2).2.1, (ld_qs x2).2.2.1, (ld_qs x2).2.2.2, (ld_vs x3).1, (ld_vs x3).2.1, (ld_vs x3).2.2.1, (ld_vs x3).2.2.2, (ld_vs x4).1, (ld_vs x4).2.1, (ld_vs x4).2.2.1, (ld_vs x4).2.2.2, (ld_ss x5).1, (ld_ss x5).2.1, (ld_ss x5).2.2.1, (ld_ss x5).2.2.2, (ld_ds (k0_pay1 (F := F))).1, (ld_ds (k0_pay1 (F := F))).2.1, (ld_ds (k0_pay1 (F := F))).2.2.1, (ld_ds (k0_pay1 (F := F))).2.2.2, (ld_gs (k0_pay2 (F := F))).1, (ld_gs (k0_pay2 (F := F))).2.1, (ld_gs (k0_pay2 (F := F))).2.2.1, (ld_gs (k0_pay2 (F := F))).2.2.2]
  erw [(ld_lgs x0 (i 0).val (i 0).isLt).1, (ld_lgs x0 (i 0).val (i 0).isLt).2.1, (ld_lgs x0 (i 0).val (i 0).isLt).2.2.1, (ld_lgs x0 (i 0).val (i 0).isLt).2.2.2]
  refine canon_congr ?_ ?_ ?_ ?_ _
  · rfl
  · rfl
  · rfl
  · rfl

theorem bodyQ_B (c : Dev nD) (i : grid0.Coords) (arg2 : Memref sig .tc .smem S1x8 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S4x1x256x512 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S4x8x128 .f32) (harg11 : arg11.IsWhole) (arg12 : Memref sig .tc .vmem S4x256x512 .f32) (harg12 : arg12.IsWhole) (hc0 : ¬cond0_0 i)     (x0 : Vec F S1x8 .f32) (x1 : Vec F S256x1024 .bf16) (x2 : Vec F S256x1024 .bf16) (x3 : Vec F S256x2048 .bf16) (x4 : Vec F S256x2048 .bf16) (x5 : Vec F S4x1x256x512 .bf16) (xo9 : Vec F S4x8x128 .f32) (xs0 : Vec F S4x256x512 .f32) (hh : Fin 4) (r d : Fin 256) :
    out0_B_6 c i arg2 harg2 arg3 harg3 arg4 harg4 arg5 harg5 arg6 harg6 arg7 harg7 arg8 harg8 arg9 harg9 arg10 harg10 arg11 harg11 arg12 harg12 hc0 x0 x1 x2 x3 x4 x5 xo9 xs0 (ix2 r (Retention.Head.col hh d)) = putQ k0_pay3 k0_pay4 (i 0).val (i 0).isLt x0 x2 x3 x4 x5 hh (ix2 r d) := by
  unfold out0_B_6
  rw [View.read_writes_junk_eq_canon]
  unfold kernelRun0_B
  dsimp only
  sl_unfold_words
  simp only [View.readAt_eq_ld, Memref.IsWhole.read_unread]
  refine Eq.trans ?_ (canon_q (putQ k0_pay3 k0_pay4 (i 0).val (i 0).isLt x0 x2 x3 x4 x5) inb_S256x1024_S256x256_0_0 inb_S256x1024_S256x256_0_256 inb_S256x1024_S256x256_0_512 inb_S256x1024_S256x256_0_768 hh r d)
  simp only [(ld_qs x1).1, (ld_qs x1).2.1, (ld_qs x1).2.2.1, (ld_qs x1).2.2.2, (ld_qs x2).1, (ld_qs x2).2.1, (ld_qs x2).2.2.1, (ld_qs x2).2.2.2, (ld_vs x3).1, (ld_vs x3).2.1, (ld_vs x3).2.2.1, (ld_vs x3).2.2.2, (ld_vs x4).1, (ld_vs x4).2.1, (ld_vs x4).2.2.1, (ld_vs x4).2.2.2, (ld_ss x5).1, (ld_ss x5).2.1, (ld_ss x5).2.2.1, (ld_ss x5).2.2.2, (ld_ds xs0).1, (ld_ds xs0).2.1, (ld_ds xs0).2.2.1, (ld_ds xs0).2.2.2, (ld_gs xo9).1, (ld_gs xo9).2.1, (ld_gs xo9).2.2.1, (ld_gs xo9).2.2.2]
  erw [(ld_lgs x0 (i 0).val (i 0).isLt).1, (ld_lgs x0 (i 0).val (i 0).isLt).2.1, (ld_lgs x0 (i 0).val (i 0).isLt).2.2.1, (ld_lgs x0 (i 0).val (i 0).isLt).2.2.2]
  refine canon_congr ?_ ?_ ?_ ?_ _
  · rfl
  · rfl
  · rfl
  · rfl

theorem bodyK_A (c : Dev nD) (i : grid0.Coords) (arg2 : Memref sig .tc .smem S1x8 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S4x1x256x512 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S4x8x128 .f32) (harg11 : arg11.IsWhole) (arg12 : Memref sig .tc .vmem S4x256x512 .f32) (harg12 : arg12.IsWhole) (hc0 : cond0_0 i)     (x0 : Vec F S1x8 .f32) (x1 : Vec F S256x1024 .bf16) (x2 : Vec F S256x1024 .bf16) (x3 : Vec F S256x2048 .bf16) (x4 : Vec F S256x2048 .bf16) (x5 : Vec F S4x1x256x512 .bf16) (hh : Fin 4) (r d : Fin 256) :
    out0_A_7 c i arg2 harg2 arg3 harg3 arg4 harg4 arg5 harg5 arg6 harg6 arg7 harg7 arg8 harg8 arg9 harg9 arg10 harg10 arg11 harg11 arg12 harg12 hc0 x0 x1 x2 x3 x4 x5 (ix2 r (Retention.Head.col hh d)) = putK k0_pay3 k0_pay4 (i 0).val (i 0).isLt x0 x1 x3 x4 k0_pay1 hh (ix2 r d) := by
  unfold out0_A_7
  rw [View.read_writes_junk_eq_canon]
  unfold kernelRun0_A
  dsimp only
  sl_unfold_words
  simp (disch := decide) only [↓View.readCov_skip, ↓View.readCov_fill, View.readAt_eq_ld, Memref.IsWhole.read_unread]
  refine Eq.trans ?_ (canon_q (putK k0_pay3 k0_pay4 (i 0).val (i 0).isLt x0 x1 x3 x4 k0_pay1) inb_S256x1024_S256x256_0_0 inb_S256x1024_S256x256_0_256 inb_S256x1024_S256x256_0_512 inb_S256x1024_S256x256_0_768 hh r d)
  simp only [(ld_qs x1).1, (ld_qs x1).2.1, (ld_qs x1).2.2.1, (ld_qs x1).2.2.2, (ld_qs x2).1, (ld_qs x2).2.1, (ld_qs x2).2.2.1, (ld_qs x2).2.2.2, (ld_vs x3).1, (ld_vs x3).2.1, (ld_vs x3).2.2.1, (ld_vs x3).2.2.2, (ld_vs x4).1, (ld_vs x4).2.1, (ld_vs x4).2.2.1, (ld_vs x4).2.2.2, (ld_ss x5).1, (ld_ss x5).2.1, (ld_ss x5).2.2.1, (ld_ss x5).2.2.2, (ld_ds (k0_pay1 (F := F))).1, (ld_ds (k0_pay1 (F := F))).2.1, (ld_ds (k0_pay1 (F := F))).2.2.1, (ld_ds (k0_pay1 (F := F))).2.2.2, (ld_gs (k0_pay2 (F := F))).1, (ld_gs (k0_pay2 (F := F))).2.1, (ld_gs (k0_pay2 (F := F))).2.2.1, (ld_gs (k0_pay2 (F := F))).2.2.2]
  erw [(ld_lgs x0 (i 0).val (i 0).isLt).1, (ld_lgs x0 (i 0).val (i 0).isLt).2.1, (ld_lgs x0 (i 0).val (i 0).isLt).2.2.1, (ld_lgs x0 (i 0).val (i 0).isLt).2.2.2]
  refine canon_congr ?_ ?_ ?_ ?_ _
  · rfl
  · rfl
  · rfl
  · rfl

theorem bodyK_B (c : Dev nD) (i : grid0.Coords) (arg2 : Memref sig .tc .smem S1x8 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S4x1x256x512 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S4x8x128 .f32) (harg11 : arg11.IsWhole) (arg12 : Memref sig .tc .vmem S4x256x512 .f32) (harg12 : arg12.IsWhole) (hc0 : ¬cond0_0 i)     (x0 : Vec F S1x8 .f32) (x1 : Vec F S256x1024 .bf16) (x2 : Vec F S256x1024 .bf16) (x3 : Vec F S256x2048 .bf16) (x4 : Vec F S256x2048 .bf16) (x5 : Vec F S4x1x256x512 .bf16) (xo9 : Vec F S4x8x128 .f32) (xs0 : Vec F S4x256x512 .f32) (hh : Fin 4) (r d : Fin 256) :
    out0_B_7 c i arg2 harg2 arg3 harg3 arg4 harg4 arg5 harg5 arg6 harg6 arg7 harg7 arg8 harg8 arg9 harg9 arg10 harg10 arg11 harg11 arg12 harg12 hc0 x0 x1 x2 x3 x4 x5 xo9 xs0 (ix2 r (Retention.Head.col hh d)) = putK k0_pay3 k0_pay4 (i 0).val (i 0).isLt x0 x1 x3 x4 xs0 hh (ix2 r d) := by
  unfold out0_B_7
  rw [View.read_writes_junk_eq_canon]
  unfold kernelRun0_B
  dsimp only
  sl_unfold_words
  simp only [View.readAt_eq_ld, Memref.IsWhole.read_unread]
  refine Eq.trans ?_ (canon_q (putK k0_pay3 k0_pay4 (i 0).val (i 0).isLt x0 x1 x3 x4 xs0) inb_S256x1024_S256x256_0_0 inb_S256x1024_S256x256_0_256 inb_S256x1024_S256x256_0_512 inb_S256x1024_S256x256_0_768 hh r d)
  simp only [(ld_qs x1).1, (ld_qs x1).2.1, (ld_qs x1).2.2.1, (ld_qs x1).2.2.2, (ld_qs x2).1, (ld_qs x2).2.1, (ld_qs x2).2.2.1, (ld_qs x2).2.2.2, (ld_vs x3).1, (ld_vs x3).2.1, (ld_vs x3).2.2.1, (ld_vs x3).2.2.2, (ld_vs x4).1, (ld_vs x4).2.1, (ld_vs x4).2.2.1, (ld_vs x4).2.2.2, (ld_ss x5).1, (ld_ss x5).2.1, (ld_ss x5).2.2.1, (ld_ss x5).2.2.2, (ld_ds xs0).1, (ld_ds xs0).2.1, (ld_ds xs0).2.2.1, (ld_ds xs0).2.2.2, (ld_gs xo9).1, (ld_gs xo9).2.1, (ld_gs xo9).2.2.1, (ld_gs xo9).2.2.2]
  erw [(ld_lgs x0 (i 0).val (i 0).isLt).1, (ld_lgs x0 (i 0).val (i 0).isLt).2.1, (ld_lgs x0 (i 0).val (i 0).isLt).2.2.1, (ld_lgs x0 (i 0).val (i 0).isLt).2.2.2]
  refine canon_congr ?_ ?_ ?_ ?_ _
  · rfl
  · rfl
  · rfl
  · rfl

theorem bodyV_A (c : Dev nD) (i : grid0.Coords) (arg2 : Memref sig .tc .smem S1x8 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S4x1x256x512 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S4x8x128 .f32) (harg11 : arg11.IsWhole) (arg12 : Memref sig .tc .vmem S4x256x512 .f32) (harg12 : arg12.IsWhole) (hc0 : cond0_0 i)     (x0 : Vec F S1x8 .f32) (x1 : Vec F S256x1024 .bf16) (x2 : Vec F S256x1024 .bf16) (x3 : Vec F S256x2048 .bf16) (x4 : Vec F S256x2048 .bf16) (x5 : Vec F S4x1x256x512 .bf16) (hh : Fin 4) (r : Fin 256) (d : Fin 512) :
    out0_A_8 c i arg2 harg2 arg3 harg3 arg4 harg4 arg5 harg5 arg6 harg6 arg7 harg7 arg8 harg8 arg9 harg9 arg10 harg10 arg11 harg11 arg12 harg12 hc0 x0 x1 x2 x3 x4 x5 (ix2 r (Retention.Head.colv hh d)) = putV k0_pay3 k0_pay4 (i 0).val (i 0).isLt x0 x1 x2 x4 k0_pay1 hh (ix2 r d) := by
  unfold out0_A_8
  rw [View.read_writes_junk_eq_canon]
  unfold kernelRun0_A
  dsimp only
  sl_unfold_words
  simp (disch := decide) only [↓View.readCov_skip, ↓View.readCov_fill, View.readAt_eq_ld, Memref.IsWhole.read_unread]
  refine Eq.trans ?_ (canon_v (putV k0_pay3 k0_pay4 (i 0).val (i 0).isLt x0 x1 x2 x4 k0_pay1) inb_S256x2048_S256x512_0_0 inb_S256x2048_S256x512_0_512 inb_S256x2048_S256x512_0_1024 inb_S256x2048_S256x512_0_1536 hh r d)
  simp only [(ld_qs x1).1, (ld_qs x1).2.1, (ld_qs x1).2.2.1, (ld_qs x1).2.2.2, (ld_qs x2).1, (ld_qs x2).2.1, (ld_qs x2).2.2.1, (ld_qs x2).2.2.2, (ld_vs x3).1, (ld_vs x3).2.1, (ld_vs x3).2.2.1, (ld_vs x3).2.2.2, (ld_vs x4).1, (ld_vs x4).2.1, (ld_vs x4).2.2.1, (ld_vs x4).2.2.2, (ld_ss x5).1, (ld_ss x5).2.1, (ld_ss x5).2.2.1, (ld_ss x5).2.2.2, (ld_ds (k0_pay1 (F := F))).1, (ld_ds (k0_pay1 (F := F))).2.1, (ld_ds (k0_pay1 (F := F))).2.2.1, (ld_ds (k0_pay1 (F := F))).2.2.2, (ld_gs (k0_pay2 (F := F))).1, (ld_gs (k0_pay2 (F := F))).2.1, (ld_gs (k0_pay2 (F := F))).2.2.1, (ld_gs (k0_pay2 (F := F))).2.2.2]
  erw [(ld_lgs x0 (i 0).val (i 0).isLt).1, (ld_lgs x0 (i 0).val (i 0).isLt).2.1, (ld_lgs x0 (i 0).val (i 0).isLt).2.2.1, (ld_lgs x0 (i 0).val (i 0).isLt).2.2.2]
  refine canon_congr ?_ ?_ ?_ ?_ _
  · rfl
  · rfl
  · rfl
  · rfl

theorem bodyV_B (c : Dev nD) (i : grid0.Coords) (arg2 : Memref sig .tc .smem S1x8 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S4x1x256x512 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S4x8x128 .f32) (harg11 : arg11.IsWhole) (arg12 : Memref sig .tc .vmem S4x256x512 .f32) (harg12 : arg12.IsWhole) (hc0 : ¬cond0_0 i)     (x0 : Vec F S1x8 .f32) (x1 : Vec F S256x1024 .bf16) (x2 : Vec F S256x1024 .bf16) (x3 : Vec F S256x2048 .bf16) (x4 : Vec F S256x2048 .bf16) (x5 : Vec F S4x1x256x512 .bf16) (xo9 : Vec F S4x8x128 .f32) (xs0 : Vec F S4x256x512 .f32) (hh : Fin 4) (r : Fin 256) (d : Fin 512) :
    out0_B_8 c i arg2 harg2 arg3 harg3 arg4 harg4 arg5 harg5 arg6 harg6 arg7 harg7 arg8 harg8 arg9 harg9 arg10 harg10 arg11 harg11 arg12 harg12 hc0 x0 x1 x2 x3 x4 x5 xo9 xs0 (ix2 r (Retention.Head.colv hh d)) = putV k0_pay3 k0_pay4 (i 0).val (i 0).isLt x0 x1 x2 x4 xs0 hh (ix2 r d) := by
  unfold out0_B_8
  rw [View.read_writes_junk_eq_canon]
  unfold kernelRun0_B
  dsimp only
  sl_unfold_words
  simp only [View.readAt_eq_ld, Memref.IsWhole.read_unread]
  refine Eq.trans ?_ (canon_v (putV k0_pay3 k0_pay4 (i 0).val (i 0).isLt x0 x1 x2 x4 xs0) inb_S256x2048_S256x512_0_0 inb_S256x2048_S256x512_0_512 inb_S256x2048_S256x512_0_1024 inb_S256x2048_S256x512_0_1536 hh r d)
  simp only [(ld_qs x1).1, (ld_qs x1).2.1, (ld_qs x1).2.2.1, (ld_qs x1).2.2.2, (ld_qs x2).1, (ld_qs x2).2.1, (ld_qs x2).2.2.1, (ld_qs x2).2.2.2, (ld_vs x3).1, (ld_vs x3).2.1, (ld_vs x3).2.2.1, (ld_vs x3).2.2.2, (ld_vs x4).1, (ld_vs x4).2.1, (ld_vs x4).2.2.1, (ld_vs x4).2.2.2, (ld_ss x5).1, (ld_ss x5).2.1, (ld_ss x5).2.2.1, (ld_ss x5).2.2.2, (ld_ds xs0).1, (ld_ds xs0).2.1, (ld_ds xs0).2.2.1, (ld_ds xs0).2.2.2, (ld_gs xo9).1, (ld_gs xo9).2.1, (ld_gs xo9).2.2.1, (ld_gs xo9).2.2.2]
  erw [(ld_lgs x0 (i 0).val (i 0).isLt).1, (ld_lgs x0 (i 0).val (i 0).isLt).2.1, (ld_lgs x0 (i 0).val (i 0).isLt).2.2.1, (ld_lgs x0 (i 0).val (i 0).isLt).2.2.2]
  refine canon_congr ?_ ?_ ?_ ?_ _
  · rfl
  · rfl
  · rfl
  · rfl

theorem bodyG_A (c : Dev nD) (i : grid0.Coords) (arg2 : Memref sig .tc .smem S1x8 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S4x1x256x512 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S4x8x128 .f32) (harg11 : arg11.IsWhole) (arg12 : Memref sig .tc .vmem S4x256x512 .f32) (harg12 : arg12.IsWhole) (hc0 : cond0_0 i)     (x0 : Vec F S1x8 .f32) (x1 : Vec F S256x1024 .bf16) (x2 : Vec F S256x1024 .bf16) (x3 : Vec F S256x2048 .bf16) (x4 : Vec F S256x2048 .bf16) (x5 : Vec F S4x1x256x512 .bf16) (hh : Fin 4) (r : Fin 8) (d : Fin 128) :
    out0_A_9 c i arg2 harg2 arg3 harg3 arg4 harg4 arg5 harg5 arg6 harg6 arg7 harg7 arg8 harg8 arg9 harg9 arg10 harg10 arg11 harg11 arg12 harg12 hc0 x0 x1 x2 x3 x4 x5 (ix3 hh r d) = putG k0_pay3 k0_pay4 (i 0).val (i 0).isLt x0 x1 x2 x3 x4 x5 k0_pay1 k0_pay2 hh (ix3 0 r d) := by
  unfold out0_A_9
  rw [View.read_writes_junk_eq_canon]
  unfold kernelRun0_A
  dsimp only
  sl_unfold_words
  simp (disch := decide) only [↓View.readCov_skip, ↓View.readCov_fill, View.readAt_eq_ld, Memref.IsWhole.read_unread]
  refine Eq.trans ?_ (canon_g (putG k0_pay3 k0_pay4 (i 0).val (i 0).isLt x0 x1 x2 x3 x4 x5 k0_pay1 k0_pay2) inb_S4x8x128_S1x8x128_0_0_0 inb_S4x8x128_S1x8x128_1_0_0 inb_S4x8x128_S1x8x128_2_0_0 inb_S4x8x128_S1x8x128_3_0_0 [⟨Rect.unit ![0, 0, 0] ![4, 8, 128] inb_S4x8x128_S4x8x128_0_0_0, k0_pay2⟩] hh r d)
  simp only [(ld_qs x1).1, (ld_qs x1).2.1, (ld_qs x1).2.2.1, (ld_qs x1).2.2.2, (ld_qs x2).1, (ld_qs x2).2.1, (ld_qs x2).2.2.1, (ld_qs x2).2.2.2, (ld_vs x3).1, (ld_vs x3).2.1, (ld_vs x3).2.2.1, (ld_vs x3).2.2.2, (ld_vs x4).1, (ld_vs x4).2.1, (ld_vs x4).2.2.1, (ld_vs x4).2.2.2, (ld_ss x5).1, (ld_ss x5).2.1, (ld_ss x5).2.2.1, (ld_ss x5).2.2.2, (ld_ds (k0_pay1 (F := F))).1, (ld_ds (k0_pay1 (F := F))).2.1, (ld_ds (k0_pay1 (F := F))).2.2.1, (ld_ds (k0_pay1 (F := F))).2.2.2, (ld_gs (k0_pay2 (F := F))).1, (ld_gs (k0_pay2 (F := F))).2.1, (ld_gs (k0_pay2 (F := F))).2.2.1, (ld_gs (k0_pay2 (F := F))).2.2.2]
  erw [(ld_lgs x0 (i 0).val (i 0).isLt).1, (ld_lgs x0 (i 0).val (i 0).isLt).2.1, (ld_lgs x0 (i 0).val (i 0).isLt).2.2.1, (ld_lgs x0 (i 0).val (i 0).isLt).2.2.2]
  refine canon_congr ?_ ?_ ?_ ?_ _
  · rfl
  · rfl
  · rfl
  · rfl

theorem bodyG_B (c : Dev nD) (i : grid0.Coords) (arg2 : Memref sig .tc .smem S1x8 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S4x1x256x512 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S4x8x128 .f32) (harg11 : arg11.IsWhole) (arg12 : Memref sig .tc .vmem S4x256x512 .f32) (harg12 : arg12.IsWhole) (hc0 : ¬cond0_0 i)     (x0 : Vec F S1x8 .f32) (x1 : Vec F S256x1024 .bf16) (x2 : Vec F S256x1024 .bf16) (x3 : Vec F S256x2048 .bf16) (x4 : Vec F S256x2048 .bf16) (x5 : Vec F S4x1x256x512 .bf16) (xo9 : Vec F S4x8x128 .f32) (xs0 : Vec F S4x256x512 .f32) (hh : Fin 4) (r : Fin 8) (d : Fin 128) :
    out0_B_9 c i arg2 harg2 arg3 harg3 arg4 harg4 arg5 harg5 arg6 harg6 arg7 harg7 arg8 harg8 arg9 harg9 arg10 harg10 arg11 harg11 arg12 harg12 hc0 x0 x1 x2 x3 x4 x5 xo9 xs0 (ix3 hh r d) = putG k0_pay3 k0_pay4 (i 0).val (i 0).isLt x0 x1 x2 x3 x4 x5 xs0 xo9 hh (ix3 0 r d) := by
  unfold out0_B_9
  rw [View.read_writes_junk_eq_canon]
  unfold kernelRun0_B
  dsimp only
  sl_unfold_words
  simp only [View.readAt_eq_ld, Memref.IsWhole.read_unread]
  refine Eq.trans ?_ (canon_g (putG k0_pay3 k0_pay4 (i 0).val (i 0).isLt x0 x1 x2 x3 x4 x5 xs0 xo9) inb_S4x8x128_S1x8x128_0_0_0 inb_S4x8x128_S1x8x128_1_0_0 inb_S4x8x128_S1x8x128_2_0_0 inb_S4x8x128_S1x8x128_3_0_0 [] hh r d)
  simp only [(ld_qs x1).1, (ld_qs x1).2.1, (ld_qs x1).2.2.1, (ld_qs x1).2.2.2, (ld_qs x2).1, (ld_qs x2).2.1, (ld_qs x2).2.2.1, (ld_qs x2).2.2.2, (ld_vs x3).1, (ld_vs x3).2.1, (ld_vs x3).2.2.1, (ld_vs x3).2.2.2, (ld_vs x4).1, (ld_vs x4).2.1, (ld_vs x4).2.2.1, (ld_vs x4).2.2.2, (ld_ss x5).1, (ld_ss x5).2.1, (ld_ss x5).2.2.1, (ld_ss x5).2.2.2, (ld_ds xs0).1, (ld_ds xs0).2.1, (ld_ds xs0).2.2.1, (ld_ds xs0).2.2.2, (ld_gs xo9).1, (ld_gs xo9).2.1, (ld_gs xo9).2.2.1, (ld_gs xo9).2.2.2]
  erw [(ld_lgs x0 (i 0).val (i 0).isLt).1, (ld_lgs x0 (i 0).val (i 0).isLt).2.1, (ld_lgs x0 (i 0).val (i 0).isLt).2.2.1, (ld_lgs x0 (i 0).val (i 0).isLt).2.2.2]
  refine canon_congr ?_ ?_ ?_ ?_ _
  · rfl
  · rfl
  · rfl
  · rfl

theorem bodyS_A (c : Dev nD) (i : grid0.Coords) (arg2 : Memref sig .tc .smem S1x8 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S4x1x256x512 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S4x8x128 .f32) (harg11 : arg11.IsWhole) (arg12 : Memref sig .tc .vmem S4x256x512 .f32) (harg12 : arg12.IsWhole) (hc0 : cond0_0 i)     (x0 : Vec F S1x8 .f32) (x1 : Vec F S256x1024 .bf16) (x2 : Vec F S256x1024 .bf16) (x3 : Vec F S256x2048 .bf16) (x4 : Vec F S256x2048 .bf16) (x5 : Vec F S4x1x256x512 .bf16) (hh : Fin 4) (r : Fin 256) (d : Fin 512) :
    sout0_A_0 c i arg2 harg2 arg3 harg3 arg4 harg4 arg5 harg5 arg6 harg6 arg7 harg7 arg8 harg8 arg9 harg9 arg10 harg10 arg11 harg11 arg12 harg12 hc0 x0 x1 x2 x3 x4 x5 (ix3 hh r d) = putS k0_pay4 (i 0).val (i 0).isLt x0 x1 x4 k0_pay1 hh (ix3 0 r d) := by
  unfold sout0_A_0
  rw [View.read_writes_junk_eq_canon]
  unfold kernelRun0_A
  dsimp only
  sl_unfold_words
  simp (disch := decide) only [↓View.readCov_skip, ↓View.readCov_fill, View.readAt_eq_ld, Memref.IsWhole.read_unread]
  refine Eq.trans ?_ (canon_d (putS k0_pay4 (i 0).val (i 0).isLt x0 x1 x4 k0_pay1) inb_S4x256x512_S1x256x512_0_0_0 inb_S4x256x512_S1x256x512_1_0_0 inb_S4x256x512_S1x256x512_2_0_0 inb_S4x256x512_S1x256x512_3_0_0 [⟨Rect.unit ![0, 0, 0] ![4, 256, 512] inb_S4x256x512_S4x256x512_0_0_0, k0_pay1⟩] hh r d)
  simp only [(ld_qs x1).1, (ld_qs x1).2.1, (ld_qs x1).2.2.1, (ld_qs x1).2.2.2, (ld_qs x2).1, (ld_qs x2).2.1, (ld_qs x2).2.2.1, (ld_qs x2).2.2.2, (ld_vs x3).1, (ld_vs x3).2.1, (ld_vs x3).2.2.1, (ld_vs x3).2.2.2, (ld_vs x4).1, (ld_vs x4).2.1, (ld_vs x4).2.2.1, (ld_vs x4).2.2.2, (ld_ss x5).1, (ld_ss x5).2.1, (ld_ss x5).2.2.1, (ld_ss x5).2.2.2, (ld_ds (k0_pay1 (F := F))).1, (ld_ds (k0_pay1 (F := F))).2.1, (ld_ds (k0_pay1 (F := F))).2.2.1, (ld_ds (k0_pay1 (F := F))).2.2.2, (ld_gs (k0_pay2 (F := F))).1, (ld_gs (k0_pay2 (F := F))).2.1, (ld_gs (k0_pay2 (F := F))).2.2.1, (ld_gs (k0_pay2 (F := F))).2.2.2]
  erw [(ld_lgs x0 (i 0).val (i 0).isLt).1, (ld_lgs x0 (i 0).val (i 0).isLt).2.1, (ld_lgs x0 (i 0).val (i 0).isLt).2.2.1, (ld_lgs x0 (i 0).val (i 0).isLt).2.2.2]
  refine canon_congr ?_ ?_ ?_ ?_ _
  · rfl
  · rfl
  · rfl
  · rfl

theorem bodyS_B (c : Dev nD) (i : grid0.Coords) (arg2 : Memref sig .tc .smem S1x8 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S4x1x256x512 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S4x8x128 .f32) (harg11 : arg11.IsWhole) (arg12 : Memref sig .tc .vmem S4x256x512 .f32) (harg12 : arg12.IsWhole) (hc0 : ¬cond0_0 i)     (x0 : Vec F S1x8 .f32) (x1 : Vec F S256x1024 .bf16) (x2 : Vec F S256x1024 .bf16) (x3 : Vec F S256x2048 .bf16) (x4 : Vec F S256x2048 .bf16) (x5 : Vec F S4x1x256x512 .bf16) (xo9 : Vec F S4x8x128 .f32) (xs0 : Vec F S4x256x512 .f32) (hh : Fin 4) (r : Fin 256) (d : Fin 512) :
    sout0_B_0 c i arg2 harg2 arg3 harg3 arg4 harg4 arg5 harg5 arg6 harg6 arg7 harg7 arg8 harg8 arg9 harg9 arg10 harg10 arg11 harg11 arg12 harg12 hc0 x0 x1 x2 x3 x4 x5 xo9 xs0 (ix3 hh r d) = putS k0_pay4 (i 0).val (i 0).isLt x0 x1 x4 xs0 hh (ix3 0 r d) := by
  unfold sout0_B_0
  rw [View.read_writes_junk_eq_canon]
  unfold kernelRun0_B
  dsimp only
  sl_unfold_words
  simp only [View.readAt_eq_ld, Memref.IsWhole.read_unread]
  refine Eq.trans ?_ (canon_d (putS k0_pay4 (i 0).val (i 0).isLt x0 x1 x4 xs0) inb_S4x256x512_S1x256x512_0_0_0 inb_S4x256x512_S1x256x512_1_0_0 inb_S4x256x512_S1x256x512_2_0_0 inb_S4x256x512_S1x256x512_3_0_0 [] hh r d)
  simp only [(ld_qs x1).1, (ld_qs x1).2.1, (ld_qs x1).2.2.1, (ld_qs x1).2.2.2, (ld_qs x2).1, (ld_qs x2).2.1, (ld_qs x2).2.2.1, (ld_qs x2).2.2.2, (ld_vs x3).1, (ld_vs x3).2.1, (ld_vs x3).2.2.1, (ld_vs x3).2.2.2, (ld_vs x4).1, (ld_vs x4).2.1, (ld_vs x4).2.2.1, (ld_vs x4).2.2.2, (ld_ss x5).1, (ld_ss x5).2.1, (ld_ss x5).2.2.1, (ld_ss x5).2.2.2, (ld_ds xs0).1, (ld_ds xs0).2.1, (ld_ds xs0).2.2.1, (ld_ds xs0).2.2.2, (ld_gs xo9).1, (ld_gs xo9).2.1, (ld_gs xo9).2.2.1, (ld_gs xo9).2.2.2]
  erw [(ld_lgs x0 (i 0).val (i 0).isLt).1, (ld_lgs x0 (i 0).val (i 0).isLt).2.1, (ld_lgs x0 (i 0).val (i 0).isLt).2.2.1, (ld_lgs x0 (i 0).val (i 0).isLt).2.2.2]
  refine canon_congr ?_ ?_ ?_ ?_ _
  · rfl
  · rfl
  · rfl
  · rfl

variable (m : (ℓ : Loc nD τ sig) → Buf (Elt F) ℓ) (c : Dev nD) (t : Fin cfg0.N)

/-- What the point before left of the gradient of the state; nothing at the first point of a half. -/
def prevS : Vec F S4x256x512 .f32 :=
  if t.val % 17 = 0 then k0_pay1 else (outsAt0 m c (t.val - 1) (Nat.lt_of_le_of_lt (Nat.sub_le _ _) t.isLt)).2.2.2.2
/-- What the point before left of the gradient of the decay rates; nothing at the first point of a half. -/
def prevG : Vec F S4x8x128 .f32 :=
  if t.val % 17 = 0 then k0_pay2 else (outsAt0 m c (t.val - 1) (Nat.lt_of_le_of_lt (Nat.sub_le _ _) t.isLt)).2.2.2.1

theorem leftQ (hh : Fin 4) (r d : Fin 256) :
    (outsAt0 m c t.val t.isLt).1 (ix2 r (Retention.Head.col hh d)) = putQ k0_pay3 k0_pay4 ((grid0.coords t) 0).val ((grid0.coords t) 0).isLt (iblk m c 0 t) (iblk m c 2 t) (iblk m c 3 t) (iblk m c 4 t) (iblk m c 5 t) hh (ix2 r d) := by
  by_cases h0 : t.val % 17 = 0
  · rw [outsAt0_A m c t h0]
    dsimp only
    exact bodyQ_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) hh r d
  · rw [outsAt0_B m c t h0]
    dsimp only
    exact bodyQ_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 hh r d

theorem leftK (hh : Fin 4) (r d : Fin 256) :
    (outsAt0 m c t.val t.isLt).2.1 (ix2 r (Retention.Head.col hh d)) = putK k0_pay3 k0_pay4 ((grid0.coords t) 0).val ((grid0.coords t) 0).isLt (iblk m c 0 t) (iblk m c 1 t) (iblk m c 3 t) (iblk m c 4 t) (prevS m c t) hh (ix2 r d) := by
  by_cases h0 : t.val % 17 = 0
  · rw [outsAt0_A m c t h0]; rw [show prevS m c t = _ from if_pos h0]
    dsimp only
    exact bodyK_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) hh r d
  · rw [outsAt0_B m c t h0]; rw [show prevS m c t = _ from if_neg h0]
    dsimp only
    exact bodyK_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 hh r d

theorem leftV (hh : Fin 4) (r : Fin 256) (d : Fin 512) :
    (outsAt0 m c t.val t.isLt).2.2.1 (ix2 r (Retention.Head.colv hh d)) = putV k0_pay3 k0_pay4 ((grid0.coords t) 0).val ((grid0.coords t) 0).isLt (iblk m c 0 t) (iblk m c 1 t) (iblk m c 2 t) (iblk m c 4 t) (prevS m c t) hh (ix2 r d) := by
  by_cases h0 : t.val % 17 = 0
  · rw [outsAt0_A m c t h0]; rw [show prevS m c t = _ from if_pos h0]
    dsimp only
    exact bodyV_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) hh r d
  · rw [outsAt0_B m c t h0]; rw [show prevS m c t = _ from if_neg h0]
    dsimp only
    exact bodyV_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 hh r d

theorem leftG (hh : Fin 4) (r : Fin 8) (d : Fin 128) :
    (outsAt0 m c t.val t.isLt).2.2.2.1 (ix3 hh r d) = putG k0_pay3 k0_pay4 ((grid0.coords t) 0).val ((grid0.coords t) 0).isLt (iblk m c 0 t) (iblk m c 1 t) (iblk m c 2 t) (iblk m c 3 t) (iblk m c 4 t) (iblk m c 5 t) (prevS m c t) (prevG m c t) hh (ix3 0 r d) := by
  by_cases h0 : t.val % 17 = 0
  · rw [outsAt0_A m c t h0]; rw [show prevS m c t = _ from if_pos h0, show prevG m c t = _ from if_pos h0]
    dsimp only
    exact bodyG_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) hh r d
  · rw [outsAt0_B m c t h0]; rw [show prevS m c t = _ from if_neg h0, show prevG m c t = _ from if_neg h0]
    dsimp only
    exact bodyG_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 hh r d

theorem leftS (hh : Fin 4) (r : Fin 256) (d : Fin 512) :
    (outsAt0 m c t.val t.isLt).2.2.2.2 (ix3 hh r d) = putS k0_pay4 ((grid0.coords t) 0).val ((grid0.coords t) 0).isLt (iblk m c 0 t) (iblk m c 1 t) (iblk m c 4 t) (prevS m c t) hh (ix3 0 r d) := by
  by_cases h0 : t.val % 17 = 0
  · rw [outsAt0_A m c t h0]; rw [show prevS m c t = _ from if_pos h0]
    dsimp only
    exact bodyS_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) hh r d
  · rw [outsAt0_B m c t h0]; rw [show prevS m c t = _ from if_neg h0]
    dsimp only
    exact bodyS_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 hh r d

end Cert.KernelIdeal.Own
-- ==== Proof.Reference.lean ====
/-
  The reference's gradients at an index, on real inputs: the parallel form of retention as sums over the rows. The two
  directions differ in the times of the rows only, so everything is stated for any vector of times.
-/
module

public import proofs.«01_k».proof.Proof.Gen.ReferenceIdeal
public import proofs.«01_k».proof.Proof.Head

@[expose] public section

set_option maxRecDepth 16384

noncomputable section

namespace Retention.Reference

open Cert.ReferenceIdeal Cert.ReferenceIdeal.Gen Idealize.ShloMosaic Retention.Head
open scoped BigOperators

variable (time : IVec S4352 32) (a0 : FVec Ideal S4352x4096 .bf16) (a1 : FVec Ideal S4352x8192 .bf16)
  (a2 : FVec Ideal S4352x4096 .bf16) (a3 : FVec Ideal S1x8 .f32)

/-- How far a row lies after another. -/
def gap : IVec S4352x4352 32 :=
  subi (broadcastInDim S4352x4352 ![0, 1] bcast_S4352x1_S4352x4352_0_1 (broadcastInDim S4352x1 ![0] bcast_S4352_S4352x1_0 time))
    (broadcastInDim S4352x4352 ![0, 1] bcast_S1x4352_S4352x4352_0_1 (broadcastInDim S1x4352 ![1] bcast_S4352_S1x4352_1 time))
/-- Whether a row lies at or after another. -/
def mask : IVec S8x4352x4352 1 :=
  broadcastInDim S8x4352x4352 ![1, 2] bcast_S4352x4352_S8x4352x4352_1_2
    (cmpi .sge (gap time) (broadcastInDim S4352x4352 ![] bcast_S_S4352x4352 (constantI S_ 32 0#32)))
/-- The gap, or zero where the row lies before. -/
def gapPos : FVec Ideal S8x4352x4352 .f32 :=
  broadcastInDim S8x4352x4352 ![0, 1, 2] bcast_S1x4352x4352_S8x4352x4352_0_1_2 (broadcastInDim S1x4352x4352 ![1, 2] bcast_S4352x4352_S1x4352x4352_1_2
    (sitofp .f32 (maxsi (gap time) (broadcastInDim S4352x4352 ![] bcast_S_S4352x4352 (constantI S_ 32 0#32)))))
/-- The decay before the mask. -/
def expo : FVec Ideal S8x4352x4352 .f32 :=
  Host.exp (mulf (broadcastInDim S8x4352x4352 ![0, 1, 2] bcast_S8x1x1_S8x4352x4352_0_1_2 (broadcastInDim S8x1x1 ![0] bcast_S8_S8x1x1_0
    (shapeCast _ a3 shapeCasts_S1x8_S8))) (gapPos time))
/-- The decay. -/
def dec : FVec Ideal S8x4352x4352 .f32 :=
  select (mask time) (expo time a3) (broadcastInDim S8x4352x4352 ![] bcast_S_S8x4352x4352 (id (constant S_ .f32 0x00000000#32)))
def rq : FVec Ideal S4352x8x256 .f32 :=
  shapeCast _ (extf .f32 (extractStridedSlice S4352x2048 ![0, 0] a0 slices_S4352x4096_S4352x2048_0_0) bitsLt_bf16_f32) shapeCasts_S4352x2048_S4352x8x256
def rk : FVec Ideal S4352x8x256 .f32 :=
  shapeCast _ (extf .f32 (extractStridedSlice S4352x2048 ![0, 2048] a0 slices_S4352x4096_S4352x2048_0_2048) bitsLt_bf16_f32) shapeCasts_S4352x2048_S4352x8x256
def rv : FVec Ideal S4352x8x512 .f32 :=
  shapeCast _ (extf .f32 (extractStridedSlice S4352x4096 ![0, 0] a1 slices_S4352x8192_S4352x4096_0_0) bitsLt_bf16_f32) shapeCasts_S4352x4096_S4352x8x512
def ro : FVec Ideal S8x512x4352 .f32 :=
  transpose S8x512x4352 [1, 2, 0] (shapeCast _ (extf .f32 a2 bitsLt_bf16_f32) shapeCasts_S4352x4096_S4352x8x512) transposes_S4352x8x512_S8x512x4352_1_2_0
/-- The products of the rows of `q` and `k`. -/
def sc : FVec Ideal S8x4352x4352 .f32 :=
  Host.dotGeneral dot_S4352x8x256_S4352x8x256_S8x4352x4352_2_2_0_0_1_1 none (rq a0) (rk a0)
/-- The products of the rows of the cotangent and `v`. -/
def dp : FVec Ideal S8x4352x4352 .f32 :=
  Host.dotGeneral dot_S8x512x4352_S4352x8x512_S8x4352x4352_1_2_2_0_0_1 none (ro a2) (rv a1)

def resQ : FVec Ideal S4352x2048 .bf16 :=
  truncf .bf16 (shapeCast _ (transpose S4352x8x256 [1, 0, 2] (Host.dotGeneral dot_S8x4352x4352_S4352x8x256_S8x4352x256_2_0_1_2_0_1 none
    (mulf (dp a1 a2) (dec time a3)) (rk a0)) transposes_S8x4352x256_S4352x8x256_1_0_2) shapeCasts_S4352x8x256_S4352x2048) bitsLt_bf16_f32
def resK : FVec Ideal S4352x2048 .bf16 :=
  truncf .bf16 (shapeCast _ (transpose S4352x8x256 [1, 0, 2] (Host.dotGeneral dot_S8x4352x4352_S4352x8x256_S8x4352x256_1_0_2_2_0_1 none
    (mulf (dp a1 a2) (dec time a3)) (rq a0)) transposes_S8x4352x256_S4352x8x256_1_0_2) shapeCasts_S4352x8x256_S4352x2048) bitsLt_bf16_f32
def resV : FVec Ideal S4352x4096 .bf16 :=
  truncf .bf16 (shapeCast _ (transpose S4352x8x512 [2, 0, 1] (Host.dotGeneral dot_S8x512x4352_S8x4352x4352_S8x512x4352_2_1_1_2_0_0 none
    (ro a2) (mulf (sc a0) (dec time a3))) transposes_S8x512x4352_S4352x8x512_2_0_1) shapeCasts_S4352x8x512_S4352x4096) bitsLt_bf16_f32
/-- The gradient of each head's decay rate, before it is spread. -/
def sumG : FVec Ideal S8 .f32 :=
  Host.reduceAdd (mulf (mulf (select (mask time) (mulf (sc a0) (dp a1 a2))
    (broadcastInDim S8x4352x4352 ![] bcast_S_S8x4352x4352 (constant S_ .f32 0x00000000#32))) (expo time a3)) (gapPos time))
    (constant S_ .f32 0x00000000#32) reducesTo_S8x4352x4352_S8_d1_2 h_S_
def resG : FVec Ideal S8x8x128 .f32 :=
  broadcastInDim S8x8x128 ![0, 1, 2] bcast_S8x1x1_S8x8x128_0_1_2 (broadcastInDim S8x1x1 ![0] bcast_S8_S8x1x1_0
    (Host.reduceAdd (shapeCast _ (sumG time a0 a1 a2 a3) shapeCasts_S8_S8x1x1) (constant S_ .f32 0x00000000#32) reducesTo_S8x1x1_S8_d1_2 h_S_))

theorem le_q : 2048 ≤ 4096 := by decide
theorem le_v : 4096 ≤ 8192 := by decide

/-- A column of `q` or `k` by head. -/
def cq (h : Fin 8) (d : Fin 256) : Fin 2048 := ⟨h.val * 256 + d.val, by omega⟩
theorem cq_div (h : Fin 8) (d : Fin 256) (hl : (cq h d).val / 256 < 8) : (⟨(cq h d).val / 256, hl⟩ : Fin 8) = h := by
  ext; simp only [cq]; omega
theorem cq_mod (h : Fin 8) (d : Fin 256) (hl : (cq h d).val % 256 < 256) : (⟨(cq h d).val % 256, hl⟩ : Fin 256) = d := by
  ext; simp only [cq]; omega
/-- A column of `v` by head. -/
def cv (h : Fin 8) (e : Fin 512) : Fin 4096 := ⟨h.val * 512 + e.val, by omega⟩
theorem cv_div (h : Fin 8) (e : Fin 512) (hl : (cv h e).val / 512 < 8) : (⟨(cv h e).val / 512, hl⟩ : Fin 8) = h := by
  ext; simp only [cv]; omega
theorem cv_mod (h : Fin 8) (e : Fin 512) (hl : (cv h e).val % 512 < 512) : (⟨(cv h e).val % 512, hl⟩ : Fin 512) = e := by
  ext; simp only [cv]; omega

variable (τ : Fin 4352 → ℕ) (G : Fin 8 → ℝ) (Q K : Fin 4352 → Fin 8 → Fin 256 → ℝ) (V O : Fin 4352 → Fin 8 → Fin 512 → ℝ)

section
variable (hτ : ∀ i, τ i < 4352) (hT : ∀ i, time (ix1 i) = BitVec.ofNat 32 (τ i))
include hτ hT

theorem gap_apply (i j : Fin 4352) : gap time (ix2 i j) = IntOp.subi (BitVec.ofNat 32 (τ i)) (BitVec.ofNat 32 (τ j)) := by
  pointwise [gap]
  rw [hT, hT]

theorem mask_apply (h : Fin 8) (i j : Fin 4352) : mask time (ix3 h i j) = BitVec.ofBool (decide (τ j ≤ τ i)) := by
  pointwise [mask]
  rw [gap_apply time τ hτ hT, sge_subi _ _ (by have := hτ i; omega) (by have := hτ j; omega)]

theorem gapPos_apply (h : Fin 8) (i j : Fin 4352) : gapPos time (ix3 h i j) = (((τ i - τ j : ℕ) : ℝ) : EReal) := by
  pointwise [gapPos]
  rw [gap_apply time τ hτ hT, sitofp_maxsi _ _ (by have := hτ i; omega) (by have := hτ j; omega)]

variable (hG : ∀ h, a3 (ix2 0 h) = (G h : EReal))
include hG

theorem expo_apply (h : Fin 8) (i j : Fin 4352) :
    expo time a3 (ix3 h i j) = ((Real.exp (G h * ((τ i - τ j : ℕ) : ℝ)) : ℝ) : EReal) := by
  pointwise [expo]
  rw [gapPos_apply time τ hτ hT, hG, ← EReal.coe_mul, Ideal.exp_coe]

theorem dec_apply (h : Fin 8) (i j : Fin 4352) : dec time a3 (ix3 h i j) = ((decay (G h) (τ i) (τ j) : ℝ) : EReal) := by
  pointwise [dec]
  rw [mask_apply time τ hτ hT, expo_apply time a3 τ G hτ hT hG, Scalar.select_ofBool, decay_sub]
  by_cases hij : τ j ≤ τ i
  · simp [hij]
  · simp [hij, constant_apply, Ideal.ofBits_zero]
end

section
variable (hQ : ∀ i h d, a0 (ix2 i (Fin.castLE le_q (cq h d))) = (Q i h d : EReal))
  (hK : ∀ i h d, a0 (ix2 i (Fin.natAdd 2048 (cq h d))) = (K i h d : EReal))
  (hV : ∀ i h e, a1 (ix2 i (Fin.castLE le_v (cv h e))) = (V i h e : EReal))
  (hO : ∀ i h e, a2 (ix2 i (cv h e)) = (O i h e : EReal))

include hQ in
theorem rq_apply (i : Fin 4352) (h : Fin 8) (d : Fin 256) : rq a0 (ix3 i h d) = (Q i h d : EReal) := by
  pointwise [rq]
  rw [← hQ]
  rfl

include hK in
theorem rk_apply (i : Fin 4352) (h : Fin 8) (d : Fin 256) : rk a0 (ix3 i h d) = (K i h d : EReal) := by
  pointwise [rk]
  rw [← hK]
  rfl

include hV in
theorem rv_apply (i : Fin 4352) (h : Fin 8) (e : Fin 512) : rv a1 (ix3 i h e) = (V i h e : EReal) := by
  pointwise [rv]
  rw [← hV]
  rfl

include hO in
theorem ro_apply (i : Fin 4352) (h : Fin 8) (e : Fin 512) : ro a2 (ix3 h e i) = (O i h e : EReal) := by
  pointwise [ro]
  rw [← hO]
  rfl

include hQ hK in
theorem sc_apply (h : Fin 8) (i j : Fin 4352) : sc a0 (ix3 h i j) = ((∑ d, Q i h d * K j h d : ℝ) : EReal) := by
  pointwise [sc]
  simp only [rq_apply a0 Q hQ, rk_apply a0 K hK, ← EReal.coe_mul, coe_sum]

include hV hO in
theorem dp_apply (h : Fin 8) (i j : Fin 4352) : dp a1 a2 (ix3 h i j) = ((∑ e, O i h e * V j h e : ℝ) : EReal) := by
  pointwise [dp]
  simp only [rv_apply a1 V hV, ro_apply a2 O hO, ← EReal.coe_mul, coe_sum]

variable (hτ : ∀ i, τ i < 4352) (hT : ∀ i, time (ix1 i) = BitVec.ofNat 32 (τ i)) (hG : ∀ h, a3 (ix2 0 h) = (G h : EReal))

include hK hV hO hτ hT hG in
theorem resQ_apply (i : Fin 4352) (h : Fin 8) (d : Fin 256) : resQ time a0 a1 a2 a3 (ix2 i (cq h d))
    = ((∑ j, (∑ e, O i h e * V j h e) * decay (G h) (τ i) (τ j) * K j h d : ℝ) : EReal) := by
  pointwise [resQ]
  simp only [cq_div, cq_mod, dp_apply a1 a2 V O hV hO, dec_apply time a3 τ G hτ hT hG, rk_apply a0 K hK, ← EReal.coe_mul, coe_sum]

include hQ hV hO hτ hT hG in
theorem resK_apply (j : Fin 4352) (h : Fin 8) (d : Fin 256) : resK time a0 a1 a2 a3 (ix2 j (cq h d))
    = ((∑ i, (∑ e, O i h e * V j h e) * decay (G h) (τ i) (τ j) * Q i h d : ℝ) : EReal) := by
  pointwise [resK]
  simp only [cq_div, cq_mod, dp_apply a1 a2 V O hV hO, dec_apply time a3 τ G hτ hT hG, rq_apply a0 Q hQ, ← EReal.coe_mul, coe_sum]

include hQ hK hO hτ hT hG in
theorem resV_apply (j : Fin 4352) (h : Fin 8) (e : Fin 512) : resV time a0 a2 a3 (ix2 j (cv h e))
    = ((∑ i, (∑ d, Q i h d * K j h d) * decay (G h) (τ i) (τ j) * O i h e : ℝ) : EReal) := by
  pointwise [resV]
  simp only [cv_div, cv_mod, sc_apply a0 Q K hQ hK, ro_apply a2 O hO, dec_apply time a3 τ G hτ hT hG, ← EReal.coe_mul, coe_sum]
  rw [EReal.coe_eq_coe_iff]
  exact Finset.sum_congr rfl fun i _ => by ring

include hQ hK hV hO hτ hT hG in
theorem sumG_apply (h : Fin 8) : sumG time a0 a1 a2 a3 (ix1 h)
    = ((∑ i, ∑ j, (∑ d, Q i h d * K j h d) * (∑ e, O i h e * V j h e) * decay (G h) (τ i) (τ j) * ((τ i : ℝ) - (τ j : ℝ)) : ℝ) : EReal) := by
  pointwise [sumG]
  simp only [mask_apply time τ hτ hT, sc_apply a0 Q K hQ hK, dp_apply a1 a2 V O hV hO, expo_apply time a3 τ G hτ hT hG,
    gapPos_apply time τ hτ hT, ← EReal.coe_mul, Scalar.select_ofBool]
  have hs : ∀ i j, (if decide (τ j ≤ τ i) = true then
        (((∑ d, Q i h d * K j h d) * (∑ e, O i h e * V j h e) * Real.exp (G h * ((τ i - τ j : ℕ) : ℝ)) * ((τ i - τ j : ℕ) : ℝ) : ℝ) : EReal) else 0)
      = (((∑ d, Q i h d * K j h d) * (∑ e, O i h e * V j h e) * decay (G h) (τ i) (τ j) * ((τ i : ℝ) - (τ j : ℝ)) : ℝ) : EReal) := by
    intro i j
    rw [decay_sub]
    by_cases hij : τ j ≤ τ i
    · simp [hij]
    · simp [hij]
  simp only [hs, coe_sum]

include hQ hK hV hO hτ hT hG in
theorem resG_apply (h : Fin 8) (x : Fin 8) (y : Fin 128) : resG time a0 a1 a2 a3 (ix3 h x y)
    = ((∑ i, ∑ j, (∑ d, Q i h d * K j h d) * (∑ e, O i h e * V j h e) * decay (G h) (τ i) (τ j) * ((τ i : ℝ) - (τ j : ℝ)) : ℝ) : EReal) := by
  pointwise [resG]
  simp only [Fin.sum_univ_one, sumG_apply time a0 a1 a2 a3 τ G Q K V O hQ hK hV hO hτ hT hG]
end

/-- The forward direction's times, as the reference computes them: the rows moved on by the context, around the end. -/
def timeF : IVec S4352 32 := select (andi (cmpi .ne (cmpi .slt (Host.remsi (addi (iotaInDim S4352 32 0) (broadcastInDim S4352 ![] bcast_S_S4352 (constantI S_ 32 256#32))) (broadcastInDim S4352 ![] bcast_S_S4352 (select (cmpi .eq (id (constantI S_ 32 4352#32)) (constantI S_ 32 0#32)) (constantI S_ 32 1#32) (id (constantI S_ 32 4352#32))))) (broadcastInDim S4352 ![] bcast_S_S4352 (constantI S_ 32 0#32))) (broadcastInDim S4352 ![] bcast_S_S4352 (cmpi .slt (select (cmpi .eq (id (constantI S_ 32 4352#32)) (constantI S_ 32 0#32)) (constantI S_ 32 1#32) (id (constantI S_ 32 4352#32))) (constantI S_ 32 0#32)))) (cmpi .ne (Host.remsi (addi (iotaInDim S4352 32 0) (broadcastInDim S4352 ![] bcast_S_S4352 (constantI S_ 32 256#32))) (broadcastInDim S4352 ![] bcast_S_S4352 (select (cmpi .eq (id (constantI S_ 32 4352#32)) (constantI S_ 32 0#32)) (constantI S_ 32 1#32) (id (constantI S_ 32 4352#32))))) (broadcastInDim S4352 ![] bcast_S_S4352 (constantI S_ 32 0#32)))) (addi (Host.remsi (addi (iotaInDim S4352 32 0) (broadcastInDim S4352 ![] bcast_S_S4352 (constantI S_ 32 256#32))) (broadcastInDim S4352 ![] bcast_S_S4352 (select (cmpi .eq (id (constantI S_ 32 4352#32)) (constantI S_ 32 0#32)) (constantI S_ 32 1#32) (id (constantI S_ 32 4352#32))))) (broadcastInDim S4352 ![] bcast_S_S4352 (select (cmpi .eq (id (constantI S_ 32 4352#32)) (constantI S_ 32 0#32)) (constantI S_ 32 1#32) (id (constantI S_ 32 4352#32))))) (Host.remsi (addi (iotaInDim S4352 32 0) (broadcastInDim S4352 ![] bcast_S_S4352 (constantI S_ 32 256#32))) (broadcastInDim S4352 ![] bcast_S_S4352 (select (cmpi .eq (id (constantI S_ 32 4352#32)) (constantI S_ 32 0#32)) (constantI S_ 32 1#32) (id (constantI S_ 32 4352#32)))))

theorem timeF_apply (i : Fin 4352) : timeF (ix1 i) = BitVec.ofNat 32 ((i.val + 256) % 4352) := by
  pointwise [timeF]
  revert i
  decide +kernel

/-- The other direction's times: the rows from the last to the first. -/
def timeB : IVec S4352 32 := subi (broadcastInDim S4352 ![] bcast_S_S4352 (constantI S_ 32 4351#32)) (iotaInDim S4352 32 0)

theorem timeB_apply (i : Fin 4352) : timeB (ix1 i) = BitVec.ofNat 32 (4351 - i.val) := by
  pointwise [timeB]
  revert i
  decide +kernel

end Retention.Reference
-- ==== Proof.States.lean ====
/-
  The states before the chunks, as the host computes them: at an index, on real inputs, the sum over all rows of the
  row's weight in the state times its outer product.
-/
module

public import proofs.«01_k».proof.Proof.Gen.KernelIdeal
public import proofs.«01_k».proof.Proof.Reference

@[expose] public section

set_option maxRecDepth 16384

noncomputable section

namespace Retention.States

open Cert.KernelIdeal Cert.KernelIdeal.Gen Idealize.ShloMosaic Retention.Head
open Retention.Reference (cq cq_div cq_mod cv cv_div cv_mod)
open scoped BigOperators

variable (time : IVec S4352 32) (a0 : FVec Ideal S4352x4096 .bf16) (a1 : FVec Ideal S4352x8192 .bf16) (a3 : FVec Ideal S1x8 .f32)

/-- How far the last row before a chunk lies after a row. -/
def gap : IVec S17x4352 32 :=
  subi (broadcastInDim S17x4352 ![0, 1] bcast_S17x1_S17x4352_0_1
      (subi (muli (broadcastInDim S17x1 ![] bcast_S_S17x1 (constantI S_ 32 256#32)) (broadcastInDim S17x1 ![0] bcast_S17_S17x1_0 (iotaInDim S17 32 0)))
        (broadcastInDim S17x1 ![] bcast_S_S17x1 (constantI S_ 32 1#32))))
    (broadcastInDim S17x4352 ![0, 1] bcast_S1x4352_S17x4352_0_1 (broadcastInDim S1x4352 ![1] bcast_S4352_S1x4352_1 time))
/-- A row's weight in the state before a chunk. -/
def weight : FVec Ideal S8x17x4352 .f32 :=
  select (broadcastInDim S8x17x4352 ![1, 2] bcast_S17x4352_S8x17x4352_1_2
      (cmpi .sge (gap time) (broadcastInDim S17x4352 ![] bcast_S_S17x4352 (constantI S_ 32 0#32))))
    (Host.exp (mulf (broadcastInDim S8x17x4352 ![0, 1, 2] bcast_S8x1x1_S8x17x4352_0_1_2
        (broadcastInDim S8x1x1 ![0] bcast_S8_S8x1x1_0 (shapeCast _ a3 shapeCasts_S1x8_S8)))
      (broadcastInDim S8x17x4352 ![0, 1, 2] bcast_S1x17x4352_S8x17x4352_0_1_2 (broadcastInDim S1x17x4352 ![1, 2] bcast_S17x4352_S1x17x4352_1_2
        (sitofp .f32 (maxsi (gap time) (broadcastInDim S17x4352 ![] bcast_S_S17x4352 (constantI S_ 32 0#32))))))))
    (broadcastInDim S8x17x4352 ![] bcast_S_S8x17x4352 (id (constant S_ .f32 0x00000000#32)))
def sk : FVec Ideal S4352x8x256 .f32 :=
  shapeCast _ (extf .f32 (extractStridedSlice S4352x2048 ![0, 2048] a0 slices_S4352x4096_S4352x2048_0_2048) bitsLt_bf16_f32) shapeCasts_S4352x2048_S4352x8x256
def sv : FVec Ideal S4352x8x512 .f32 :=
  shapeCast _ (extf .f32 (extractStridedSlice S4352x4096 ![0, 0] a1 slices_S4352x8192_S4352x4096_0_0) bitsLt_bf16_f32) shapeCasts_S4352x4096_S4352x8x512
/-- The states, by head and chunk. -/
def states : FVec Ideal S8x17x256x512 .bf16 :=
  truncf .bf16 (Host.dotGeneral dot_S8x17x4352x256_S4352x8x512_S8x17x256x512_2_0_13_2_0_1 none
    (mulf (broadcastInDim S8x17x4352x256 ![0, 1, 2, 3] bcast_S8x17x4352x1_S8x17x4352x256_0_1_2_3
        (broadcastInDim S8x17x4352x1 ![0, 1, 2] bcast_S8x17x4352_S8x17x4352x1_0_1_2 (weight time a3)))
      (broadcastInDim S8x17x4352x256 ![0, 1, 2, 3] bcast_S8x1x4352x256_S8x17x4352x256_0_1_2_3
        (broadcastInDim S8x1x4352x256 ![0, 2, 3] bcast_S8x4352x256_S8x1x4352x256_0_2_3
          (transpose S8x4352x256 [1, 0, 2] (sk a0) transposes_S4352x8x256_S8x4352x256_1_0_2)))) (sv a1)) bitsLt_bf16_f32

variable (τ : Fin 4352 → ℕ) (G : Fin 8 → ℝ) (K : Fin 4352 → Fin 8 → Fin 256 → ℝ) (V : Fin 4352 → Fin 8 → Fin 512 → ℝ)
variable (hK : ∀ i h d, a0 (ix2 i (Fin.natAdd 2048 (cq h d))) = (K i h d : EReal))
  (hV : ∀ i h e, a1 (ix2 i (Fin.castLE Retention.Reference.le_v (cv h e))) = (V i h e : EReal))
variable (hτ : ∀ i, τ i < 4352) (hT : ∀ i, time (ix1 i) = BitVec.ofNat 32 (τ i)) (hG : ∀ h, a3 (ix2 0 h) = (G h : EReal))

theorem word_gap (n m : ℕ) : IntOp.subi (IntOp.subi (IntOp.muli (256#32) (BitVec.ofNat 32 n)) 1#32) (BitVec.ofNat 32 m)
    = IntOp.subi (BitVec.ofNat 32 (256 * n)) (BitVec.ofNat 32 (m + 1)) := by
  unfold IntOp.subi IntOp.muli
  rw [BitVec.ofNat_add, show (256#32) * BitVec.ofNat 32 n = BitVec.ofNat 32 (256 * n) from by rw [BitVec.ofNat_mul]]
  generalize BitVec.ofNat 32 (256 * n) = a
  generalize BitVec.ofNat 32 m = b
  bv_omega

include hT in
theorem gap_apply (c : Fin 17) (j : Fin 4352) :
    gap time (ix2 c j) = IntOp.subi (BitVec.ofNat 32 (256 * c.val)) (BitVec.ofNat 32 (τ j + 1)) := by
  pointwise [gap]
  rw [hT, ← word_gap]

include hτ hT hG in
theorem weight_apply (h : Fin 8) (c : Fin 17) (j : Fin 4352) :
    weight time a3 (ix3 h c j) = ((wBefore (G h) (256 * c.val) (τ j) : ℝ) : EReal) := by
  have hc : 256 * c.val < 2 ^ 30 := by have := c.isLt; omega
  have hj : τ j + 1 < 2 ^ 30 := by have := hτ j; omega
  pointwise [weight]
  rw [gap_apply time τ hT, hG, sge_subi _ _ hc hj, sitofp_maxsi _ _ hc hj, ← EReal.coe_mul, Ideal.exp_coe, Scalar.select_ofBool]
  unfold wBefore
  by_cases hij : τ j < 256 * c.val
  · rw [if_pos hij, if_pos (by rw [decide_eq_true_eq]; omega), Nat.cast_sub (by omega)]
    push_cast
    congr 3
    ring
  · rw [if_neg hij, if_neg (by rw [decide_eq_true_eq]; omega)]
    simp [constant_apply, Ideal.ofBits_zero]

include hK in
theorem sk_apply (i : Fin 4352) (h : Fin 8) (d : Fin 256) : sk a0 (ix3 i h d) = (K i h d : EReal) := by
  pointwise [sk]
  rw [← hK]
  rfl

include hV in
theorem sv_apply (i : Fin 4352) (h : Fin 8) (e : Fin 512) : sv a1 (ix3 i h e) = (V i h e : EReal) := by
  pointwise [sv]
  rw [← hV]
  rfl

include hK hV hτ hT hG in
theorem states_apply (h : Fin 8) (c : Fin 17) (d : Fin 256) (e : Fin 512) : states time a0 a1 a3 (ix4 h c d e)
    = ((∑ j, wBefore (G h) (256 * c.val) (τ j) * K j h d * V j h e : ℝ) : EReal) := by
  pointwise [states]
  simp only [weight_apply time a3 τ G hτ hT hG, sk_apply a0 K hK, sv_apply a1 V hV, ← EReal.coe_mul, coe_sum]

end Retention.States
-- ==== Proof.HostF.lean ====
/-
  The buffer of the states as the region finds it: the states of the forward direction's times.
-/
module

public import proofs.«01_k».proof.Proof.Gen.KernelIdeal.Frame.Runs
public import proofs.«01_k».proof.Proof.States

@[expose] public section

set_option maxRecDepth 16384

noncomputable section

namespace Cert.KernelIdeal.Own

open Cert.KernelIdeal Cert.KernelIdeal.Gen Idealize.ShloMosaic Idealize.ShloMosaic.TcCoe Idealize.SL.Sem
open StableHlo

variable (m : (ℓ : Loc nD τ sig) → Buf (Elt Ideal) ℓ)

set_option maxHeartbeats 2000000 in
theorem V_states (c : Dev nD) : V m c main_v40 = Retention.States.states Retention.Reference.timeF
    (m ((c : Thread nD τ).loc main_arg0)) (m ((c : Thread nD τ).loc main_arg1)) (m ((c : Thread nD τ).loc main_arg3)) := by
  simp only [V, hostOps0, hostOps0_1, hostOps0_2, hostOps0_3, hostOps0_4, List.flatten_cons, List.flatten_nil, List.append_nil, List.cons_append,
    List.nil_append, TRef.binary, TRef.nullary, TRef.ternary, TRef.unary, TRef.toBuf, TRef.ofBuf, cast_eq]
  after_results_simp <;> rfl

end Cert.KernelIdeal.Own
-- ==== Proof.Chunk.lean ====
/-
  A grid point on real blocks: what it stores for a head is that head's gradient on the rows of its chunk, given the
  state before the chunk and the gradient of the state after it.
-/
module

public import proofs.«01_k».proof.Proof.Point
public import proofs.«01_k».proof.Proof.Scan

@[expose] public section

set_option maxRecDepth 16384

noncomputable section

namespace Retention.Head

open Cert.KernelIdeal Cert.KernelIdeal.Gen Idealize.ShloMosaic
open scoped BigOperators

/-- A direction's decay matrix and positions: row `r` of a chunk stands at position `p r`. -/
structure Order (am : Ideal .f32 → FVec Ideal S256x256 .f32) (ps : FVec Ideal S256x1 .f32) (p : Fin 256 → ℕ) : Prop where
  lt : ∀ r, p r < 256
  am : ∀ (g : ℝ) (lg : Ideal .f32), lg = (g : EReal) → ∀ r s, am lg (ix2 r s) = (decay g (p r) (p s) : EReal)
  ps : ∀ r, ps (ix2 r 0) = (((p r : ℝ) + 1 : ℝ) : EReal)

theorem orderF : Order (k0_pay3 (F := Ideal)) (k0_pay4 (F := Ideal)) (fun r => r.val) := ⟨fun r => r.isLt, amatF_apply, posF_apply⟩
theorem orderB : Order (Cert.Kernel2Ideal.Gen.k0_pay3 (F := Ideal)) (Cert.Kernel2Ideal.Gen.k0_pay4 (F := Ideal)) (fun r => 255 - r.val) :=
  ⟨fun r => by omega, amatB_apply, posB_apply⟩

variable (g : ℝ) (p : Fin 256 → ℕ) (q k : Fin 17 → Fin 256 → Fin 256 → ℝ) (v o : Fin 17 → Fin 256 → Fin 512 → ℝ) (c : Fin 17)
variable (n : ℕ) (hn : n < 2) (x0 : Vec Ideal S1x8 .f32) (x1 x2 : Vec Ideal S256x1024 .bf16) (x3 x4 : Vec Ideal S256x2048 .bf16)
  (x5 : Vec Ideal S4x1x256x512 .bf16) (sp : Vec Ideal S4x256x512 .f32) (gp : Vec Ideal S4x8x128 .f32) (hh : Fin 4)

/-- A grid point's blocks hold, for one head, chunk `c` of the rows and the state before it. -/
structure Blocks : Prop where
  isG : lgs x0 n hn hh = (g : EReal)
  isQ : ∀ r d, x1 (ix2 r (col hh d)) = (q c r d : EReal)
  isK : ∀ r d, x2 (ix2 r (col hh d)) = (k c r d : EReal)
  isV : ∀ r e, x3 (ix2 r (colv hh e)) = (v c r e : EReal)
  isO : ∀ r e, x4 (ix2 r (colv hh e)) = (o c r e : EReal)
  isS : ∀ d e, x5 (ix4 hh 0 d e) = (before g p k v c.val d e : EReal)

variable {am : Ideal .f32 → FVec Ideal S256x256 .f32} {ps : FVec Ideal S256x1 .f32}
variable {g p q k v o c n hn x0 x1 x2 x3 x4 x5 sp gp hh}
variable (ho : Order am ps p) (hb : Blocks g p q k v o c n hn x0 x1 x2 x3 x4 x5 hh)
include ho hb

theorem hq_at (r d : Fin 256) : hq am ps n hn x0 x2 x3 x4 x5 hh (ix2 r d) = (gq g p k v o c r d : EReal) := by
  rw [← gq_eq g p k v o ho.lt c r d]
  exact dq_apply _ _ _ _ _ _ _ _ _ _ _ _ (ho.am g _ hb.isG) (bq_apply g _ hb.isG ps p ho.ps) hb.isK hb.isV hb.isO hb.isS r d

variable (hsp : ∀ d e, sp (ix3 hh d e) = (after g p q o (c.val + 1) d e : EReal))
include hsp

theorem hk_at (r d : Fin 256) : hk am ps n hn x0 x1 x3 x4 sp hh (ix2 r d) = (gk g p q v o c r d : EReal) := by
  rw [← gk_eq g p q v o ho.lt c r d]
  exact dk_apply _ _ _ _ _ _ _ _ _ _ _ _ (ho.am g _ hb.isG) (bk_apply g _ hb.isG ps p ho.ps) hb.isQ hb.isV hb.isO hsp r d

theorem hv_at (r : Fin 256) (e : Fin 512) : hv am ps n hn x0 x1 x2 x4 sp hh (ix2 r e) = (gv g p q k o c r e : EReal) := by
  rw [← gv_eq g p q k o ho.lt c r e]
  exact dv_apply _ _ _ _ _ _ _ _ _ _ _ _ (ho.am g _ hb.isG) (bk_apply g _ hb.isG ps p ho.ps) hb.isQ hb.isK hb.isO hsp r e

theorem hs_at (d : Fin 256) (e : Fin 512) : hs ps n hn x0 x1 x4 sp hh (ix2 d e) = (after g p q o c.val d e : EReal) := by
  rw [← after_step g p q o ho.lt c d e]
  exact ds_apply _ _ _ _ _ _ _ _ _ _ hb.isG (bq_apply g _ hb.isG ps p ho.ps) hb.isQ hb.isO hsp d e

omit hsp in
theorem putQ_at (r d : Fin 256) : putQ am ps n hn x0 x2 x3 x4 x5 hh (ix2 r d) = (gq g p k v o c r d : EReal) := hq_at ho hb r d

theorem putK_at (r d : Fin 256) : putK am ps n hn x0 x1 x3 x4 sp hh (ix2 r d) = (gk g p q v o c r d : EReal) := hk_at ho hb hsp r d

theorem putV_at (r : Fin 256) (e : Fin 512) : putV am ps n hn x0 x1 x2 x4 sp hh (ix2 r e) = (gv g p q k o c r e : EReal) := hv_at ho hb hsp r e

theorem putS_at (d : Fin 256) (e : Fin 512) : putS ps n hn x0 x1 x4 sp hh (ix3 0 d e) = (after g p q o c.val d e : EReal) := by
  have h : putS ps n hn x0 x1 x4 sp hh (ix3 0 d e) = hs ps n hn x0 x1 x4 sp hh (ix2 d e) := by
    unfold putS hs
    pointwise [k0_pay17]
  rw [h]; exact hs_at ho hb hsp d e

omit ho hb hsp am ps hn x0 x1 x2 x3 x4 x5 sp gp in
variable (g p q k v o c) in
/-- What one chunk adds to the gradient of the decay rate. -/
def part : ℝ :=
  ∑ r : Fin 256, ((p r : ℝ) + 1) * (∑ d : Fin 256, (q c r d * gq g p k v o c r d - k c r d * gk g p q v o c r d))
    + 256 * ∑ d : Fin 256, ∑ e : Fin 512, after g p q o c.val d e * before g p k v c.val d e

theorem putG_at (x : Fin 8) (y : Fin 128) (a : ℝ) (ha : gp (ix3 hh x y) = (a : EReal)) :
    putG am ps n hn x0 x1 x2 x3 x4 x5 sp gp hh (ix3 0 x y) = ((a + part g p q k v o c : ℝ) : EReal) :=
  dlg_apply _ _ _ _ _ _ _ _ _ _ _ _ _ _ _ _ ho.ps
    (fun r s => by
      have : k0_pay7 (ss x5 hh) (ix2 r s) = x5 (ix4 hh 0 r s) := by pointwise [k0_pay7]; rfl
      rw [this]; exact hb.isS r s)
    hb.isQ hb.isK (hq_at ho hb) (hk_at ho hb hsp) (hs_at ho hb hsp) x y ha

end Retention.Head
-- ==== Proof.Grid.lean ====
/-
  The run over the grid: the points go through the chunks of four heads from the last to the first, then through those
  of the other four. The scratch holds the gradient of the state after the point's chunk, the last output what the
  chunks so far have added to the gradient of the decay rate.
-/
module

public import proofs.«01_k».proof.Proof.Chunk

@[expose] public section

set_option maxRecDepth 16384

noncomputable section

namespace Retention.Head

open Cert.KernelIdeal Cert.KernelIdeal.Gen Idealize.ShloMosaic
open scoped BigOperators

/-- The head a point's row of four stands for. -/
def headAt (t : ℕ) (h : t < 34) (hh : Fin 4) : Fin 8 := ⟨4 * (t / 17) + hh.val, by have := hh.isLt; omega⟩
/-- The chunk a point works on. -/
def chunkAt (t : ℕ) : Fin 17 := ⟨16 - t % 17, by omega⟩

/-- Some point works on a given chunk and head. -/
theorem point_of (c : Fin 17) (h : Fin 8) : ∃ (t : Fin 34) (hh : Fin 4), chunkAt t.val = c ∧ headAt t.val t.isLt hh = h := by
  have := c.isLt
  have := h.isLt
  refine ⟨⟨17 * (h.val / 4) + (16 - c.val), by omega⟩, ⟨h.val % 4, by omega⟩, ?_, ?_⟩
  · apply Fin.ext; simp only [chunkAt]; omega
  · apply Fin.ext; simp only [headAt]; omega

variable (am : Ideal .f32 → FVec Ideal S256x256 .f32) (ps : FVec Ideal S256x1 .f32) (p : Fin 256 → ℕ)
variable (g : Fin 8 → ℝ) (q k : Fin 8 → Fin 17 → Fin 256 → Fin 256 → ℝ) (v o : Fin 8 → Fin 17 → Fin 256 → Fin 512 → ℝ)
variable (nn : Fin 34 → ℕ) (hnn : ∀ t, nn t < 2)
  (x0 : Fin 34 → Vec Ideal S1x8 .f32) (x1 x2 : Fin 34 → Vec Ideal S256x1024 .bf16) (x3 x4 : Fin 34 → Vec Ideal S256x2048 .bf16)
  (x5 : Fin 34 → Vec Ideal S4x1x256x512 .bf16)
  (sp oS : Fin 34 → Vec Ideal S4x256x512 .f32) (gp oG : Fin 34 → Vec Ideal S4x8x128 .f32)

/-- Every point's blocks are its heads' rows, and the two carried buffers are zero at the start of a row of the grid
    and what the point before left otherwise. -/
structure Walk : Prop where
  blocks : ∀ (t : Fin 34) (hh : Fin 4), Blocks (g (headAt t.val t.isLt hh)) p (q (headAt t.val t.isLt hh)) (k (headAt t.val t.isLt hh))
    (v (headAt t.val t.isLt hh)) (o (headAt t.val t.isLt hh)) (chunkAt t.val) (nn t) (hnn t) (x0 t) (x1 t) (x2 t) (x3 t) (x4 t) (x5 t) hh
  firstS : ∀ t : Fin 34, t.val % 17 = 0 → ∀ hh d e, sp t (ix3 hh d e) = ((0 : ℝ) : EReal)
  nextS : ∀ (t : ℕ) (h : t + 1 < 34), (t + 1) % 17 ≠ 0 → sp ⟨t + 1, h⟩ = oS ⟨t, by omega⟩
  leftS : ∀ (t : Fin 34) (hh : Fin 4) (d : Fin 256) (e : Fin 512),
    oS t (ix3 hh d e) = putS ps (nn t) (hnn t) (x0 t) (x1 t) (x4 t) (sp t) hh (ix3 0 d e)
  firstG : ∀ t : Fin 34, t.val % 17 = 0 → ∀ hh x y, gp t (ix3 hh x y) = ((0 : ℝ) : EReal)
  nextG : ∀ (t : ℕ) (h : t + 1 < 34), (t + 1) % 17 ≠ 0 → gp ⟨t + 1, h⟩ = oG ⟨t, by omega⟩
  leftG : ∀ (t : Fin 34) (hh : Fin 4) (x : Fin 8) (y : Fin 128),
    oG t (ix3 hh x y) = putG am ps (nn t) (hnn t) (x0 t) (x1 t) (x2 t) (x3 t) (x4 t) (x5 t) (sp t) (gp t) hh (ix3 0 x y)

variable {am ps p g q k v o nn hnn x0 x1 x2 x3 x4 x5 sp oS gp oG}
variable (ho : Order am ps p) (hw : Walk am ps p g q k v o nn hnn x0 x1 x2 x3 x4 x5 sp oS gp oG)
include ho hw

/-- A point finds the gradient of the state after its chunk in the scratch. -/
theorem Walk.found (t : ℕ) : ∀ (h : t < 34) (hh : Fin 4) (d : Fin 256) (e : Fin 512), sp ⟨t, h⟩ (ix3 hh d e)
    = (after (g (headAt t h hh)) p (q (headAt t h hh)) (o (headAt t h hh)) ((chunkAt t).val + 1) d e : EReal) := by
  induction t with
  | zero =>
    intro h hh d e
    rw [hw.firstS ⟨0, h⟩ rfl, show (chunkAt 0).val + 1 = 17 from rfl, after_last _ _ _ _ _ _ ho.lt]
  | succ t ih =>
    intro h hh d e
    by_cases h0 : (t + 1) % 17 = 0
    · rw [hw.firstS ⟨t + 1, h⟩ h0, show (chunkAt (t + 1)).val + 1 = 17 from by simp only [chunkAt]; omega, after_last _ _ _ _ _ _ ho.lt]
    · have hd : headAt (t + 1) h hh = headAt t (by omega) hh := by
        apply Fin.ext; simp only [headAt]; omega
      have hc : (chunkAt (t + 1)).val + 1 = (chunkAt t).val := by simp only [chunkAt]; omega
      rw [hw.nextS t h h0, hw.leftS ⟨t, by omega⟩, hd, hc]
      exact putS_at ho (hw.blocks ⟨t, by omega⟩ hh) (fun d e => ih (by omega) hh d e) d e

/-- A point leaves the sum of the shares of its chunk and of the later ones. -/
theorem Walk.sum_left (t : ℕ) : ∀ (h : t < 34) (hh : Fin 4) (x : Fin 8) (y : Fin 128), oG ⟨t, h⟩ (ix3 hh x y)
    = ((∑ c : Fin 17, if (chunkAt t).val ≤ c.val then part (g (headAt t h hh)) p (q (headAt t h hh)) (k (headAt t h hh))
        (v (headAt t h hh)) (o (headAt t h hh)) c else 0 : ℝ) : EReal) := by
  have step : ∀ (f : Fin 17 → ℝ) (c : Fin 17),
      (∑ c' : Fin 17, if c.val + 1 ≤ c'.val then f c' else 0) + f c = ∑ c' : Fin 17, if c.val ≤ c'.val then f c' else 0 := by
    intro f c
    have : f c = ∑ c' : Fin 17, if c' = c then f c' else 0 := by simp
    rw [this, ← Finset.sum_add_distrib]
    refine Finset.sum_congr rfl fun c' _ => ?_
    rcases lt_trichotomy c'.val c.val with h | h | h
    · rw [if_neg (by omega), if_neg (fun e => by rw [e] at h; omega), if_neg (by omega), add_zero]
    · rw [if_neg (by omega), if_pos (Fin.ext h), if_pos (by omega), zero_add]
    · rw [if_pos (by omega), if_neg (fun e => by rw [e] at h; omega), if_pos (by omega), add_zero]
  have one : ∀ (t : ℕ) (h : t < 34) (hh : Fin 4) (x : Fin 8) (y : Fin 128) (a : ℝ), gp ⟨t, h⟩ (ix3 hh x y) = (a : EReal) →
      oG ⟨t, h⟩ (ix3 hh x y) = ((a + part (g (headAt t h hh)) p (q (headAt t h hh)) (k (headAt t h hh))
        (v (headAt t h hh)) (o (headAt t h hh)) (chunkAt t) : ℝ) : EReal) := by
    intro t h hh x y a ha
    rw [hw.leftG ⟨t, h⟩]
    exact putG_at ho (hw.blocks ⟨t, h⟩ hh) (fun d e => hw.found ho t h hh d e) x y a ha
  have last : ∀ (f : Fin 17 → ℝ) (c : Fin 17), c.val = 16 →
      (0 : ℝ) + f c = ∑ c' : Fin 17, if c.val ≤ c'.val then f c' else 0 := by
    intro f c hc
    rw [← step f c]
    congr 1
    exact (Finset.sum_eq_zero fun c' _ => if_neg (by omega)).symm
  induction t with
  | zero =>
    intro h hh x y
    rw [one 0 h hh x y 0 (hw.firstG ⟨0, h⟩ rfl hh x y), last _ (chunkAt 0) rfl]
  | succ t ih =>
    intro h hh x y
    by_cases h0 : (t + 1) % 17 = 0
    · rw [one (t + 1) h hh x y 0 (hw.firstG ⟨t + 1, h⟩ h0 hh x y), last _ (chunkAt (t + 1)) (by simp only [chunkAt]; omega)]
    · have hd : headAt t (by omega) hh = headAt (t + 1) h hh := by
        apply Fin.ext; simp only [headAt]; omega
      have hc : (chunkAt t).val = (chunkAt (t + 1)).val + 1 := by simp only [chunkAt]; omega
      have hp := ih (by omega) hh x y
      rw [hd, hc, ← hw.nextG t h h0] at hp
      rw [one (t + 1) h hh x y _ hp, step]

/-- The point of a row of the grid that works on the first chunk leaves the gradient of the decay rate. -/
theorem Walk.rate (t : Fin 34) (ht : t.val % 17 = 16) (hh : Fin 4) (x : Fin 8) (y : Fin 128) : oG t (ix3 hh x y)
    = (gg (g (headAt t.val t.isLt hh)) p (q (headAt t.val t.isLt hh)) (k (headAt t.val t.isLt hh))
        (v (headAt t.val t.isLt hh)) (o (headAt t.val t.isLt hh)) : EReal) := by
  rw [hw.sum_left ho t.val t.isLt hh x y, ← gg_eq _ _ _ _ _ _ ho.lt]
  congr 1
  refine Finset.sum_congr rfl fun c _ => ?_
  rw [if_pos (by simp only [chunkAt]; omega)]
  rfl

end Retention.Head
-- ==== Proof.Layout.lean ====
/-
  Where the rows of a time chunk lie in the arrays, for both directions, and the parallel form's sums over all rows cut
  into the chunks.
-/
module

public import proofs.«01_k».proof.Proof.States
public import proofs.«01_k».proof.Proof.Grid

@[expose] public section

set_option maxRecDepth 16384

noncomputable section

namespace Retention

open Idealize.ShloMosaic
open scoped BigOperators

/-- A row of a block of 256 rows. -/
def row (b : Fin 17) (r : Fin 256) : Fin 4352 := ⟨b.val * 256 + r.val, by have := b.isLt; have := r.isLt; omega⟩

/-- Time chunk `c` is the block of rows `b c`, a row's time its chunk's start and its position. -/
structure Layout (p : Fin 256 → ℕ) (b : Fin 17 → Fin 17) (τ : Fin 4352 → ℕ) : Prop where
  bij : Function.Bijective b
  lt : ∀ i, τ i < 4352
  time : ∀ c r, τ (row (b c) r) = tm p c r

def blkF (c : Fin 17) : Fin 17 := ⟨(c.val + 16) % 17, by omega⟩
def blkB (c : Fin 17) : Fin 17 := ⟨16 - c.val, by omega⟩
def tauF (i : Fin 4352) : ℕ := (i.val + 256) % 4352
def tauB (i : Fin 4352) : ℕ := 4351 - i.val

theorem layoutF : Layout (fun r => r.val) blkF tauF where
  bij := by decide
  lt i := by unfold tauF; omega
  time c r := by
    have := c.isLt; have := r.isLt
    simp only [tauF, row, blkF, tm]; omega

theorem layoutB : Layout (fun r => 255 - r.val) blkB tauB where
  bij := by decide
  lt i := by unfold tauB; omega
  time c r := by
    have := c.isLt; have := r.isLt
    simp only [tauB, row, blkB, tm]; omega

variable {p : Fin 256 → ℕ} {b : Fin 17 → Fin 17} {τ : Fin 4352 → ℕ}

theorem Layout.sum (hl : Layout p b τ) (f : Fin 4352 → ℝ) : ∑ i, f i = ∑ c : Fin 17, ∑ r : Fin 256, f (row (b c) r) := by
  rw [Fin.sum_univ_tiles 17 256 rfl f]
  exact (hl.bij.sum_comp (fun c => ∑ r : Fin 256, f (row c r))).symm

theorem Layout.cover (hl : Layout p b τ) (i : Fin 4352) : ∃ c r, i = row (b c) r := by
  obtain ⟨c, hc⟩ := hl.bij.surjective ⟨i.val / 256, by have := i.isLt; omega⟩
  refine ⟨c, ⟨i.val % 256, by omega⟩, ?_⟩
  rw [hc]
  apply Fin.ext
  simp only [row]; omega

variable (hl : Layout p b τ) (g : ℝ) (Q K : Fin 4352 → Fin 256 → ℝ) (V O : Fin 4352 → Fin 512 → ℝ)

/-- The rows of the chunks. -/
def rows {α : Type} (b : Fin 17 → Fin 17) (X : Fin 4352 → α) (c : Fin 17) (r : Fin 256) : α := X (row (b c) r)

include hl

theorem sum_gq (c : Fin 17) (r d : Fin 256) :
    ∑ j, (∑ e, O (row (b c) r) e * V j e) * decay g (τ (row (b c) r)) (τ j) * K j d = gq g p (rows b K) (rows b V) (rows b O) c r d := by
  rw [hl.sum]; simp only [hl.time]; rfl

theorem sum_gk (c : Fin 17) (r d : Fin 256) :
    ∑ i, (∑ e, O i e * V (row (b c) r) e) * decay g (τ i) (τ (row (b c) r)) * Q i d = gk g p (rows b Q) (rows b V) (rows b O) c r d := by
  rw [hl.sum]; simp only [hl.time]; rfl

theorem sum_gv (c : Fin 17) (r : Fin 256) (e : Fin 512) :
    ∑ i, (∑ d, Q i d * K (row (b c) r) d) * decay g (τ i) (τ (row (b c) r)) * O i e = gv g p (rows b Q) (rows b K) (rows b O) c r e := by
  rw [hl.sum]; simp only [hl.time]; rfl

theorem sum_gg : ∑ i, ∑ j, (∑ d, Q i d * K j d) * (∑ e, O i e * V j e) * decay g (τ i) (τ j) * ((τ i : ℝ) - (τ j : ℝ))
    = gg g p (rows b Q) (rows b K) (rows b V) (rows b O) := by
  rw [hl.sum]
  unfold gg
  refine Finset.sum_congr rfl fun c _ => Finset.sum_congr rfl fun r _ => ?_
  rw [hl.sum]; simp only [hl.time]; rfl

theorem sum_before (c : ℕ) (d : Fin 256) (e : Fin 512) :
    ∑ j, wBefore g (256 * c) (τ j) * K j d * V j e = before g p (rows b K) (rows b V) c d e := by
  rw [hl.sum]; simp only [hl.time]; rfl

end Retention
-- ==== Proof.Finite.lean ====
/-
  The precondition at an index: every entry that it names is a real number.
-/
module

public import proofs.«01_k».proof.Proof.Gen.Pre_finite
public import proofs.«01_k».proof.Proof.Reference
public import Idealize.ShloMosaic.Lib.ReduceAll

@[expose] public section

set_option maxRecDepth 16384

noncomputable section

namespace Retention.Finite

open Cert.Pre_finite Cert.Pre_finite.Gen Idealize.ShloMosaic
open Retention.Reference (cq cv)

/-- A value whose absolute value lies below infinity is a real number. -/
theorem real_of_lt (x : EReal) (h : Ideal.cmp .olt (max x (-x)) (Ideal.ofBits .f32 0x7F800000#32) = 1#1) : x = ((x.toReal : ℝ) : EReal) := by
  have ht : Ideal.ofBits .f32 0x7F800000#32 = ⊤ := by simp [Ideal.ofBits, Ideal.ieee]
  rw [ht] at h
  have hl : max x (-x) < ⊤ := by
    by_contra hn
    simp [Ideal.cmp, hn] at h
  refine (EReal.coe_toReal ?_ ?_).symm
  · rintro rfl; simp at hl
  · rintro rfl; simp at hl

theorem and_one (a b : BitVec 1) (h : IntOp.andi a b = 1#1) : a = 1#1 ∧ b = 1#1 := by
  revert a b; decide

variable {a0 : FVec Ideal S4352x4096 .bf16} {a1 : FVec Ideal S4352x8192 .bf16} {a2 : FVec Ideal S4352x4096 .bf16} {a3 : FVec Ideal S1x8 .f32}

theorem real (h : fn (F := Ideal) a0 a1 a2 a3 = fun _ => 1#1) :
    (∀ i, a0 i = (((a0 i).toReal : ℝ) : EReal)) ∧ (∀ i, a2 i = (((a2 i).toReal : ℝ) : EReal)) ∧ (∀ i, a3 i = (((a3 i).toReal : ℝ) : EReal))
    ∧ ∀ (i : Fin 4352) (j : Fin 4096), a1 (ix2 i (Fin.castLE Retention.Reference.le_v j)) = (((a1 (ix2 i (Fin.castLE Retention.Reference.le_v j))).toReal : ℝ) : EReal) := by
  have h0 := congrFun h ix0
  simp only [fn, fn_part1, andi] at h0
  obtain ⟨h0, h3⟩ := and_one _ _ h0
  obtain ⟨h0, h2⟩ := and_one _ _ h0
  obtain ⟨h0, h1⟩ := and_one _ _ h0
  refine ⟨fun i => ?_, fun i => ?_, fun i => ?_, fun i j => ?_⟩
  · exact real_of_lt _ (Host.reduce_andi_all _ _ _ _ _ h0 i)
  · exact real_of_lt _ (Host.reduce_andi_all _ _ _ _ _ h2 i)
  · exact real_of_lt _ (Host.reduce_andi_all _ _ _ _ _ h3 i)
  · have := real_of_lt _ (Host.reduce_andi_all _ _ _ _ _ h1 (ix2 i j))
    have e : extractStridedSlice S4352x4096 ![0, 0] a1 slices_S4352x8192_S4352x4096_0_0 (ix2 i j) = a1 (ix2 i (Fin.castLE Retention.Reference.le_v j)) := by
      pointwise
      rfl
    rw [← e]
    exact this

/-- The real numbers that the inputs hold, by row and head. -/
def rQ (a0 : FVec Ideal S4352x4096 .bf16) (i : Fin 4352) (h : Fin 8) (d : Fin 256) : ℝ := EReal.toReal (a0 (ix2 i (Fin.castLE Retention.Reference.le_q (cq h d))))
def rK (a0 : FVec Ideal S4352x4096 .bf16) (i : Fin 4352) (h : Fin 8) (d : Fin 256) : ℝ := EReal.toReal (a0 (ix2 i (Fin.natAdd 2048 (cq h d))))
def rV (a1 : FVec Ideal S4352x8192 .bf16) (i : Fin 4352) (h : Fin 8) (e : Fin 512) : ℝ := EReal.toReal (a1 (ix2 i (Fin.castLE Retention.Reference.le_v (cv h e))))
def rO (a2 : FVec Ideal S4352x4096 .bf16) (i : Fin 4352) (h : Fin 8) (e : Fin 512) : ℝ := EReal.toReal (a2 (ix2 i (cv h e)))
def rG (a3 : FVec Ideal S1x8 .f32) (h : Fin 8) : ℝ := EReal.toReal (a3 (ix2 0 h))

/-- The inputs are these real numbers. -/
structure Reals (a0 : FVec Ideal S4352x4096 .bf16) (a1 : FVec Ideal S4352x8192 .bf16) (a2 : FVec Ideal S4352x4096 .bf16)
    (a3 : FVec Ideal S1x8 .f32) : Prop where
  atQ : ∀ i h d, a0 (ix2 i (Fin.castLE Retention.Reference.le_q (cq h d))) = (rQ a0 i h d : EReal)
  atK : ∀ i h d, a0 (ix2 i (Fin.natAdd 2048 (cq h d))) = (rK a0 i h d : EReal)
  atV : ∀ i h e, a1 (ix2 i (Fin.castLE Retention.Reference.le_v (cv h e))) = (rV a1 i h e : EReal)
  atO : ∀ i h e, a2 (ix2 i (cv h e)) = (rO a2 i h e : EReal)
  atG : ∀ h, a3 (ix2 0 h) = (rG a3 h : EReal)

theorem reals (h : fn (F := Ideal) a0 a1 a2 a3 = fun _ => 1#1) : Reals a0 a1 a2 a3 := by
  obtain ⟨h0, h2, h3, h1⟩ := real h
  exact ⟨fun _ _ _ => h0 _, fun _ _ _ => h0 _, fun _ _ _ => h1 _ _, fun _ _ _ => h2 _, fun _ => h3 _⟩

end Retention.Finite
-- ==== Proof.WindowsF.lean ====
/-
  The forward direction's windows: which entries of the arrays a point's blocks hold, and which entries of the results a
  point writes.
-/
module

public import proofs.«01_k».proof.Proof.BodyF
public import proofs.«01_k».proof.Proof.HostF
public import proofs.«01_k».proof.Proof.Layout
public import proofs.«01_k».proof.Proof.Finite

@[expose] public section

set_option maxRecDepth 16384

noncomputable section

namespace Cert.KernelIdeal.Own

open Cert.KernelIdeal Cert.KernelIdeal.Gen Idealize.ShloMosaic Idealize.ShloMosaic.TcCoe Idealize.SL.Sem
open Retention Retention.Head Retention.Finite
open Retention.Reference (cq cv)
open Cert.KernelIdeal.Value
open Idealize.ShloMosaic.Pipeline (Dat)

variable (m : (ℓ : Loc nD τ sig) → Buf (Elt Ideal) ℓ) (c : Dev nD)

theorem lt34 (t : Fin cfg0.N) : t.val < 34 := t.isLt

/-! ## Block indices -/

theorem half (t : Fin cfg0.N) : ((grid0.coords t) 0).val = t.val / 17 := (by decide +kernel : ∀ t : Fin grid0.N, ((grid0.coords t) 0).val = t.val / 17) t
theorem idx0 (t : Fin cfg0.N) : win0_0.index t (0 : Fin 2) = 0 ∧ win0_0.index t (1 : Fin 2) = 0 :=
  (by decide +kernel : ∀ t : Fin grid0.N, win0_0.index t (0 : Fin 2) = 0 ∧ win0_0.index t (1 : Fin 2) = 0) t
theorem idx1 (t : Fin cfg0.N) : win0_1.index t (0 : Fin 2) = (blkF (chunkAt t.val)).val ∧ win0_1.index t (1 : Fin 2) = t.val / 17 :=
  (by decide +kernel : ∀ t : Fin grid0.N, win0_1.index t (0 : Fin 2) = (blkF (chunkAt t.val)).val ∧ win0_1.index t (1 : Fin 2) = t.val / 17) t
theorem idx2 (t : Fin cfg0.N) : win0_2.index t (0 : Fin 2) = (blkF (chunkAt t.val)).val ∧ win0_2.index t (1 : Fin 2) = 2 + t.val / 17 :=
  (by decide +kernel : ∀ t : Fin grid0.N, win0_2.index t (0 : Fin 2) = (blkF (chunkAt t.val)).val ∧ win0_2.index t (1 : Fin 2) = 2 + t.val / 17) t
theorem idx3 (t : Fin cfg0.N) : win0_3.index t (0 : Fin 2) = (blkF (chunkAt t.val)).val ∧ win0_3.index t (1 : Fin 2) = t.val / 17 :=
  (by decide +kernel : ∀ t : Fin grid0.N, win0_3.index t (0 : Fin 2) = (blkF (chunkAt t.val)).val ∧ win0_3.index t (1 : Fin 2) = t.val / 17) t
theorem idx4 (t : Fin cfg0.N) : win0_4.index t (0 : Fin 2) = (blkF (chunkAt t.val)).val ∧ win0_4.index t (1 : Fin 2) = t.val / 17 :=
  (by decide +kernel : ∀ t : Fin grid0.N, win0_4.index t (0 : Fin 2) = (blkF (chunkAt t.val)).val ∧ win0_4.index t (1 : Fin 2) = t.val / 17) t
theorem idx5 (t : Fin cfg0.N) : win0_5.index t (0 : Fin 4) = t.val / 17 ∧ win0_5.index t (1 : Fin 4) = (chunkAt t.val).val
    ∧ win0_5.index t (2 : Fin 4) = 0 ∧ win0_5.index t (3 : Fin 4) = 0 :=
  (by decide +kernel : ∀ t : Fin grid0.N, win0_5.index t (0 : Fin 4) = t.val / 17 ∧ win0_5.index t (1 : Fin 4) = (chunkAt t.val).val
    ∧ win0_5.index t (2 : Fin 4) = 0 ∧ win0_5.index t (3 : Fin 4) = 0) t
theorem idx6 (t : Fin cfg0.N) : win0_6.index t (0 : Fin 2) = (blkF (chunkAt t.val)).val ∧ win0_6.index t (1 : Fin 2) = t.val / 17 :=
  (by decide +kernel : ∀ t : Fin grid0.N, win0_6.index t (0 : Fin 2) = (blkF (chunkAt t.val)).val ∧ win0_6.index t (1 : Fin 2) = t.val / 17) t
theorem idx7 (t : Fin cfg0.N) : win0_7.index t (0 : Fin 2) = (blkF (chunkAt t.val)).val ∧ win0_7.index t (1 : Fin 2) = t.val / 17 :=
  (by decide +kernel : ∀ t : Fin grid0.N, win0_7.index t (0 : Fin 2) = (blkF (chunkAt t.val)).val ∧ win0_7.index t (1 : Fin 2) = t.val / 17) t
theorem idx8 (t : Fin cfg0.N) : win0_8.index t (0 : Fin 2) = (blkF (chunkAt t.val)).val ∧ win0_8.index t (1 : Fin 2) = t.val / 17 :=
  (by decide +kernel : ∀ t : Fin grid0.N, win0_8.index t (0 : Fin 2) = (blkF (chunkAt t.val)).val ∧ win0_8.index t (1 : Fin 2) = t.val / 17) t
theorem idx9 (t : Fin cfg0.N) : win0_9.index t (0 : Fin 3) = t.val / 17 ∧ win0_9.index t (1 : Fin 3) = 0 ∧ win0_9.index t (2 : Fin 3) = 0 :=
  (by decide +kernel : ∀ t : Fin grid0.N, win0_9.index t (0 : Fin 3) = t.val / 17 ∧ win0_9.index t (1 : Fin 3) = 0 ∧ win0_9.index t (2 : Fin 3) = 0) t

/-! ## What the blocks hold -/

variable (t : Fin cfg0.N) (hh : Fin 4)

theorem at0 : lgs (iblk m c 0 t) ((grid0.coords t) 0).val ((grid0.coords t) 0).isLt hh
    = m ((c : Thread nD τ).loc main_arg3) (ix2 0 (headAt t.val (lt34 t) hh)) := by
  obtain ⟨e0, e1⟩ := idx0 t
  have en := half t
  unfold lgs
  rw [← V_main_arg3 m c]
  refine congrArg (V m c main_arg3) (?_ : ((cfg0.win 0).blk t).view.emb _ = _)
  funext a; apply Fin.ext
  match a with
  | ⟨0, _⟩ => show win0_0.index t (0 : Fin 2) * 1 + 1 * 0 = 0; omega
  | ⟨1, _⟩ => show win0_0.index t (1 : Fin 2) * 8 + 1 * (4 * ((grid0.coords t) 0).val + hh.val) = 4 * (t.val / 17) + hh.val; omega

theorem at1 (r d : Fin 256) : iblk m c 1 t (ix2 r (col hh d))
    = m ((c : Thread nD τ).loc main_arg0) (ix2 (row (blkF (chunkAt t.val)) r) (Fin.castLE Retention.Reference.le_q (cq (headAt t.val (lt34 t) hh) d))) := by
  obtain ⟨e0, e1⟩ := idx1 t
  rw [← V_main_arg0 m c]
  refine congrArg (V m c main_arg0) (?_ : ((cfg0.win 1).blk t).view.emb _ = _)
  funext a; apply Fin.ext
  match a with
  | ⟨0, _⟩ => show win0_1.index t (0 : Fin 2) * 256 + 1 * r.val = (blkF (chunkAt t.val)).val * 256 + r.val; omega
  | ⟨1, _⟩ => show win0_1.index t (1 : Fin 2) * 1024 + 1 * (256 * hh.val + d.val) = (4 * (t.val / 17) + hh.val) * 256 + d.val; omega

theorem at2 (r d : Fin 256) : iblk m c 2 t (ix2 r (col hh d))
    = m ((c : Thread nD τ).loc main_arg0) (ix2 (row (blkF (chunkAt t.val)) r) (Fin.natAdd 2048 (cq (headAt t.val (lt34 t) hh) d))) := by
  obtain ⟨e0, e1⟩ := idx2 t
  rw [← V_main_arg0 m c]
  refine congrArg (V m c main_arg0) (?_ : ((cfg0.win 2).blk t).view.emb _ = _)
  funext a; apply Fin.ext
  match a with
  | ⟨0, _⟩ => show win0_2.index t (0 : Fin 2) * 256 + 1 * r.val = (blkF (chunkAt t.val)).val * 256 + r.val; omega
  | ⟨1, _⟩ => show win0_2.index t (1 : Fin 2) * 1024 + 1 * (256 * hh.val + d.val) = 2048 + ((4 * (t.val / 17) + hh.val) * 256 + d.val); omega

theorem at3 (r : Fin 256) (e : Fin 512) : iblk m c 3 t (ix2 r (colv hh e))
    = m ((c : Thread nD τ).loc main_arg1) (ix2 (row (blkF (chunkAt t.val)) r) (Fin.castLE Retention.Reference.le_v (cv (headAt t.val (lt34 t) hh) e))) := by
  obtain ⟨e0, e1⟩ := idx3 t
  rw [← V_main_arg1 m c]
  refine congrArg (V m c main_arg1) (?_ : ((cfg0.win 3).blk t).view.emb _ = _)
  funext a; apply Fin.ext
  match a with
  | ⟨0, _⟩ => show win0_3.index t (0 : Fin 2) * 256 + 1 * r.val = (blkF (chunkAt t.val)).val * 256 + r.val; omega
  | ⟨1, _⟩ => show win0_3.index t (1 : Fin 2) * 2048 + 1 * (512 * hh.val + e.val) = (4 * (t.val / 17) + hh.val) * 512 + e.val; omega

theorem at4 (r : Fin 256) (e : Fin 512) : iblk m c 4 t (ix2 r (colv hh e))
    = m ((c : Thread nD τ).loc main_arg2) (ix2 (row (blkF (chunkAt t.val)) r) (cv (headAt t.val (lt34 t) hh) e)) := by
  obtain ⟨e0, e1⟩ := idx4 t
  rw [← V_main_arg2 m c]
  refine congrArg (V m c main_arg2) (?_ : ((cfg0.win 4).blk t).view.emb _ = _)
  funext a; apply Fin.ext
  match a with
  | ⟨0, _⟩ => show win0_4.index t (0 : Fin 2) * 256 + 1 * r.val = (blkF (chunkAt t.val)).val * 256 + r.val; omega
  | ⟨1, _⟩ => show win0_4.index t (1 : Fin 2) * 2048 + 1 * (512 * hh.val + e.val) = (4 * (t.val / 17) + hh.val) * 512 + e.val; omega

theorem at5 (d : Fin 256) (e : Fin 512) : iblk m c 5 t (ix4 hh 0 d e)
    = V m c main_v40 (ix4 (headAt t.val (lt34 t) hh) (chunkAt t.val) d e) := by
  obtain ⟨e0, e1, e2, e3⟩ := idx5 t
  refine congrArg (V m c main_v40) (?_ : ((cfg0.win 5).blk t).view.emb _ = _)
  funext a; apply Fin.ext
  match a with
  | ⟨0, _⟩ => show win0_5.index t (0 : Fin 4) * 4 + 1 * hh.val = 4 * (t.val / 17) + hh.val; omega
  | ⟨1, _⟩ => show win0_5.index t (1 : Fin 4) * 1 + 1 * 0 = (chunkAt t.val).val; omega
  | ⟨2, _⟩ => show win0_5.index t (2 : Fin 4) * 256 + 1 * d.val = d.val; omega
  | ⟨3, _⟩ => show win0_5.index t (3 : Fin 4) * 512 + 1 * e.val = e.val; omega

/-! ## What the points write -/

theorem wrote6 (r d : Fin 256) : (dats m 0 c).arrAt 6 cfg0.N (ix2 (row (blkF (chunkAt t.val)) r) (cq (headAt t.val (lt34 t) hh) d))
    = (outsAt0 m c t.val t.isLt).1 (ix2 r (col hh d)) := by
  obtain ⟨e0, e1⟩ := idx6 t
  have h := congrFun (blocks6 m c t (flush0_6 t)) (ix2 r (col hh d))
  rw [flushed6] at h
  refine Eq.trans (congrArg ((dats m 0 c).arrAt 6 cfg0.N) (?_ : _ = ((cfg0.win 6).blk t).view.emb (ix2 r (col hh d)))) h
  funext a; apply Fin.ext
  match a with
  | ⟨0, _⟩ => show (blkF (chunkAt t.val)).val * 256 + r.val = win0_6.index t (0 : Fin 2) * 256 + 1 * r.val; omega
  | ⟨1, _⟩ => show (4 * (t.val / 17) + hh.val) * 256 + d.val = win0_6.index t (1 : Fin 2) * 1024 + 1 * (256 * hh.val + d.val); omega

theorem wrote7 (r d : Fin 256) : (dats m 0 c).arrAt 7 cfg0.N (ix2 (row (blkF (chunkAt t.val)) r) (cq (headAt t.val (lt34 t) hh) d))
    = (outsAt0 m c t.val t.isLt).2.1 (ix2 r (col hh d)) := by
  obtain ⟨e0, e1⟩ := idx7 t
  have h := congrFun (blocks7 m c t (flush0_7 t)) (ix2 r (col hh d))
  rw [flushed7] at h
  refine Eq.trans (congrArg ((dats m 0 c).arrAt 7 cfg0.N) (?_ : _ = ((cfg0.win 7).blk t).view.emb (ix2 r (col hh d)))) h
  funext a; apply Fin.ext
  match a with
  | ⟨0, _⟩ => show (blkF (chunkAt t.val)).val * 256 + r.val = win0_7.index t (0 : Fin 2) * 256 + 1 * r.val; omega
  | ⟨1, _⟩ => show (4 * (t.val / 17) + hh.val) * 256 + d.val = win0_7.index t (1 : Fin 2) * 1024 + 1 * (256 * hh.val + d.val); omega

theorem wrote8 (r : Fin 256) (e : Fin 512) :
    (dats m 0 c).arrAt 8 cfg0.N (ix2 (row (blkF (chunkAt t.val)) r) (cv (headAt t.val (lt34 t) hh) e))
    = (outsAt0 m c t.val t.isLt).2.2.1 (ix2 r (colv hh e)) := by
  obtain ⟨e0, e1⟩ := idx8 t
  have h := congrFun (blocks8 m c t (flush0_8 t)) (ix2 r (colv hh e))
  rw [flushed8] at h
  refine Eq.trans (congrArg ((dats m 0 c).arrAt 8 cfg0.N) (?_ : _ = ((cfg0.win 8).blk t).view.emb (ix2 r (colv hh e)))) h
  funext a; apply Fin.ext
  match a with
  | ⟨0, _⟩ => show (blkF (chunkAt t.val)).val * 256 + r.val = win0_8.index t (0 : Fin 2) * 256 + 1 * r.val; omega
  | ⟨1, _⟩ => show (4 * (t.val / 17) + hh.val) * 512 + e.val = win0_8.index t (1 : Fin 2) * 2048 + 1 * (512 * hh.val + e.val); omega

theorem disjoint9 : ∀ t t' : Fin cfg0.N, (cfg0.win 9).flush t = true → (cfg0.win 9).flush t' = true → t ≠ t' →
    Disjoint ((cfg0.win 9).blk t).view.set ((cfg0.win 9).blk t').view.set := by
  intro t t' h h' hne
  refine (cfg0.win 9).disjoint_blk fun e => hne (Fin.ext ?_)
  have e0 : win0_9.index t (0 : Fin 3) = win0_9.index t' (0 : Fin 3) := congrFun e (0 : Fin 3)
  rw [(idx9 t).1, (idx9 t').1] at e0
  have := (flush0_9 t).mp h
  have := (flush0_9 t').mp h'
  omega

theorem wrote9 (ht : t.val % 17 = 16) (x : Fin 8) (y : Fin 128) : (dats m 0 c).arrAt 9 cfg0.N (ix3 (headAt t.val (lt34 t) hh) x y)
    = (outsAt0 m c t.val t.isLt).2.2.2.1 (ix3 hh x y) := by
  obtain ⟨e0, e1, e2⟩ := idx9 t
  have h := congrFun ((dats m 0 c).read_blk_arrAt_eq_flushed 9 disjoint9 cfg0.N t t.isLt ((flush0_9 t).mpr ht)) (ix3 hh x y)
  rw [flushed9] at h
  refine Eq.trans (congrArg ((dats m 0 c).arrAt 9 cfg0.N) (?_ : _ = ((cfg0.win 9).blk t).view.emb (ix3 hh x y))) h
  funext a; apply Fin.ext
  match a with
  | ⟨0, _⟩ => show 4 * (t.val / 17) + hh.val = win0_9.index t (0 : Fin 3) * 4 + 1 * hh.val; omega
  | ⟨1, _⟩ => show x.val = win0_9.index t (1 : Fin 3) * 8 + 1 * x.val; omega
  | ⟨2, _⟩ => show y.val = win0_9.index t (2 : Fin 3) * 128 + 1 * y.val; omega

end Cert.KernelIdeal.Own
-- ==== Proof.FinalF.lean ====
/-
  The forward direction's results after the run: on real inputs, the reference's gradients.
-/
module

public import proofs.«01_k».proof.Proof.WindowsF

@[expose] public section

set_option maxRecDepth 16384

noncomputable section

namespace Cert.KernelIdeal.Own

open Cert.KernelIdeal Cert.KernelIdeal.Gen Idealize.ShloMosaic Idealize.ShloMosaic.TcCoe Idealize.SL.Sem
open Retention Retention.Head Retention.Finite
open Retention.Reference (cq cv resQ resK resV resG resQ_apply resK_apply resV_apply resG_apply timeF timeF_apply)
open Cert.KernelIdeal.Value

variable (m : (ℓ : Loc nD τ sig) → Buf (Elt Ideal) ℓ) (c : Dev nD)

/-- The launch contents of the arguments hold real numbers. -/
abbrev RealArgs : Prop := Reals (m ((c : Thread nD τ).loc main_arg0)) (m ((c : Thread nD τ).loc main_arg1)) (m ((c : Thread nD τ).loc main_arg2))
  (m ((c : Thread nD τ).loc main_arg3))

def vG (h : Fin 8) : ℝ := rG (m ((c : Thread nD τ).loc main_arg3)) h
def vQ (h : Fin 8) (i : Fin 4352) : Fin 256 → ℝ := rQ (m ((c : Thread nD τ).loc main_arg0)) i h
def vK (h : Fin 8) (i : Fin 4352) : Fin 256 → ℝ := rK (m ((c : Thread nD τ).loc main_arg0)) i h
def vV (h : Fin 8) (i : Fin 4352) : Fin 512 → ℝ := rV (m ((c : Thread nD τ).loc main_arg1)) i h
def vO (h : Fin 8) (i : Fin 4352) : Fin 512 → ℝ := rO (m ((c : Thread nD τ).loc main_arg2)) i h

variable {m c} (hr : RealArgs m c)
include hr

theorem blocks_at (t : Fin 34) (hh : Fin 4) :
    Blocks (vG m c (headAt t.val t.isLt hh)) (fun r => r.val) (rows blkF (vQ m c (headAt t.val t.isLt hh))) (rows blkF (vK m c (headAt t.val t.isLt hh)))
      (rows blkF (vV m c (headAt t.val t.isLt hh))) (rows blkF (vO m c (headAt t.val t.isLt hh))) (chunkAt t.val)
      ((grid0.coords t) 0).val ((grid0.coords t) 0).isLt (iblk m c 0 t) (iblk m c 1 t) (iblk m c 2 t) (iblk m c 3 t) (iblk m c 4 t) (iblk m c 5 t) hh where
  isG := (at0 m c t hh).trans (hr.atG _)
  isQ r d := (at1 m c t hh r d).trans (hr.atQ _ _ _)
  isK r d := (at2 m c t hh r d).trans (hr.atK _ _ _)
  isV r e := (at3 m c t hh r e).trans (hr.atV _ _ _)
  isO r e := (at4 m c t hh r e).trans (hr.atO _ _ _)
  isS d e := by
    refine (at5 m c t hh d e).trans ?_
    rw [V_states, Retention.States.states_apply timeF _ _ _ tauF (vG m c) (fun i h d => vK m c h i d) (fun i h e => vV m c h i e)
      hr.atK hr.atV layoutF.lt timeF_apply hr.atG, sum_before layoutF]

theorem walk : Walk (k0_pay3 (F := Ideal)) (k0_pay4 (F := Ideal)) (fun r => r.val) (vG m c) (fun h => rows blkF (vQ m c h)) (fun h => rows blkF (vK m c h))
    (fun h => rows blkF (vV m c h)) (fun h => rows blkF (vO m c h)) (fun t => ((grid0.coords t) 0).val) (fun t => ((grid0.coords t) 0).isLt)
    (fun t => iblk m c 0 t) (fun t => iblk m c 1 t) (fun t => iblk m c 2 t) (fun t => iblk m c 3 t) (fun t => iblk m c 4 t) (fun t => iblk m c 5 t)
    (fun t => prevS m c t) (fun t => (outsAt0 m c t.val t.isLt).2.2.2.2) (fun t => prevG m c t) (fun t => (outsAt0 m c t.val t.isLt).2.2.2.1) where
  blocks t hh := blocks_at hr t hh
  firstS t ht hh d e := by
    rw [show prevS m c t = _ from if_pos ht]
    pointwise [k0_pay1]
    simp [Ideal.ofBits_zero]
  nextS t h ht := if_neg ht
  leftS t hh d e := leftS m c t hh d e
  firstG t ht hh x y := by
    rw [show prevG m c t = _ from if_pos ht]
    pointwise [k0_pay2]
    simp [Ideal.ofBits_zero]
  nextG t h ht := if_neg ht
  leftG t hh x y := leftG m c t hh x y

theorem found (t : Fin 34) (hh : Fin 4) (d : Fin 256) (e : Fin 512) : prevS m c t (ix3 hh d e)
    = (after (vG m c (headAt t.val t.isLt hh)) (fun r => r.val) (rows blkF (vQ m c (headAt t.val t.isLt hh)))
        (rows blkF (vO m c (headAt t.val t.isLt hh))) ((chunkAt t.val).val + 1) d e : EReal) :=
  (walk hr).found orderF t.val t.isLt hh d e

omit hr in
/-- Every row and column of `q` and `k` is some point's. -/
theorem split_q (i : S4352x2048.Idx) : ∃ (t : Fin 34) (hh : Fin 4) (r d : Fin 256),
    i = ix2 (row (blkF (chunkAt t.val)) r) (cq (headAt t.val t.isLt hh) d) := by
  obtain ⟨k, r, hk⟩ := layoutF.cover (i 0)
  obtain ⟨t, hh, ht, hq⟩ := point_of k ⟨(i 1).val / 256, by have := (i 1).isLt; change (i 1).val < 2048 at this; omega⟩
  refine ⟨t, hh, r, ⟨(i 1).val % 256, by omega⟩, ?_⟩
  rw [ht, hq]
  refine (eq_ix2 i).trans (congr (congrArg ix2 hk) (Fin.ext ?_))
  simp only [cq]; omega

omit hr in
theorem split_v (i : S4352x4096.Idx) : ∃ (t : Fin 34) (hh : Fin 4) (r : Fin 256) (e : Fin 512),
    i = ix2 (row (blkF (chunkAt t.val)) r) (cv (headAt t.val t.isLt hh) e) := by
  obtain ⟨k, r, hk⟩ := layoutF.cover (i 0)
  obtain ⟨t, hh, ht, hq⟩ := point_of k ⟨(i 1).val / 512, by have := (i 1).isLt; change (i 1).val < 4096 at this; omega⟩
  refine ⟨t, hh, r, ⟨(i 1).val % 512, by omega⟩, ?_⟩
  rw [ht, hq]
  refine (eq_ix2 i).trans (congr (congrArg ix2 hk) (Fin.ext ?_))
  simp only [cv]; omega

theorem final6 : (dats m 0 c).arrAt 6 cfg0.N = resQ timeF (m ((c : Thread nD τ).loc main_arg0)) (m ((c : Thread nD τ).loc main_arg1))
    (m ((c : Thread nD τ).loc main_arg2)) (m ((c : Thread nD τ).loc main_arg3)) := by
  funext i
  obtain ⟨t, hh, r, d, rfl⟩ := split_q i
  refine (wrote6 m c t hh r d).trans ((leftQ m c t hh r d).trans ((putQ_at orderF (blocks_at hr t hh) r d).trans ?_))
  rw [resQ_apply timeF _ _ _ _ tauF _ _ _ _ hr.atK hr.atV hr.atO layoutF.lt timeF_apply hr.atG]
  exact congrArg _ (sum_gq layoutF (vG m c (headAt t.val t.isLt hh)) (vK m c (headAt t.val t.isLt hh)) (vV m c (headAt t.val t.isLt hh))
    (vO m c (headAt t.val t.isLt hh)) (chunkAt t.val) r d).symm

theorem final7 : (dats m 0 c).arrAt 7 cfg0.N = resK timeF (m ((c : Thread nD τ).loc main_arg0)) (m ((c : Thread nD τ).loc main_arg1))
    (m ((c : Thread nD τ).loc main_arg2)) (m ((c : Thread nD τ).loc main_arg3)) := by
  funext i
  obtain ⟨t, hh, r, d, rfl⟩ := split_q i
  refine (wrote7 m c t hh r d).trans ((leftK m c t hh r d).trans ((putK_at orderF (blocks_at hr t hh) (found hr t hh) r d).trans ?_))
  rw [resK_apply timeF _ _ _ _ tauF _ _ _ _ hr.atQ hr.atV hr.atO layoutF.lt timeF_apply hr.atG]
  exact congrArg _ (sum_gk layoutF (vG m c (headAt t.val t.isLt hh)) (vQ m c (headAt t.val t.isLt hh)) (vV m c (headAt t.val t.isLt hh))
    (vO m c (headAt t.val t.isLt hh)) (chunkAt t.val) r d).symm

theorem final8 : (dats m 0 c).arrAt 8 cfg0.N = resV timeF (m ((c : Thread nD τ).loc main_arg0))
    (m ((c : Thread nD τ).loc main_arg2)) (m ((c : Thread nD τ).loc main_arg3)) := by
  funext i
  obtain ⟨t, hh, r, e, rfl⟩ := split_v i
  refine (wrote8 m c t hh r e).trans ((leftV m c t hh r e).trans ((putV_at orderF (blocks_at hr t hh) (found hr t hh) r e).trans ?_))
  rw [resV_apply timeF _ _ _ tauF _ _ _ _ hr.atQ hr.atK hr.atO layoutF.lt timeF_apply hr.atG]
  exact congrArg _ (sum_gv layoutF (vG m c (headAt t.val t.isLt hh)) (vQ m c (headAt t.val t.isLt hh)) (vK m c (headAt t.val t.isLt hh))
    (vO m c (headAt t.val t.isLt hh)) (chunkAt t.val) r e).symm

theorem final9 : (dats m 0 c).arrAt 9 cfg0.N = resG timeF (m ((c : Thread nD τ).loc main_arg0)) (m ((c : Thread nD τ).loc main_arg1))
    (m ((c : Thread nD τ).loc main_arg2)) (m ((c : Thread nD τ).loc main_arg3)) := by
  funext i
  obtain ⟨t, hh, ht, hq⟩ := point_of 0 (i 0)
  have hi : i = ix3 (headAt t.val t.isLt hh) (i 1) (i 2) := by rw [hq]; exact eq_ix3 i
  have h0 : t.val % 17 = 16 := by
    have := congrArg Fin.val ht
    simp only [chunkAt] at this
    change 16 - t.val % 17 = 0 at this
    omega
  rw [hi]
  refine (wrote9 m c t hh h0 (i 1) (i 2)).trans (((walk hr).rate orderF t h0 hh (i 1) (i 2)).trans ?_)
  refine Eq.trans ?_ (resG_apply timeF _ _ _ _ tauF _ _ _ _ _ hr.atQ hr.atK hr.atV hr.atO layoutF.lt timeF_apply hr.atG _ _ _).symm
  exact congrArg _ (sum_gg layoutF (vG m c (headAt t.val t.isLt hh)) (vQ m c (headAt t.val t.isLt hh)) (vK m c (headAt t.val t.isLt hh))
    (vV m c (headAt t.val t.isLt hh)) (vO m c (headAt t.val t.isLt hh))).symm

end Cert.KernelIdeal.Own
-- ==== Proof.BodyB.lean ====
/-
  The backward direction's grid points: what each leaves in its outputs and in the carried gradient of the state, as the
  payloads of `Point`, on its blocks and on what the point before left.
-/
module

public import proofs.«01_k».proof.Proof.Point
public import proofs.«01_k».proof.Proof.Gen.Kernel2Ideal.Value

@[expose] public section

set_option maxRecDepth 16384

noncomputable section

namespace Cert.Kernel2Ideal.Own

open Idealize.SL Idealize.SL.Sem Idealize.ShloMosaic.Tactic Cert.Kernel2Ideal Cert.Kernel2Ideal.Gen Idealize.ShloMosaic Idealize.ShloMosaic.TcCoe
open Retention.Head

variable {F : FTy → Type} [FloatOps F]

theorem bodyQ_A (c : Dev nD) (i : grid0.Coords) (arg2 : Memref sig .tc .smem S1x8 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S4x1x256x512 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S4x8x128 .f32) (harg11 : arg11.IsWhole) (arg12 : Memref sig .tc .vmem S4x256x512 .f32) (harg12 : arg12.IsWhole) (hc0 : cond0_0 i)     (x0 : Vec F S1x8 .f32) (x1 : Vec F S256x1024 .bf16) (x2 : Vec F S256x1024 .bf16) (x3 : Vec F S256x2048 .bf16) (x4 : Vec F S256x2048 .bf16) (x5 : Vec F S4x1x256x512 .bf16) (hh : Fin 4) (r d : Fin 256) :
    out0_A_6 c i arg2 harg2 arg3 harg3 arg4 harg4 arg5 harg5 arg6 harg6 arg7 harg7 arg8 harg8 arg9 harg9 arg10 harg10 arg11 harg11 arg12 harg12 hc0 x0 x1 x2 x3 x4 x5 (ix2 r (Retention.Head.col hh d)) = putQ k0_pay3 k0_pay4 (i 0).val (i 0).isLt x0 x2 x3 x4 x5 hh (ix2 r d) := by
  unfold out0_A_6
  rw [View.read_writes_junk_eq_canon]
  unfold kernelRun0_A
  dsimp only
  sl_unfold_words
  simp (disch := decide) only [↓View.readCov_skip, ↓View.readCov_fill, View.readAt_eq_ld, Memref.IsWhole.read_unread]
  refine Eq.trans ?_ (canon_q (putQ k0_pay3 k0_pay4 (i 0).val (i 0).isLt x0 x2 x3 x4 x5) inb_S256x1024_S256x256_0_0 inb_S256x1024_S256x256_0_256 inb_S256x1024_S256x256_0_512 inb_S256x1024_S256x256_0_768 hh r d)
  simp only [(ld_qs x1).1, (ld_qs x1).2.1, (ld_qs x1).2.2.1, (ld_qs x1).2.2.2, (ld_qs x2).1, (ld_qs x2).2.1, (ld_qs x2).2.2.1, (ld_qs x2).2.2.2, (ld_vs x3).1, (ld_vs x3).2.1, (ld_vs x3).2.2.1, (ld_vs x3).2.2.2, (ld_vs x4).1, (ld_vs x4).2.1, (ld_vs x4).2.2.1, (ld_vs x4).2.2.2, (ld_ss x5).1, (ld_ss x5).2.1, (ld_ss x5).2.2.1, (ld_ss x5).2.2.2, (ld_ds (k0_pay1 (F := F))).1, (ld_ds (k0_pay1 (F := F))).2.1, (ld_ds (k0_pay1 (F := F))).2.2.1, (ld_ds (k0_pay1 (F := F))).2.2.2, (ld_gs (k0_pay2 (F := F))).1, (ld_gs (k0_pay2 (F := F))).2.1, (ld_gs (k0_pay2 (F := F))).2.2.1, (ld_gs (k0_pay2 (F := F))).2.2.2]
  erw [(ld_lgs x0 (i 0).val (i 0).isLt).1, (ld_lgs x0 (i 0).val (i 0).isLt).2.1, (ld_lgs x0 (i 0).val (i 0).isLt).2.2.1, (ld_lgs x0 (i 0).val (i 0).isLt).2.2.2]
  refine canon_congr ?_ ?_ ?_ ?_ _
  · rfl
  · rfl
  · rfl
  · rfl

theorem bodyQ_B (c : Dev nD) (i : grid0.Coords) (arg2 : Memref sig .tc .smem S1x8 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S4x1x256x512 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S4x8x128 .f32) (harg11 : arg11.IsWhole) (arg12 : Memref sig .tc .vmem S4x256x512 .f32) (harg12 : arg12.IsWhole) (hc0 : ¬cond0_0 i)     (x0 : Vec F S1x8 .f32) (x1 : Vec F S256x1024 .bf16) (x2 : Vec F S256x1024 .bf16) (x3 : Vec F S256x2048 .bf16) (x4 : Vec F S256x2048 .bf16) (x5 : Vec F S4x1x256x512 .bf16) (xo9 : Vec F S4x8x128 .f32) (xs0 : Vec F S4x256x512 .f32) (hh : Fin 4) (r d : Fin 256) :
    out0_B_6 c i arg2 harg2 arg3 harg3 arg4 harg4 arg5 harg5 arg6 harg6 arg7 harg7 arg8 harg8 arg9 harg9 arg10 harg10 arg11 harg11 arg12 harg12 hc0 x0 x1 x2 x3 x4 x5 xo9 xs0 (ix2 r (Retention.Head.col hh d)) = putQ k0_pay3 k0_pay4 (i 0).val (i 0).isLt x0 x2 x3 x4 x5 hh (ix2 r d) := by
  unfold out0_B_6
  rw [View.read_writes_junk_eq_canon]
  unfold kernelRun0_B
  dsimp only
  sl_unfold_words
  simp only [View.readAt_eq_ld, Memref.IsWhole.read_unread]
  refine Eq.trans ?_ (canon_q (putQ k0_pay3 k0_pay4 (i 0).val (i 0).isLt x0 x2 x3 x4 x5) inb_S256x1024_S256x256_0_0 inb_S256x1024_S256x256_0_256 inb_S256x1024_S256x256_0_512 inb_S256x1024_S256x256_0_768 hh r d)
  simp only [(ld_qs x1).1, (ld_qs x1).2.1, (ld_qs x1).2.2.1, (ld_qs x1).2.2.2, (ld_qs x2).1, (ld_qs x2).2.1, (ld_qs x2).2.2.1, (ld_qs x2).2.2.2, (ld_vs x3).1, (ld_vs x3).2.1, (ld_vs x3).2.2.1, (ld_vs x3).2.2.2, (ld_vs x4).1, (ld_vs x4).2.1, (ld_vs x4).2.2.1, (ld_vs x4).2.2.2, (ld_ss x5).1, (ld_ss x5).2.1, (ld_ss x5).2.2.1, (ld_ss x5).2.2.2, (ld_ds xs0).1, (ld_ds xs0).2.1, (ld_ds xs0).2.2.1, (ld_ds xs0).2.2.2, (ld_gs xo9).1, (ld_gs xo9).2.1, (ld_gs xo9).2.2.1, (ld_gs xo9).2.2.2]
  erw [(ld_lgs x0 (i 0).val (i 0).isLt).1, (ld_lgs x0 (i 0).val (i 0).isLt).2.1, (ld_lgs x0 (i 0).val (i 0).isLt).2.2.1, (ld_lgs x0 (i 0).val (i 0).isLt).2.2.2]
  refine canon_congr ?_ ?_ ?_ ?_ _
  · rfl
  · rfl
  · rfl
  · rfl

theorem bodyK_A (c : Dev nD) (i : grid0.Coords) (arg2 : Memref sig .tc .smem S1x8 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S4x1x256x512 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S4x8x128 .f32) (harg11 : arg11.IsWhole) (arg12 : Memref sig .tc .vmem S4x256x512 .f32) (harg12 : arg12.IsWhole) (hc0 : cond0_0 i)     (x0 : Vec F S1x8 .f32) (x1 : Vec F S256x1024 .bf16) (x2 : Vec F S256x1024 .bf16) (x3 : Vec F S256x2048 .bf16) (x4 : Vec F S256x2048 .bf16) (x5 : Vec F S4x1x256x512 .bf16) (hh : Fin 4) (r d : Fin 256) :
    out0_A_7 c i arg2 harg2 arg3 harg3 arg4 harg4 arg5 harg5 arg6 harg6 arg7 harg7 arg8 harg8 arg9 harg9 arg10 harg10 arg11 harg11 arg12 harg12 hc0 x0 x1 x2 x3 x4 x5 (ix2 r (Retention.Head.col hh d)) = putK k0_pay3 k0_pay4 (i 0).val (i 0).isLt x0 x1 x3 x4 k0_pay1 hh (ix2 r d) := by
  unfold out0_A_7
  rw [View.read_writes_junk_eq_canon]
  unfold kernelRun0_A
  dsimp only
  sl_unfold_words
  simp (disch := decide) only [↓View.readCov_skip, ↓View.readCov_fill, View.readAt_eq_ld, Memref.IsWhole.read_unread]
  refine Eq.trans ?_ (canon_q (putK k0_pay3 k0_pay4 (i 0).val (i 0).isLt x0 x1 x3 x4 k0_pay1) inb_S256x1024_S256x256_0_0 inb_S256x1024_S256x256_0_256 inb_S256x1024_S256x256_0_512 inb_S256x1024_S256x256_0_768 hh r d)
  simp only [(ld_qs x1).1, (ld_qs x1).2.1, (ld_qs x1).2.2.1, (ld_qs x1).2.2.2, (ld_qs x2).1, (ld_qs x2).2.1, (ld_qs x2).2.2.1, (ld_qs x2).2.2.2, (ld_vs x3).1, (ld_vs x3).2.1, (ld_vs x3).2.2.1, (ld_vs x3).2.2.2, (ld_vs x4).1, (ld_vs x4).2.1, (ld_vs x4).2.2.1, (ld_vs x4).2.2.2, (ld_ss x5).1, (ld_ss x5).2.1, (ld_ss x5).2.2.1, (ld_ss x5).2.2.2, (ld_ds (k0_pay1 (F := F))).1, (ld_ds (k0_pay1 (F := F))).2.1, (ld_ds (k0_pay1 (F := F))).2.2.1, (ld_ds (k0_pay1 (F := F))).2.2.2, (ld_gs (k0_pay2 (F := F))).1, (ld_gs (k0_pay2 (F := F))).2.1, (ld_gs (k0_pay2 (F := F))).2.2.1, (ld_gs (k0_pay2 (F := F))).2.2.2]
  erw [(ld_lgs x0 (i 0).val (i 0).isLt).1, (ld_lgs x0 (i 0).val (i 0).isLt).2.1, (ld_lgs x0 (i 0).val (i 0).isLt).2.2.1, (ld_lgs x0 (i 0).val (i 0).isLt).2.2.2]
  refine canon_congr ?_ ?_ ?_ ?_ _
  · rfl
  · rfl
  · rfl
  · rfl

theorem bodyK_B (c : Dev nD) (i : grid0.Coords) (arg2 : Memref sig .tc .smem S1x8 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S4x1x256x512 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S4x8x128 .f32) (harg11 : arg11.IsWhole) (arg12 : Memref sig .tc .vmem S4x256x512 .f32) (harg12 : arg12.IsWhole) (hc0 : ¬cond0_0 i)     (x0 : Vec F S1x8 .f32) (x1 : Vec F S256x1024 .bf16) (x2 : Vec F S256x1024 .bf16) (x3 : Vec F S256x2048 .bf16) (x4 : Vec F S256x2048 .bf16) (x5 : Vec F S4x1x256x512 .bf16) (xo9 : Vec F S4x8x128 .f32) (xs0 : Vec F S4x256x512 .f32) (hh : Fin 4) (r d : Fin 256) :
    out0_B_7 c i arg2 harg2 arg3 harg3 arg4 harg4 arg5 harg5 arg6 harg6 arg7 harg7 arg8 harg8 arg9 harg9 arg10 harg10 arg11 harg11 arg12 harg12 hc0 x0 x1 x2 x3 x4 x5 xo9 xs0 (ix2 r (Retention.Head.col hh d)) = putK k0_pay3 k0_pay4 (i 0).val (i 0).isLt x0 x1 x3 x4 xs0 hh (ix2 r d) := by
  unfold out0_B_7
  rw [View.read_writes_junk_eq_canon]
  unfold kernelRun0_B
  dsimp only
  sl_unfold_words
  simp only [View.readAt_eq_ld, Memref.IsWhole.read_unread]
  refine Eq.trans ?_ (canon_q (putK k0_pay3 k0_pay4 (i 0).val (i 0).isLt x0 x1 x3 x4 xs0) inb_S256x1024_S256x256_0_0 inb_S256x1024_S256x256_0_256 inb_S256x1024_S256x256_0_512 inb_S256x1024_S256x256_0_768 hh r d)
  simp only [(ld_qs x1).1, (ld_qs x1).2.1, (ld_qs x1).2.2.1, (ld_qs x1).2.2.2, (ld_qs x2).1, (ld_qs x2).2.1, (ld_qs x2).2.2.1, (ld_qs x2).2.2.2, (ld_vs x3).1, (ld_vs x3).2.1, (ld_vs x3).2.2.1, (ld_vs x3).2.2.2, (ld_vs x4).1, (ld_vs x4).2.1, (ld_vs x4).2.2.1, (ld_vs x4).2.2.2, (ld_ss x5).1, (ld_ss x5).2.1, (ld_ss x5).2.2.1, (ld_ss x5).2.2.2, (ld_ds xs0).1, (ld_ds xs0).2.1, (ld_ds xs0).2.2.1, (ld_ds xs0).2.2.2, (ld_gs xo9).1, (ld_gs xo9).2.1, (ld_gs xo9).2.2.1, (ld_gs xo9).2.2.2]
  erw [(ld_lgs x0 (i 0).val (i 0).isLt).1, (ld_lgs x0 (i 0).val (i 0).isLt).2.1, (ld_lgs x0 (i 0).val (i 0).isLt).2.2.1, (ld_lgs x0 (i 0).val (i 0).isLt).2.2.2]
  refine canon_congr ?_ ?_ ?_ ?_ _
  · rfl
  · rfl
  · rfl
  · rfl

theorem bodyV_A (c : Dev nD) (i : grid0.Coords) (arg2 : Memref sig .tc .smem S1x8 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S4x1x256x512 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S4x8x128 .f32) (harg11 : arg11.IsWhole) (arg12 : Memref sig .tc .vmem S4x256x512 .f32) (harg12 : arg12.IsWhole) (hc0 : cond0_0 i)     (x0 : Vec F S1x8 .f32) (x1 : Vec F S256x1024 .bf16) (x2 : Vec F S256x1024 .bf16) (x3 : Vec F S256x2048 .bf16) (x4 : Vec F S256x2048 .bf16) (x5 : Vec F S4x1x256x512 .bf16) (hh : Fin 4) (r : Fin 256) (d : Fin 512) :
    out0_A_8 c i arg2 harg2 arg3 harg3 arg4 harg4 arg5 harg5 arg6 harg6 arg7 harg7 arg8 harg8 arg9 harg9 arg10 harg10 arg11 harg11 arg12 harg12 hc0 x0 x1 x2 x3 x4 x5 (ix2 r (Retention.Head.colv hh d)) = putV k0_pay3 k0_pay4 (i 0).val (i 0).isLt x0 x1 x2 x4 k0_pay1 hh (ix2 r d) := by
  unfold out0_A_8
  rw [View.read_writes_junk_eq_canon]
  unfold kernelRun0_A
  dsimp only
  sl_unfold_words
  simp (disch := decide) only [↓View.readCov_skip, ↓View.readCov_fill, View.readAt_eq_ld, Memref.IsWhole.read_unread]
  refine Eq.trans ?_ (canon_v (putV k0_pay3 k0_pay4 (i 0).val (i 0).isLt x0 x1 x2 x4 k0_pay1) inb_S256x2048_S256x512_0_0 inb_S256x2048_S256x512_0_512 inb_S256x2048_S256x512_0_1024 inb_S256x2048_S256x512_0_1536 hh r d)
  simp only [(ld_qs x1).1, (ld_qs x1).2.1, (ld_qs x1).2.2.1, (ld_qs x1).2.2.2, (ld_qs x2).1, (ld_qs x2).2.1, (ld_qs x2).2.2.1, (ld_qs x2).2.2.2, (ld_vs x3).1, (ld_vs x3).2.1, (ld_vs x3).2.2.1, (ld_vs x3).2.2.2, (ld_vs x4).1, (ld_vs x4).2.1, (ld_vs x4).2.2.1, (ld_vs x4).2.2.2, (ld_ss x5).1, (ld_ss x5).2.1, (ld_ss x5).2.2.1, (ld_ss x5).2.2.2, (ld_ds (k0_pay1 (F := F))).1, (ld_ds (k0_pay1 (F := F))).2.1, (ld_ds (k0_pay1 (F := F))).2.2.1, (ld_ds (k0_pay1 (F := F))).2.2.2, (ld_gs (k0_pay2 (F := F))).1, (ld_gs (k0_pay2 (F := F))).2.1, (ld_gs (k0_pay2 (F := F))).2.2.1, (ld_gs (k0_pay2 (F := F))).2.2.2]
  erw [(ld_lgs x0 (i 0).val (i 0).isLt).1, (ld_lgs x0 (i 0).val (i 0).isLt).2.1, (ld_lgs x0 (i 0).val (i 0).isLt).2.2.1, (ld_lgs x0 (i 0).val (i 0).isLt).2.2.2]
  refine canon_congr ?_ ?_ ?_ ?_ _
  · rfl
  · rfl
  · rfl
  · rfl

theorem bodyV_B (c : Dev nD) (i : grid0.Coords) (arg2 : Memref sig .tc .smem S1x8 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S4x1x256x512 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S4x8x128 .f32) (harg11 : arg11.IsWhole) (arg12 : Memref sig .tc .vmem S4x256x512 .f32) (harg12 : arg12.IsWhole) (hc0 : ¬cond0_0 i)     (x0 : Vec F S1x8 .f32) (x1 : Vec F S256x1024 .bf16) (x2 : Vec F S256x1024 .bf16) (x3 : Vec F S256x2048 .bf16) (x4 : Vec F S256x2048 .bf16) (x5 : Vec F S4x1x256x512 .bf16) (xo9 : Vec F S4x8x128 .f32) (xs0 : Vec F S4x256x512 .f32) (hh : Fin 4) (r : Fin 256) (d : Fin 512) :
    out0_B_8 c i arg2 harg2 arg3 harg3 arg4 harg4 arg5 harg5 arg6 harg6 arg7 harg7 arg8 harg8 arg9 harg9 arg10 harg10 arg11 harg11 arg12 harg12 hc0 x0 x1 x2 x3 x4 x5 xo9 xs0 (ix2 r (Retention.Head.colv hh d)) = putV k0_pay3 k0_pay4 (i 0).val (i 0).isLt x0 x1 x2 x4 xs0 hh (ix2 r d) := by
  unfold out0_B_8
  rw [View.read_writes_junk_eq_canon]
  unfold kernelRun0_B
  dsimp only
  sl_unfold_words
  simp only [View.readAt_eq_ld, Memref.IsWhole.read_unread]
  refine Eq.trans ?_ (canon_v (putV k0_pay3 k0_pay4 (i 0).val (i 0).isLt x0 x1 x2 x4 xs0) inb_S256x2048_S256x512_0_0 inb_S256x2048_S256x512_0_512 inb_S256x2048_S256x512_0_1024 inb_S256x2048_S256x512_0_1536 hh r d)
  simp only [(ld_qs x1).1, (ld_qs x1).2.1, (ld_qs x1).2.2.1, (ld_qs x1).2.2.2, (ld_qs x2).1, (ld_qs x2).2.1, (ld_qs x2).2.2.1, (ld_qs x2).2.2.2, (ld_vs x3).1, (ld_vs x3).2.1, (ld_vs x3).2.2.1, (ld_vs x3).2.2.2, (ld_vs x4).1, (ld_vs x4).2.1, (ld_vs x4).2.2.1, (ld_vs x4).2.2.2, (ld_ss x5).1, (ld_ss x5).2.1, (ld_ss x5).2.2.1, (ld_ss x5).2.2.2, (ld_ds xs0).1, (ld_ds xs0).2.1, (ld_ds xs0).2.2.1, (ld_ds xs0).2.2.2, (ld_gs xo9).1, (ld_gs xo9).2.1, (ld_gs xo9).2.2.1, (ld_gs xo9).2.2.2]
  erw [(ld_lgs x0 (i 0).val (i 0).isLt).1, (ld_lgs x0 (i 0).val (i 0).isLt).2.1, (ld_lgs x0 (i 0).val (i 0).isLt).2.2.1, (ld_lgs x0 (i 0).val (i 0).isLt).2.2.2]
  refine canon_congr ?_ ?_ ?_ ?_ _
  · rfl
  · rfl
  · rfl
  · rfl

theorem bodyG_A (c : Dev nD) (i : grid0.Coords) (arg2 : Memref sig .tc .smem S1x8 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S4x1x256x512 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S4x8x128 .f32) (harg11 : arg11.IsWhole) (arg12 : Memref sig .tc .vmem S4x256x512 .f32) (harg12 : arg12.IsWhole) (hc0 : cond0_0 i)     (x0 : Vec F S1x8 .f32) (x1 : Vec F S256x1024 .bf16) (x2 : Vec F S256x1024 .bf16) (x3 : Vec F S256x2048 .bf16) (x4 : Vec F S256x2048 .bf16) (x5 : Vec F S4x1x256x512 .bf16) (hh : Fin 4) (r : Fin 8) (d : Fin 128) :
    out0_A_9 c i arg2 harg2 arg3 harg3 arg4 harg4 arg5 harg5 arg6 harg6 arg7 harg7 arg8 harg8 arg9 harg9 arg10 harg10 arg11 harg11 arg12 harg12 hc0 x0 x1 x2 x3 x4 x5 (ix3 hh r d) = putG k0_pay3 k0_pay4 (i 0).val (i 0).isLt x0 x1 x2 x3 x4 x5 k0_pay1 k0_pay2 hh (ix3 0 r d) := by
  unfold out0_A_9
  rw [View.read_writes_junk_eq_canon]
  unfold kernelRun0_A
  dsimp only
  sl_unfold_words
  simp (disch := decide) only [↓View.readCov_skip, ↓View.readCov_fill, View.readAt_eq_ld, Memref.IsWhole.read_unread]
  refine Eq.trans ?_ (canon_g (putG k0_pay3 k0_pay4 (i 0).val (i 0).isLt x0 x1 x2 x3 x4 x5 k0_pay1 k0_pay2) inb_S4x8x128_S1x8x128_0_0_0 inb_S4x8x128_S1x8x128_1_0_0 inb_S4x8x128_S1x8x128_2_0_0 inb_S4x8x128_S1x8x128_3_0_0 [⟨Rect.unit ![0, 0, 0] ![4, 8, 128] inb_S4x8x128_S4x8x128_0_0_0, k0_pay2⟩] hh r d)
  simp only [(ld_qs x1).1, (ld_qs x1).2.1, (ld_qs x1).2.2.1, (ld_qs x1).2.2.2, (ld_qs x2).1, (ld_qs x2).2.1, (ld_qs x2).2.2.1, (ld_qs x2).2.2.2, (ld_vs x3).1, (ld_vs x3).2.1, (ld_vs x3).2.2.1, (ld_vs x3).2.2.2, (ld_vs x4).1, (ld_vs x4).2.1, (ld_vs x4).2.2.1, (ld_vs x4).2.2.2, (ld_ss x5).1, (ld_ss x5).2.1, (ld_ss x5).2.2.1, (ld_ss x5).2.2.2, (ld_ds (k0_pay1 (F := F))).1, (ld_ds (k0_pay1 (F := F))).2.1, (ld_ds (k0_pay1 (F := F))).2.2.1, (ld_ds (k0_pay1 (F := F))).2.2.2, (ld_gs (k0_pay2 (F := F))).1, (ld_gs (k0_pay2 (F := F))).2.1, (ld_gs (k0_pay2 (F := F))).2.2.1, (ld_gs (k0_pay2 (F := F))).2.2.2]
  erw [(ld_lgs x0 (i 0).val (i 0).isLt).1, (ld_lgs x0 (i 0).val (i 0).isLt).2.1, (ld_lgs x0 (i 0).val (i 0).isLt).2.2.1, (ld_lgs x0 (i 0).val (i 0).isLt).2.2.2]
  refine canon_congr ?_ ?_ ?_ ?_ _
  · rfl
  · rfl
  · rfl
  · rfl

theorem bodyG_B (c : Dev nD) (i : grid0.Coords) (arg2 : Memref sig .tc .smem S1x8 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S4x1x256x512 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S4x8x128 .f32) (harg11 : arg11.IsWhole) (arg12 : Memref sig .tc .vmem S4x256x512 .f32) (harg12 : arg12.IsWhole) (hc0 : ¬cond0_0 i)     (x0 : Vec F S1x8 .f32) (x1 : Vec F S256x1024 .bf16) (x2 : Vec F S256x1024 .bf16) (x3 : Vec F S256x2048 .bf16) (x4 : Vec F S256x2048 .bf16) (x5 : Vec F S4x1x256x512 .bf16) (xo9 : Vec F S4x8x128 .f32) (xs0 : Vec F S4x256x512 .f32) (hh : Fin 4) (r : Fin 8) (d : Fin 128) :
    out0_B_9 c i arg2 harg2 arg3 harg3 arg4 harg4 arg5 harg5 arg6 harg6 arg7 harg7 arg8 harg8 arg9 harg9 arg10 harg10 arg11 harg11 arg12 harg12 hc0 x0 x1 x2 x3 x4 x5 xo9 xs0 (ix3 hh r d) = putG k0_pay3 k0_pay4 (i 0).val (i 0).isLt x0 x1 x2 x3 x4 x5 xs0 xo9 hh (ix3 0 r d) := by
  unfold out0_B_9
  rw [View.read_writes_junk_eq_canon]
  unfold kernelRun0_B
  dsimp only
  sl_unfold_words
  simp only [View.readAt_eq_ld, Memref.IsWhole.read_unread]
  refine Eq.trans ?_ (canon_g (putG k0_pay3 k0_pay4 (i 0).val (i 0).isLt x0 x1 x2 x3 x4 x5 xs0 xo9) inb_S4x8x128_S1x8x128_0_0_0 inb_S4x8x128_S1x8x128_1_0_0 inb_S4x8x128_S1x8x128_2_0_0 inb_S4x8x128_S1x8x128_3_0_0 [] hh r d)
  simp only [(ld_qs x1).1, (ld_qs x1).2.1, (ld_qs x1).2.2.1, (ld_qs x1).2.2.2, (ld_qs x2).1, (ld_qs x2).2.1, (ld_qs x2).2.2.1, (ld_qs x2).2.2.2, (ld_vs x3).1, (ld_vs x3).2.1, (ld_vs x3).2.2.1, (ld_vs x3).2.2.2, (ld_vs x4).1, (ld_vs x4).2.1, (ld_vs x4).2.2.1, (ld_vs x4).2.2.2, (ld_ss x5).1, (ld_ss x5).2.1, (ld_ss x5).2.2.1, (ld_ss x5).2.2.2, (ld_ds xs0).1, (ld_ds xs0).2.1, (ld_ds xs0).2.2.1, (ld_ds xs0).2.2.2, (ld_gs xo9).1, (ld_gs xo9).2.1, (ld_gs xo9).2.2.1, (ld_gs xo9).2.2.2]
  erw [(ld_lgs x0 (i 0).val (i 0).isLt).1, (ld_lgs x0 (i 0).val (i 0).isLt).2.1, (ld_lgs x0 (i 0).val (i 0).isLt).2.2.1, (ld_lgs x0 (i 0).val (i 0).isLt).2.2.2]
  refine canon_congr ?_ ?_ ?_ ?_ _
  · rfl
  · rfl
  · rfl
  · rfl

theorem bodyS_A (c : Dev nD) (i : grid0.Coords) (arg2 : Memref sig .tc .smem S1x8 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S4x1x256x512 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S4x8x128 .f32) (harg11 : arg11.IsWhole) (arg12 : Memref sig .tc .vmem S4x256x512 .f32) (harg12 : arg12.IsWhole) (hc0 : cond0_0 i)     (x0 : Vec F S1x8 .f32) (x1 : Vec F S256x1024 .bf16) (x2 : Vec F S256x1024 .bf16) (x3 : Vec F S256x2048 .bf16) (x4 : Vec F S256x2048 .bf16) (x5 : Vec F S4x1x256x512 .bf16) (hh : Fin 4) (r : Fin 256) (d : Fin 512) :
    sout0_A_0 c i arg2 harg2 arg3 harg3 arg4 harg4 arg5 harg5 arg6 harg6 arg7 harg7 arg8 harg8 arg9 harg9 arg10 harg10 arg11 harg11 arg12 harg12 hc0 x0 x1 x2 x3 x4 x5 (ix3 hh r d) = putS k0_pay4 (i 0).val (i 0).isLt x0 x1 x4 k0_pay1 hh (ix3 0 r d) := by
  unfold sout0_A_0
  rw [View.read_writes_junk_eq_canon]
  unfold kernelRun0_A
  dsimp only
  sl_unfold_words
  simp (disch := decide) only [↓View.readCov_skip, ↓View.readCov_fill, View.readAt_eq_ld, Memref.IsWhole.read_unread]
  refine Eq.trans ?_ (canon_d (putS k0_pay4 (i 0).val (i 0).isLt x0 x1 x4 k0_pay1) inb_S4x256x512_S1x256x512_0_0_0 inb_S4x256x512_S1x256x512_1_0_0 inb_S4x256x512_S1x256x512_2_0_0 inb_S4x256x512_S1x256x512_3_0_0 [⟨Rect.unit ![0, 0, 0] ![4, 256, 512] inb_S4x256x512_S4x256x512_0_0_0, k0_pay1⟩] hh r d)
  simp only [(ld_qs x1).1, (ld_qs x1).2.1, (ld_qs x1).2.2.1, (ld_qs x1).2.2.2, (ld_qs x2).1, (ld_qs x2).2.1, (ld_qs x2).2.2.1, (ld_qs x2).2.2.2, (ld_vs x3).1, (ld_vs x3).2.1, (ld_vs x3).2.2.1, (ld_vs x3).2.2.2, (ld_vs x4).1, (ld_vs x4).2.1, (ld_vs x4).2.2.1, (ld_vs x4).2.2.2, (ld_ss x5).1, (ld_ss x5).2.1, (ld_ss x5).2.2.1, (ld_ss x5).2.2.2, (ld_ds (k0_pay1 (F := F))).1, (ld_ds (k0_pay1 (F := F))).2.1, (ld_ds (k0_pay1 (F := F))).2.2.1, (ld_ds (k0_pay1 (F := F))).2.2.2, (ld_gs (k0_pay2 (F := F))).1, (ld_gs (k0_pay2 (F := F))).2.1, (ld_gs (k0_pay2 (F := F))).2.2.1, (ld_gs (k0_pay2 (F := F))).2.2.2]
  erw [(ld_lgs x0 (i 0).val (i 0).isLt).1, (ld_lgs x0 (i 0).val (i 0).isLt).2.1, (ld_lgs x0 (i 0).val (i 0).isLt).2.2.1, (ld_lgs x0 (i 0).val (i 0).isLt).2.2.2]
  refine canon_congr ?_ ?_ ?_ ?_ _
  · rfl
  · rfl
  · rfl
  · rfl

theorem bodyS_B (c : Dev nD) (i : grid0.Coords) (arg2 : Memref sig .tc .smem S1x8 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S4x1x256x512 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x2048 .bf16) (harg10 : arg10.IsWhole) (arg11 : Memref sig .tc .vmem S4x8x128 .f32) (harg11 : arg11.IsWhole) (arg12 : Memref sig .tc .vmem S4x256x512 .f32) (harg12 : arg12.IsWhole) (hc0 : ¬cond0_0 i)     (x0 : Vec F S1x8 .f32) (x1 : Vec F S256x1024 .bf16) (x2 : Vec F S256x1024 .bf16) (x3 : Vec F S256x2048 .bf16) (x4 : Vec F S256x2048 .bf16) (x5 : Vec F S4x1x256x512 .bf16) (xo9 : Vec F S4x8x128 .f32) (xs0 : Vec F S4x256x512 .f32) (hh : Fin 4) (r : Fin 256) (d : Fin 512) :
    sout0_B_0 c i arg2 harg2 arg3 harg3 arg4 harg4 arg5 harg5 arg6 harg6 arg7 harg7 arg8 harg8 arg9 harg9 arg10 harg10 arg11 harg11 arg12 harg12 hc0 x0 x1 x2 x3 x4 x5 xo9 xs0 (ix3 hh r d) = putS k0_pay4 (i 0).val (i 0).isLt x0 x1 x4 xs0 hh (ix3 0 r d) := by
  unfold sout0_B_0
  rw [View.read_writes_junk_eq_canon]
  unfold kernelRun0_B
  dsimp only
  sl_unfold_words
  simp only [View.readAt_eq_ld, Memref.IsWhole.read_unread]
  refine Eq.trans ?_ (canon_d (putS k0_pay4 (i 0).val (i 0).isLt x0 x1 x4 xs0) inb_S4x256x512_S1x256x512_0_0_0 inb_S4x256x512_S1x256x512_1_0_0 inb_S4x256x512_S1x256x512_2_0_0 inb_S4x256x512_S1x256x512_3_0_0 [] hh r d)
  simp only [(ld_qs x1).1, (ld_qs x1).2.1, (ld_qs x1).2.2.1, (ld_qs x1).2.2.2, (ld_qs x2).1, (ld_qs x2).2.1, (ld_qs x2).2.2.1, (ld_qs x2).2.2.2, (ld_vs x3).1, (ld_vs x3).2.1, (ld_vs x3).2.2.1, (ld_vs x3).2.2.2, (ld_vs x4).1, (ld_vs x4).2.1, (ld_vs x4).2.2.1, (ld_vs x4).2.2.2, (ld_ss x5).1, (ld_ss x5).2.1, (ld_ss x5).2.2.1, (ld_ss x5).2.2.2, (ld_ds xs0).1, (ld_ds xs0).2.1, (ld_ds xs0).2.2.1, (ld_ds xs0).2.2.2, (ld_gs xo9).1, (ld_gs xo9).2.1, (ld_gs xo9).2.2.1, (ld_gs xo9).2.2.2]
  erw [(ld_lgs x0 (i 0).val (i 0).isLt).1, (ld_lgs x0 (i 0).val (i 0).isLt).2.1, (ld_lgs x0 (i 0).val (i 0).isLt).2.2.1, (ld_lgs x0 (i 0).val (i 0).isLt).2.2.2]
  refine canon_congr ?_ ?_ ?_ ?_ _
  · rfl
  · rfl
  · rfl
  · rfl

variable (m : (ℓ : Loc nD τ sig) → Buf (Elt F) ℓ) (c : Dev nD) (t : Fin cfg0.N)

/-- What the point before left of the gradient of the state; nothing at the first point of a half. -/
def prevS : Vec F S4x256x512 .f32 :=
  if t.val % 17 = 0 then k0_pay1 else (outsAt0 m c (t.val - 1) (Nat.lt_of_le_of_lt (Nat.sub_le _ _) t.isLt)).2.2.2.2
/-- What the point before left of the gradient of the decay rates; nothing at the first point of a half. -/
def prevG : Vec F S4x8x128 .f32 :=
  if t.val % 17 = 0 then k0_pay2 else (outsAt0 m c (t.val - 1) (Nat.lt_of_le_of_lt (Nat.sub_le _ _) t.isLt)).2.2.2.1

theorem leftQ (hh : Fin 4) (r d : Fin 256) :
    (outsAt0 m c t.val t.isLt).1 (ix2 r (Retention.Head.col hh d)) = putQ k0_pay3 k0_pay4 ((grid0.coords t) 0).val ((grid0.coords t) 0).isLt (iblk m c 0 t) (iblk m c 2 t) (iblk m c 3 t) (iblk m c 4 t) (iblk m c 5 t) hh (ix2 r d) := by
  by_cases h0 : t.val % 17 = 0
  · rw [outsAt0_A m c t h0]
    dsimp only
    exact bodyQ_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) hh r d
  · rw [outsAt0_B m c t h0]
    dsimp only
    exact bodyQ_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 hh r d

theorem leftK (hh : Fin 4) (r d : Fin 256) :
    (outsAt0 m c t.val t.isLt).2.1 (ix2 r (Retention.Head.col hh d)) = putK k0_pay3 k0_pay4 ((grid0.coords t) 0).val ((grid0.coords t) 0).isLt (iblk m c 0 t) (iblk m c 1 t) (iblk m c 3 t) (iblk m c 4 t) (prevS m c t) hh (ix2 r d) := by
  by_cases h0 : t.val % 17 = 0
  · rw [outsAt0_A m c t h0]; rw [show prevS m c t = _ from if_pos h0]
    dsimp only
    exact bodyK_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) hh r d
  · rw [outsAt0_B m c t h0]; rw [show prevS m c t = _ from if_neg h0]
    dsimp only
    exact bodyK_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 hh r d

theorem leftV (hh : Fin 4) (r : Fin 256) (d : Fin 512) :
    (outsAt0 m c t.val t.isLt).2.2.1 (ix2 r (Retention.Head.colv hh d)) = putV k0_pay3 k0_pay4 ((grid0.coords t) 0).val ((grid0.coords t) 0).isLt (iblk m c 0 t) (iblk m c 1 t) (iblk m c 2 t) (iblk m c 4 t) (prevS m c t) hh (ix2 r d) := by
  by_cases h0 : t.val % 17 = 0
  · rw [outsAt0_A m c t h0]; rw [show prevS m c t = _ from if_pos h0]
    dsimp only
    exact bodyV_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) hh r d
  · rw [outsAt0_B m c t h0]; rw [show prevS m c t = _ from if_neg h0]
    dsimp only
    exact bodyV_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 hh r d

theorem leftG (hh : Fin 4) (r : Fin 8) (d : Fin 128) :
    (outsAt0 m c t.val t.isLt).2.2.2.1 (ix3 hh r d) = putG k0_pay3 k0_pay4 ((grid0.coords t) 0).val ((grid0.coords t) 0).isLt (iblk m c 0 t) (iblk m c 1 t) (iblk m c 2 t) (iblk m c 3 t) (iblk m c 4 t) (iblk m c 5 t) (prevS m c t) (prevG m c t) hh (ix3 0 r d) := by
  by_cases h0 : t.val % 17 = 0
  · rw [outsAt0_A m c t h0]; rw [show prevS m c t = _ from if_pos h0, show prevG m c t = _ from if_pos h0]
    dsimp only
    exact bodyG_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) hh r d
  · rw [outsAt0_B m c t h0]; rw [show prevS m c t = _ from if_neg h0, show prevG m c t = _ from if_neg h0]
    dsimp only
    exact bodyG_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 hh r d

theorem leftS (hh : Fin 4) (r : Fin 256) (d : Fin 512) :
    (outsAt0 m c t.val t.isLt).2.2.2.2 (ix3 hh r d) = putS k0_pay4 ((grid0.coords t) 0).val ((grid0.coords t) 0).isLt (iblk m c 0 t) (iblk m c 1 t) (iblk m c 4 t) (prevS m c t) hh (ix3 0 r d) := by
  by_cases h0 : t.val % 17 = 0
  · rw [outsAt0_A m c t h0]; rw [show prevS m c t = _ from if_pos h0]
    dsimp only
    exact bodyS_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) hh r d
  · rw [outsAt0_B m c t h0]; rw [show prevS m c t = _ from if_neg h0]
    dsimp only
    exact bodyS_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 hh r d

end Cert.Kernel2Ideal.Own
-- ==== Proof.HostB.lean ====
/-
  The buffer of the states as the region finds it: the states of the other direction's times.
-/
module

public import proofs.«01_k».proof.Proof.Gen.Kernel2Ideal.Frame.Runs
public import proofs.«01_k».proof.Proof.States

@[expose] public section

set_option maxRecDepth 16384

noncomputable section

namespace Cert.Kernel2Ideal.Own

open Cert.Kernel2Ideal Cert.Kernel2Ideal.Gen Idealize.ShloMosaic Idealize.ShloMosaic.TcCoe Idealize.SL.Sem
open StableHlo

variable (m : (ℓ : Loc nD τ sig) → Buf (Elt Ideal) ℓ)

set_option maxHeartbeats 2000000 in
theorem V_states (c : Dev nD) : V m c main_v39 = Retention.States.states Retention.Reference.timeB
    (m ((c : Thread nD τ).loc main_arg0)) (m ((c : Thread nD τ).loc main_arg1)) (m ((c : Thread nD τ).loc main_arg3)) := by
  simp only [V, hostOps0, hostOps0_1, hostOps0_2, List.flatten_cons, List.flatten_nil, List.append_nil, List.cons_append,
    List.nil_append, TRef.binary, TRef.nullary, TRef.ternary, TRef.unary, TRef.toBuf, TRef.ofBuf, cast_eq]
  after_results_simp <;> rfl

end Cert.Kernel2Ideal.Own
-- ==== Proof.WindowsB.lean ====
/-
  The other direction's windows: which entries of the arrays a point's blocks hold, and which entries of the results a
  point writes.
-/
module

public import proofs.«01_k».proof.Proof.BodyB
public import proofs.«01_k».proof.Proof.HostB
public import proofs.«01_k».proof.Proof.Layout
public import proofs.«01_k».proof.Proof.Finite

@[expose] public section

set_option maxRecDepth 16384

noncomputable section

namespace Cert.Kernel2Ideal.Own

open Cert.Kernel2Ideal Cert.Kernel2Ideal.Gen Idealize.ShloMosaic Idealize.ShloMosaic.TcCoe Idealize.SL.Sem
open Retention Retention.Head Retention.Finite
open Retention.Reference (cq cv)
open Cert.Kernel2Ideal.Value
open Idealize.ShloMosaic.Pipeline (Dat)

variable (m : (ℓ : Loc nD τ sig) → Buf (Elt Ideal) ℓ) (c : Dev nD)

theorem lt34 (t : Fin cfg0.N) : t.val < 34 := t.isLt

/-! ## Block indices -/

theorem half (t : Fin cfg0.N) : ((grid0.coords t) 0).val = t.val / 17 := (by decide +kernel : ∀ t : Fin grid0.N, ((grid0.coords t) 0).val = t.val / 17) t
theorem idx0 (t : Fin cfg0.N) : win0_0.index t (0 : Fin 2) = 0 ∧ win0_0.index t (1 : Fin 2) = 0 :=
  (by decide +kernel : ∀ t : Fin grid0.N, win0_0.index t (0 : Fin 2) = 0 ∧ win0_0.index t (1 : Fin 2) = 0) t
theorem idx1 (t : Fin cfg0.N) : win0_1.index t (0 : Fin 2) = (blkB (chunkAt t.val)).val ∧ win0_1.index t (1 : Fin 2) = t.val / 17 :=
  (by decide +kernel : ∀ t : Fin grid0.N, win0_1.index t (0 : Fin 2) = (blkB (chunkAt t.val)).val ∧ win0_1.index t (1 : Fin 2) = t.val / 17) t
theorem idx2 (t : Fin cfg0.N) : win0_2.index t (0 : Fin 2) = (blkB (chunkAt t.val)).val ∧ win0_2.index t (1 : Fin 2) = 2 + t.val / 17 :=
  (by decide +kernel : ∀ t : Fin grid0.N, win0_2.index t (0 : Fin 2) = (blkB (chunkAt t.val)).val ∧ win0_2.index t (1 : Fin 2) = 2 + t.val / 17) t
theorem idx3 (t : Fin cfg0.N) : win0_3.index t (0 : Fin 2) = (blkB (chunkAt t.val)).val ∧ win0_3.index t (1 : Fin 2) = t.val / 17 :=
  (by decide +kernel : ∀ t : Fin grid0.N, win0_3.index t (0 : Fin 2) = (blkB (chunkAt t.val)).val ∧ win0_3.index t (1 : Fin 2) = t.val / 17) t
theorem idx4 (t : Fin cfg0.N) : win0_4.index t (0 : Fin 2) = (blkB (chunkAt t.val)).val ∧ win0_4.index t (1 : Fin 2) = t.val / 17 :=
  (by decide +kernel : ∀ t : Fin grid0.N, win0_4.index t (0 : Fin 2) = (blkB (chunkAt t.val)).val ∧ win0_4.index t (1 : Fin 2) = t.val / 17) t
theorem idx5 (t : Fin cfg0.N) : win0_5.index t (0 : Fin 4) = t.val / 17 ∧ win0_5.index t (1 : Fin 4) = (chunkAt t.val).val
    ∧ win0_5.index t (2 : Fin 4) = 0 ∧ win0_5.index t (3 : Fin 4) = 0 :=
  (by decide +kernel : ∀ t : Fin grid0.N, win0_5.index t (0 : Fin 4) = t.val / 17 ∧ win0_5.index t (1 : Fin 4) = (chunkAt t.val).val
    ∧ win0_5.index t (2 : Fin 4) = 0 ∧ win0_5.index t (3 : Fin 4) = 0) t
theorem idx6 (t : Fin cfg0.N) : win0_6.index t (0 : Fin 2) = (blkB (chunkAt t.val)).val ∧ win0_6.index t (1 : Fin 2) = t.val / 17 :=
  (by decide +kernel : ∀ t : Fin grid0.N, win0_6.index t (0 : Fin 2) = (blkB (chunkAt t.val)).val ∧ win0_6.index t (1 : Fin 2) = t.val / 17) t
theorem idx7 (t : Fin cfg0.N) : win0_7.index t (0 : Fin 2) = (blkB (chunkAt t.val)).val ∧ win0_7.index t (1 : Fin 2) = t.val / 17 :=
  (by decide +kernel : ∀ t : Fin grid0.N, win0_7.index t (0 : Fin 2) = (blkB (chunkAt t.val)).val ∧ win0_7.index t (1 : Fin 2) = t.val / 17) t
theorem idx8 (t : Fin cfg0.N) : win0_8.index t (0 : Fin 2) = (blkB (chunkAt t.val)).val ∧ win0_8.index t (1 : Fin 2) = t.val / 17 :=
  (by decide +kernel : ∀ t : Fin grid0.N, win0_8.index t (0 : Fin 2) = (blkB (chunkAt t.val)).val ∧ win0_8.index t (1 : Fin 2) = t.val / 17) t
theorem idx9 (t : Fin cfg0.N) : win0_9.index t (0 : Fin 3) = t.val / 17 ∧ win0_9.index t (1 : Fin 3) = 0 ∧ win0_9.index t (2 : Fin 3) = 0 :=
  (by decide +kernel : ∀ t : Fin grid0.N, win0_9.index t (0 : Fin 3) = t.val / 17 ∧ win0_9.index t (1 : Fin 3) = 0 ∧ win0_9.index t (2 : Fin 3) = 0) t

/-! ## What the blocks hold -/

variable (t : Fin cfg0.N) (hh : Fin 4)

theorem at0 : lgs (iblk m c 0 t) ((grid0.coords t) 0).val ((grid0.coords t) 0).isLt hh
    = m ((c : Thread nD τ).loc main_arg3) (ix2 0 (headAt t.val (lt34 t) hh)) := by
  obtain ⟨e0, e1⟩ := idx0 t
  have en := half t
  unfold lgs
  rw [← V_main_arg3 m c]
  refine congrArg (V m c main_arg3) (?_ : ((cfg0.win 0).blk t).view.emb _ = _)
  funext a; apply Fin.ext
  match a with
  | ⟨0, _⟩ => show win0_0.index t (0 : Fin 2) * 1 + 1 * 0 = 0; omega
  | ⟨1, _⟩ => show win0_0.index t (1 : Fin 2) * 8 + 1 * (4 * ((grid0.coords t) 0).val + hh.val) = 4 * (t.val / 17) + hh.val; omega

theorem at1 (r d : Fin 256) : iblk m c 1 t (ix2 r (col hh d))
    = m ((c : Thread nD τ).loc main_arg0) (ix2 (row (blkB (chunkAt t.val)) r) (Fin.castLE Retention.Reference.le_q (cq (headAt t.val (lt34 t) hh) d))) := by
  obtain ⟨e0, e1⟩ := idx1 t
  rw [← V_main_arg0 m c]
  refine congrArg (V m c main_arg0) (?_ : ((cfg0.win 1).blk t).view.emb _ = _)
  funext a; apply Fin.ext
  match a with
  | ⟨0, _⟩ => show win0_1.index t (0 : Fin 2) * 256 + 1 * r.val = (blkB (chunkAt t.val)).val * 256 + r.val; omega
  | ⟨1, _⟩ => show win0_1.index t (1 : Fin 2) * 1024 + 1 * (256 * hh.val + d.val) = (4 * (t.val / 17) + hh.val) * 256 + d.val; omega

theorem at2 (r d : Fin 256) : iblk m c 2 t (ix2 r (col hh d))
    = m ((c : Thread nD τ).loc main_arg0) (ix2 (row (blkB (chunkAt t.val)) r) (Fin.natAdd 2048 (cq (headAt t.val (lt34 t) hh) d))) := by
  obtain ⟨e0, e1⟩ := idx2 t
  rw [← V_main_arg0 m c]
  refine congrArg (V m c main_arg0) (?_ : ((cfg0.win 2).blk t).view.emb _ = _)
  funext a; apply Fin.ext
  match a with
  | ⟨0, _⟩ => show win0_2.index t (0 : Fin 2) * 256 + 1 * r.val = (blkB (chunkAt t.val)).val * 256 + r.val; omega
  | ⟨1, _⟩ => show win0_2.index t (1 : Fin 2) * 1024 + 1 * (256 * hh.val + d.val) = 2048 + ((4 * (t.val / 17) + hh.val) * 256 + d.val); omega

theorem at3 (r : Fin 256) (e : Fin 512) : iblk m c 3 t (ix2 r (colv hh e))
    = m ((c : Thread nD τ).loc main_arg1) (ix2 (row (blkB (chunkAt t.val)) r) (Fin.castLE Retention.Reference.le_v (cv (headAt t.val (lt34 t) hh) e))) := by
  obtain ⟨e0, e1⟩ := idx3 t
  rw [← V_main_arg1 m c]
  refine congrArg (V m c main_arg1) (?_ : ((cfg0.win 3).blk t).view.emb _ = _)
  funext a; apply Fin.ext
  match a with
  | ⟨0, _⟩ => show win0_3.index t (0 : Fin 2) * 256 + 1 * r.val = (blkB (chunkAt t.val)).val * 256 + r.val; omega
  | ⟨1, _⟩ => show win0_3.index t (1 : Fin 2) * 2048 + 1 * (512 * hh.val + e.val) = (4 * (t.val / 17) + hh.val) * 512 + e.val; omega

theorem at4 (r : Fin 256) (e : Fin 512) : iblk m c 4 t (ix2 r (colv hh e))
    = m ((c : Thread nD τ).loc main_arg2) (ix2 (row (blkB (chunkAt t.val)) r) (cv (headAt t.val (lt34 t) hh) e)) := by
  obtain ⟨e0, e1⟩ := idx4 t
  rw [← V_main_arg2 m c]
  refine congrArg (V m c main_arg2) (?_ : ((cfg0.win 4).blk t).view.emb _ = _)
  funext a; apply Fin.ext
  match a with
  | ⟨0, _⟩ => show win0_4.index t (0 : Fin 2) * 256 + 1 * r.val = (blkB (chunkAt t.val)).val * 256 + r.val; omega
  | ⟨1, _⟩ => show win0_4.index t (1 : Fin 2) * 2048 + 1 * (512 * hh.val + e.val) = (4 * (t.val / 17) + hh.val) * 512 + e.val; omega

theorem at5 (d : Fin 256) (e : Fin 512) : iblk m c 5 t (ix4 hh 0 d e)
    = V m c main_v39 (ix4 (headAt t.val (lt34 t) hh) (chunkAt t.val) d e) := by
  obtain ⟨e0, e1, e2, e3⟩ := idx5 t
  refine congrArg (V m c main_v39) (?_ : ((cfg0.win 5).blk t).view.emb _ = _)
  funext a; apply Fin.ext
  match a with
  | ⟨0, _⟩ => show win0_5.index t (0 : Fin 4) * 4 + 1 * hh.val = 4 * (t.val / 17) + hh.val; omega
  | ⟨1, _⟩ => show win0_5.index t (1 : Fin 4) * 1 + 1 * 0 = (chunkAt t.val).val; omega
  | ⟨2, _⟩ => show win0_5.index t (2 : Fin 4) * 256 + 1 * d.val = d.val; omega
  | ⟨3, _⟩ => show win0_5.index t (3 : Fin 4) * 512 + 1 * e.val = e.val; omega

/-! ## What the points write -/

theorem wrote6 (r d : Fin 256) : (dats m 0 c).arrAt 6 cfg0.N (ix2 (row (blkB (chunkAt t.val)) r) (cq (headAt t.val (lt34 t) hh) d))
    = (outsAt0 m c t.val t.isLt).1 (ix2 r (col hh d)) := by
  obtain ⟨e0, e1⟩ := idx6 t
  have h := congrFun (blocks6 m c t (flush0_6 t)) (ix2 r (col hh d))
  rw [flushed6] at h
  refine Eq.trans (congrArg ((dats m 0 c).arrAt 6 cfg0.N) (?_ : _ = ((cfg0.win 6).blk t).view.emb (ix2 r (col hh d)))) h
  funext a; apply Fin.ext
  match a with
  | ⟨0, _⟩ => show (blkB (chunkAt t.val)).val * 256 + r.val = win0_6.index t (0 : Fin 2) * 256 + 1 * r.val; omega
  | ⟨1, _⟩ => show (4 * (t.val / 17) + hh.val) * 256 + d.val = win0_6.index t (1 : Fin 2) * 1024 + 1 * (256 * hh.val + d.val); omega

theorem wrote7 (r d : Fin 256) : (dats m 0 c).arrAt 7 cfg0.N (ix2 (row (blkB (chunkAt t.val)) r) (cq (headAt t.val (lt34 t) hh) d))
    = (outsAt0 m c t.val t.isLt).2.1 (ix2 r (col hh d)) := by
  obtain ⟨e0, e1⟩ := idx7 t
  have h := congrFun (blocks7 m c t (flush0_7 t)) (ix2 r (col hh d))
  rw [flushed7] at h
  refine Eq.trans (congrArg ((dats m 0 c).arrAt 7 cfg0.N) (?_ : _ = ((cfg0.win 7).blk t).view.emb (ix2 r (col hh d)))) h
  funext a; apply Fin.ext
  match a with
  | ⟨0, _⟩ => show (blkB (chunkAt t.val)).val * 256 + r.val = win0_7.index t (0 : Fin 2) * 256 + 1 * r.val; omega
  | ⟨1, _⟩ => show (4 * (t.val / 17) + hh.val) * 256 + d.val = win0_7.index t (1 : Fin 2) * 1024 + 1 * (256 * hh.val + d.val); omega

theorem wrote8 (r : Fin 256) (e : Fin 512) :
    (dats m 0 c).arrAt 8 cfg0.N (ix2 (row (blkB (chunkAt t.val)) r) (cv (headAt t.val (lt34 t) hh) e))
    = (outsAt0 m c t.val t.isLt).2.2.1 (ix2 r (colv hh e)) := by
  obtain ⟨e0, e1⟩ := idx8 t
  have h := congrFun (blocks8 m c t (flush0_8 t)) (ix2 r (colv hh e))
  rw [flushed8] at h
  refine Eq.trans (congrArg ((dats m 0 c).arrAt 8 cfg0.N) (?_ : _ = ((cfg0.win 8).blk t).view.emb (ix2 r (colv hh e)))) h
  funext a; apply Fin.ext
  match a with
  | ⟨0, _⟩ => show (blkB (chunkAt t.val)).val * 256 + r.val = win0_8.index t (0 : Fin 2) * 256 + 1 * r.val; omega
  | ⟨1, _⟩ => show (4 * (t.val / 17) + hh.val) * 512 + e.val = win0_8.index t (1 : Fin 2) * 2048 + 1 * (512 * hh.val + e.val); omega

theorem disjoint9 : ∀ t t' : Fin cfg0.N, (cfg0.win 9).flush t = true → (cfg0.win 9).flush t' = true → t ≠ t' →
    Disjoint ((cfg0.win 9).blk t).view.set ((cfg0.win 9).blk t').view.set := by
  intro t t' h h' hne
  refine (cfg0.win 9).disjoint_blk fun e => hne (Fin.ext ?_)
  have e0 : win0_9.index t (0 : Fin 3) = win0_9.index t' (0 : Fin 3) := congrFun e (0 : Fin 3)
  rw [(idx9 t).1, (idx9 t').1] at e0
  have := (flush0_9 t).mp h
  have := (flush0_9 t').mp h'
  omega

theorem wrote9 (ht : t.val % 17 = 16) (x : Fin 8) (y : Fin 128) : (dats m 0 c).arrAt 9 cfg0.N (ix3 (headAt t.val (lt34 t) hh) x y)
    = (outsAt0 m c t.val t.isLt).2.2.2.1 (ix3 hh x y) := by
  obtain ⟨e0, e1, e2⟩ := idx9 t
  have h := congrFun ((dats m 0 c).read_blk_arrAt_eq_flushed 9 disjoint9 cfg0.N t t.isLt ((flush0_9 t).mpr ht)) (ix3 hh x y)
  rw [flushed9] at h
  refine Eq.trans (congrArg ((dats m 0 c).arrAt 9 cfg0.N) (?_ : _ = ((cfg0.win 9).blk t).view.emb (ix3 hh x y))) h
  funext a; apply Fin.ext
  match a with
  | ⟨0, _⟩ => show 4 * (t.val / 17) + hh.val = win0_9.index t (0 : Fin 3) * 4 + 1 * hh.val; omega
  | ⟨1, _⟩ => show x.val = win0_9.index t (1 : Fin 3) * 8 + 1 * x.val; omega
  | ⟨2, _⟩ => show y.val = win0_9.index t (2 : Fin 3) * 128 + 1 * y.val; omega

end Cert.Kernel2Ideal.Own
-- ==== Proof.FinalB.lean ====
/-
  The other direction's results after the run: on real inputs, the reference's gradients.
-/
module

public import proofs.«01_k».proof.Proof.WindowsB

@[expose] public section

set_option maxRecDepth 16384

noncomputable section

namespace Cert.Kernel2Ideal.Own

open Cert.Kernel2Ideal Cert.Kernel2Ideal.Gen Idealize.ShloMosaic Idealize.ShloMosaic.TcCoe Idealize.SL.Sem
open Retention Retention.Head Retention.Finite
open Retention.Reference (cq cv resQ resK resV resG resQ_apply resK_apply resV_apply resG_apply timeB timeB_apply)
open Cert.Kernel2Ideal.Value

variable (m : (ℓ : Loc nD τ sig) → Buf (Elt Ideal) ℓ) (c : Dev nD)

/-- The launch contents of the arguments hold real numbers. -/
abbrev RealArgs : Prop := Reals (m ((c : Thread nD τ).loc main_arg0)) (m ((c : Thread nD τ).loc main_arg1)) (m ((c : Thread nD τ).loc main_arg2))
  (m ((c : Thread nD τ).loc main_arg3))

def vG (h : Fin 8) : ℝ := rG (m ((c : Thread nD τ).loc main_arg3)) h
def vQ (h : Fin 8) (i : Fin 4352) : Fin 256 → ℝ := rQ (m ((c : Thread nD τ).loc main_arg0)) i h
def vK (h : Fin 8) (i : Fin 4352) : Fin 256 → ℝ := rK (m ((c : Thread nD τ).loc main_arg0)) i h
def vV (h : Fin 8) (i : Fin 4352) : Fin 512 → ℝ := rV (m ((c : Thread nD τ).loc main_arg1)) i h
def vO (h : Fin 8) (i : Fin 4352) : Fin 512 → ℝ := rO (m ((c : Thread nD τ).loc main_arg2)) i h

variable {m c} (hr : RealArgs m c)
include hr

theorem blocks_at (t : Fin 34) (hh : Fin 4) :
    Blocks (vG m c (headAt t.val t.isLt hh)) (fun r => 255 - r.val) (rows blkB (vQ m c (headAt t.val t.isLt hh))) (rows blkB (vK m c (headAt t.val t.isLt hh)))
      (rows blkB (vV m c (headAt t.val t.isLt hh))) (rows blkB (vO m c (headAt t.val t.isLt hh))) (chunkAt t.val)
      ((grid0.coords t) 0).val ((grid0.coords t) 0).isLt (iblk m c 0 t) (iblk m c 1 t) (iblk m c 2 t) (iblk m c 3 t) (iblk m c 4 t) (iblk m c 5 t) hh where
  isG := (at0 m c t hh).trans (hr.atG _)
  isQ r d := (at1 m c t hh r d).trans (hr.atQ _ _ _)
  isK r d := (at2 m c t hh r d).trans (hr.atK _ _ _)
  isV r e := (at3 m c t hh r e).trans (hr.atV _ _ _)
  isO r e := (at4 m c t hh r e).trans (hr.atO _ _ _)
  isS d e := by
    refine (at5 m c t hh d e).trans ?_
    rw [V_states, Retention.States.states_apply timeB _ _ _ tauB (vG m c) (fun i h d => vK m c h i d) (fun i h e => vV m c h i e)
      hr.atK hr.atV layoutB.lt timeB_apply hr.atG, sum_before layoutB]

theorem walk : Walk (k0_pay3 (F := Ideal)) (k0_pay4 (F := Ideal)) (fun r => 255 - r.val) (vG m c) (fun h => rows blkB (vQ m c h)) (fun h => rows blkB (vK m c h))
    (fun h => rows blkB (vV m c h)) (fun h => rows blkB (vO m c h)) (fun t => ((grid0.coords t) 0).val) (fun t => ((grid0.coords t) 0).isLt)
    (fun t => iblk m c 0 t) (fun t => iblk m c 1 t) (fun t => iblk m c 2 t) (fun t => iblk m c 3 t) (fun t => iblk m c 4 t) (fun t => iblk m c 5 t)
    (fun t => prevS m c t) (fun t => (outsAt0 m c t.val t.isLt).2.2.2.2) (fun t => prevG m c t) (fun t => (outsAt0 m c t.val t.isLt).2.2.2.1) where
  blocks t hh := blocks_at hr t hh
  firstS t ht hh d e := by
    rw [show prevS m c t = _ from if_pos ht]
    pointwise [k0_pay1]
    simp [Ideal.ofBits_zero]
  nextS t h ht := if_neg ht
  leftS t hh d e := leftS m c t hh d e
  firstG t ht hh x y := by
    rw [show prevG m c t = _ from if_pos ht]
    pointwise [k0_pay2]
    simp [Ideal.ofBits_zero]
  nextG t h ht := if_neg ht
  leftG t hh x y := leftG m c t hh x y

theorem found (t : Fin 34) (hh : Fin 4) (d : Fin 256) (e : Fin 512) : prevS m c t (ix3 hh d e)
    = (after (vG m c (headAt t.val t.isLt hh)) (fun r => 255 - r.val) (rows blkB (vQ m c (headAt t.val t.isLt hh)))
        (rows blkB (vO m c (headAt t.val t.isLt hh))) ((chunkAt t.val).val + 1) d e : EReal) :=
  (walk hr).found orderB t.val t.isLt hh d e

omit hr in
/-- Every row and column of `q` and `k` is some point's. -/
theorem split_q (i : S4352x2048.Idx) : ∃ (t : Fin 34) (hh : Fin 4) (r d : Fin 256),
    i = ix2 (row (blkB (chunkAt t.val)) r) (cq (headAt t.val t.isLt hh) d) := by
  obtain ⟨k, r, hk⟩ := layoutB.cover (i 0)
  obtain ⟨t, hh, ht, hq⟩ := point_of k ⟨(i 1).val / 256, by have := (i 1).isLt; change (i 1).val < 2048 at this; omega⟩
  refine ⟨t, hh, r, ⟨(i 1).val % 256, by omega⟩, ?_⟩
  rw [ht, hq]
  refine (eq_ix2 i).trans (congr (congrArg ix2 hk) (Fin.ext ?_))
  simp only [cq]; omega

omit hr in
theorem split_v (i : S4352x4096.Idx) : ∃ (t : Fin 34) (hh : Fin 4) (r : Fin 256) (e : Fin 512),
    i = ix2 (row (blkB (chunkAt t.val)) r) (cv (headAt t.val t.isLt hh) e) := by
  obtain ⟨k, r, hk⟩ := layoutB.cover (i 0)
  obtain ⟨t, hh, ht, hq⟩ := point_of k ⟨(i 1).val / 512, by have := (i 1).isLt; change (i 1).val < 4096 at this; omega⟩
  refine ⟨t, hh, r, ⟨(i 1).val % 512, by omega⟩, ?_⟩
  rw [ht, hq]
  refine (eq_ix2 i).trans (congr (congrArg ix2 hk) (Fin.ext ?_))
  simp only [cv]; omega

theorem final6 : (dats m 0 c).arrAt 6 cfg0.N = resQ timeB (m ((c : Thread nD τ).loc main_arg0)) (m ((c : Thread nD τ).loc main_arg1))
    (m ((c : Thread nD τ).loc main_arg2)) (m ((c : Thread nD τ).loc main_arg3)) := by
  funext i
  obtain ⟨t, hh, r, d, rfl⟩ := split_q i
  refine (wrote6 m c t hh r d).trans ((leftQ m c t hh r d).trans ((putQ_at orderB (blocks_at hr t hh) r d).trans ?_))
  rw [resQ_apply timeB _ _ _ _ tauB _ _ _ _ hr.atK hr.atV hr.atO layoutB.lt timeB_apply hr.atG]
  exact congrArg _ (sum_gq layoutB (vG m c (headAt t.val t.isLt hh)) (vK m c (headAt t.val t.isLt hh)) (vV m c (headAt t.val t.isLt hh))
    (vO m c (headAt t.val t.isLt hh)) (chunkAt t.val) r d).symm

theorem final7 : (dats m 0 c).arrAt 7 cfg0.N = resK timeB (m ((c : Thread nD τ).loc main_arg0)) (m ((c : Thread nD τ).loc main_arg1))
    (m ((c : Thread nD τ).loc main_arg2)) (m ((c : Thread nD τ).loc main_arg3)) := by
  funext i
  obtain ⟨t, hh, r, d, rfl⟩ := split_q i
  refine (wrote7 m c t hh r d).trans ((leftK m c t hh r d).trans ((putK_at orderB (blocks_at hr t hh) (found hr t hh) r d).trans ?_))
  rw [resK_apply timeB _ _ _ _ tauB _ _ _ _ hr.atQ hr.atV hr.atO layoutB.lt timeB_apply hr.atG]
  exact congrArg _ (sum_gk layoutB (vG m c (headAt t.val t.isLt hh)) (vQ m c (headAt t.val t.isLt hh)) (vV m c (headAt t.val t.isLt hh))
    (vO m c (headAt t.val t.isLt hh)) (chunkAt t.val) r d).symm

theorem final8 : (dats m 0 c).arrAt 8 cfg0.N = resV timeB (m ((c : Thread nD τ).loc main_arg0))
    (m ((c : Thread nD τ).loc main_arg2)) (m ((c : Thread nD τ).loc main_arg3)) := by
  funext i
  obtain ⟨t, hh, r, e, rfl⟩ := split_v i
  refine (wrote8 m c t hh r e).trans ((leftV m c t hh r e).trans ((putV_at orderB (blocks_at hr t hh) (found hr t hh) r e).trans ?_))
  rw [resV_apply timeB _ _ _ tauB _ _ _ _ hr.atQ hr.atK hr.atO layoutB.lt timeB_apply hr.atG]
  exact congrArg _ (sum_gv layoutB (vG m c (headAt t.val t.isLt hh)) (vQ m c (headAt t.val t.isLt hh)) (vK m c (headAt t.val t.isLt hh))
    (vO m c (headAt t.val t.isLt hh)) (chunkAt t.val) r e).symm

theorem final9 : (dats m 0 c).arrAt 9 cfg0.N = resG timeB (m ((c : Thread nD τ).loc main_arg0)) (m ((c : Thread nD τ).loc main_arg1))
    (m ((c : Thread nD τ).loc main_arg2)) (m ((c : Thread nD τ).loc main_arg3)) := by
  funext i
  obtain ⟨t, hh, ht, hq⟩ := point_of 0 (i 0)
  have hi : i = ix3 (headAt t.val t.isLt hh) (i 1) (i 2) := by rw [hq]; exact eq_ix3 i
  have h0 : t.val % 17 = 16 := by
    have := congrArg Fin.val ht
    simp only [chunkAt] at this
    change 16 - t.val % 17 = 0 at this
    omega
  rw [hi]
  refine (wrote9 m c t hh h0 (i 1) (i 2)).trans (((walk hr).rate orderB t h0 hh (i 1) (i 2)).trans ?_)
  refine Eq.trans ?_ (resG_apply timeB _ _ _ _ tauB _ _ _ _ _ hr.atQ hr.atK hr.atV hr.atO layoutB.lt timeB_apply hr.atG _ _ _).symm
  exact congrArg _ (sum_gg layoutB (vG m c (headAt t.val t.isLt hh)) (vQ m c (headAt t.val t.isLt hh)) (vK m c (headAt t.val t.isLt hh))
    (vV m c (headAt t.val t.isLt hh)) (vO m c (headAt t.val t.isLt hh))).symm

end Cert.Kernel2Ideal.Own
-- ==== Proof.Claims.lean ====
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.ReferenceIdeal.Run
public import proofs.«01_k».proof.Proof.Gen.Reference2Ideal.Run
public import proofs.«01_k».proof.Proof.FinalF
public import proofs.«01_k».proof.Proof.FinalB
public import Idealize.ShloMosaic.Lib.Claim

/-!
The claims, one theorem each: the frames of the kernels and of the references, and for each direction of time that
the kernel's run and the reference's run end with the same four gradients.
-/

@[expose] public section

open Idealize.ShloMosaic Idealize.ShloMosaic.TcCoe Idealize.SL.Sem

namespace Retention.Claims

open Retention.Reference Retention.Finite

/-- The forward direction's reference leaves its arguments alone; it declares no semaphore. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩) (Cert.ReferenceIdeal.Value.run m ρ)

/-- The reverse direction's reference leaves its arguments alone; it declares no semaphore. -/
theorem frame_reference2 : Cert.quiescent_Reference2Ideal := fun m ρ _ =>
  (θ_run Cert.Reference2Ideal.defs _ _).mono
    (fun r h => ⟨fun c => (h c).2.2.2.2, sem_eq_zero_of_no_sems (by decide) r.2⟩) (Cert.Reference2Ideal.Value.run m ρ)

/-- The forward direction: kernel and reference end with the same four gradients. -/
theorem forward : Cert.algebraic_KernelIdeal_ReferenceIdeal_pre_finite := by
  intro m g m' g' hpre hagree
  refine ⟨_, _, _, _,
    (θ_run Cert.KernelIdeal.defs _ _).mono (fun r h c => ⟨(h c).1.trans (Cert.KernelIdeal.Own.final6 (reals (hpre c))),
      (h c).2.1.trans (Cert.KernelIdeal.Own.final7 (reals (hpre c))),
      (h c).2.2.1.trans (Cert.KernelIdeal.Own.final8 (reals (hpre c))),
      (h c).2.2.2.1.trans (Cert.KernelIdeal.Own.final9 (reals (hpre c))), (h c).2.2.2.2⟩)
      (Cert.KernelIdeal.Value.run_blocks m g), ?_⟩
  refine (θ_run Cert.ReferenceIdeal.defs _ _).mono (fun r h c => ?_) (Cert.ReferenceIdeal.Value.run m' g')
  obtain ⟨h0, h1, h2, h3⟩ := hagree c
  rw [← h0, ← h1, ← h2, ← h3]
  exact h c

/-- The reverse direction: kernel and reference end with the same four gradients. -/
theorem reverse : Cert.algebraic_Kernel2Ideal_Reference2Ideal_pre_finite := by
  intro m g m' g' hpre hagree
  refine ⟨_, _, _, _,
    (θ_run Cert.Kernel2Ideal.defs _ _).mono (fun r h c => ⟨(h c).1.trans (Cert.Kernel2Ideal.Own.final6 (reals (hpre c))),
      (h c).2.1.trans (Cert.Kernel2Ideal.Own.final7 (reals (hpre c))),
      (h c).2.2.1.trans (Cert.Kernel2Ideal.Own.final8 (reals (hpre c))),
      (h c).2.2.2.1.trans (Cert.Kernel2Ideal.Own.final9 (reals (hpre c))), (h c).2.2.2.2⟩)
      (Cert.Kernel2Ideal.Value.run_blocks m g), ?_⟩
  refine (θ_run Cert.Reference2Ideal.defs _ _).mono (fun r h c => ?_) (Cert.Reference2Ideal.Value.run m' g')
  obtain ⟨h0, h1, h2, h3⟩ := hagree c
  rw [← h0, ← h1, ← h2, ← h3]
  exact h c

end Retention.Claims
-- ==== Proof.Mlp.lean ====
/-
  The squared-ReLU layer's gradients at an index, over the extended reals: as sums of products, for the arrays that the
  kernels' host code prepares and for the references.
-/
module

public import proofs.«01_k».proof.Proof.Gen.Reference3Ideal
public import proofs.«01_k».proof.Proof.Gen.Reference4Ideal
public import proofs.«01_k».proof.Proof.Gen.Reference5Ideal
public import proofs.«01_k».proof.Proof.Gen.Reference6Ideal
public import Idealize.ShloMosaic.Lib.Pointwise
public import Idealize.ShloMosaic.Lib.IdealHost
public import Idealize.ShloMosaic.Lib.ValueIdx

@[expose] public section

set_option maxRecDepth 16384

noncomputable section

namespace Mlp

open Cert.Reference5Ideal Cert.Reference5Ideal.Gen Idealize.ShloMosaic
open scoped BigOperators

variable (a : FVec Ideal S4352x2048 .bf16) (w1 : FVec Ideal S2048x8192 .bf16) (w2 : FVec Ideal S8192x2048 .bf16)
  (dmo : FVec Ideal S4352x2048 .bf16)

/-- A word everywhere. -/
def everywhere (b : BitVec 32) : FVec Ideal S4352x8192 .f32 :=
  broadcastInDim S4352x8192 ![] bcast_S_S4352x8192 (constant S_ .f32 b)
/-- The layer's inner values before the ReLU. -/
def pre : FVec Ideal S4352x8192 .f32 :=
  Host.dotGeneral dot_S4352x2048_S2048x8192_S4352x8192_1_0_0_1_n_n none (extf .f32 a bitsLt_bf16_f32) (extf .f32 w1 bitsLt_bf16_f32)
/-- The inner values after the ReLU. -/
def act : FVec Ideal S4352x8192 .f32 := maximumf (pre a w1) (everywhere 0x00000000#32)

/-! ## What the kernels' host code prepares -/

/-- The inner values after the ReLU, in the width in which they are saved. -/
def savedU : FVec Ideal S4352x8192 .bf16 := truncf .bf16 (act a w1) bitsLt_bf16_f32
/-- Their squares. -/
def savedR : FVec Ideal S4352x8192 .bf16 := truncf .bf16 (mulf (act a w1) (act a w1)) bitsLt_bf16_f32
/-- The gradient of the inner values, as a plain product times twice the saved value. -/
def savedD : FVec Ideal S4352x8192 .bf16 :=
  truncf .bf16 (mulf (mulf (everywhere 0x40000000#32) (extf .f32 (savedU a w1) bitsLt_bf16_f32))
    (Host.dotGeneral dot_S4352x2048_S2048x8192_S4352x8192_1_0_0_1_n_n none (extf .f32 dmo bitsLt_bf16_f32)
      (transpose S2048x8192 [1, 0] (extf .f32 w2 bitsLt_bf16_f32) transposes_S8192x2048_S2048x8192_1_0))) bitsLt_bf16_f32

/-! ## The references -/

/-- The gradient of the inner values. -/
def grad : FVec Ideal S4352x8192 .f32 :=
  select (cmpf .ogt (pre a w1) (everywhere 0x00000000#32))
    (mulf (Host.dotGeneral dot_S4352x2048_S8192x2048_S4352x8192_1_1_0_0_n_n none (extf .f32 dmo bitsLt_bf16_f32) (extf .f32 w2 bitsLt_bf16_f32))
      (mulf (everywhere 0x40000000#32) (act a w1)))
    (everywhere 0x00000000#32)
def resW2 : FVec Ideal S8192x2048 .bf16 :=
  truncf .bf16 (transpose S8192x2048 [1, 0] (Host.dotGeneral Cert.Reference3Ideal.dot_S4352x2048_S4352x8192_S2048x8192_0_0_1_1_n_n none
    (extf .f32 dmo bitsLt_bf16_f32) (mulf (act a w1) (act a w1))) Cert.Reference3Ideal.Gen.transposes_S2048x8192_S8192x2048_1_0) bitsLt_bf16_f32
def resH : FVec Ideal S4352x8192 .bf16 := truncf .bf16 (grad a w1 w2 dmo) bitsLt_bf16_f32
def resW1 : FVec Ideal S2048x8192 .bf16 :=
  truncf .bf16 (transpose S2048x8192 [1, 0] (Host.dotGeneral dot_S4352x8192_S4352x2048_S8192x2048_0_0_1_1_n_n none
    (grad a w1 w2 dmo) (extf .f32 a bitsLt_bf16_f32)) transposes_S8192x2048_S2048x8192_1_0) bitsLt_bf16_f32
def resA : FVec Ideal S4352x2048 .bf16 :=
  truncf .bf16 (Host.dotGeneral Cert.Reference6Ideal.dot_S4352x8192_S2048x8192_S4352x2048_1_1_0_0_n_n none
    (grad a w1 w2 dmo) (extf .f32 w1 bitsLt_bf16_f32)) bitsLt_bf16_f32

/-! ## At an index -/

/-- The inner value of a row. -/
def P (i : Fin 4352) (f : Fin 8192) : EReal := ∑ d : Fin 2048, a (ix2 i d) * w1 (ix2 d f)
/-- The output's gradient, taken back through the second product. -/
def B (i : Fin 4352) (f : Fin 8192) : EReal := ∑ d : Fin 2048, dmo (ix2 i d) * w2 (ix2 f d)

theorem everywhere_apply (b : BitVec 32) (i : Fin 4352) (f : Fin 8192) : everywhere b (ix2 i f) = Ideal.ofBits .f32 b := by
  pointwise [everywhere]

theorem pre_apply (i : Fin 4352) (f : Fin 8192) : pre a w1 (ix2 i f) = P a w1 i f := by
  pointwise [pre]
  rfl

theorem act_apply (i : Fin 4352) (f : Fin 8192) : act a w1 (ix2 i f) = max (P a w1 i f) 0 := by
  pointwise [act]
  rw [pre_apply, everywhere_apply, Ideal.ofBits_zero]

theorem savedU_apply (i : Fin 4352) (f : Fin 8192) : savedU a w1 (ix2 i f) = max (P a w1 i f) 0 := by
  pointwise [savedU]
  exact act_apply a w1 i f

theorem savedR_apply (i : Fin 4352) (f : Fin 8192) : savedR a w1 (ix2 i f) = max (P a w1 i f) 0 * max (P a w1 i f) 0 := by
  pointwise [savedR]
  rw [act_apply]

theorem savedD_apply (i : Fin 4352) (f : Fin 8192) :
    savedD a w1 w2 dmo (ix2 i f) = B w2 dmo i f * (Ideal.ofBits .f32 0x40000000#32 * max (P a w1 i f) 0) := by
  pointwise [savedD]
  rw [everywhere_apply, savedU_apply, mul_comm]
  rfl

/-- Where the inner value is not positive the saved value is zero, so the mask of the derivative changes nothing. -/
theorem grad_apply (i : Fin 4352) (f : Fin 8192) :
    grad a w1 w2 dmo (ix2 i f) = B w2 dmo i f * (Ideal.ofBits .f32 0x40000000#32 * max (P a w1 i f) 0) := by
  pointwise [grad]
  rw [pre_apply, act_apply, everywhere_apply, everywhere_apply, Ideal.ofBits_zero]
  split_ifs with h
  · rfl
  · rw [max_eq_right (not_lt.mp h), mul_zero, mul_zero]

theorem resW2_apply (f : Fin 8192) (n : Fin 2048) :
    resW2 a w1 dmo (ix2 f n) = ∑ i : Fin 4352, savedR a w1 (ix2 i f) * dmo (ix2 i n) := by
  pointwise [resW2]
  refine Finset.sum_congr rfl fun i _ => ?_
  rw [savedR_apply, act_apply, mul_comm]

theorem resH_apply (i : Fin 4352) (f : Fin 8192) :
    resH a w1 w2 dmo (ix2 i f) = B w2 dmo i f * (Ideal.ofBits .f32 0x40000000#32 * savedU a w1 (ix2 i f)) := by
  pointwise [resH]
  rw [grad_apply, savedU_apply]

theorem resW1_apply (d : Fin 2048) (f : Fin 8192) :
    resW1 a w1 w2 dmo (ix2 d f) = ∑ i : Fin 4352, a (ix2 i d) * savedD a w1 w2 dmo (ix2 i f) := by
  pointwise [resW1]
  refine Finset.sum_congr rfl fun i _ => ?_
  rw [savedD_apply, grad_apply, mul_comm]

theorem resA_apply (i : Fin 4352) (d : Fin 2048) :
    resA a w1 w2 dmo (ix2 i d) = ∑ f : Fin 8192, savedD a w1 w2 dmo (ix2 i f) * w1 (ix2 d f) := by
  pointwise [resA]
  refine Finset.sum_congr rfl fun f _ => ?_
  rw [savedD_apply, grad_apply]

end Mlp
-- ==== Proof.MlpDownW.lean ====
/-
  The gradient of the layer's second weight: what the call's blocks hold, what its points write, and the whole result.
-/
module

public import proofs.«01_k».proof.Proof.Gen.Kernel3Ideal.Value
public import proofs.«01_k».proof.Proof.Mlp

@[expose] public section

set_option maxRecDepth 16384

noncomputable section

namespace Cert.Kernel3Ideal.Own

open Cert.Kernel3Ideal Cert.Kernel3Ideal.Gen Cert.Kernel3Ideal.Value Idealize.ShloMosaic Idealize.ShloMosaic.TcCoe Idealize.SL.Sem
open StableHlo
open scoped BigOperators

variable (m : (ℓ : Loc nD τ sig) → Buf (Elt Ideal) ℓ) (c : Dev nD)

set_option maxHeartbeats 2000000 in
/-- The region finds the squares of the inner values. -/
theorem V_saved : V m c main_v6 = Mlp.savedR (m ((c : Thread nD τ).loc main_arg0)) (m ((c : Thread nD τ).loc main_arg1)) := by
  simp only [V, hostOps0, hostOps0_1, hostOps0_2, List.flatten_cons, List.flatten_nil, List.append_nil, List.cons_append,
    List.nil_append, TRef.binary, TRef.nullary, TRef.ternary, TRef.unary, TRef.toBuf, TRef.ofBuf, cast_eq]
  after_results_simp <;> rfl

/-- A block of the result, from the blocks of the operands. -/
theorem block (x0 : Vec Ideal S4352x512 .bf16) (x1 : Vec Ideal S4352x1024 .bf16) (r : Fin 512) (s : Fin 1024) :
    out0_2 x0 x1 (ix2 r s) = ∑ i : Fin 4352, x0 (ix2 i r) * x1 (ix2 i s) := by
  have hz : (![0, 0] : Fin 2 → ℕ) = fun _ => 0 := by funext a; fin_cases a <;> rfl
  unfold out0_2
  rw [View.canon_unit_zero hz, View.ld_unit_zero hz, View.ld_unit_zero hz]
  pointwise [k0_pay1]

variable (t : Fin cfg0.N)

theorem idx0 : win0_0.index t (0 : Fin 2) = 0 ∧ win0_0.index t (1 : Fin 2) = t.val / 2 :=
  (by decide +kernel : ∀ t : Fin grid0.N, win0_0.index t (0 : Fin 2) = 0 ∧ win0_0.index t (1 : Fin 2) = t.val / 2) t
theorem idx1 : win0_1.index t (0 : Fin 2) = 0 ∧ win0_1.index t (1 : Fin 2) = t.val % 2 :=
  (by decide +kernel : ∀ t : Fin grid0.N, win0_1.index t (0 : Fin 2) = 0 ∧ win0_1.index t (1 : Fin 2) = t.val % 2) t
theorem idx2 : win0_2.index t (0 : Fin 2) = t.val / 2 ∧ win0_2.index t (1 : Fin 2) = t.val % 2 :=
  (by decide +kernel : ∀ t : Fin grid0.N, win0_2.index t (0 : Fin 2) = t.val / 2 ∧ win0_2.index t (1 : Fin 2) = t.val % 2) t

theorem at0 (i : Fin 4352) (r : Fin 512) (f : Fin 8192) (hf : f.val = 512 * (t.val / 2) + r.val) :
    iblk m c 0 t (ix2 i r) = V m c main_v6 (ix2 i f) := by
  obtain ⟨e0, e1⟩ := idx0 t
  refine congrArg (V m c main_v6) (?_ : ((cfg0.win 0).blk t).view.emb _ = _)
  funext a; apply Fin.ext
  match a with
  | ⟨0, _⟩ => show win0_0.index t (0 : Fin 2) * 4352 + 1 * i.val = i.val; omega
  | ⟨1, _⟩ => show win0_0.index t (1 : Fin 2) * 512 + 1 * r.val = f.val; omega

theorem at1 (i : Fin 4352) (s : Fin 1024) (n : Fin 2048) (hn : n.val = 1024 * (t.val % 2) + s.val) :
    iblk m c 1 t (ix2 i s) = m ((c : Thread nD τ).loc main_arg3) (ix2 i n) := by
  obtain ⟨e0, e1⟩ := idx1 t
  rw [← V_main_arg3 m c]
  refine congrArg (V m c main_arg3) (?_ : ((cfg0.win 1).blk t).view.emb _ = _)
  funext a; apply Fin.ext
  match a with
  | ⟨0, _⟩ => show win0_1.index t (0 : Fin 2) * 4352 + 1 * i.val = i.val; omega
  | ⟨1, _⟩ => show win0_1.index t (1 : Fin 2) * 1024 + 1 * s.val = n.val; omega

theorem wrote (r : Fin 512) (s : Fin 1024) (f : Fin 8192) (n : Fin 2048) (hf : f.val = 512 * (t.val / 2) + r.val)
    (hn : n.val = 1024 * (t.val % 2) + s.val) :
    (dats m 0 c).arrAt 2 cfg0.N (ix2 f n) = out0_2 (iblk m c 0 t) (iblk m c 1 t) (ix2 r s) := by
  obtain ⟨e0, e1⟩ := idx2 t
  have h := congrFun (blocks2 m c t (flush0_2 t)) (ix2 r s)
  rw [flushed2] at h
  refine Eq.trans (congrArg ((dats m 0 c).arrAt 2 cfg0.N) (?_ : _ = ((cfg0.win 2).blk t).view.emb (ix2 r s))) h
  funext a; apply Fin.ext
  match a with
  | ⟨0, _⟩ => show f.val = win0_2.index t (0 : Fin 2) * 512 + 1 * r.val; omega
  | ⟨1, _⟩ => show n.val = win0_2.index t (1 : Fin 2) * 1024 + 1 * s.val; omega

/-- The whole result is the reference's. -/
theorem final : (dats m 0 c).arrAt 2 cfg0.N = Mlp.resW2 (m ((c : Thread nD τ).loc main_arg0)) (m ((c : Thread nD τ).loc main_arg1))
    (m ((c : Thread nD τ).loc main_arg3)) := by
  funext x
  obtain ⟨f, n, rfl⟩ : ∃ (f : Fin 8192) (n : Fin 2048), x = ix2 f n := ⟨x 0, x 1, eq_ix2 x⟩
  have hf := f.isLt; have hn := n.isLt
  have ht : f.val / 512 * 2 + n.val / 1024 < cfg0.N := show _ < 32 by omega
  have h0 : f.val = 512 * ((f.val / 512 * 2 + n.val / 1024) / 2) + f.val % 512 := by omega
  have h1 : n.val = 1024 * ((f.val / 512 * 2 + n.val / 1024) % 2) + n.val % 1024 := by omega
  rw [wrote m c ⟨_, ht⟩ ⟨f.val % 512, by omega⟩ ⟨n.val % 1024, by omega⟩ f n h0 h1, block, Mlp.resW2_apply]
  refine Finset.sum_congr (M := EReal) rfl fun i _ => ?_
  rw [at0 m c ⟨_, ht⟩ i ⟨f.val % 512, by omega⟩ f h0, at1 m c ⟨_, ht⟩ i ⟨n.val % 1024, by omega⟩ n h1, V_saved]

end Cert.Kernel3Ideal.Own
-- ==== Proof.MlpDownX.lean ====
/-
  The gradient of the layer's inner values: what the call's blocks hold, what its points write, and the whole result.
-/
module

public import proofs.«01_k».proof.Proof.Gen.Kernel4Ideal.Value
public import proofs.«01_k».proof.Proof.Mlp

@[expose] public section

set_option maxRecDepth 16384

noncomputable section

namespace Cert.Kernel4Ideal.Own

open Cert.Kernel4Ideal Cert.Kernel4Ideal.Gen Cert.Kernel4Ideal.Value Idealize.ShloMosaic Idealize.ShloMosaic.TcCoe Idealize.SL.Sem
open StableHlo
open scoped BigOperators

variable (m : (ℓ : Loc nD τ sig) → Buf (Elt Ideal) ℓ) (c : Dev nD)

set_option maxHeartbeats 2000000 in
/-- The region finds the inner values after the ReLU. -/
theorem V_saved : V m c main_v4 = Mlp.savedU (m ((c : Thread nD τ).loc main_arg0)) (m ((c : Thread nD τ).loc main_arg1)) := by
  simp only [V, hostOps0, hostOps0_1, hostOps0_2, List.flatten_cons, List.flatten_nil, List.append_nil, List.cons_append,
    List.nil_append, TRef.binary, TRef.nullary, TRef.ternary, TRef.unary, TRef.toBuf, TRef.ofBuf, cast_eq]
  after_results_simp <;> rfl

/-- A block of the result, from the blocks of the operands and of the saved values. -/
theorem block (x0 : Vec Ideal S1088x2048 .bf16) (x1 : Vec Ideal S1024x2048 .bf16) (x2 : Vec Ideal S1088x1024 .bf16) (r : Fin 1088) (s : Fin 1024) :
    out0_3 x0 x1 x2 (ix2 r s) = (∑ d : Fin 2048, x0 (ix2 r d) * x1 (ix2 s d)) * (Ideal.ofBits .f32 0x40000000#32 * x2 (ix2 r s)) := by
  have hz : (![0, 0] : Fin 2 → ℕ) = fun _ => 0 := by funext a; fin_cases a <;> rfl
  unfold out0_3
  rw [View.canon_unit_zero hz, View.ld_unit_zero hz, View.ld_unit_zero hz, View.ld_unit_zero hz]
  pointwise [k0_pay1]

variable (t : Fin cfg0.N)

theorem idx0 : win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0) t
theorem idx1 : win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0) t
theorem idx2 : win0_2.index t (0 : Fin 2) = t.val / 8 ∧ win0_2.index t (1 : Fin 2) = t.val % 8 :=
  (by decide +kernel : ∀ t : Fin grid0.N, win0_2.index t (0 : Fin 2) = t.val / 8 ∧ win0_2.index t (1 : Fin 2) = t.val % 8) t
theorem idx3 : win0_3.index t (0 : Fin 2) = t.val / 8 ∧ win0_3.index t (1 : Fin 2) = t.val % 8 :=
  (by decide +kernel : ∀ t : Fin grid0.N, win0_3.index t (0 : Fin 2) = t.val / 8 ∧ win0_3.index t (1 : Fin 2) = t.val % 8) t

theorem at0 (r : Fin 1088) (d : Fin 2048) (i : Fin 4352) (hi : i.val = 1088 * (t.val / 8) + r.val) :
    iblk m c 0 t (ix2 r d) = m ((c : Thread nD τ).loc main_arg3) (ix2 i d) := by
  obtain ⟨e0, e1⟩ := idx0 t
  rw [← V_main_arg3 m c]
  refine congrArg (V m c main_arg3) (?_ : ((cfg0.win 0).blk t).view.emb _ = _)
  funext a; apply Fin.ext
  match a with
  | ⟨0, _⟩ => show win0_0.index t (0 : Fin 2) * 1088 + 1 * r.val = i.val; omega
  | ⟨1, _⟩ => show win0_0.index t (1 : Fin 2) * 2048 + 1 * d.val = d.val; omega

theorem at1 (s : Fin 1024) (d : Fin 2048) (f : Fin 8192) (hf : f.val = 1024 * (t.val % 8) + s.val) :
    iblk m c 1 t (ix2 s d) = m ((c : Thread nD τ).loc main_arg2) (ix2 f d) := by
  obtain ⟨e0, e1⟩ := idx1 t
  rw [← V_main_arg2 m c]
  refine congrArg (V m c main_arg2) (?_ : ((cfg0.win 1).blk t).view.emb _ = _)
  funext a; apply Fin.ext
  match a with
  | ⟨0, _⟩ => show win0_1.index t (0 : Fin 2) * 1024 + 1 * s.val = f.val; omega
  | ⟨1, _⟩ => show win0_1.index t (1 : Fin 2) * 2048 + 1 * d.val = d.val; omega

theorem at2 (r : Fin 1088) (s : Fin 1024) (i : Fin 4352) (f : Fin 8192) (hi : i.val = 1088 * (t.val / 8) + r.val)
    (hf : f.val = 1024 * (t.val % 8) + s.val) : iblk m c 2 t (ix2 r s) = V m c main_v4 (ix2 i f) := by
  obtain ⟨e0, e1⟩ := idx2 t
  refine congrArg (V m c main_v4) (?_ : ((cfg0.win 2).blk t).view.emb _ = _)
  funext a; apply Fin.ext
  match a with
  | ⟨0, _⟩ => show win0_2.index t (0 : Fin 2) * 1088 + 1 * r.val = i.val; omega
  | ⟨1, _⟩ => show win0_2.index t (1 : Fin 2) * 1024 + 1 * s.val = f.val; omega

theorem wrote (r : Fin 1088) (s : Fin 1024) (i : Fin 4352) (f : Fin 8192) (hi : i.val = 1088 * (t.val / 8) + r.val)
    (hf : f.val = 1024 * (t.val % 8) + s.val) :
    (dats m 0 c).arrAt 3 cfg0.N (ix2 i f) = out0_3 (iblk m c 0 t) (iblk m c 1 t) (iblk m c 2 t) (ix2 r s) := by
  obtain ⟨e0, e1⟩ := idx3 t
  have h := congrFun (blocks3 m c t (flush0_3 t)) (ix2 r s)
  rw [flushed3] at h
  refine Eq.trans (congrArg ((dats m 0 c).arrAt 3 cfg0.N) (?_ : _ = ((cfg0.win 3).blk t).view.emb (ix2 r s))) h
  funext a; apply Fin.ext
  match a with
  | ⟨0, _⟩ => show i.val = win0_3.index t (0 : Fin 2) * 1088 + 1 * r.val; omega
  | ⟨1, _⟩ => show f.val = win0_3.index t (1 : Fin 2) * 1024 + 1 * s.val; omega

/-- The whole result is the reference's. -/
theorem final : (dats m 0 c).arrAt 3 cfg0.N = Mlp.resH (m ((c : Thread nD τ).loc main_arg0)) (m ((c : Thread nD τ).loc main_arg1))
    (m ((c : Thread nD τ).loc main_arg2)) (m ((c : Thread nD τ).loc main_arg3)) := by
  funext x
  obtain ⟨i, f, rfl⟩ : ∃ (i : Fin 4352) (f : Fin 8192), x = ix2 i f := ⟨x 0, x 1, eq_ix2 x⟩
  have hi := i.isLt; have hf := f.isLt
  have ht : i.val / 1088 * 8 + f.val / 1024 < cfg0.N := show _ < 32 by omega
  have h0 : i.val = 1088 * ((i.val / 1088 * 8 + f.val / 1024) / 8) + i.val % 1088 := by omega
  have h1 : f.val = 1024 * ((i.val / 1088 * 8 + f.val / 1024) % 8) + f.val % 1024 := by omega
  rw [wrote m c ⟨_, ht⟩ ⟨i.val % 1088, by omega⟩ ⟨f.val % 1024, by omega⟩ i f h0 h1, block, Mlp.resH_apply,
    at2 m c ⟨_, ht⟩ ⟨i.val % 1088, by omega⟩ ⟨f.val % 1024, by omega⟩ i f h0 h1, V_saved]
  refine congrArg (· * _) (Finset.sum_congr rfl fun d _ => ?_)
  rw [at0 m c ⟨_, ht⟩ ⟨i.val % 1088, by omega⟩ d i h0, at1 m c ⟨_, ht⟩ ⟨f.val % 1024, by omega⟩ d f h1]

end Cert.Kernel4Ideal.Own
-- ==== Proof.MlpUpW.lean ====
/-
  The gradient of the layer's first weight: what the call's blocks hold, what its points write, and the whole result.
-/
module

public import proofs.«01_k».proof.Proof.Gen.Kernel5Ideal.Value
public import proofs.«01_k».proof.Proof.Mlp

@[expose] public section

set_option maxRecDepth 16384

noncomputable section

namespace Cert.Kernel5Ideal.Own

open Cert.Kernel5Ideal Cert.Kernel5Ideal.Gen Cert.Kernel5Ideal.Value Idealize.ShloMosaic Idealize.ShloMosaic.TcCoe Idealize.SL.Sem
open StableHlo
open scoped BigOperators

variable (m : (ℓ : Loc nD τ sig) → Buf (Elt Ideal) ℓ) (c : Dev nD)

set_option maxHeartbeats 2000000 in
/-- The region finds the gradient of the inner values. -/
theorem V_saved : V m c main_v15 = Mlp.savedD (m ((c : Thread nD τ).loc main_arg0)) (m ((c : Thread nD τ).loc main_arg1))
    (m ((c : Thread nD τ).loc main_arg2)) (m ((c : Thread nD τ).loc main_arg3)) := by
  simp only [V, hostOps0, hostOps0_1, hostOps0_2, List.flatten_cons, List.flatten_nil, List.append_nil, List.cons_append,
    List.nil_append, TRef.binary, TRef.nullary, TRef.ternary, TRef.unary, TRef.toBuf, TRef.ofBuf, cast_eq]
  after_results_simp <;> rfl

/-- A block of the result, from the blocks of the operands. -/
theorem block (x0 : Vec Ideal S4352x512 .bf16) (x1 : Vec Ideal S4352x1024 .bf16) (r : Fin 512) (s : Fin 1024) :
    out0_2 x0 x1 (ix2 r s) = ∑ i : Fin 4352, x0 (ix2 i r) * x1 (ix2 i s) := by
  have hz : (![0, 0] : Fin 2 → ℕ) = fun _ => 0 := by funext a; fin_cases a <;> rfl
  unfold out0_2
  rw [View.canon_unit_zero hz, View.ld_unit_zero hz, View.ld_unit_zero hz]
  pointwise [k0_pay1]

variable (t : Fin cfg0.N)

theorem idx0 : win0_0.index t (0 : Fin 2) = 0 ∧ win0_0.index t (1 : Fin 2) = t.val / 8 :=
  (by decide +kernel : ∀ t : Fin grid0.N, win0_0.index t (0 : Fin 2) = 0 ∧ win0_0.index t (1 : Fin 2) = t.val / 8) t
theorem idx1 : win0_1.index t (0 : Fin 2) = 0 ∧ win0_1.index t (1 : Fin 2) = t.val % 8 :=
  (by decide +kernel : ∀ t : Fin grid0.N, win0_1.index t (0 : Fin 2) = 0 ∧ win0_1.index t (1 : Fin 2) = t.val % 8) t
theorem idx2 : win0_2.index t (0 : Fin 2) = t.val / 8 ∧ win0_2.index t (1 : Fin 2) = t.val % 8 :=
  (by decide +kernel : ∀ t : Fin grid0.N, win0_2.index t (0 : Fin 2) = t.val / 8 ∧ win0_2.index t (1 : Fin 2) = t.val % 8) t

theorem at0 (i : Fin 4352) (r : Fin 512) (d : Fin 2048) (hd : d.val = 512 * (t.val / 8) + r.val) :
    iblk m c 0 t (ix2 i r) = m ((c : Thread nD τ).loc main_arg0) (ix2 i d) := by
  obtain ⟨e0, e1⟩ := idx0 t
  rw [← V_main_arg0 m c]
  refine congrArg (V m c main_arg0) (?_ : ((cfg0.win 0).blk t).view.emb _ = _)
  funext a; apply Fin.ext
  match a with
  | ⟨0, _⟩ => show win0_0.index t (0 : Fin 2) * 4352 + 1 * i.val = i.val; omega
  | ⟨1, _⟩ => show win0_0.index t (1 : Fin 2) * 512 + 1 * r.val = d.val; omega

theorem at1 (i : Fin 4352) (s : Fin 1024) (f : Fin 8192) (hf : f.val = 1024 * (t.val % 8) + s.val) :
    iblk m c 1 t (ix2 i s) = V m c main_v15 (ix2 i f) := by
  obtain ⟨e0, e1⟩ := idx1 t
  refine congrArg (V m c main_v15) (?_ : ((cfg0.win 1).blk t).view.emb _ = _)
  funext a; apply Fin.ext
  match a with
  | ⟨0, _⟩ => show win0_1.index t (0 : Fin 2) * 4352 + 1 * i.val = i.val; omega
  | ⟨1, _⟩ => show win0_1.index t (1 : Fin 2) * 1024 + 1 * s.val = f.val; omega

theorem wrote (r : Fin 512) (s : Fin 1024) (d : Fin 2048) (f : Fin 8192) (hd : d.val = 512 * (t.val / 8) + r.val)
    (hf : f.val = 1024 * (t.val % 8) + s.val) :
    (dats m 0 c).arrAt 2 cfg0.N (ix2 d f) = out0_2 (iblk m c 0 t) (iblk m c 1 t) (ix2 r s) := by
  obtain ⟨e0, e1⟩ := idx2 t
  have h := congrFun (blocks2 m c t (flush0_2 t)) (ix2 r s)
  rw [flushed2] at h
  refine Eq.trans (congrArg ((dats m 0 c).arrAt 2 cfg0.N) (?_ : _ = ((cfg0.win 2).blk t).view.emb (ix2 r s))) h
  funext a; apply Fin.ext
  match a with
  | ⟨0, _⟩ => show d.val = win0_2.index t (0 : Fin 2) * 512 + 1 * r.val; omega
  | ⟨1, _⟩ => show f.val = win0_2.index t (1 : Fin 2) * 1024 + 1 * s.val; omega

/-- The whole result is the reference's. -/
theorem final : (dats m 0 c).arrAt 2 cfg0.N = Mlp.resW1 (m ((c : Thread nD τ).loc main_arg0)) (m ((c : Thread nD τ).loc main_arg1))
    (m ((c : Thread nD τ).loc main_arg2)) (m ((c : Thread nD τ).loc main_arg3)) := by
  funext x
  obtain ⟨d, f, rfl⟩ : ∃ (d : Fin 2048) (f : Fin 8192), x = ix2 d f := ⟨x 0, x 1, eq_ix2 x⟩
  have hd := d.isLt; have hf := f.isLt
  have ht : d.val / 512 * 8 + f.val / 1024 < cfg0.N := show _ < 32 by omega
  have h0 : d.val = 512 * ((d.val / 512 * 8 + f.val / 1024) / 8) + d.val % 512 := by omega
  have h1 : f.val = 1024 * ((d.val / 512 * 8 + f.val / 1024) % 8) + f.val % 1024 := by omega
  rw [wrote m c ⟨_, ht⟩ ⟨d.val % 512, by omega⟩ ⟨f.val % 1024, by omega⟩ d f h0 h1, block, Mlp.resW1_apply]
  refine Finset.sum_congr (M := EReal) rfl fun i _ => ?_
  rw [at0 m c ⟨_, ht⟩ i ⟨d.val % 512, by omega⟩ d h0, at1 m c ⟨_, ht⟩ i ⟨f.val % 1024, by omega⟩ f h1, V_saved]

end Cert.Kernel5Ideal.Own
-- ==== Proof.MlpUpX.lean ====
/-
  The gradient of the layer's input: what the call's blocks hold, what its points write, and the whole result.
-/
module

public import proofs.«01_k».proof.Proof.Gen.Kernel6Ideal.Value
public import proofs.«01_k».proof.Proof.Mlp

@[expose] public section

set_option maxRecDepth 16384

noncomputable section

namespace Cert.Kernel6Ideal.Own

open Cert.Kernel6Ideal Cert.Kernel6Ideal.Gen Cert.Kernel6Ideal.Value Idealize.ShloMosaic Idealize.ShloMosaic.TcCoe Idealize.SL.Sem
open StableHlo
open scoped BigOperators

variable (m : (ℓ : Loc nD τ sig) → Buf (Elt Ideal) ℓ) (c : Dev nD)

set_option maxHeartbeats 2000000 in
/-- The region finds the gradient of the inner values. -/
theorem V_saved : V m c main_v15 = Mlp.savedD (m ((c : Thread nD τ).loc main_arg0)) (m ((c : Thread nD τ).loc main_arg1))
    (m ((c : Thread nD τ).loc main_arg2)) (m ((c : Thread nD τ).loc main_arg3)) := by
  simp only [V, hostOps0, hostOps0_1, hostOps0_2, List.flatten_cons, List.flatten_nil, List.append_nil, List.cons_append,
    List.nil_append, TRef.binary, TRef.nullary, TRef.ternary, TRef.unary, TRef.toBuf, TRef.ofBuf, cast_eq]
  after_results_simp <;> rfl

/-- A block of the result, from the blocks of the operands. -/
theorem block (x0 : Vec Ideal S272x8192 .bf16) (x1 : Vec Ideal S1024x8192 .bf16) (r : Fin 272) (s : Fin 1024) :
    out0_2 x0 x1 (ix2 r s) = ∑ f : Fin 8192, x0 (ix2 r f) * x1 (ix2 s f) := by
  have hz : (![0, 0] : Fin 2 → ℕ) = fun _ => 0 := by funext a; fin_cases a <;> rfl
  unfold out0_2
  rw [View.canon_unit_zero hz, View.ld_unit_zero hz, View.ld_unit_zero hz]
  pointwise [k0_pay1]

variable (t : Fin cfg0.N)

theorem idx0 : win0_0.index t (0 : Fin 2) = t.val % 16 ∧ win0_0.index t (1 : Fin 2) = 0 :=
  (by decide +kernel : ∀ t : Fin grid0.N, win0_0.index t (0 : Fin 2) = t.val % 16 ∧ win0_0.index t (1 : Fin 2) = 0) t
theorem idx1 : win0_1.index t (0 : Fin 2) = t.val / 16 ∧ win0_1.index t (1 : Fin 2) = 0 :=
  (by decide +kernel : ∀ t : Fin grid0.N, win0_1.index t (0 : Fin 2) = t.val / 16 ∧ win0_1.index t (1 : Fin 2) = 0) t
theorem idx2 : win0_2.index t (0 : Fin 2) = t.val % 16 ∧ win0_2.index t (1 : Fin 2) = t.val / 16 :=
  (by decide +kernel : ∀ t : Fin grid0.N, win0_2.index t (0 : Fin 2) = t.val % 16 ∧ win0_2.index t (1 : Fin 2) = t.val / 16) t

theorem at0 (r : Fin 272) (f : Fin 8192) (i : Fin 4352) (hi : i.val = 272 * (t.val % 16) + r.val) :
    iblk m c 0 t (ix2 r f) = V m c main_v15 (ix2 i f) := by
  obtain ⟨e0, e1⟩ := idx0 t
  refine congrArg (V m c main_v15) (?_ : ((cfg0.win 0).blk t).view.emb _ = _)
  funext a; apply Fin.ext
  match a with
  | ⟨0, _⟩ => show win0_0.index t (0 : Fin 2) * 272 + 1 * r.val = i.val; omega
  | ⟨1, _⟩ => show win0_0.index t (1 : Fin 2) * 8192 + 1 * f.val = f.val; omega

theorem at1 (s : Fin 1024) (f : Fin 8192) (d : Fin 2048) (hd : d.val = 1024 * (t.val / 16) + s.val) :
    iblk m c 1 t (ix2 s f) = m ((c : Thread nD τ).loc main_arg1) (ix2 d f) := by
  obtain ⟨e0, e1⟩ := idx1 t
  rw [← V_main_arg1 m c]
  refine congrArg (V m c main_arg1) (?_ : ((cfg0.win 1).blk t).view.emb _ = _)
  funext a; apply Fin.ext
  match a with
  | ⟨0, _⟩ => show win0_1.index t (0 : Fin 2) * 1024 + 1 * s.val = d.val; omega
  | ⟨1, _⟩ => show win0_1.index t (1 : Fin 2) * 8192 + 1 * f.val = f.val; omega

theorem wrote (r : Fin 272) (s : Fin 1024) (i : Fin 4352) (d : Fin 2048) (hi : i.val = 272 * (t.val % 16) + r.val)
    (hd : d.val = 1024 * (t.val / 16) + s.val) :
    (dats m 0 c).arrAt 2 cfg0.N (ix2 i d) = out0_2 (iblk m c 0 t) (iblk m c 1 t) (ix2 r s) := by
  obtain ⟨e0, e1⟩ := idx2 t
  have h := congrFun (blocks2 m c t (flush0_2 t)) (ix2 r s)
  rw [flushed2] at h
  refine Eq.trans (congrArg ((dats m 0 c).arrAt 2 cfg0.N) (?_ : _ = ((cfg0.win 2).blk t).view.emb (ix2 r s))) h
  funext a; apply Fin.ext
  match a with
  | ⟨0, _⟩ => show i.val = win0_2.index t (0 : Fin 2) * 272 + 1 * r.val; omega
  | ⟨1, _⟩ => show d.val = win0_2.index t (1 : Fin 2) * 1024 + 1 * s.val; omega

/-- The whole result is the reference's. -/
theorem final : (dats m 0 c).arrAt 2 cfg0.N = Mlp.resA (m ((c : Thread nD τ).loc main_arg0)) (m ((c : Thread nD τ).loc main_arg1))
    (m ((c : Thread nD τ).loc main_arg2)) (m ((c : Thread nD τ).loc main_arg3)) := by
  funext x
  obtain ⟨i, d, rfl⟩ : ∃ (i : Fin 4352) (d : Fin 2048), x = ix2 i d := ⟨x 0, x 1, eq_ix2 x⟩
  have hi := i.isLt; have hd := d.isLt
  have ht : d.val / 1024 * 16 + i.val / 272 < cfg0.N := show _ < 32 by omega
  have h0 : i.val = 272 * ((d.val / 1024 * 16 + i.val / 272) % 16) + i.val % 272 := by omega
  have h1 : d.val = 1024 * ((d.val / 1024 * 16 + i.val / 272) / 16) + d.val % 1024 := by omega
  rw [wrote m c ⟨_, ht⟩ ⟨i.val % 272, by omega⟩ ⟨d.val % 1024, by omega⟩ i d h0 h1, block, Mlp.resA_apply]
  refine Finset.sum_congr (M := EReal) rfl fun f _ => ?_
  rw [at0 m c ⟨_, ht⟩ ⟨i.val % 272, by omega⟩ f i h0, at1 m c ⟨_, ht⟩ ⟨d.val % 1024, by omega⟩ f d h1, V_saved]

end Cert.Kernel6Ideal.Own
-- ==== Proof.MlpClaims.lean ====
module

public import proofs.«01_k».proof.Defs
public import proofs.«01_k».proof.Proof.MlpDownW
public import proofs.«01_k».proof.Proof.MlpDownX
public import proofs.«01_k».proof.Proof.MlpUpW
public import proofs.«01_k».proof.Proof.MlpUpX
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import Idealize.ShloMosaic.Lib.Claim

/-!
The claims about the backward pass of the squared-ReLU layer, one theorem each: the references leave their arguments
alone, and each call ends with the gradient that its reference computes.
-/

@[expose] public section

open Idealize.ShloMosaic Idealize.ShloMosaic.TcCoe Idealize.SL.Sem

namespace Mlp.Claims

/-- The reference of the second weight's gradient leaves its arguments alone; it declares no semaphore. -/
theorem frame_downW : Cert.quiescent_Reference3Ideal := fun m ρ _ =>
  (θ_run Cert.Reference3Ideal.defs _ _).mono
    (fun r h => ⟨fun c => (h c).2, sem_eq_zero_of_no_sems (by decide) r.2⟩) (Cert.Reference3Ideal.Value.run m ρ)

/-- The reference of the inner values' gradient leaves its arguments alone; it declares no semaphore. -/
theorem frame_downX : Cert.quiescent_Reference4Ideal := fun m ρ _ =>
  (θ_run Cert.Reference4Ideal.defs _ _).mono
    (fun r h => ⟨fun c => (h c).2, sem_eq_zero_of_no_sems (by decide) r.2⟩) (Cert.Reference4Ideal.Value.run m ρ)

/-- The reference of the first weight's gradient leaves its arguments alone; it declares no semaphore. -/
theorem frame_upW : Cert.quiescent_Reference5Ideal := fun m ρ _ =>
  (θ_run Cert.Reference5Ideal.defs _ _).mono
    (fun r h => ⟨fun c => (h c).2, sem_eq_zero_of_no_sems (by decide) r.2⟩) (Cert.Reference5Ideal.Value.run m ρ)

/-- The reference of the input's gradient leaves its arguments alone; it declares no semaphore. -/
theorem frame_upX : Cert.quiescent_Reference6Ideal := fun m ρ _ =>
  (θ_run Cert.Reference6Ideal.defs _ _).mono
    (fun r h => ⟨fun c => (h c).2, sem_eq_zero_of_no_sems (by decide) r.2⟩) (Cert.Reference6Ideal.Value.run m ρ)

/-- Kernel and reference end with the same gradient of the second weight. -/
theorem downW : Cert.algebraic_Kernel3Ideal_Reference3Ideal := by
  intro m g m' g' _ hagree
  refine ⟨_, (θ_run Cert.Kernel3Ideal.defs _ _).mono
    (fun r h c => ⟨(h c).1.trans (Cert.Kernel3Ideal.Own.final m c), (h c).2⟩) (Cert.Kernel3Ideal.Value.run_blocks m g), ?_⟩
  refine (θ_run Cert.Reference3Ideal.defs _ _).mono (fun r h c => ?_) (Cert.Reference3Ideal.Value.run m' g')
  obtain ⟨h0, h1, _, h3⟩ := hagree c
  rw [← h0, ← h1, ← h3]
  exact h c

/-- Kernel and reference end with the same gradient of the inner values. -/
theorem downX : Cert.algebraic_Kernel4Ideal_Reference4Ideal := by
  intro m g m' g' _ hagree
  refine ⟨_, (θ_run Cert.Kernel4Ideal.defs _ _).mono
    (fun r h c => ⟨(h c).1.trans (Cert.Kernel4Ideal.Own.final m c), (h c).2⟩) (Cert.Kernel4Ideal.Value.run_blocks m g), ?_⟩
  refine (θ_run Cert.Reference4Ideal.defs _ _).mono (fun r h c => ?_) (Cert.Reference4Ideal.Value.run m' g')
  obtain ⟨h0, h1, h2, h3⟩ := hagree c
  rw [← h0, ← h1, ← h2, ← h3]
  exact h c

/-- Kernel and reference end with the same gradient of the first weight. -/
theorem upW : Cert.algebraic_Kernel5Ideal_Reference5Ideal := by
  intro m g m' g' _ hagree
  refine ⟨_, (θ_run Cert.Kernel5Ideal.defs _ _).mono
    (fun r h c => ⟨(h c).1.trans (Cert.Kernel5Ideal.Own.final m c), (h c).2⟩) (Cert.Kernel5Ideal.Value.run_blocks m g), ?_⟩
  refine (θ_run Cert.Reference5Ideal.defs _ _).mono (fun r h c => ?_) (Cert.Reference5Ideal.Value.run m' g')
  obtain ⟨h0, h1, h2, h3⟩ := hagree c
  rw [← h0, ← h1, ← h2, ← h3]
  exact h c

/-- Kernel and reference end with the same gradient of the input. -/
theorem upX : Cert.algebraic_Kernel6Ideal_Reference6Ideal := by
  intro m g m' g' _ hagree
  refine ⟨_, (θ_run Cert.Kernel6Ideal.defs _ _).mono
    (fun r h c => ⟨(h c).1.trans (Cert.Kernel6Ideal.Own.final m c), (h c).2⟩) (Cert.Kernel6Ideal.Value.run_blocks m g), ?_⟩
  refine (θ_run Cert.Reference6Ideal.defs _ _).mono (fun r h c => ?_) (Cert.Reference6Ideal.Value.run m' g')
  obtain ⟨h0, h1, h2, h3⟩ := hagree c
  rw [← h0, ← h1, ← h2, ← h3]
  exact h c

end Mlp.Claims
-- ==== Proof.Linear.lean ====
/-
  The two gradients of a product, at an index: with respect to the second factor and with respect to the first.
-/
module

public import Idealize.ShloMosaic.Lib.Pointwise
public import Idealize.ShloMosaic.Lib.IdealHost
public import Idealize.ShloMosaic.Lib.ValueIdx
public import Idealize.ShloMosaic.Lib.Pipeline.ValueKit

@[expose] public section

noncomputable section

namespace Linear

open Idealize.ShloMosaic
open scoped BigOperators

variable {n k l : ℕ}

/-- The gradient of the second factor: a sum over the rows. -/
def weight (x : FVec Ideal ⟨2, ![n, k]⟩ .bf16) (ct : FVec Ideal ⟨2, ![n, l]⟩ .bf16) : FVec Ideal ⟨2, ![k, l]⟩ .bf16 :=
  fun j => ∑ i : Fin n, x (ix2 i (j 0)) * ct (ix2 i (j 1))

/-- The gradient of the first factor: a sum over the columns of the second. -/
def input (ct : FVec Ideal ⟨2, ![n, l]⟩ .bf16) (w : FVec Ideal ⟨2, ![k, l]⟩ .bf16) : FVec Ideal ⟨2, ![n, k]⟩ .bf16 :=
  fun j => ∑ f : Fin l, ct (ix2 (j 0) f) * w (ix2 (j 1) f)

/-- A block of the second factor's gradient comes from the columns of the operands at which it sits. -/
theorem weight_block {n k l k' l' : ℕ} {x : FVec Ideal ⟨2, ![n, k]⟩ .bf16} {ct : FVec Ideal ⟨2, ![n, l]⟩ .bf16}
    {x' : FVec Ideal ⟨2, ![n, k']⟩ .bf16} {ct' : FVec Ideal ⟨2, ![n, l']⟩ .bf16} {r : Fin k'} {s : Fin l'} {j : (⟨2, ![k, l]⟩ : Shape).Idx}
    (hx : ∀ i, x' (ix2 i r) = x (ix2 i (j 0))) (hct : ∀ i, ct' (ix2 i s) = ct (ix2 i (j 1))) :
    weight x' ct' (ix2 r s) = weight x ct j :=
  Finset.sum_congr rfl fun i _ => congrArg₂ (fun a b : EReal => a * b) (hx i) (hct i)

/-- A block of the first factor's gradient comes from the rows of the operands at which it sits. -/
theorem input_block {n k l n' k' : ℕ} {ct : FVec Ideal ⟨2, ![n, l]⟩ .bf16} {w : FVec Ideal ⟨2, ![k, l]⟩ .bf16}
    {ct' : FVec Ideal ⟨2, ![n', l]⟩ .bf16} {w' : FVec Ideal ⟨2, ![k', l]⟩ .bf16} {r : Fin n'} {s : Fin k'} {j : (⟨2, ![n, k]⟩ : Shape).Idx}
    (hct : ∀ f, ct' (ix2 r f) = ct (ix2 (j 0) f)) (hw : ∀ f, w' (ix2 s f) = w (ix2 (j 1) f)) :
    input ct' w' (ix2 r s) = input ct w j :=
  Finset.sum_congr rfl fun f _ => congrArg₂ (fun a b : EReal => a * b) (hct f) (hw f)

end Linear
-- ==== Proof.RetInW.lean ====
/-
  The weight gradient of the retention's input projection: what a block of the call holds, the whole result, and the
  claims of the call.
-/
module

public import proofs.«01_k».proof.Proof.Gen.Kernel7Ideal.Value
public import proofs.«01_k».proof.Proof.Linear
public import proofs.«01_k».proof.Defs
public import proofs.«01_k».proof.Proof.Gen.Reference7Ideal.Run
public import Idealize.ShloMosaic.Lib.Claim

@[expose] public section

set_option maxRecDepth 16384

noncomputable section

namespace Cert.Kernel7Ideal.Own

open Cert.Kernel7Ideal Cert.Kernel7Ideal.Gen Cert.Kernel7Ideal.Value Idealize.ShloMosaic Idealize.ShloMosaic.TcCoe Idealize.SL.Sem
open scoped BigOperators

variable (m : (ℓ : Loc nD τ sig) → Buf (Elt Ideal) ℓ) (c : Dev nD)

/-- A block of the result, from the blocks of the operands. -/
theorem block (x0 : Vec Ideal S4352x512 .bf16) (x1 : Vec Ideal S4352x1024 .bf16) : out0_2 x0 x1 = Linear.weight x0 x1 := by
  have hz : (![0, 0] : Fin 2 → ℕ) = fun _ => 0 := by funext a; fin_cases a <;> rfl
  unfold out0_2
  rw [View.canon_unit_zero hz, View.ld_unit_zero hz, View.ld_unit_zero hz]
  funext y
  obtain ⟨r, s, rfl⟩ : ∃ (r : Fin 512) (s : Fin 1024), y = ix2 r s := ⟨y 0, y 1, eq_ix2 y⟩
  pointwise [k0_pay1]
  rfl

theorem idx0 : ∀ t : Fin cfg0.N, win0_0.index t = ![0, t.val / 12] := (by decide +kernel : ∀ t : Fin grid0.N, _)
theorem idx1 : ∀ t : Fin cfg0.N, win0_1.index t = ![0, t.val % 12] := (by decide +kernel : ∀ t : Fin grid0.N, _)
theorem idx2 : ∀ t : Fin cfg0.N, win0_2.index t = ![t.val / 12, t.val % 12] := (by decide +kernel : ∀ t : Fin grid0.N, _)

/-- The whole result. -/
theorem final : (dats m 0 c).arrAt 2 cfg0.N =
    Linear.weight (m ((c : Thread nD τ).loc main_arg0)) (m ((c : Thread nD τ).loc main_arg2)) := by
  refine (dats m 0 c).arrAt_eq_of_covers 2 _ (by decide +kernel) fun t hf y => ?_
  blk_simp
  obtain ⟨r, s, rfl⟩ : ∃ (r : Fin 512) (s : Fin 1024), y = ix2 r s := ⟨y 0, y 1, eq_ix2 y⟩
  rw [after0_2, block]
  refine Linear.weight_block (fun i => ?_) (fun i => ?_)
  · blk_simp [iblk, V]
    refine congrArg (m (c, main_arg0)) ?_
    blk_ext [idx0, idx2]
  · blk_simp [iblk, V]
    refine congrArg (m (c, main_arg2)) ?_
    blk_ext [idx1, idx2]

/-- The reference computes the same, with the factors in the other order. -/
theorem reference (x : FVec Ideal S4352x2048 .bf16) (ct : FVec Ideal S4352x12288 .bf16) :
    truncf .bf16 (transpose Cert.Reference7Ideal.S2048x12288 [1, 0]
      (Host.dotGeneral (F := Ideal) Cert.Reference7Ideal.dot_S4352x12288_S4352x2048_S12288x2048_0_0_1_1_n_n none
        (extf .f32 ct Cert.Reference7Ideal.Gen.bitsLt_bf16_f32) (extf .f32 x Cert.Reference7Ideal.Gen.bitsLt_bf16_f32))
      Cert.Reference7Ideal.Gen.transposes_S12288x2048_S2048x12288_1_0) Cert.Reference7Ideal.Gen.bitsLt_bf16_f32 = Linear.weight x ct := by
  funext j
  obtain ⟨k, n, rfl⟩ : ∃ (k : Fin 2048) (n : Fin 12288), j = ix2 k n := ⟨j 0, j 1, eq_ix2 j⟩
  pointwise []
  exact Finset.sum_congr rfl fun i _ => mul_comm _ _

/-- The reference leaves its arguments alone; it declares no semaphore. -/
theorem frame_reference : Cert.quiescent_Reference7Ideal := fun m ρ _ =>
  (θ_run Cert.Reference7Ideal.defs _ _).mono
    (fun r h => ⟨fun c => (h c).2, sem_eq_zero_of_no_sems (by decide) r.2⟩) (Cert.Reference7Ideal.Value.run m ρ)

/-- Kernel and reference end with the same gradient. -/
theorem same : Cert.algebraic_Kernel7Ideal_Reference7Ideal := by
  intro m g m' g' _ hagree
  refine ⟨_, (θ_run defs _ _).mono (fun r h c => ⟨(h c).1.trans (final m c), (h c).2⟩) (run_blocks m g), ?_⟩
  refine (θ_run Cert.Reference7Ideal.defs _ _).mono (fun r h c => ?_) (Cert.Reference7Ideal.Value.run m' g')
  obtain ⟨h0, _, h2⟩ := hagree c
  rw [← h0, ← h2]
  exact ⟨(h c).1.trans (reference _ _), (h c).2⟩

end Cert.Kernel7Ideal.Own
-- ==== Proof.RetInX.lean ====
/-
  The input gradient of the retention's input projection: what a block of the call holds, the whole result, and the
  claims of the call.
-/
module

public import proofs.«01_k».proof.Proof.Gen.Kernel8Ideal.Value
public import proofs.«01_k».proof.Proof.Linear
public import proofs.«01_k».proof.Defs
public import proofs.«01_k».proof.Proof.Gen.Reference8Ideal.Run
public import Idealize.ShloMosaic.Lib.Claim

@[expose] public section

set_option maxRecDepth 16384

noncomputable section

namespace Cert.Kernel8Ideal.Own

open Cert.Kernel8Ideal Cert.Kernel8Ideal.Gen Cert.Kernel8Ideal.Value Idealize.ShloMosaic Idealize.ShloMosaic.TcCoe Idealize.SL.Sem
open scoped BigOperators

variable (m : (ℓ : Loc nD τ sig) → Buf (Elt Ideal) ℓ) (c : Dev nD)

/-- A block of the result, from the blocks of the operands. -/
theorem block (x0 : Vec Ideal S272x12288 .bf16) (x1 : Vec Ideal S1024x12288 .bf16) : out0_2 x0 x1 = Linear.input x0 x1 := by
  have hz : (![0, 0] : Fin 2 → ℕ) = fun _ => 0 := by funext a; fin_cases a <;> rfl
  unfold out0_2
  rw [View.canon_unit_zero hz, View.ld_unit_zero hz, View.ld_unit_zero hz]
  funext y
  obtain ⟨r, s, rfl⟩ : ∃ (r : Fin 272) (s : Fin 1024), y = ix2 r s := ⟨y 0, y 1, eq_ix2 y⟩
  pointwise [k0_pay1]
  rfl

theorem idx0 : ∀ t : Fin cfg0.N, win0_0.index t = ![t.val % 16, 0] := (by decide +kernel : ∀ t : Fin grid0.N, _)
theorem idx1 : ∀ t : Fin cfg0.N, win0_1.index t = ![t.val / 16, 0] := (by decide +kernel : ∀ t : Fin grid0.N, _)
theorem idx2 : ∀ t : Fin cfg0.N, win0_2.index t = ![t.val % 16, t.val / 16] := (by decide +kernel : ∀ t : Fin grid0.N, _)

/-- The whole result. -/
theorem final : (dats m 0 c).arrAt 2 cfg0.N =
    Linear.input (m ((c : Thread nD τ).loc main_arg2)) (m ((c : Thread nD τ).loc main_arg1)) := by
  refine (dats m 0 c).arrAt_eq_of_covers 2 _ (by decide +kernel) fun t hf y => ?_
  blk_simp
  obtain ⟨r, s, rfl⟩ : ∃ (r : Fin 272) (s : Fin 1024), y = ix2 r s := ⟨y 0, y 1, eq_ix2 y⟩
  rw [after0_2, block]
  refine Linear.input_block (fun f => ?_) (fun f => ?_)
  · blk_simp [iblk, V]
    refine congrArg (m (c, main_arg2)) ?_
    blk_ext [idx0, idx2]
  · blk_simp [iblk, V]
    refine congrArg (m (c, main_arg1)) ?_
    blk_ext [idx1, idx2]

/-- The reference computes the same. -/
theorem reference (ct : FVec Ideal S4352x12288 .bf16) (w : FVec Ideal S2048x12288 .bf16) :
    truncf .bf16 (Host.dotGeneral (F := Ideal) Cert.Reference8Ideal.dot_S4352x12288_S2048x12288_S4352x2048_1_1_0_0_n_n none
      (extf .f32 ct Cert.Reference8Ideal.Gen.bitsLt_bf16_f32) (extf .f32 w Cert.Reference8Ideal.Gen.bitsLt_bf16_f32))
      Cert.Reference8Ideal.Gen.bitsLt_bf16_f32 = Linear.input ct w := by
  funext j
  obtain ⟨i, k, rfl⟩ : ∃ (i : Fin 4352) (k : Fin 2048), j = ix2 i k := ⟨j 0, j 1, eq_ix2 j⟩
  pointwise []
  rfl

/-- The reference leaves its arguments alone; it declares no semaphore. -/
theorem frame_reference : Cert.quiescent_Reference8Ideal := fun m ρ _ =>
  (θ_run Cert.Reference8Ideal.defs _ _).mono
    (fun r h => ⟨fun c => (h c).2, sem_eq_zero_of_no_sems (by decide) r.2⟩) (Cert.Reference8Ideal.Value.run m ρ)

/-- Kernel and reference end with the same gradient. -/
theorem same : Cert.algebraic_Kernel8Ideal_Reference8Ideal := by
  intro m g m' g' _ hagree
  refine ⟨_, (θ_run defs _ _).mono (fun r h c => ⟨(h c).1.trans (final m c), (h c).2⟩) (run_blocks m g), ?_⟩
  refine (θ_run Cert.Reference8Ideal.defs _ _).mono (fun r h c => ?_) (Cert.Reference8Ideal.Value.run m' g')
  obtain ⟨_, h1, h2⟩ := hagree c
  rw [← h1, ← h2]
  exact ⟨(h c).1.trans (reference _ _), (h c).2⟩

end Cert.Kernel8Ideal.Own
-- ==== Proof.RetOutW.lean ====
/-
  The weight gradient of the retention's output projection: what a block of the call holds, the whole result, and the
  claims of the call.
-/
module

public import proofs.«01_k».proof.Proof.Gen.Kernel9Ideal.Value
public import proofs.«01_k».proof.Proof.Linear
public import proofs.«01_k».proof.Defs
public import proofs.«01_k».proof.Proof.Gen.Reference9Ideal.Run
public import Idealize.ShloMosaic.Lib.Claim

@[expose] public section

set_option maxRecDepth 16384

noncomputable section

namespace Cert.Kernel9Ideal.Own

open Cert.Kernel9Ideal Cert.Kernel9Ideal.Gen Cert.Kernel9Ideal.Value Idealize.ShloMosaic Idealize.ShloMosaic.TcCoe Idealize.SL.Sem
open scoped BigOperators

variable (m : (ℓ : Loc nD τ sig) → Buf (Elt Ideal) ℓ) (c : Dev nD)

/-- A block of the result, from the blocks of the operands. -/
theorem block (x0 : Vec Ideal S4352x512 .bf16) (x1 : Vec Ideal S4352x1024 .bf16) : out0_2 x0 x1 = Linear.weight x0 x1 := by
  have hz : (![0, 0] : Fin 2 → ℕ) = fun _ => 0 := by funext a; fin_cases a <;> rfl
  unfold out0_2
  rw [View.canon_unit_zero hz, View.ld_unit_zero hz, View.ld_unit_zero hz]
  funext y
  obtain ⟨r, s, rfl⟩ : ∃ (r : Fin 512) (s : Fin 1024), y = ix2 r s := ⟨y 0, y 1, eq_ix2 y⟩
  pointwise [k0_pay1]
  rfl

theorem idx0 : ∀ t : Fin cfg0.N, win0_0.index t = ![0, t.val / 2] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

/-- The whole result. -/
theorem final : (dats m 0 c).arrAt 2 cfg0.N =
    Linear.weight (m ((c : Thread nD τ).loc main_arg0)) (m ((c : Thread nD τ).loc main_arg2)) := by
  refine (dats m 0 c).arrAt_eq_of_covers 2 _ (by decide +kernel) fun t hf y => ?_
  blk_simp
  obtain ⟨r, s, rfl⟩ : ∃ (r : Fin 512) (s : Fin 1024), y = ix2 r s := ⟨y 0, y 1, eq_ix2 y⟩
  rw [after0_2, block]
  refine Linear.weight_block (fun i => ?_) (fun i => ?_)
  · blk_simp [iblk, V]
    refine congrArg (m (c, main_arg0)) ?_
    blk_ext [idx0, idx2]
  · blk_simp [iblk, V]
    refine congrArg (m (c, main_arg2)) ?_
    blk_ext [idx1, idx2]

/-- The reference computes the same, with the factors in the other order. -/
theorem reference (x : FVec Ideal S4352x4096 .bf16) (ct : FVec Ideal S4352x2048 .bf16) :
    truncf .bf16 (transpose Cert.Reference9Ideal.S4096x2048 [1, 0]
      (Host.dotGeneral (F := Ideal) Cert.Reference9Ideal.dot_S4352x2048_S4352x4096_S2048x4096_0_0_1_1_n_n none
        (extf .f32 ct Cert.Reference9Ideal.Gen.bitsLt_bf16_f32) (extf .f32 x Cert.Reference9Ideal.Gen.bitsLt_bf16_f32))
      Cert.Reference9Ideal.Gen.transposes_S2048x4096_S4096x2048_1_0) Cert.Reference9Ideal.Gen.bitsLt_bf16_f32 = Linear.weight x ct := by
  funext j
  obtain ⟨k, n, rfl⟩ : ∃ (k : Fin 4096) (n : Fin 2048), j = ix2 k n := ⟨j 0, j 1, eq_ix2 j⟩
  pointwise []
  exact Finset.sum_congr rfl fun i _ => mul_comm _ _

/-- The reference leaves its arguments alone; it declares no semaphore. -/
theorem frame_reference : Cert.quiescent_Reference9Ideal := fun m ρ _ =>
  (θ_run Cert.Reference9Ideal.defs _ _).mono
    (fun r h => ⟨fun c => (h c).2, sem_eq_zero_of_no_sems (by decide) r.2⟩) (Cert.Reference9Ideal.Value.run m ρ)

/-- Kernel and reference end with the same gradient. -/
theorem same : Cert.algebraic_Kernel9Ideal_Reference9Ideal := by
  intro m g m' g' _ hagree
  refine ⟨_, (θ_run defs _ _).mono (fun r h c => ⟨(h c).1.trans (final m c), (h c).2⟩) (run_blocks m g), ?_⟩
  refine (θ_run Cert.Reference9Ideal.defs _ _).mono (fun r h c => ?_) (Cert.Reference9Ideal.Value.run m' g')
  obtain ⟨h0, _, h2⟩ := hagree c
  rw [← h0, ← h2]
  exact ⟨(h c).1.trans (reference _ _), (h c).2⟩

end Cert.Kernel9Ideal.Own
-- ==== Proof.RetOutX.lean ====
/-
  The input gradient of the retention's output projection: what a block of the call holds, the whole result, and the
  claims of the call.
-/
module

public import proofs.«01_k».proof.Proof.Gen.Kernel10Ideal.Value
public import proofs.«01_k».proof.Proof.Linear
public import proofs.«01_k».proof.Defs
public import proofs.«01_k».proof.Proof.Gen.Reference10Ideal.Run
public import Idealize.ShloMosaic.Lib.Claim

@[expose] public section

set_option maxRecDepth 16384

noncomputable section

namespace Cert.Kernel10Ideal.Own

open Cert.Kernel10Ideal Cert.Kernel10Ideal.Gen Cert.Kernel10Ideal.Value Idealize.ShloMosaic Idealize.ShloMosaic.TcCoe Idealize.SL.Sem
open scoped BigOperators

variable (m : (ℓ : Loc nD τ sig) → Buf (Elt Ideal) ℓ) (c : Dev nD)

/-- A block of the result, from the blocks of the operands. -/
theorem block (x0 : Vec Ideal S1088x2048 .bf16) (x1 : Vec Ideal S1024x2048 .bf16) : out0_2 x0 x1 = Linear.input x0 x1 := by
  have hz : (![0, 0] : Fin 2 → ℕ) = fun _ => 0 := by funext a; fin_cases a <;> rfl
  unfold out0_2
  rw [View.canon_unit_zero hz, View.ld_unit_zero hz, View.ld_unit_zero hz]
  funext y
  obtain ⟨r, s, rfl⟩ : ∃ (r : Fin 1088) (s : Fin 1024), y = ix2 r s := ⟨y 0, y 1, eq_ix2 y⟩
  pointwise [k0_pay1]
  rfl

theorem idx0 : ∀ t : Fin cfg0.N, win0_0.index t = ![t.val / 4, 0] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, t.val % 4] := (by decide +kernel : ∀ t : Fin grid0.N, _)

/-- The whole result. -/
theorem final : (dats m 0 c).arrAt 2 cfg0.N =
    Linear.input (m ((c : Thread nD τ).loc main_arg2)) (m ((c : Thread nD τ).loc main_arg1)) := by
  refine (dats m 0 c).arrAt_eq_of_covers 2 _ (by decide +kernel) fun t hf y => ?_
  blk_simp
  obtain ⟨r, s, rfl⟩ : ∃ (r : Fin 1088) (s : Fin 1024), y = ix2 r s := ⟨y 0, y 1, eq_ix2 y⟩
  rw [after0_2, block]
  refine Linear.input_block (fun f => ?_) (fun f => ?_)
  · blk_simp [iblk, V]
    refine congrArg (m (c, main_arg2)) ?_
    blk_ext [idx0, idx2]
  · blk_simp [iblk, V]
    refine congrArg (m (c, main_arg1)) ?_
    blk_ext [idx1, idx2]

/-- The reference computes the same. -/
theorem reference (ct : FVec Ideal S4352x2048 .bf16) (w : FVec Ideal S4096x2048 .bf16) :
    truncf .bf16 (Host.dotGeneral (F := Ideal) Cert.Reference10Ideal.dot_S4352x2048_S4096x2048_S4352x4096_1_1_0_0_n_n none
      (extf .f32 ct Cert.Reference10Ideal.Gen.bitsLt_bf16_f32) (extf .f32 w Cert.Reference10Ideal.Gen.bitsLt_bf16_f32))
      Cert.Reference10Ideal.Gen.bitsLt_bf16_f32 = Linear.input ct w := by
  funext j
  obtain ⟨i, k, rfl⟩ : ∃ (i : Fin 4352) (k : Fin 4096), j = ix2 i k := ⟨j 0, j 1, eq_ix2 j⟩
  pointwise []
  rfl

/-- The reference leaves its arguments alone; it declares no semaphore. -/
theorem frame_reference : Cert.quiescent_Reference10Ideal := fun m ρ _ =>
  (θ_run Cert.Reference10Ideal.defs _ _).mono
    (fun r h => ⟨fun c => (h c).2, sem_eq_zero_of_no_sems (by decide) r.2⟩) (Cert.Reference10Ideal.Value.run m ρ)

/-- Kernel and reference end with the same gradient. -/
theorem same : Cert.algebraic_Kernel10Ideal_Reference10Ideal := by
  intro m g m' g' _ hagree
  refine ⟨_, (θ_run defs _ _).mono (fun r h c => ⟨(h c).1.trans (final m c), (h c).2⟩) (run_blocks m g), ?_⟩
  refine (θ_run Cert.Reference10Ideal.defs _ _).mono (fun r h c => ?_) (Cert.Reference10Ideal.Value.run m' g')
  obtain ⟨_, h1, h2⟩ := hagree c
  rw [← h1, ← h2]
  exact ⟨(h c).1.trans (reference _ _), (h c).2⟩

end Cert.Kernel10Ideal.Own
-- ==== Proof.AttnInW.lean ====
/-
  The weight gradient of the attention's input projection: what a block of the call holds, the whole result, and the
  claims of the call.
-/
module

public import proofs.«01_k».proof.Proof.Gen.Kernel11Ideal.Value
public import proofs.«01_k».proof.Proof.Linear
public import proofs.«01_k».proof.Defs
public import proofs.«01_k».proof.Proof.Gen.Reference11Ideal.Run
public import Idealize.ShloMosaic.Lib.Claim

@[expose] public section

set_option maxRecDepth 16384

noncomputable section

namespace Cert.Kernel11Ideal.Own

open Cert.Kernel11Ideal Cert.Kernel11Ideal.Gen Cert.Kernel11Ideal.Value Idealize.ShloMosaic Idealize.ShloMosaic.TcCoe Idealize.SL.Sem
open scoped BigOperators

variable (m : (ℓ : Loc nD τ sig) → Buf (Elt Ideal) ℓ) (c : Dev nD)

/-- A block of the result, from the blocks of the operands. -/
theorem block (x0 : Vec Ideal S4352x512 .bf16) (x1 : Vec Ideal S4352x1024 .bf16) : out0_2 x0 x1 = Linear.weight x0 x1 := by
  have hz : (![0, 0] : Fin 2 → ℕ) = fun _ => 0 := by funext a; fin_cases a <;> rfl
  unfold out0_2
  rw [View.canon_unit_zero hz, View.ld_unit_zero hz, View.ld_unit_zero hz]
  funext y
  obtain ⟨r, s, rfl⟩ : ∃ (r : Fin 512) (s : Fin 1024), y = ix2 r s := ⟨y 0, y 1, eq_ix2 y⟩
  pointwise [k0_pay1]
  rfl

theorem idx0 : ∀ t : Fin cfg0.N, win0_0.index t = ![0, t.val / 3] := (by decide +kernel : ∀ t : Fin grid0.N, _)
theorem idx1 : ∀ t : Fin cfg0.N, win0_1.index t = ![0, t.val % 3] := (by decide +kernel : ∀ t : Fin grid0.N, _)
theorem idx2 : ∀ t : Fin cfg0.N, win0_2.index t = ![t.val / 3, t.val % 3] := (by decide +kernel : ∀ t : Fin grid0.N, _)

/-- The whole result. -/
theorem final : (dats m 0 c).arrAt 2 cfg0.N =
    Linear.weight (m ((c : Thread nD τ).loc main_arg0)) (m ((c : Thread nD τ).loc main_arg2)) := by
  refine (dats m 0 c).arrAt_eq_of_covers 2 _ (by decide +kernel) fun t hf y => ?_
  blk_simp
  obtain ⟨r, s, rfl⟩ : ∃ (r : Fin 512) (s : Fin 1024), y = ix2 r s := ⟨y 0, y 1, eq_ix2 y⟩
  rw [after0_2, block]
  refine Linear.weight_block (fun i => ?_) (fun i => ?_)
  · blk_simp [iblk, V]
    refine congrArg (m (c, main_arg0)) ?_
    blk_ext [idx0, idx2]
  · blk_simp [iblk, V]
    refine congrArg (m (c, main_arg2)) ?_
    blk_ext [idx1, idx2]

/-- The reference computes the same, with the factors in the other order. -/
theorem reference (x : FVec Ideal S4352x2048 .bf16) (ct : FVec Ideal S4352x3072 .bf16) :
    truncf .bf16 (transpose Cert.Reference11Ideal.S2048x3072 [1, 0]
      (Host.dotGeneral (F := Ideal) Cert.Reference11Ideal.dot_S4352x3072_S4352x2048_S3072x2048_0_0_1_1_n_n none
        (extf .f32 ct Cert.Reference11Ideal.Gen.bitsLt_bf16_f32) (extf .f32 x Cert.Reference11Ideal.Gen.bitsLt_bf16_f32))
      Cert.Reference11Ideal.Gen.transposes_S3072x2048_S2048x3072_1_0) Cert.Reference11Ideal.Gen.bitsLt_bf16_f32 = Linear.weight x ct := by
  funext j
  obtain ⟨k, n, rfl⟩ : ∃ (k : Fin 2048) (n : Fin 3072), j = ix2 k n := ⟨j 0, j 1, eq_ix2 j⟩
  pointwise []
  exact Finset.sum_congr rfl fun i _ => mul_comm _ _

/-- The reference leaves its arguments alone; it declares no semaphore. -/
theorem frame_reference : Cert.quiescent_Reference11Ideal := fun m ρ _ =>
  (θ_run Cert.Reference11Ideal.defs _ _).mono
    (fun r h => ⟨fun c => (h c).2, sem_eq_zero_of_no_sems (by decide) r.2⟩) (Cert.Reference11Ideal.Value.run m ρ)

/-- Kernel and reference end with the same gradient. -/
theorem same : Cert.algebraic_Kernel11Ideal_Reference11Ideal := by
  intro m g m' g' _ hagree
  refine ⟨_, (θ_run defs _ _).mono (fun r h c => ⟨(h c).1.trans (final m c), (h c).2⟩) (run_blocks m g), ?_⟩
  refine (θ_run Cert.Reference11Ideal.defs _ _).mono (fun r h c => ?_) (Cert.Reference11Ideal.Value.run m' g')
  obtain ⟨h0, _, h2⟩ := hagree c
  rw [← h0, ← h2]
  exact ⟨(h c).1.trans (reference _ _), (h c).2⟩

end Cert.Kernel11Ideal.Own
-- ==== Proof.AttnInX.lean ====
/-
  The input gradient of the attention's input projection: what a block of the call holds, the whole result, and the
  claims of the call.
-/
module

public import proofs.«01_k».proof.Proof.Gen.Kernel12Ideal.Value
public import proofs.«01_k».proof.Proof.Linear
public import proofs.«01_k».proof.Defs
public import proofs.«01_k».proof.Proof.Gen.Reference12Ideal.Run
public import Idealize.ShloMosaic.Lib.Claim

@[expose] public section

set_option maxRecDepth 16384

noncomputable section

namespace Cert.Kernel12Ideal.Own

open Cert.Kernel12Ideal Cert.Kernel12Ideal.Gen Cert.Kernel12Ideal.Value Idealize.ShloMosaic Idealize.ShloMosaic.TcCoe Idealize.SL.Sem
open scoped BigOperators

variable (m : (ℓ : Loc nD τ sig) → Buf (Elt Ideal) ℓ) (c : Dev nD)

/-- A block of the result, from the blocks of the operands. -/
theorem block (x0 : Vec Ideal S1088x3072 .bf16) (x1 : Vec Ideal S1024x3072 .bf16) : out0_2 x0 x1 = Linear.input x0 x1 := by
  have hz : (![0, 0] : Fin 2 → ℕ) = fun _ => 0 := by funext a; fin_cases a <;> rfl
  unfold out0_2
  rw [View.canon_unit_zero hz, View.ld_unit_zero hz, View.ld_unit_zero hz]
  funext y
  obtain ⟨r, s, rfl⟩ : ∃ (r : Fin 1088) (s : Fin 1024), y = ix2 r s := ⟨y 0, y 1, eq_ix2 y⟩
  pointwise [k0_pay1]
  rfl

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)

/-- The whole result. -/
theorem final : (dats m 0 c).arrAt 2 cfg0.N =
    Linear.input (m ((c : Thread nD τ).loc main_arg2)) (m ((c : Thread nD τ).loc main_arg1)) := by
  refine (dats m 0 c).arrAt_eq_of_covers 2 _ (by decide +kernel) fun t hf y => ?_
  blk_simp
  obtain ⟨r, s, rfl⟩ : ∃ (r : Fin 1088) (s : Fin 1024), y = ix2 r s := ⟨y 0, y 1, eq_ix2 y⟩
  rw [after0_2, block]
  refine Linear.input_block (fun f => ?_) (fun f => ?_)
  · blk_simp [iblk, V]
    refine congrArg (m (c, main_arg2)) ?_
    blk_ext [idx0, idx2]
  · blk_simp [iblk, V]
    refine congrArg (m (c, main_arg1)) ?_
    blk_ext [idx1, idx2]

/-- The reference computes the same. -/
theorem reference (ct : FVec Ideal S4352x3072 .bf16) (w : FVec Ideal S2048x3072 .bf16) :
    truncf .bf16 (Host.dotGeneral (F := Ideal) Cert.Reference12Ideal.dot_S4352x3072_S2048x3072_S4352x2048_1_1_0_0_n_n none
      (extf .f32 ct Cert.Reference12Ideal.Gen.bitsLt_bf16_f32) (extf .f32 w Cert.Reference12Ideal.Gen.bitsLt_bf16_f32))
      Cert.Reference12Ideal.Gen.bitsLt_bf16_f32 = Linear.input ct w := by
  funext j
  obtain ⟨i, k, rfl⟩ : ∃ (i : Fin 4352) (k : Fin 2048), j = ix2 i k := ⟨j 0, j 1, eq_ix2 j⟩
  pointwise []
  rfl

/-- The reference leaves its arguments alone; it declares no semaphore. -/
theorem frame_reference : Cert.quiescent_Reference12Ideal := fun m ρ _ =>
  (θ_run Cert.Reference12Ideal.defs _ _).mono
    (fun r h => ⟨fun c => (h c).2, sem_eq_zero_of_no_sems (by decide) r.2⟩) (Cert.Reference12Ideal.Value.run m ρ)

/-- Kernel and reference end with the same gradient. -/
theorem same : Cert.algebraic_Kernel12Ideal_Reference12Ideal := by
  intro m g m' g' _ hagree
  refine ⟨_, (θ_run defs _ _).mono (fun r h c => ⟨(h c).1.trans (final m c), (h c).2⟩) (run_blocks m g), ?_⟩
  refine (θ_run Cert.Reference12Ideal.defs _ _).mono (fun r h c => ?_) (Cert.Reference12Ideal.Value.run m' g')
  obtain ⟨_, h1, h2⟩ := hagree c
  rw [← h1, ← h2]
  exact ⟨(h c).1.trans (reference _ _), (h c).2⟩

end Cert.Kernel12Ideal.Own
-- ==== Proof.AttnOutW.lean ====
/-
  The weight gradient of the attention's output projection: what a block of the call holds, the whole result, and the
  claims of the call.
-/
module

public import proofs.«01_k».proof.Proof.Gen.Kernel13Ideal.Value
public import proofs.«01_k».proof.Proof.Linear
public import proofs.«01_k».proof.Defs
public import proofs.«01_k».proof.Proof.Gen.Reference13Ideal.Run
public import Idealize.ShloMosaic.Lib.Claim

@[expose] public section

set_option maxRecDepth 16384

noncomputable section

namespace Cert.Kernel13Ideal.Own

open Cert.Kernel13Ideal Cert.Kernel13Ideal.Gen Cert.Kernel13Ideal.Value Idealize.ShloMosaic Idealize.ShloMosaic.TcCoe Idealize.SL.Sem
open scoped BigOperators

variable (m : (ℓ : Loc nD τ sig) → Buf (Elt Ideal) ℓ) (c : Dev nD)

/-- A block of the result, from the blocks of the operands. -/
theorem block (x0 : Vec Ideal S4096x512 .bf16) (x1 : Vec Ideal S4096x1024 .bf16) : out0_2 x0 x1 = Linear.weight x0 x1 := by
  have hz : (![0, 0] : Fin 2 → ℕ) = fun _ => 0 := by funext a; fin_cases a <;> rfl
  unfold out0_2
  rw [View.canon_unit_zero hz, View.ld_unit_zero hz, View.ld_unit_zero hz]
  funext y
  obtain ⟨r, s, rfl⟩ : ∃ (r : Fin 512) (s : Fin 1024), y = ix2 r s := ⟨y 0, y 1, eq_ix2 y⟩
  pointwise [k0_pay1]
  rfl

theorem idx0 : ∀ t : Fin cfg0.N, win0_0.index t = ![0, t.val / 2] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

/-- The whole result. -/
theorem final : (dats m 0 c).arrAt 2 cfg0.N =
    Linear.weight (m ((c : Thread nD τ).loc main_arg0)) (m ((c : Thread nD τ).loc main_arg2)) := by
  refine (dats m 0 c).arrAt_eq_of_covers 2 _ (by decide +kernel) fun t hf y => ?_
  blk_simp
  obtain ⟨r, s, rfl⟩ : ∃ (r : Fin 512) (s : Fin 1024), y = ix2 r s := ⟨y 0, y 1, eq_ix2 y⟩
  rw [after0_2, block]
  refine Linear.weight_block (fun i => ?_) (fun i => ?_)
  · blk_simp [iblk, V]
    refine congrArg (m (c, main_arg0)) ?_
    blk_ext [idx0, idx2]
  · blk_simp [iblk, V]
    refine congrArg (m (c, main_arg2)) ?_
    blk_ext [idx1, idx2]

/-- The reference computes the same, with the factors in the other order. -/
theorem reference (x : FVec Ideal S4096x2048 .bf16) (ct : FVec Ideal S4096x2048 .bf16) :
    truncf .bf16 (transpose Cert.Reference13Ideal.S2048x2048 [1, 0]
      (Host.dotGeneral (F := Ideal) Cert.Reference13Ideal.dot_S4096x2048_S4096x2048_S2048x2048_0_0_1_1_n_n none
        (extf .f32 ct Cert.Reference13Ideal.Gen.bitsLt_bf16_f32) (extf .f32 x Cert.Reference13Ideal.Gen.bitsLt_bf16_f32))
      Cert.Reference13Ideal.Gen.transposes_S2048x2048_S2048x2048_1_0) Cert.Reference13Ideal.Gen.bitsLt_bf16_f32 = Linear.weight x ct := by
  funext j
  obtain ⟨k, n, rfl⟩ : ∃ (k : Fin 2048) (n : Fin 2048), j = ix2 k n := ⟨j 0, j 1, eq_ix2 j⟩
  pointwise []
  exact Finset.sum_congr rfl fun i _ => mul_comm _ _

/-- The reference leaves its arguments alone; it declares no semaphore. -/
theorem frame_reference : Cert.quiescent_Reference13Ideal := fun m ρ _ =>
  (θ_run Cert.Reference13Ideal.defs _ _).mono
    (fun r h => ⟨fun c => (h c).2, sem_eq_zero_of_no_sems (by decide) r.2⟩) (Cert.Reference13Ideal.Value.run m ρ)

/-- Kernel and reference end with the same gradient. -/
theorem same : Cert.algebraic_Kernel13Ideal_Reference13Ideal := by
  intro m g m' g' _ hagree
  refine ⟨_, (θ_run defs _ _).mono (fun r h c => ⟨(h c).1.trans (final m c), (h c).2⟩) (run_blocks m g), ?_⟩
  refine (θ_run Cert.Reference13Ideal.defs _ _).mono (fun r h c => ?_) (Cert.Reference13Ideal.Value.run m' g')
  obtain ⟨h0, _, h2⟩ := hagree c
  rw [← h0, ← h2]
  exact ⟨(h c).1.trans (reference _ _), (h c).2⟩

end Cert.Kernel13Ideal.Own
-- ==== Proof.AttnOutX.lean ====
/-
  The input gradient of the attention's output projection: what a block of the call holds, the whole result, and the
  claims of the call.
-/
module

public import proofs.«01_k».proof.Proof.Gen.Kernel14Ideal.Value
public import proofs.«01_k».proof.Proof.Linear
public import proofs.«01_k».proof.Defs
public import proofs.«01_k».proof.Proof.Gen.Reference14Ideal.Run
public import Idealize.ShloMosaic.Lib.Claim

@[expose] public section

set_option maxRecDepth 16384

noncomputable section

namespace Cert.Kernel14Ideal.Own

open Cert.Kernel14Ideal Cert.Kernel14Ideal.Gen Cert.Kernel14Ideal.Value Idealize.ShloMosaic Idealize.ShloMosaic.TcCoe Idealize.SL.Sem
open scoped BigOperators

variable (m : (ℓ : Loc nD τ sig) → Buf (Elt Ideal) ℓ) (c : Dev nD)

/-- A block of the result, from the blocks of the operands. -/
theorem block (x0 : Vec Ideal S1024x2048 .bf16) (x1 : Vec Ideal S1024x2048 .bf16) : out0_2 x0 x1 = Linear.input x0 x1 := by
  have hz : (![0, 0] : Fin 2 → ℕ) = fun _ => 0 := by funext a; fin_cases a <;> rfl
  unfold out0_2
  rw [View.canon_unit_zero hz, View.ld_unit_zero hz, View.ld_unit_zero hz]
  funext y
  obtain ⟨r, s, rfl⟩ : ∃ (r : Fin 1024) (s : Fin 1024), y = ix2 r s := ⟨y 0, y 1, eq_ix2 y⟩
  pointwise [k0_pay1]
  rfl

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)

/-- The whole result. -/
theorem final : (dats m 0 c).arrAt 2 cfg0.N =
    Linear.input (m ((c : Thread nD τ).loc main_arg2)) (m ((c : Thread nD τ).loc main_arg1)) := by
  refine (dats m 0 c).arrAt_eq_of_covers 2 _ (by decide +kernel) fun t hf y => ?_
  blk_simp
  obtain ⟨r, s, rfl⟩ : ∃ (r : Fin 1024) (s : Fin 1024), y = ix2 r s := ⟨y 0, y 1, eq_ix2 y⟩
  rw [after0_2, block]
  refine Linear.input_block (fun f => ?_) (fun f => ?_)
  · blk_simp [iblk, V]
    refine congrArg (m (c, main_arg2)) ?_
    blk_ext [idx0, idx2]
  · blk_simp [iblk, V]
    refine congrArg (m (c, main_arg1)) ?_
    blk_ext [idx1, idx2]

/-- The reference computes the same. -/
theorem reference (ct : FVec Ideal S4096x2048 .bf16) (w : FVec Ideal S2048x2048 .bf16) :
    truncf .bf16 (Host.dotGeneral (F := Ideal) Cert.Reference14Ideal.dot_S4096x2048_S2048x2048_S4096x2048_1_1_0_0_n_n none
      (extf .f32 ct Cert.Reference14Ideal.Gen.bitsLt_bf16_f32) (extf .f32 w Cert.Reference14Ideal.Gen.bitsLt_bf16_f32))
      Cert.Reference14Ideal.Gen.bitsLt_bf16_f32 = Linear.input ct w := by
  funext j
  obtain ⟨i, k, rfl⟩ : ∃ (i : Fin 4096) (k : Fin 2048), j = ix2 i k := ⟨j 0, j 1, eq_ix2 j⟩
  pointwise []
  rfl

/-- The reference leaves its arguments alone; it declares no semaphore. -/
theorem frame_reference : Cert.quiescent_Reference14Ideal := fun m ρ _ =>
  (θ_run Cert.Reference14Ideal.defs _ _).mono
    (fun r h => ⟨fun c => (h c).2, sem_eq_zero_of_no_sems (by decide) r.2⟩) (Cert.Reference14Ideal.Value.run m ρ)

/-- Kernel and reference end with the same gradient. -/
theorem same : Cert.algebraic_Kernel14Ideal_Reference14Ideal := by
  intro m g m' g' _ hagree
  refine ⟨_, (θ_run defs _ _).mono (fun r h c => ⟨(h c).1.trans (final m c), (h c).2⟩) (run_blocks m g), ?_⟩
  refine (θ_run Cert.Reference14Ideal.defs _ _).mono (fun r h c => ?_) (Cert.Reference14Ideal.Value.run m' g')
  obtain ⟨_, h1, h2⟩ := hagree c
  rw [← h1, ← h2]
  exact ⟨(h c).1.trans (reference _ _), (h c).2⟩

end Cert.Kernel14Ideal.Own
-- ==== Proof.Mlp1UpW.lean ====
/-
  The weight gradient of the second MLP's first product: what a block of the call holds, the whole result, and the
  claims of the call.
-/
module

public import proofs.«01_k».proof.Proof.Gen.Kernel15Ideal.Value
public import proofs.«01_k».proof.Proof.Linear
public import proofs.«01_k».proof.Defs
public import proofs.«01_k».proof.Proof.Gen.Reference15Ideal.Run
public import Idealize.ShloMosaic.Lib.Claim

@[expose] public section

set_option maxRecDepth 16384

noncomputable section

namespace Cert.Kernel15Ideal.Own

open Cert.Kernel15Ideal Cert.Kernel15Ideal.Gen Cert.Kernel15Ideal.Value Idealize.ShloMosaic Idealize.ShloMosaic.TcCoe Idealize.SL.Sem
open scoped BigOperators

variable (m : (ℓ : Loc nD τ sig) → Buf (Elt Ideal) ℓ) (c : Dev nD)

/-- A block of the result, from the blocks of the operands. -/
theorem block (x0 : Vec Ideal S4096x512 .bf16) (x1 : Vec Ideal S4096x1024 .bf16) : out0_2 x0 x1 = Linear.weight x0 x1 := by
  have hz : (![0, 0] : Fin 2 → ℕ) = fun _ => 0 := by funext a; fin_cases a <;> rfl
  unfold out0_2
  rw [View.canon_unit_zero hz, View.ld_unit_zero hz, View.ld_unit_zero hz]
  funext y
  obtain ⟨r, s, rfl⟩ : ∃ (r : Fin 512) (s : Fin 1024), y = ix2 r s := ⟨y 0, y 1, eq_ix2 y⟩
  pointwise [k0_pay1]
  rfl

theorem idx0 : ∀ t : Fin cfg0.N, win0_0.index t = ![0, t.val / 8] := (by decide +kernel : ∀ t : Fin grid0.N, _)
theorem idx1 : ∀ t : Fin cfg0.N, win0_1.index t = ![0, t.val % 8] := (by decide +kernel : ∀ t : Fin grid0.N, _)
theorem idx2 : ∀ t : Fin cfg0.N, win0_2.index t = ![t.val / 8, t.val % 8] := (by decide +kernel : ∀ t : Fin grid0.N, _)

/-- The whole result. -/
theorem final : (dats m 0 c).arrAt 2 cfg0.N =
    Linear.weight (m ((c : Thread nD τ).loc main_arg0)) (m ((c : Thread nD τ).loc main_arg2)) := by
  refine (dats m 0 c).arrAt_eq_of_covers 2 _ (by decide +kernel) fun t hf y => ?_
  blk_simp
  obtain ⟨r, s, rfl⟩ : ∃ (r : Fin 512) (s : Fin 1024), y = ix2 r s := ⟨y 0, y 1, eq_ix2 y⟩
  rw [after0_2, block]
  refine Linear.weight_block (fun i => ?_) (fun i => ?_)
  · blk_simp [iblk, V]
    refine congrArg (m (c, main_arg0)) ?_
    blk_ext [idx0, idx2]
  · blk_simp [iblk, V]
    refine congrArg (m (c, main_arg2)) ?_
    blk_ext [idx1, idx2]

/-- The reference computes the same, with the factors in the other order. -/
theorem reference (x : FVec Ideal S4096x2048 .bf16) (ct : FVec Ideal S4096x8192 .bf16) :
    truncf .bf16 (transpose Cert.Reference15Ideal.S2048x8192 [1, 0]
      (Host.dotGeneral (F := Ideal) Cert.Reference15Ideal.dot_S4096x8192_S4096x2048_S8192x2048_0_0_1_1_n_n none
        (extf .f32 ct Cert.Reference15Ideal.Gen.bitsLt_bf16_f32) (extf .f32 x Cert.Reference15Ideal.Gen.bitsLt_bf16_f32))
      Cert.Reference15Ideal.Gen.transposes_S8192x2048_S2048x8192_1_0) Cert.Reference15Ideal.Gen.bitsLt_bf16_f32 = Linear.weight x ct := by
  funext j
  obtain ⟨k, n, rfl⟩ : ∃ (k : Fin 2048) (n : Fin 8192), j = ix2 k n := ⟨j 0, j 1, eq_ix2 j⟩
  pointwise []
  exact Finset.sum_congr rfl fun i _ => mul_comm _ _

/-- The reference leaves its arguments alone; it declares no semaphore. -/
theorem frame_reference : Cert.quiescent_Reference15Ideal := fun m ρ _ =>
  (θ_run Cert.Reference15Ideal.defs _ _).mono
    (fun r h => ⟨fun c => (h c).2, sem_eq_zero_of_no_sems (by decide) r.2⟩) (Cert.Reference15Ideal.Value.run m ρ)

/-- Kernel and reference end with the same gradient. -/
theorem same : Cert.algebraic_Kernel15Ideal_Reference15Ideal := by
  intro m g m' g' _ hagree
  refine ⟨_, (θ_run defs _ _).mono (fun r h c => ⟨(h c).1.trans (final m c), (h c).2⟩) (run_blocks m g), ?_⟩
  refine (θ_run Cert.Reference15Ideal.defs _ _).mono (fun r h c => ?_) (Cert.Reference15Ideal.Value.run m' g')
  obtain ⟨h0, _, h2⟩ := hagree c
  rw [← h0, ← h2]
  exact ⟨(h c).1.trans (reference _ _), (h c).2⟩

end Cert.Kernel15Ideal.Own
-- ==== Proof.Mlp1UpX.lean ====
/-
  The input gradient of the second MLP's first product: what a block of the call holds, the whole result, and the
  claims of the call.
-/
module

public import proofs.«01_k».proof.Proof.Gen.Kernel16Ideal.Value
public import proofs.«01_k».proof.Proof.Linear
public import proofs.«01_k».proof.Defs
public import proofs.«01_k».proof.Proof.Gen.Reference16Ideal.Run
public import Idealize.ShloMosaic.Lib.Claim

@[expose] public section

set_option maxRecDepth 16384

noncomputable section

namespace Cert.Kernel16Ideal.Own

open Cert.Kernel16Ideal Cert.Kernel16Ideal.Gen Cert.Kernel16Ideal.Value Idealize.ShloMosaic Idealize.ShloMosaic.TcCoe Idealize.SL.Sem
open scoped BigOperators

variable (m : (ℓ : Loc nD τ sig) → Buf (Elt Ideal) ℓ) (c : Dev nD)

/-- A block of the result, from the blocks of the operands. -/
theorem block (x0 : Vec Ideal S256x8192 .bf16) (x1 : Vec Ideal S1024x8192 .bf16) : out0_2 x0 x1 = Linear.input x0 x1 := by
  have hz : (![0, 0] : Fin 2 → ℕ) = fun _ => 0 := by funext a; fin_cases a <;> rfl
  unfold out0_2
  rw [View.canon_unit_zero hz, View.ld_unit_zero hz, View.ld_unit_zero hz]
  funext y
  obtain ⟨r, s, rfl⟩ : ∃ (r : Fin 256) (s : Fin 1024), y = ix2 r s := ⟨y 0, y 1, eq_ix2 y⟩
  pointwise [k0_pay1]
  rfl

theorem idx0 : ∀ t : Fin cfg0.N, win0_0.index t = ![t.val % 16, 0] := (by decide +kernel : ∀ t : Fin grid0.N, _)
theorem idx1 : ∀ t : Fin cfg0.N, win0_1.index t = ![t.val / 16, 0] := (by decide +kernel : ∀ t : Fin grid0.N, _)
theorem idx2 : ∀ t : Fin cfg0.N, win0_2.index t = ![t.val % 16, t.val / 16] := (by decide +kernel : ∀ t : Fin grid0.N, _)

/-- The whole result. -/
theorem final : (dats m 0 c).arrAt 2 cfg0.N =
    Linear.input (m ((c : Thread nD τ).loc main_arg2)) (m ((c : Thread nD τ).loc main_arg1)) := by
  refine (dats m 0 c).arrAt_eq_of_covers 2 _ (by decide +kernel) fun t hf y => ?_
  blk_simp
  obtain ⟨r, s, rfl⟩ : ∃ (r : Fin 256) (s : Fin 1024), y = ix2 r s := ⟨y 0, y 1, eq_ix2 y⟩
  rw [after0_2, block]
  refine Linear.input_block (fun f => ?_) (fun f => ?_)
  · blk_simp [iblk, V]
    refine congrArg (m (c, main_arg2)) ?_
    blk_ext [idx0, idx2]
  · blk_simp [iblk, V]
    refine congrArg (m (c, main_arg1)) ?_
    blk_ext [idx1, idx2]

/-- The reference computes the same. -/
theorem reference (ct : FVec Ideal S4096x8192 .bf16) (w : FVec Ideal S2048x8192 .bf16) :
    truncf .bf16 (Host.dotGeneral (F := Ideal) Cert.Reference16Ideal.dot_S4096x8192_S2048x8192_S4096x2048_1_1_0_0_n_n none
      (extf .f32 ct Cert.Reference16Ideal.Gen.bitsLt_bf16_f32) (extf .f32 w Cert.Reference16Ideal.Gen.bitsLt_bf16_f32))
      Cert.Reference16Ideal.Gen.bitsLt_bf16_f32 = Linear.input ct w := by
  funext j
  obtain ⟨i, k, rfl⟩ : ∃ (i : Fin 4096) (k : Fin 2048), j = ix2 i k := ⟨j 0, j 1, eq_ix2 j⟩
  pointwise []
  rfl

/-- The reference leaves its arguments alone; it declares no semaphore. -/
theorem frame_reference : Cert.quiescent_Reference16Ideal := fun m ρ _ =>
  (θ_run Cert.Reference16Ideal.defs _ _).mono
    (fun r h => ⟨fun c => (h c).2, sem_eq_zero_of_no_sems (by decide) r.2⟩) (Cert.Reference16Ideal.Value.run m ρ)

/-- Kernel and reference end with the same gradient. -/
theorem same : Cert.algebraic_Kernel16Ideal_Reference16Ideal := by
  intro m g m' g' _ hagree
  refine ⟨_, (θ_run defs _ _).mono (fun r h c => ⟨(h c).1.trans (final m c), (h c).2⟩) (run_blocks m g), ?_⟩
  refine (θ_run Cert.Reference16Ideal.defs _ _).mono (fun r h c => ?_) (Cert.Reference16Ideal.Value.run m' g')
  obtain ⟨_, h1, h2⟩ := hagree c
  rw [← h1, ← h2]
  exact ⟨(h c).1.trans (reference _ _), (h c).2⟩

end Cert.Kernel16Ideal.Own
-- ==== Proof.Mlp1DownW.lean ====
/-
  The gradient of the second MLP's second weight: what a block of the call holds, the whole result, and the
  claims of the call.
-/
module

public import proofs.«01_k».proof.Proof.Gen.Kernel17Ideal.Value
public import proofs.«01_k».proof.Proof.Linear
public import proofs.«01_k».proof.Defs
public import proofs.«01_k».proof.Proof.Gen.Reference17Ideal.Run
public import Idealize.ShloMosaic.Lib.Claim

@[expose] public section

set_option maxRecDepth 16384

noncomputable section

namespace Cert.Kernel17Ideal.Own

open Cert.Kernel17Ideal Cert.Kernel17Ideal.Gen Cert.Kernel17Ideal.Value Idealize.ShloMosaic Idealize.ShloMosaic.TcCoe Idealize.SL.Sem
open StableHlo
open scoped BigOperators

variable (m : (ℓ : Loc nD τ sig) → Buf (Elt Ideal) ℓ) (c : Dev nD)

/-- A block of the result, from the blocks of the operands. -/
theorem block (x0 : Vec Ideal S4096x512 .bf16) (x1 : Vec Ideal S4096x1024 .bf16) : out0_2 x0 x1 = Linear.weight x0 x1 := by
  have hz : (![0, 0] : Fin 2 → ℕ) = fun _ => 0 := by funext a; fin_cases a <;> rfl
  unfold out0_2
  rw [View.canon_unit_zero hz, View.ld_unit_zero hz, View.ld_unit_zero hz]
  funext y
  obtain ⟨r, s, rfl⟩ : ∃ (r : Fin 512) (s : Fin 1024), y = ix2 r s := ⟨y 0, y 1, eq_ix2 y⟩
  pointwise [k0_pay1]
  rfl

theorem idx0 : ∀ t : Fin cfg0.N, win0_0.index t = ![0, t.val / 2] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

/-- The squares of the inner values after the ReLU, in the width in which they are saved. -/
def saved (h : FVec Ideal S4096x8192 .f32) : FVec Ideal S4096x8192 .bf16 :=
  truncf .bf16 (mulf (maximumf h (broadcastInDim S4096x8192 ![] bcast_S_S4096x8192 (constant S_ .f32 0x00000000#32)))
    (maximumf h (broadcastInDim S4096x8192 ![] bcast_S_S4096x8192 (constant S_ .f32 0x00000000#32)))) bitsLt_bf16_f32

set_option maxHeartbeats 2000000 in
/-- The region finds the squares of the inner values. -/
theorem V_saved : V m c main_v2 = saved (m ((c : Thread nD τ).loc main_arg0)) := by
  simp only [V, hostOps0, hostOps0_1, List.flatten_cons, List.flatten_nil, List.append_nil, List.cons_append,
    List.nil_append, TRef.binary, TRef.nullary, TRef.ternary, TRef.unary, TRef.toBuf, TRef.ofBuf, cast_eq]
  after_results_simp <;> rfl

/-- The whole result. -/
theorem final : (dats m 0 c).arrAt 2 cfg0.N =
    Linear.weight (saved (m ((c : Thread nD τ).loc main_arg0))) (m ((c : Thread nD τ).loc main_arg2)) := by
  refine (dats m 0 c).arrAt_eq_of_covers 2 _ (by decide +kernel) fun t hf y => ?_
  blk_simp
  obtain ⟨r, s, rfl⟩ : ∃ (r : Fin 512) (s : Fin 1024), y = ix2 r s := ⟨y 0, y 1, eq_ix2 y⟩
  rw [after0_2, block]
  refine Linear.weight_block (fun i => ?_) (fun i => ?_)
  · rw [← V_saved m c]
    blk_simp [iblk]
    refine congrArg (V m c main_v2) ?_
    blk_ext [idx0, idx2]
  · rw [← V_main_arg2 m c]
    blk_simp [iblk]
    refine congrArg (V m c main_arg2) ?_
    blk_ext [idx1, idx2]

/-- The reference computes the same, with the factors in the other order. -/
theorem reference (h : FVec Ideal S4096x8192 .f32) (ct : FVec Ideal S4096x2048 .bf16) :
    truncf .bf16 (transpose Cert.Reference17Ideal.S8192x2048 [1, 0]
      (Host.dotGeneral (F := Ideal) Cert.Reference17Ideal.dot_S4096x2048_S4096x8192_S2048x8192_0_0_1_1_n_n none
        (extf .f32 ct Cert.Reference17Ideal.Gen.bitsLt_bf16_f32)
        (mulf (maximumf h (broadcastInDim Cert.Reference17Ideal.S4096x8192 ![] Cert.Reference17Ideal.Gen.bcast_S_S4096x8192 (constant Cert.Reference17Ideal.S_ .f32 0x00000000#32)))
          (maximumf h (broadcastInDim Cert.Reference17Ideal.S4096x8192 ![] Cert.Reference17Ideal.Gen.bcast_S_S4096x8192 (constant Cert.Reference17Ideal.S_ .f32 0x00000000#32)))))
      Cert.Reference17Ideal.Gen.transposes_S2048x8192_S8192x2048_1_0) Cert.Reference17Ideal.Gen.bitsLt_bf16_f32
      = Linear.weight (saved h) ct := by
  funext j
  obtain ⟨k, n, rfl⟩ : ∃ (k : Fin 8192) (n : Fin 2048), j = ix2 k n := ⟨j 0, j 1, eq_ix2 j⟩
  pointwise []
  refine Finset.sum_congr rfl fun i _ => ?_
  rw [mul_comm]
  refine congrArg (· * _) ?_
  show _ = saved h (ix2 i k)
  pointwise [saved]

/-- The reference leaves its arguments alone; it declares no semaphore. -/
theorem frame_reference : Cert.quiescent_Reference17Ideal := fun m ρ _ =>
  (θ_run Cert.Reference17Ideal.defs _ _).mono
    (fun r h => ⟨fun c => (h c).2, sem_eq_zero_of_no_sems (by decide) r.2⟩) (Cert.Reference17Ideal.Value.run m ρ)

/-- Kernel and reference end with the same gradient. -/
theorem same : Cert.algebraic_Kernel17Ideal_Reference17Ideal := by
  intro m g m' g' _ hagree
  refine ⟨_, (θ_run defs _ _).mono (fun r h c => ⟨(h c).1.trans (final m c), (h c).2⟩) (run_blocks m g), ?_⟩
  refine (θ_run Cert.Reference17Ideal.defs _ _).mono (fun r h c => ?_) (Cert.Reference17Ideal.Value.run m' g')
  obtain ⟨h0, _, h2⟩ := hagree c
  rw [← h0, ← h2]
  exact ⟨(h c).1.trans (reference _ _), (h c).2⟩

end Cert.Kernel17Ideal.Own
-- ==== Proof.Mlp1DownX.lean ====
/-
  The gradient of the second MLP's inner values: what a block of the call holds, the whole result, and the
  claims of the call.
-/
module

public import proofs.«01_k».proof.Proof.Gen.Kernel18Ideal.Value
public import proofs.«01_k».proof.Proof.Linear
public import proofs.«01_k».proof.Defs
public import proofs.«01_k».proof.Proof.Gen.Reference18Ideal.Run
public import Idealize.ShloMosaic.Lib.Claim

@[expose] public section

set_option maxRecDepth 16384

noncomputable section

namespace Cert.Kernel18Ideal.Own

open Cert.Kernel18Ideal Cert.Kernel18Ideal.Gen Cert.Kernel18Ideal.Value Idealize.ShloMosaic Idealize.ShloMosaic.TcCoe Idealize.SL.Sem
open StableHlo
open scoped BigOperators

variable (m : (ℓ : Loc nD τ sig) → Buf (Elt Ideal) ℓ) (c : Dev nD)

/-- Twice an inner value after the ReLU, times the output's gradient taken back through the second product. -/
def result (u : FVec Ideal S4096x8192 .bf16) (w : FVec Ideal S8192x2048 .bf16) (ct : FVec Ideal S4096x2048 .bf16) : FVec Ideal S4096x8192 .bf16 :=
  fun j => Linear.input ct w j * (Ideal.ofBits .f32 0x40000000#32 * u j)

/-- A block of the result, from the blocks of the operands and of the saved values. -/
theorem block (x0 : Vec Ideal S1024x2048 .bf16) (x1 : Vec Ideal S1024x2048 .bf16) (x2 : Vec Ideal S1024x1024 .bf16) :
    out0_3 x0 x1 x2 = fun j => Linear.input x0 x1 j * (Ideal.ofBits .f32 0x40000000#32 * x2 j) := by
  have hz : (![0, 0] : Fin 2 → ℕ) = fun _ => 0 := by funext a; fin_cases a <;> rfl
  unfold out0_3
  rw [View.canon_unit_zero hz, View.ld_unit_zero hz, View.ld_unit_zero hz, View.ld_unit_zero hz]
  funext y
  obtain ⟨r, s, rfl⟩ : ∃ (r : Fin 1024) (s : Fin 1024), y = ix2 r s := ⟨y 0, y 1, eq_ix2 y⟩
  pointwise [k0_pay1]
  rfl

theorem idx0 : ∀ t : Fin cfg0.N, win0_0.index t = ![t.val / 8, 0] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![t.val / 8, t.val % 8] := (by decide +kernel : ∀ t : Fin grid0.N, _)
theorem idx3 : ∀ t : Fin cfg0.N, win0_3.index t = ![t.val / 8, t.val % 8] := (by decide +kernel : ∀ t : Fin grid0.N, _)

/-- The inner values after the ReLU, in the width in which they are saved. -/
def saved (h : FVec Ideal S4096x8192 .f32) : FVec Ideal S4096x8192 .bf16 :=
  truncf .bf16 (maximumf h (broadcastInDim S4096x8192 ![] bcast_S_S4096x8192 (constant S_ .f32 0x00000000#32))) bitsLt_bf16_f32

set_option maxHeartbeats 2000000 in
/-- The region finds the inner values after the ReLU. -/
theorem V_saved : V m c main_v1 = saved (m ((c : Thread nD τ).loc main_arg0)) := by
  simp only [V, hostOps0, hostOps0_1, List.flatten_cons, List.flatten_nil, List.append_nil, List.cons_append,
    List.nil_append, TRef.binary, TRef.nullary, TRef.ternary, TRef.unary, TRef.toBuf, TRef.ofBuf, cast_eq]
  after_results_simp <;> rfl

/-- The whole result. -/
theorem final : (dats m 0 c).arrAt 3 cfg0.N = result (saved (m ((c : Thread nD τ).loc main_arg0)))
    (m ((c : Thread nD τ).loc main_arg1)) (m ((c : Thread nD τ).loc main_arg2)) := by
  refine (dats m 0 c).arrAt_eq_of_covers 3 _ (by decide +kernel) fun t hf y => ?_
  blk_simp
  obtain ⟨r, s, rfl⟩ : ∃ (r : Fin 1024) (s : Fin 1024), y = ix2 r s := ⟨y 0, y 1, eq_ix2 y⟩
  rw [after0_3, block]
  refine congrArg₂ (fun a b : EReal => a * (Ideal.ofBits .f32 0x40000000#32 * b)) (Linear.input_block (fun d => ?_) (fun d => ?_)) ?_
  · rw [← V_main_arg2 m c]
    blk_simp [iblk]
    refine congrArg (V m c main_arg2) ?_
    blk_ext [idx0, idx3]
  · rw [← V_main_arg1 m c]
    blk_simp [iblk]
    refine congrArg (V m c main_arg1) ?_
    blk_ext [idx1, idx3]
  · rw [← V_saved m c]
    blk_simp [iblk]
    refine congrArg (V m c main_v1) ?_
    blk_ext [idx2, idx3]

/-- The reference computes the same: where an inner value is not positive the saved value is zero, so the mask of the
    derivative changes nothing. -/
theorem reference (h : FVec Ideal S4096x8192 .f32) (w : FVec Ideal S8192x2048 .bf16) (ct : FVec Ideal S4096x2048 .bf16) :
    truncf .bf16 (select (cmpf .ogt h (broadcastInDim Cert.Reference18Ideal.S4096x8192 ![] Cert.Reference18Ideal.Gen.bcast_S_S4096x8192 (constant Cert.Reference18Ideal.S_ .f32 0x00000000#32))) (mulf (Host.dotGeneral (F := Ideal) Cert.Reference18Ideal.dot_S4096x2048_S8192x2048_S4096x8192_1_1_0_0_n_n none (extf .f32 ct Cert.Reference18Ideal.Gen.bitsLt_bf16_f32) (extf .f32 w Cert.Reference18Ideal.Gen.bitsLt_bf16_f32)) (mulf (broadcastInDim Cert.Reference18Ideal.S4096x8192 ![] Cert.Reference18Ideal.Gen.bcast_S_S4096x8192 (constant Cert.Reference18Ideal.S_ .f32 0x40000000#32)) (maximumf h (broadcastInDim Cert.Reference18Ideal.S4096x8192 ![] Cert.Reference18Ideal.Gen.bcast_S_S4096x8192 (constant Cert.Reference18Ideal.S_ .f32 0x00000000#32))))) (broadcastInDim Cert.Reference18Ideal.S4096x8192 ![] Cert.Reference18Ideal.Gen.bcast_S_S4096x8192 (constant Cert.Reference18Ideal.S_ .f32 0x00000000#32))) Cert.Reference18Ideal.Gen.bitsLt_bf16_f32 = result (saved h) w ct := by
  funext j
  obtain ⟨i, f, rfl⟩ : ∃ (i : Fin 4096) (f : Fin 8192), j = ix2 i f := ⟨j 0, j 1, eq_ix2 j⟩
  pointwise [result, saved]
  split_ifs with hp
  · rfl
  · rw [max_eq_right (not_lt.mp hp), mul_zero, mul_zero]

/-- The reference leaves its arguments alone; it declares no semaphore. -/
theorem frame_reference : Cert.quiescent_Reference18Ideal := fun m ρ _ =>
  (θ_run Cert.Reference18Ideal.defs _ _).mono
    (fun r h => ⟨fun c => (h c).2, sem_eq_zero_of_no_sems (by decide) r.2⟩) (Cert.Reference18Ideal.Value.run m ρ)

/-- Kernel and reference end with the same gradient. -/
theorem same : Cert.algebraic_Kernel18Ideal_Reference18Ideal := by
  intro m g m' g' _ hagree
  refine ⟨_, (θ_run defs _ _).mono (fun r h c => ⟨(h c).1.trans (final m c), (h c).2⟩) (run_blocks m g), ?_⟩
  refine (θ_run Cert.Reference18Ideal.defs _ _).mono (fun r h c => ?_) (Cert.Reference18Ideal.Value.run m' g')
  obtain ⟨h0, h1, h2⟩ := hagree c
  rw [← h0, ← h1, ← h2]
  exact ⟨(h c).1.trans (reference _ _ _), (h c).2⟩

end Cert.Kernel18Ideal.Own
-- ==== Proof.Forward.lean ====
/-
  A product and what the forward calls make of it, at an index: the ReLU and its square, and the product added to a
  residual through a gate.
-/
module

public import proofs.«01_k».proof.Proof.Words
public import Idealize.ShloMosaic.Lib.Pointwise
public import Idealize.ShloMosaic.Lib.IdealHost
public import Idealize.ShloMosaic.Lib.ValueIdx
public import Idealize.ShloMosaic.Lib.Pipeline.ValueKit

@[expose] public section

noncomputable section

namespace Linear

open Idealize.ShloMosaic
open scoped BigOperators

variable {n k l : ℕ}

/-- The product of two matrices. -/
def product (x : FVec Ideal ⟨2, ![n, k]⟩ .bf16) (w : FVec Ideal ⟨2, ![k, l]⟩ .bf16) : FVec Ideal ⟨2, ![n, l]⟩ .bf16 :=
  fun j => ∑ d : Fin k, x (ix2 (j 0) d) * w (ix2 d (j 1))

/-- The columns of a matrix from `first` on. -/
def columns (first : ℕ) {l' : ℕ} (h : l + first ≤ l') (w : FVec Ideal ⟨2, ![k, l']⟩ .bf16) : FVec Ideal ⟨2, ![k, l]⟩ .bf16 :=
  fun j => w (ix2 (j 0) (⟨first + (j 1).val, by have : (j 1).val < l := (j 1).isLt; omega⟩ : Fin l'))

/-- The product after the ReLU. -/
def relu (x : FVec Ideal ⟨2, ![n, k]⟩ .bf16) (w : FVec Ideal ⟨2, ![k, l]⟩ .bf16) : FVec Ideal ⟨2, ![n, l]⟩ .bf16 :=
  fun j => max (product x w j) 0

/-- The square of the product after the ReLU. -/
def relu2 (x : FVec Ideal ⟨2, ![n, k]⟩ .bf16) (w : FVec Ideal ⟨2, ![k, l]⟩ .bf16) : FVec Ideal ⟨2, ![n, l]⟩ .bf16 :=
  fun j => relu x w j * relu x w j

/-- The product through a gate, added to a residual; rows from `first` on take the gate's second row. -/
def gated (first : ℕ) (x : FVec Ideal ⟨2, ![n, k]⟩ .bf16) (w : FVec Ideal ⟨2, ![k, l]⟩ .bf16) (X : FVec Ideal ⟨2, ![n, l]⟩ .f32)
    (g : FVec Ideal ⟨2, ![2, l]⟩ .f32) : FVec Ideal ⟨2, ![n, l]⟩ .f32 :=
  fun j => X j + (if first ≤ (j 0).val then g (ix2 1 (j 1)) else g (ix2 0 (j 1))) * product x w j

variable {n' l' L : ℕ} {x : FVec Ideal ⟨2, ![n, k]⟩ .bf16} {w : FVec Ideal ⟨2, ![k, l]⟩ .bf16}
  {x' : FVec Ideal ⟨2, ![n', k]⟩ .bf16} {w' : FVec Ideal ⟨2, ![k, l']⟩ .bf16} {r : Fin n'} {s : Fin l'} {j : (⟨2, ![n, l]⟩ : Shape).Idx}

/-- A block of a product comes from the rows and columns at which it sits. -/
theorem product_block (hx : ∀ d, x' (ix2 r d) = x (ix2 (j 0) d)) (hw : ∀ d, w' (ix2 d s) = w (ix2 d (j 1))) :
    product x' w' (ix2 r s) = product x w j :=
  Finset.sum_congr rfl fun d _ => congrArg₂ (fun a b : EReal => a * b) (hx d) (hw d)

theorem relu_block (hx : ∀ d, x' (ix2 r d) = x (ix2 (j 0) d)) (hw : ∀ d, w' (ix2 d s) = w (ix2 d (j 1))) :
    relu x' w' (ix2 r s) = relu x w j :=
  congrArg (fun a : EReal => max a 0) (product_block hx hw)

theorem relu2_block (hx : ∀ d, x' (ix2 r d) = x (ix2 (j 0) d)) (hw : ∀ d, w' (ix2 d s) = w (ix2 d (j 1))) :
    relu2 x' w' (ix2 r s) = relu2 x w j :=
  congrArg (fun a : EReal => a * a) (relu_block hx hw)

/-- A block of the gated sum comes from the blocks of its operands; the rows are counted from the whole array's start. -/
theorem gated_block {first first' : ℕ} {X : FVec Ideal ⟨2, ![n, l]⟩ .f32} {g : FVec Ideal ⟨2, ![2, l]⟩ .f32} {X' : FVec Ideal ⟨2, ![n', l']⟩ .f32}
    {g' : FVec Ideal ⟨2, ![2, l']⟩ .f32} (hf : first' ≤ r.val ↔ first ≤ (j 0).val)
    (hx : ∀ d, x' (ix2 r d) = x (ix2 (j 0) d)) (hw : ∀ d, w' (ix2 d s) = w (ix2 d (j 1)))
    (hX : X' (ix2 r s) = X j) (hg : ∀ a, g' (ix2 a s) = g (ix2 a (j 1))) :
    gated first' x' w' X' g' (ix2 r s) = gated first x w X g j := by
  show X' (ix2 r s) + (if first' ≤ r.val then g' (ix2 1 s) else g' (ix2 0 s)) * product x' w' (ix2 r s) =
    X j + (if first ≤ (j 0).val then g (ix2 1 (j 1)) else g (ix2 0 (j 1))) * product x w j
  rw [hX, hg, hg, product_block hx hw]
  simp only [hf]

/-- A selection by a row's number, as 32-bit words compare it. -/
theorem row_select (n : ℕ) (h : n < 2 ^ 30) (a b : EReal) :
    Scalar.select (IntOp.cmpi .sge (BitVec.ofNat 32 n) 4096#32) a b = if 4096 ≤ n then a else b := by
  have hc : IntOp.cmpi .sge (BitVec.ofNat 32 n) 4096#32 = BitVec.ofBool ((4096#32).sle (BitVec.ofNat 32 n)) := rfl
  rw [hc, Scalar.select_ofBool, BitVec.sle, Retention.toInt_word n (by omega)]
  by_cases hn : 4096 ≤ n
  · rw [if_pos hn, decide_eq_true (by simp; omega)]; rfl
  · rw [if_neg hn, decide_eq_false (by simp; omega)]; rfl

/-- A row's number from its block's number and its place in the block. -/
theorem row_word (t b r : ℕ) :
    IntOp.addi (Scalar.muli (BitVec.ofNat 32 t) (BitVec.ofNat 32 b)) (BitVec.ofNat 32 r) = BitVec.ofNat 32 (t * b + r) := by
  unfold IntOp.addi Scalar.muli
  rw [BitVec.ofNat_add, BitVec.ofNat_mul]
  rfl

end Linear
-- ==== Proof.MlpUp0.lean ====
/-
  The first product of the first layer's MLP: what a block of the call holds, the whole results, and the claims of the call.
-/
module

public import proofs.«01_k».proof.Proof.Gen.Kernel19Ideal.Value
public import proofs.«01_k».proof.Proof.Forward
public import proofs.«01_k».proof.Defs
public import proofs.«01_k».proof.Proof.Gen.Reference19Ideal.Run
public import Idealize.ShloMosaic.Lib.Claim

@[expose] public section

set_option maxRecDepth 16384

noncomputable section

namespace Cert.Kernel19Ideal.Own

open Cert.Kernel19Ideal Cert.Kernel19Ideal.Gen Cert.Kernel19Ideal.Value Idealize.ShloMosaic Idealize.ShloMosaic.TcCoe Idealize.SL.Sem
open scoped BigOperators

variable (m : (ℓ : Loc nD τ sig) → Buf (Elt Ideal) ℓ) (c : Dev nD)

theorem zeros : (![0, 0] : Fin 2 → ℕ) = fun _ => 0 := by funext a; fin_cases a <;> rfl

/-- A block of the product after the ReLU. -/
theorem payload (x0 : Vec Ideal S1088x2048 .bf16) (x1 : Vec Ideal S2048x1024 .bf16) : k0_pay1 x0 x1 = Linear.relu x0 x1 := by
  funext y
  obtain ⟨r, s, rfl⟩ : ∃ (r : Fin 1088) (s : Fin 1024), y = ix2 r s := ⟨y 0, y 1, eq_ix2 y⟩
  pointwise [k0_pay1]
  rfl

/-- A block of the first result, from the blocks of the operands. -/
theorem block2 (x0 : Vec Ideal S1088x2048 .bf16) (x1 : Vec Ideal S2048x1024 .bf16) : out0_2 x0 x1 = Linear.relu x0 x1 := by
  unfold out0_2
  rw [View.canon_unit_zero zeros, View.ld_unit_zero zeros, View.ld_unit_zero zeros, ← payload]
  rfl

/-- A block of the second result, from the blocks of the operands. -/
theorem block3 (x0 : Vec Ideal S1088x2048 .bf16) (x1 : Vec Ideal S2048x1024 .bf16) : out0_3 x0 x1 = Linear.relu2 x0 x1 := by
  unfold out0_3
  rw [View.canon_unit_zero zeros, View.ld_unit_zero zeros, View.ld_unit_zero zeros]
  unfold k0_pay3
  rw [payload]
  rfl

theorem idx0 : ∀ t : Fin cfg0.N, win0_0.index t = ![t.val / 8, 0] := (by decide +kernel : ∀ t : Fin grid0.N, _)
theorem idx1 : ∀ t : Fin cfg0.N, win0_1.index t = ![0, t.val % 8] := (by decide +kernel : ∀ t : Fin grid0.N, _)
theorem idx2 : ∀ t : Fin cfg0.N, win0_2.index t = ![t.val / 8, t.val % 8] := (by decide +kernel : ∀ t : Fin grid0.N, _)
theorem idx3 : ∀ t : Fin cfg0.N, win0_3.index t = ![t.val / 8, t.val % 8] := (by decide +kernel : ∀ t : Fin grid0.N, _)

/-- The whole first result. -/
theorem final2 : (dats m 0 c).arrAt 2 cfg0.N =
    Linear.relu (m ((c : Thread nD τ).loc main_arg0)) (m ((c : Thread nD τ).loc main_arg1)) := by
  refine (dats m 0 c).arrAt_eq_of_covers 2 _ (by decide +kernel) fun t hf y => ?_
  blk_simp
  obtain ⟨r, s, rfl⟩ : ∃ (r : Fin 1088) (s : Fin 1024), y = ix2 r s := ⟨y 0, y 1, eq_ix2 y⟩
  rw [after0_2, block2]
  refine Linear.relu_block (fun d => ?_) (fun d => ?_)
  · blk_simp [iblk, V]
    refine congrArg (m (c, main_arg0)) ?_
    blk_ext [idx0, idx2]
  · blk_simp [iblk, V]
    refine congrArg (m (c, main_arg1)) ?_
    blk_ext [idx1, idx2]

/-- The whole second result. -/
theorem final3 : (dats m 0 c).arrAt 3 cfg0.N =
    Linear.relu2 (m ((c : Thread nD τ).loc main_arg0)) (m ((c : Thread nD τ).loc main_arg1)) := by
  refine (dats m 0 c).arrAt_eq_of_covers 3 _ (by decide +kernel) fun t hf y => ?_
  blk_simp
  obtain ⟨r, s, rfl⟩ : ∃ (r : Fin 1088) (s : Fin 1024), y = ix2 r s := ⟨y 0, y 1, eq_ix2 y⟩
  rw [after0_3, block3]
  refine Linear.relu2_block (fun d => ?_) (fun d => ?_)
  · blk_simp [iblk, V]
    refine congrArg (m (c, main_arg0)) ?_
    blk_ext [idx0, idx3]
  · blk_simp [iblk, V]
    refine congrArg (m (c, main_arg1)) ?_
    blk_ext [idx1, idx3]

/-- The reference's inner values. -/
theorem reference (x : FVec Ideal S4352x2048 .bf16) (w : FVec Ideal S2048x8192 .bf16) :
    maximumf (Host.dotGeneral (F := Ideal) Cert.Reference19Ideal.dot_S4352x2048_S2048x8192_S4352x8192_1_0_0_1_n_n none
      (extf .f32 x Cert.Reference19Ideal.Gen.bitsLt_bf16_f32) (extf .f32 w Cert.Reference19Ideal.Gen.bitsLt_bf16_f32))
      (broadcastInDim Cert.Reference19Ideal.S4352x8192 ![] Cert.Reference19Ideal.Gen.bcast_S_S4352x8192 (constant Cert.Reference19Ideal.S_ .f32 0x00000000#32))
      = Linear.relu x w := by
  funext j
  obtain ⟨i, f, rfl⟩ : ∃ (i : Fin 4352) (f : Fin 8192), j = ix2 i f := ⟨j 0, j 1, eq_ix2 j⟩
  pointwise []
  rfl

/-- The reference leaves its arguments alone; it declares no semaphore. -/
theorem frame_reference : Cert.quiescent_Reference19Ideal := fun m ρ _ =>
  (θ_run Cert.Reference19Ideal.defs _ _).mono
    (fun r h => ⟨fun c => (h c).2.2, sem_eq_zero_of_no_sems (by decide) r.2⟩) (Cert.Reference19Ideal.Value.run m ρ)

/-- Kernel and reference end with the same two results. -/
theorem same : Cert.algebraic_Kernel19Ideal_Reference19Ideal := by
  intro m g m' g' _ hagree
  refine ⟨_, _, (θ_run defs _ _).mono (fun r h c => ⟨(h c).1.trans (final2 m c), (h c).2.1.trans (final3 m c), (h c).2.2⟩) (run_blocks m g), ?_⟩
  refine (θ_run Cert.Reference19Ideal.defs _ _).mono (fun r h c => ?_) (Cert.Reference19Ideal.Value.run m' g')
  obtain ⟨h0, h1⟩ := hagree c
  rw [← h0, ← h1]
  refine ⟨(h c).1.trans ?_, (h c).2.1.trans ?_, (h c).2.2⟩
  · rw [reference]; rfl
  · rw [reference]; rfl

end Cert.Kernel19Ideal.Own
-- ==== Proof.MlpUp1.lean ====
/-
  The first product of the second layer's MLP: what a block of the call holds, the whole results, and the claims of the call.
-/
module

public import proofs.«01_k».proof.Proof.Gen.Kernel20Ideal.Value
public import proofs.«01_k».proof.Proof.Forward
public import proofs.«01_k».proof.Defs
public import proofs.«01_k».proof.Proof.Gen.Reference20Ideal.Run
public import Idealize.ShloMosaic.Lib.Claim

@[expose] public section

set_option maxRecDepth 16384

noncomputable section

namespace Cert.Kernel20Ideal.Own

open Cert.Kernel20Ideal Cert.Kernel20Ideal.Gen Cert.Kernel20Ideal.Value Idealize.ShloMosaic Idealize.ShloMosaic.TcCoe Idealize.SL.Sem
open scoped BigOperators

variable (m : (ℓ : Loc nD τ sig) → Buf (Elt Ideal) ℓ) (c : Dev nD)

theorem zeros : (![0, 0] : Fin 2 → ℕ) = fun _ => 0 := by funext a; fin_cases a <;> rfl

/-- A block of the product after the ReLU. -/
theorem payload (x0 : Vec Ideal S1024x2048 .bf16) (x1 : Vec Ideal S2048x1024 .bf16) : k0_pay1 x0 x1 = Linear.relu x0 x1 := by
  funext y
  obtain ⟨r, s, rfl⟩ : ∃ (r : Fin 1024) (s : Fin 1024), y = ix2 r s := ⟨y 0, y 1, eq_ix2 y⟩
  pointwise [k0_pay1]
  rfl

/-- A block of the first result, from the blocks of the operands. -/
theorem block2 (x0 : Vec Ideal S1024x2048 .bf16) (x1 : Vec Ideal S2048x1024 .bf16) : out0_2 x0 x1 = Linear.relu x0 x1 := by
  unfold out0_2
  rw [View.canon_unit_zero zeros, View.ld_unit_zero zeros, View.ld_unit_zero zeros, ← payload]
  rfl

/-- A block of the second result, from the blocks of the operands. -/
theorem block3 (x0 : Vec Ideal S1024x2048 .bf16) (x1 : Vec Ideal S2048x1024 .bf16) : out0_3 x0 x1 = Linear.relu2 x0 x1 := by
  unfold out0_3
  rw [View.canon_unit_zero zeros, View.ld_unit_zero zeros, View.ld_unit_zero zeros]
  unfold k0_pay3
  rw [payload]
  rfl

theorem idx0 : ∀ t : Fin cfg0.N, win0_0.index t = ![t.val / 8, 0] := (by decide +kernel : ∀ t : Fin grid0.N, _)
theorem idx1 : ∀ t : Fin cfg0.N, win0_1.index t = ![0, t.val % 8] := (by decide +kernel : ∀ t : Fin grid0.N, _)
theorem idx2 : ∀ t : Fin cfg0.N, win0_2.index t = ![t.val / 8, t.val % 8] := (by decide +kernel : ∀ t : Fin grid0.N, _)
theorem idx3 : ∀ t : Fin cfg0.N, win0_3.index t = ![t.val / 8, t.val % 8] := (by decide +kernel : ∀ t : Fin grid0.N, _)

/-- The whole first result. -/
theorem final2 : (dats m 0 c).arrAt 2 cfg0.N =
    Linear.relu (m ((c : Thread nD τ).loc main_arg0)) (m ((c : Thread nD τ).loc main_arg1)) := by
  refine (dats m 0 c).arrAt_eq_of_covers 2 _ (by decide +kernel) fun t hf y => ?_
  blk_simp
  obtain ⟨r, s, rfl⟩ : ∃ (r : Fin 1024) (s : Fin 1024), y = ix2 r s := ⟨y 0, y 1, eq_ix2 y⟩
  rw [after0_2, block2]
  refine Linear.relu_block (fun d => ?_) (fun d => ?_)
  · blk_simp [iblk, V]
    refine congrArg (m (c, main_arg0)) ?_
    blk_ext [idx0, idx2]
  · blk_simp [iblk, V]
    refine congrArg (m (c, main_arg1)) ?_
    blk_ext [idx1, idx2]

/-- The whole second result. -/
theorem final3 : (dats m 0 c).arrAt 3 cfg0.N =
    Linear.relu2 (m ((c : Thread nD τ).loc main_arg0)) (m ((c : Thread nD τ).loc main_arg1)) := by
  refine (dats m 0 c).arrAt_eq_of_covers 3 _ (by decide +kernel) fun t hf y => ?_
  blk_simp
  obtain ⟨r, s, rfl⟩ : ∃ (r : Fin 1024) (s : Fin 1024), y = ix2 r s := ⟨y 0, y 1, eq_ix2 y⟩
  rw [after0_3, block3]
  refine Linear.relu2_block (fun d => ?_) (fun d => ?_)
  · blk_simp [iblk, V]
    refine congrArg (m (c, main_arg0)) ?_
    blk_ext [idx0, idx3]
  · blk_simp [iblk, V]
    refine congrArg (m (c, main_arg1)) ?_
    blk_ext [idx1, idx3]

/-- The reference's inner values. -/
theorem reference (x : FVec Ideal S4096x2048 .bf16) (w : FVec Ideal S2048x8192 .bf16) :
    maximumf (Host.dotGeneral (F := Ideal) Cert.Reference20Ideal.dot_S4096x2048_S2048x8192_S4096x8192_1_0_0_1_n_n none
      (extf .f32 x Cert.Reference20Ideal.Gen.bitsLt_bf16_f32) (extf .f32 w Cert.Reference20Ideal.Gen.bitsLt_bf16_f32))
      (broadcastInDim Cert.Reference20Ideal.S4096x8192 ![] Cert.Reference20Ideal.Gen.bcast_S_S4096x8192 (constant Cert.Reference20Ideal.S_ .f32 0x00000000#32))
      = Linear.relu x w := by
  funext j
  obtain ⟨i, f, rfl⟩ : ∃ (i : Fin 4096) (f : Fin 8192), j = ix2 i f := ⟨j 0, j 1, eq_ix2 j⟩
  pointwise []
  rfl

/-- The reference leaves its arguments alone; it declares no semaphore. -/
theorem frame_reference : Cert.quiescent_Reference20Ideal := fun m ρ _ =>
  (θ_run Cert.Reference20Ideal.defs _ _).mono
    (fun r h => ⟨fun c => (h c).2.2, sem_eq_zero_of_no_sems (by decide) r.2⟩) (Cert.Reference20Ideal.Value.run m ρ)

/-- Kernel and reference end with the same two results. -/
theorem same : Cert.algebraic_Kernel20Ideal_Reference20Ideal := by
  intro m g m' g' _ hagree
  refine ⟨_, _, (θ_run defs _ _).mono (fun r h c => ⟨(h c).1.trans (final2 m c), (h c).2.1.trans (final3 m c), (h c).2.2⟩) (run_blocks m g), ?_⟩
  refine (θ_run Cert.Reference20Ideal.defs _ _).mono (fun r h c => ?_) (Cert.Reference20Ideal.Value.run m' g')
  obtain ⟨h0, h1⟩ := hagree c
  rw [← h0, ← h1]
  refine ⟨(h c).1.trans ?_, (h c).2.1.trans ?_, (h c).2.2⟩
  · rw [reference]; rfl
  · rw [reference]; rfl

end Cert.Kernel20Ideal.Own
-- ==== Proof.MlpDown0.lean ====
/-
  The second product of the first layer's MLP, added to the residual: what a block of the call holds, the whole results, and the claims of the call.
-/
module

public import proofs.«01_k».proof.Proof.Gen.Kernel21Ideal.Value
public import proofs.«01_k».proof.Proof.Forward
public import proofs.«01_k».proof.Defs
public import proofs.«01_k».proof.Proof.Gen.Reference21Ideal.Run
public import Idealize.ShloMosaic.Lib.Claim

@[expose] public section

set_option maxRecDepth 16384

noncomputable section

namespace Cert.Kernel21Ideal.Own

open Cert.Kernel21Ideal Cert.Kernel21Ideal.Gen Cert.Kernel21Ideal.Value Idealize.ShloMosaic Idealize.ShloMosaic.TcCoe Idealize.SL.Sem
open scoped BigOperators

variable (m : (ℓ : Loc nD τ sig) → Buf (Elt Ideal) ℓ) (c : Dev nD)

theorem zeros : (![0, 0] : Fin 2 → ℕ) = fun _ => 0 := by funext a; fin_cases a <;> rfl

/-- A block of the product. -/
theorem payload (x0 : Vec Ideal S272x8192 .bf16) (x1 : Vec Ideal S8192x1024 .bf16) : k0_pay1 x0 x1 = Linear.product x0 x1 := by
  funext y
  obtain ⟨r, s, rfl⟩ : ∃ (r : Fin 272) (s : Fin 1024), y = ix2 r s := ⟨y 0, y 1, eq_ix2 y⟩
  pointwise [k0_pay1]
  rfl

/-- A block of the sum, from the blocks of the operands. -/
theorem block4 (i : grid0.Coords) (x0 : Vec Ideal S272x8192 .bf16) (x1 : Vec Ideal S8192x1024 .bf16) (x2 : Vec Ideal S272x1024 .f32) (x3 : Vec Ideal S2x1024 .f32) :
    out0_4 i x0 x1 x2 x3 = Linear.gated (4096 - 272 * (i 1).val) x0 x1 x2 x3 := by
  unfold out0_4
  rw [View.canon_unit_zero zeros, View.ld_unit_zero zeros, View.ld_unit_zero zeros, View.ld_unit_zero zeros, View.ld_unit_zero zeros]
  unfold k0_pay2
  rw [payload]
  funext y
  obtain ⟨r, s, rfl⟩ : ∃ (r : Fin 272) (s : Fin 1024), y = ix2 r s := ⟨y 0, y 1, eq_ix2 y⟩
  pointwise [Linear.gated]
  have ht : (i 1).val < 16 := (i 1).isLt
  have hr := r.isLt
  rw [show 272#32 = BitVec.ofNat 32 272 from rfl, Linear.row_word, Linear.row_select _ (by omega)]
  simp only [show 4096 ≤ (i 1).val * 272 + r.val ↔ 4096 - 272 * (i 1).val ≤ r.val by omega]

/-- A block of the product, as the second result. -/
theorem block5 (x0 : Vec Ideal S272x8192 .bf16) (x1 : Vec Ideal S8192x1024 .bf16) (x2 : Vec Ideal S272x1024 .f32) (x3 : Vec Ideal S2x1024 .f32) (i : grid0.Coords) :
    out0_5 i x0 x1 x2 x3 = Linear.product x0 x1 := by
  unfold out0_5
  rw [View.canon_unit_zero zeros, View.ld_unit_zero zeros, View.ld_unit_zero zeros, ← payload]
  rfl

theorem idx0 : ∀ t : Fin cfg0.N, win0_0.index t = ![t.val % 16, 0] := (by decide +kernel : ∀ t : Fin grid0.N, _)
theorem idx1 : ∀ t : Fin cfg0.N, win0_1.index t = ![0, t.val / 16] := (by decide +kernel : ∀ t : Fin grid0.N, _)
theorem idx2 : ∀ t : Fin cfg0.N, win0_2.index t = ![t.val % 16, t.val / 16] := (by decide +kernel : ∀ t : Fin grid0.N, _)
theorem idx3 : ∀ t : Fin cfg0.N, win0_3.index t = ![0, t.val / 16] := (by decide +kernel : ∀ t : Fin grid0.N, _)
theorem idx4 : ∀ t : Fin cfg0.N, win0_4.index t = ![t.val % 16, t.val / 16] := (by decide +kernel : ∀ t : Fin grid0.N, _)
theorem idx5 : ∀ t : Fin cfg0.N, win0_5.index t = ![t.val % 16, t.val / 16] := (by decide +kernel : ∀ t : Fin grid0.N, _)
theorem row : ∀ t : Fin cfg0.N, (grid0.coords t 1).val = t.val % 16 := (by decide +kernel : ∀ t : Fin grid0.N, _)

/-- The whole sum. -/
theorem final4 : (dats m 0 c).arrAt 4 cfg0.N = Linear.gated 4096 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  obtain ⟨r, s, rfl⟩ : ∃ (r : Fin 272) (s : Fin 1024), y = ix2 r s := ⟨y 0, y 1, eq_ix2 y⟩
  rw [after0_4, block4]
  refine Linear.gated_block ?_ (fun d => ?_) (fun d => ?_) ?_ (fun a => ?_)
  · blk_simp [idx4, row]
    idx_bounds_all
    omega
  · blk_simp [iblk, V]
    refine congrArg (m (c, main_arg0)) ?_
    blk_ext [idx0, idx4]
  · blk_simp [iblk, V]
    refine congrArg (m (c, main_arg1)) ?_
    blk_ext [idx1, idx4]
  · blk_simp [iblk, V]
    refine congrArg (m (c, main_arg2)) ?_
    blk_ext [idx2, idx4]
  · blk_simp [iblk, V]
    refine congrArg (m (c, main_arg3)) ?_
    blk_ext [idx3, idx4]

/-- The whole product. -/
theorem final5 : (dats m 0 c).arrAt 5 cfg0.N = Linear.product (m ((c : Thread nD τ).loc main_arg0)) (m ((c : Thread nD τ).loc main_arg1)) := by
  refine (dats m 0 c).arrAt_eq_of_covers 5 _ (by decide +kernel) fun t hf y => ?_
  blk_simp
  obtain ⟨r, s, rfl⟩ : ∃ (r : Fin 272) (s : Fin 1024), y = ix2 r s := ⟨y 0, y 1, eq_ix2 y⟩
  rw [after0_5, block5]
  refine Linear.product_block (fun d => ?_) (fun d => ?_)
  · blk_simp [iblk, V]
    refine congrArg (m (c, main_arg0)) ?_
    blk_ext [idx0, idx5]
  · blk_simp [iblk, V]
    refine congrArg (m (c, main_arg1)) ?_
    blk_ext [idx1, idx5]

/-- The reference's product. -/
theorem reference_product (x : FVec Ideal S4352x8192 .bf16) (w : FVec Ideal S8192x2048 .bf16) :
    Host.dotGeneral (F := Ideal) Cert.Reference21Ideal.dot_S4352x8192_S8192x2048_S4352x2048_1_0_0_1_n_n none
      (extf .f32 x Cert.Reference21Ideal.Gen.bitsLt_bf16_f32) (extf .f32 w Cert.Reference21Ideal.Gen.bitsLt_bf16_f32) = Linear.product x w := by
  funext j
  obtain ⟨i, n, rfl⟩ : ∃ (i : Fin 4352) (n : Fin 2048), j = ix2 i n := ⟨j 0, j 1, eq_ix2 j⟩
  pointwise []
  rfl

/-- The reference's sum, from the product. -/
theorem reference_sum (x : FVec Ideal S4352x8192 .bf16) (w : FVec Ideal S8192x2048 .bf16) (X : FVec Ideal S4352x2048 .f32) (g : FVec Ideal S2x2048 .f32)
    (y : FVec Ideal S4352x2048 .f32) (hy : y = Linear.product x w) :
    addf X (mulf (select (broadcastInDim Cert.Reference21Ideal.S4352x2048 ![0, 1] Cert.Reference21Ideal.Gen.bcast_S4352x1_S4352x2048_0_1 (cmpi .sge (broadcastInDim Cert.Reference21Ideal.S4352x1 ![0] Cert.Reference21Ideal.Gen.bcast_S4352_S4352x1_0 (iotaInDim Cert.Reference21Ideal.S4352 32 0)) (broadcastInDim Cert.Reference21Ideal.S4352x1 ![] Cert.Reference21Ideal.Gen.bcast_S_S4352x1 (constantI Cert.Reference21Ideal.S_ 32 4096#32)))) (broadcastInDim Cert.Reference21Ideal.S4352x2048 ![1] Cert.Reference21Ideal.Gen.bcast_S2048_S4352x2048_1 (shapeCast _ (extractStridedSlice Cert.Reference21Ideal.S1x2048 ![1, 0] g Cert.Reference21Ideal.Gen.slices_S2x2048_S1x2048_1_0) Cert.Reference21Ideal.Gen.shapeCasts_S1x2048_S2048)) (broadcastInDim Cert.Reference21Ideal.S4352x2048 ![1] Cert.Reference21Ideal.Gen.bcast_S2048_S4352x2048_1 (shapeCast _ (extractStridedSlice Cert.Reference21Ideal.S1x2048 ![0, 0] g Cert.Reference21Ideal.Gen.slices_S2x2048_S1x2048_0_0) Cert.Reference21Ideal.Gen.shapeCasts_S1x2048_S2048))) y) = Linear.gated 4096 x w X g := by
  funext j
  obtain ⟨i, n, rfl⟩ : ∃ (i : Fin 4352) (n : Fin 2048), j = ix2 i n := ⟨j 0, j 1, eq_ix2 j⟩
  rw [hy]
  pointwise [Linear.gated]
  rw [Linear.row_select _ (by have := i.isLt; omega)]

/-- The reference leaves its arguments alone; it declares no semaphore. -/
theorem frame_reference : Cert.quiescent_Reference21Ideal := fun m ρ _ =>
  (θ_run Cert.Reference21Ideal.defs _ _).mono
    (fun r h => ⟨fun c => (h c).2.2, sem_eq_zero_of_no_sems (by decide) r.2⟩) (Cert.Reference21Ideal.Value.run m ρ)

/-- Kernel and reference end with the same two results. -/
theorem same : Cert.algebraic_Kernel21Ideal_Reference21Ideal := by
  intro m g m' g' _ hagree
  refine ⟨_, _, (θ_run defs _ _).mono (fun r h c => ⟨(h c).1.trans (final4 m c), (h c).2.1.trans (final5 m c), (h c).2.2⟩) (run_blocks m g), ?_⟩
  refine (θ_run Cert.Reference21Ideal.defs _ _).mono (fun r h c => ?_) (Cert.Reference21Ideal.Value.run m' g')
  obtain ⟨h0, h1, h2, h3⟩ := hagree c
  rw [← h0, ← h1, ← h2, ← h3]
  exact ⟨(h c).1.trans (reference_sum _ _ _ _ _ (reference_product _ _)), (h c).2.1.trans (reference_product _ _), (h c).2.2⟩

end Cert.Kernel21Ideal.Own
-- ==== Proof.MlpDown1.lean ====
/-
  The second product of the second layer's MLP, added to the residual: what a block of the call holds, the whole results, and the claims of the call.
-/
module

public import proofs.«01_k».proof.Proof.Gen.Kernel22Ideal.Value
public import proofs.«01_k».proof.Proof.Forward
public import proofs.«01_k».proof.Defs
public import proofs.«01_k».proof.Proof.Gen.Reference22Ideal.Run
public import Idealize.ShloMosaic.Lib.Claim

@[expose] public section

set_option maxRecDepth 16384

noncomputable section

namespace Cert.Kernel22Ideal.Own

open Cert.Kernel22Ideal Cert.Kernel22Ideal.Gen Cert.Kernel22Ideal.Value Idealize.ShloMosaic Idealize.ShloMosaic.TcCoe Idealize.SL.Sem
open scoped BigOperators

variable (m : (ℓ : Loc nD τ sig) → Buf (Elt Ideal) ℓ) (c : Dev nD)

theorem zeros : (![0, 0] : Fin 2 → ℕ) = fun _ => 0 := by funext a; fin_cases a <;> rfl

/-- A block of the product. -/
theorem payload (x0 : Vec Ideal S256x8192 .bf16) (x1 : Vec Ideal S8192x1024 .bf16) : k0_pay1 x0 x1 = Linear.product x0 x1 := by
  funext y
  obtain ⟨r, s, rfl⟩ : ∃ (r : Fin 256) (s : Fin 1024), y = ix2 r s := ⟨y 0, y 1, eq_ix2 y⟩
  pointwise [k0_pay1]
  rfl

/-- A block of the sum, from the blocks of the operands. -/
theorem block4 (x0 : Vec Ideal S256x8192 .bf16) (x1 : Vec Ideal S8192x1024 .bf16) (x2 : Vec Ideal S256x1024 .f32) (x3 : Vec Ideal S2x1024 .f32) :
    out0_4 x0 x1 x2 x3 = Linear.gated 4096 x0 x1 x2 x3 := by
  unfold out0_4
  rw [View.canon_unit_zero zeros, View.ld_unit_zero zeros, View.ld_unit_zero zeros, View.ld_unit_zero zeros, View.ld_unit_zero zeros]
  unfold k0_pay2
  rw [payload]
  funext y
  obtain ⟨r, s, rfl⟩ : ∃ (r : Fin 256) (s : Fin 1024), y = ix2 r s := ⟨y 0, y 1, eq_ix2 y⟩
  pointwise [Linear.gated]
  rw [if_neg (by have := r.isLt; omega)]

/-- A block of the product, as the second result. -/
theorem block5 (x0 : Vec Ideal S256x8192 .bf16) (x1 : Vec Ideal S8192x1024 .bf16) (x2 : Vec Ideal S256x1024 .f32) (x3 : Vec Ideal S2x1024 .f32) :
    out0_5 x0 x1 x2 x3 = Linear.product x0 x1 := by
  unfold out0_5
  rw [View.canon_unit_zero zeros, View.ld_unit_zero zeros, View.ld_unit_zero zeros, ← payload]
  rfl

theorem idx0 : ∀ t : Fin cfg0.N, win0_0.index t = ![t.val % 16, 0] := (by decide +kernel : ∀ t : Fin grid0.N, _)
theorem idx1 : ∀ t : Fin cfg0.N, win0_1.index t = ![0, t.val / 16] := (by decide +kernel : ∀ t : Fin grid0.N, _)
theorem idx2 : ∀ t : Fin cfg0.N, win0_2.index t = ![t.val % 16, t.val / 16] := (by decide +kernel : ∀ t : Fin grid0.N, _)
theorem idx3 : ∀ t : Fin cfg0.N, win0_3.index t = ![0, t.val / 16] := (by decide +kernel : ∀ t : Fin grid0.N, _)
theorem idx4 : ∀ t : Fin cfg0.N, win0_4.index t = ![t.val % 16, t.val / 16] := (by decide +kernel : ∀ t : Fin grid0.N, _)
theorem idx5 : ∀ t : Fin cfg0.N, win0_5.index t = ![t.val % 16, t.val / 16] := (by decide +kernel : ∀ t : Fin grid0.N, _)

/-- The whole sum. -/
theorem final4 : (dats m 0 c).arrAt 4 cfg0.N = Linear.gated 4096 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  obtain ⟨r, s, rfl⟩ : ∃ (r : Fin 256) (s : Fin 1024), y = ix2 r s := ⟨y 0, y 1, eq_ix2 y⟩
  rw [after0_4, block4]
  refine Linear.gated_block ?_ (fun d => ?_) (fun d => ?_) ?_ (fun a => ?_)
  · blk_simp [idx4]
    idx_bounds_all
    omega
  · blk_simp [iblk, V]
    refine congrArg (m (c, main_arg0)) ?_
    blk_ext [idx0, idx4]
  · blk_simp [iblk, V]
    refine congrArg (m (c, main_arg1)) ?_
    blk_ext [idx1, idx4]
  · blk_simp [iblk, V]
    refine congrArg (m (c, main_arg2)) ?_
    blk_ext [idx2, idx4]
  · blk_simp [iblk, V]
    refine congrArg (m (c, main_arg3)) ?_
    blk_ext [idx3, idx4]

/-- The whole product. -/
theorem final5 : (dats m 0 c).arrAt 5 cfg0.N = Linear.product (m ((c : Thread nD τ).loc main_arg0)) (m ((c : Thread nD τ).loc main_arg1)) := by
  refine (dats m 0 c).arrAt_eq_of_covers 5 _ (by decide +kernel) fun t hf y => ?_
  blk_simp
  obtain ⟨r, s, rfl⟩ : ∃ (r : Fin 256) (s : Fin 1024), y = ix2 r s := ⟨y 0, y 1, eq_ix2 y⟩
  rw [after0_5, block5]
  refine Linear.product_block (fun d => ?_) (fun d => ?_)
  · blk_simp [iblk, V]
    refine congrArg (m (c, main_arg0)) ?_
    blk_ext [idx0, idx5]
  · blk_simp [iblk, V]
    refine congrArg (m (c, main_arg1)) ?_
    blk_ext [idx1, idx5]

/-- The reference's product. -/
theorem reference_product (x : FVec Ideal S4096x8192 .bf16) (w : FVec Ideal S8192x2048 .bf16) :
    Host.dotGeneral (F := Ideal) Cert.Reference22Ideal.dot_S4096x8192_S8192x2048_S4096x2048_1_0_0_1_n_n none
      (extf .f32 x Cert.Reference22Ideal.Gen.bitsLt_bf16_f32) (extf .f32 w Cert.Reference22Ideal.Gen.bitsLt_bf16_f32) = Linear.product x w := by
  funext j
  obtain ⟨i, n, rfl⟩ : ∃ (i : Fin 4096) (n : Fin 2048), j = ix2 i n := ⟨j 0, j 1, eq_ix2 j⟩
  pointwise []
  rfl

/-- The reference's sum, from the product. -/
theorem reference_sum (x : FVec Ideal S4096x8192 .bf16) (w : FVec Ideal S8192x2048 .bf16) (X : FVec Ideal S4096x2048 .f32) (g : FVec Ideal S2x2048 .f32)
    (y : FVec Ideal S4096x2048 .f32) (hy : y = Linear.product x w) :
    addf X (mulf (broadcastInDim Cert.Reference22Ideal.S4096x2048 ![0, 1] Cert.Reference22Ideal.Gen.bcast_S1x2048_S4096x2048_0_1 (broadcastInDim Cert.Reference22Ideal.S1x2048 ![1] Cert.Reference22Ideal.Gen.bcast_S2048_S1x2048_1 (shapeCast _ (extractStridedSlice Cert.Reference22Ideal.S1x2048 ![0, 0] g Cert.Reference22Ideal.Gen.slices_S2x2048_S1x2048_0_0) Cert.Reference22Ideal.Gen.shapeCasts_S1x2048_S2048))) y) = Linear.gated 4096 x w X g := by
  funext j
  obtain ⟨i, n, rfl⟩ : ∃ (i : Fin 4096) (n : Fin 2048), j = ix2 i n := ⟨j 0, j 1, eq_ix2 j⟩
  rw [hy]
  pointwise [Linear.gated]

/-- The reference leaves its arguments alone; it declares no semaphore. -/
theorem frame_reference : Cert.quiescent_Reference22Ideal := fun m ρ _ =>
  (θ_run Cert.Reference22Ideal.defs _ _).mono
    (fun r h => ⟨fun c => (h c).2.2, sem_eq_zero_of_no_sems (by decide) r.2⟩) (Cert.Reference22Ideal.Value.run m ρ)

/-- Kernel and reference end with the same two results. -/
theorem same : Cert.algebraic_Kernel22Ideal_Reference22Ideal := by
  intro m g m' g' _ hagree
  refine ⟨_, _, (θ_run defs _ _).mono (fun r h c => ⟨(h c).1.trans (final4 m c), (h c).2.1.trans (final5 m c), (h c).2.2⟩) (run_blocks m g), ?_⟩
  refine (θ_run Cert.Reference22Ideal.defs _ _).mono (fun r h c => ?_) (Cert.Reference22Ideal.Value.run m' g')
  obtain ⟨h0, h1, h2, h3⟩ := hagree c
  rw [← h0, ← h1, ← h2, ← h3]
  exact ⟨(h c).1.trans (reference_sum _ _ _ _ _ (reference_product _ _)), (h c).2.1.trans (reference_product _ _), (h c).2.2⟩

end Cert.Kernel22Ideal.Own
-- ==== Proof.RetVG.lean ====
/-
  The values and gates of the retention, a product with the last columns of its weight: what a block of the call holds, the whole result, and the claims of the call.
-/
module

public import proofs.«01_k».proof.Proof.Gen.Kernel23Ideal.Value
public import proofs.«01_k».proof.Proof.Forward
public import proofs.«01_k».proof.Defs
public import proofs.«01_k».proof.Proof.Gen.Reference23Ideal.Run
public import Idealize.ShloMosaic.Lib.Claim

@[expose] public section

set_option maxRecDepth 16384

noncomputable section

namespace Cert.Kernel23Ideal.Own

open Cert.Kernel23Ideal Cert.Kernel23Ideal.Gen Cert.Kernel23Ideal.Value Idealize.ShloMosaic Idealize.ShloMosaic.TcCoe Idealize.SL.Sem
open scoped BigOperators

variable (m : (ℓ : Loc nD τ sig) → Buf (Elt Ideal) ℓ) (c : Dev nD)

/-- A block of the result, from the blocks of the operands. -/
theorem block (x0 : Vec Ideal S1088x2048 .bf16) (x1 : Vec Ideal S2048x1024 .bf16) : out0_2 x0 x1 = Linear.product x0 x1 := by
  have hz : (![0, 0] : Fin 2 → ℕ) = fun _ => 0 := by funext a; fin_cases a <;> rfl
  unfold out0_2
  rw [View.canon_unit_zero hz, View.ld_unit_zero hz, View.ld_unit_zero hz]
  funext y
  obtain ⟨r, s, rfl⟩ : ∃ (r : Fin 1088) (s : Fin 1024), y = ix2 r s := ⟨y 0, y 1, eq_ix2 y⟩
  pointwise [k0_pay1]
  rfl

theorem idx0 : ∀ t : Fin cfg0.N, win0_0.index t = ![t.val / 8, 0] := (by decide +kernel : ∀ t : Fin grid0.N, _)
theorem idx1 : ∀ t : Fin cfg0.N, win0_1.index t = ![0, t.val % 8 + 4] := (by decide +kernel : ∀ t : Fin grid0.N, _)
theorem idx2 : ∀ t : Fin cfg0.N, win0_2.index t = ![t.val / 8, t.val % 8] := (by decide +kernel : ∀ t : Fin grid0.N, _)

/-- The whole result. -/
theorem final : (dats m 0 c).arrAt 2 cfg0.N =
    Linear.product (m ((c : Thread nD τ).loc main_arg0)) (Linear.columns 4096 (by decide) (m ((c : Thread nD τ).loc main_arg1))) := by
  refine (dats m 0 c).arrAt_eq_of_covers 2 _ (by decide +kernel) fun t hf y => ?_
  blk_simp
  obtain ⟨r, s, rfl⟩ : ∃ (r : Fin 1088) (s : Fin 1024), y = ix2 r s := ⟨y 0, y 1, eq_ix2 y⟩
  rw [after0_2, block]
  refine Linear.product_block (fun d => ?_) (fun d => ?_)
  · blk_simp [iblk, V]
    refine congrArg (m (c, main_arg0)) ?_
    blk_ext [idx0, idx2]
  · unfold Linear.columns
    blk_simp [iblk, V]
    refine congrArg (m (c, main_arg1)) ?_
    blk_ext [idx1, idx2]

/-- The reference computes the same. -/
theorem reference (x : FVec Ideal S4352x2048 .bf16) (w : FVec Ideal S2048x12288 .bf16) :
    truncf .bf16 (extractStridedSlice Cert.Reference23Ideal.S4352x8192 ![0, 4096]
      (Host.dotGeneral (F := Ideal) Cert.Reference23Ideal.dot_S4352x2048_S2048x12288_S4352x12288_1_0_0_1_n_n none
      (extf .f32 x Cert.Reference23Ideal.Gen.bitsLt_bf16_f32) (extf .f32 w Cert.Reference23Ideal.Gen.bitsLt_bf16_f32))
      Cert.Reference23Ideal.Gen.slices_S4352x12288_S4352x8192_0_4096) Cert.Reference23Ideal.Gen.bitsLt_bf16_f32
      = Linear.product x (Linear.columns 4096 (by decide) w) := by
  funext j
  obtain ⟨i, f, rfl⟩ : ∃ (i : Fin 4352) (f : Fin 8192), j = ix2 i f := ⟨j 0, j 1, eq_ix2 j⟩
  pointwise []
  rfl

/-- The reference leaves its arguments alone; it declares no semaphore. -/
theorem frame_reference : Cert.quiescent_Reference23Ideal := fun m ρ _ =>
  (θ_run Cert.Reference23Ideal.defs _ _).mono
    (fun r h => ⟨fun c => (h c).2, sem_eq_zero_of_no_sems (by decide) r.2⟩) (Cert.Reference23Ideal.Value.run m ρ)

/-- Kernel and reference end with the same result. -/
theorem same : Cert.algebraic_Kernel23Ideal_Reference23Ideal := by
  intro m g m' g' _ hagree
  refine ⟨_, (θ_run defs _ _).mono (fun r h c => ⟨(h c).1.trans (final m c), (h c).2⟩) (run_blocks m g), ?_⟩
  refine (θ_run Cert.Reference23Ideal.defs _ _).mono (fun r h c => ?_) (Cert.Reference23Ideal.Value.run m' g')
  obtain ⟨h0, h1⟩ := hagree c
  rw [← h0, ← h1]
  exact ⟨(h c).1.trans (reference _ _), (h c).2⟩

end Cert.Kernel23Ideal.Own
-- ==== Proof.RetOut.lean ====
/-
  The retention's output projection, added to the residual: what a block of the call holds, the whole results, and the claims of the call.
-/
module

public import proofs.«01_k».proof.Proof.Gen.Kernel24Ideal.Value
public import proofs.«01_k».proof.Proof.Forward
public import proofs.«01_k».proof.Defs
public import proofs.«01_k».proof.Proof.Gen.Reference24Ideal.Run
public import Idealize.ShloMosaic.Lib.Claim

@[expose] public section

set_option maxRecDepth 16384

noncomputable section

namespace Cert.Kernel24Ideal.Own

open Cert.Kernel24Ideal Cert.Kernel24Ideal.Gen Cert.Kernel24Ideal.Value Idealize.ShloMosaic Idealize.ShloMosaic.TcCoe Idealize.SL.Sem
open scoped BigOperators

variable (m : (ℓ : Loc nD τ sig) → Buf (Elt Ideal) ℓ) (c : Dev nD)

theorem zeros : (![0, 0] : Fin 2 → ℕ) = fun _ => 0 := by funext a; fin_cases a <;> rfl

/-- A block of the product. -/
theorem payload (x0 : Vec Ideal S544x4096 .bf16) (x1 : Vec Ideal S4096x1024 .bf16) : k0_pay1 x0 x1 = Linear.product x0 x1 := by
  funext y
  obtain ⟨r, s, rfl⟩ : ∃ (r : Fin 544) (s : Fin 1024), y = ix2 r s := ⟨y 0, y 1, eq_ix2 y⟩
  pointwise [k0_pay1]
  rfl

/-- A block of the sum, from the blocks of the operands. -/
theorem block4 (i : grid0.Coords) (x0 : Vec Ideal S544x4096 .bf16) (x1 : Vec Ideal S4096x1024 .bf16) (x2 : Vec Ideal S544x1024 .f32) (x3 : Vec Ideal S2x1024 .f32) :
    out0_4 i x0 x1 x2 x3 = Linear.gated (4096 - 544 * (i 1).val) x0 x1 x2 x3 := by
  unfold out0_4
  rw [View.canon_unit_zero zeros, View.ld_unit_zero zeros, View.ld_unit_zero zeros, View.ld_unit_zero zeros, View.ld_unit_zero zeros]
  unfold k0_pay2
  rw [payload]
  funext y
  obtain ⟨r, s, rfl⟩ : ∃ (r : Fin 544) (s : Fin 1024), y = ix2 r s := ⟨y 0, y 1, eq_ix2 y⟩
  pointwise [Linear.gated]
  have ht : (i 1).val < 8 := (i 1).isLt
  have hr := r.isLt
  rw [show 544#32 = BitVec.ofNat 32 544 from rfl, Linear.row_word, Linear.row_select _ (by omega)]
  simp only [show 4096 ≤ (i 1).val * 544 + r.val ↔ 4096 - 544 * (i 1).val ≤ r.val by omega]

/-- A block of the product, as the second result. -/
theorem block5 (x0 : Vec Ideal S544x4096 .bf16) (x1 : Vec Ideal S4096x1024 .bf16) (x2 : Vec Ideal S544x1024 .f32) (x3 : Vec Ideal S2x1024 .f32) (i : grid0.Coords) :
    out0_5 i x0 x1 x2 x3 = Linear.product x0 x1 := by
  unfold out0_5
  rw [View.canon_unit_zero zeros, View.ld_unit_zero zeros, View.ld_unit_zero zeros, ← payload]
  rfl

theorem idx0 : ∀ t : Fin cfg0.N, win0_0.index t = ![t.val % 8, 0] := (by decide +kernel : ∀ t : Fin grid0.N, _)
theorem idx1 : ∀ t : Fin cfg0.N, win0_1.index t = ![0, t.val / 8] := (by decide +kernel : ∀ t : Fin grid0.N, _)
theorem idx2 : ∀ t : Fin cfg0.N, win0_2.index t = ![t.val % 8, t.val / 8] := (by decide +kernel : ∀ t : Fin grid0.N, _)
theorem idx3 : ∀ t : Fin cfg0.N, win0_3.index t = ![0, t.val / 8] := (by decide +kernel : ∀ t : Fin grid0.N, _)
theorem idx4 : ∀ t : Fin cfg0.N, win0_4.index t = ![t.val % 8, t.val / 8] := (by decide +kernel : ∀ t : Fin grid0.N, _)
theorem idx5 : ∀ t : Fin cfg0.N, win0_5.index t = ![t.val % 8, t.val / 8] := (by decide +kernel : ∀ t : Fin grid0.N, _)
theorem row : ∀ t : Fin cfg0.N, (grid0.coords t 1).val = t.val % 8 := (by decide +kernel : ∀ t : Fin grid0.N, _)

/-- The whole sum. -/
theorem final4 : (dats m 0 c).arrAt 4 cfg0.N = Linear.gated 4096 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  obtain ⟨r, s, rfl⟩ : ∃ (r : Fin 544) (s : Fin 1024), y = ix2 r s := ⟨y 0, y 1, eq_ix2 y⟩
  rw [after0_4, block4]
  refine Linear.gated_block ?_ (fun d => ?_) (fun d => ?_) ?_ (fun a => ?_)
  · blk_simp [idx4, row]
    idx_bounds_all
    omega
  · blk_simp [iblk, V]
    refine congrArg (m (c, main_arg0)) ?_
    blk_ext [idx0, idx4]
  · blk_simp [iblk, V]
    refine congrArg (m (c, main_arg1)) ?_
    blk_ext [idx1, idx4]
  · blk_simp [iblk, V]
    refine congrArg (m (c, main_arg2)) ?_
    blk_ext [idx2, idx4]
  · blk_simp [iblk, V]
    refine congrArg (m (c, main_arg3)) ?_
    blk_ext [idx3, idx4]

/-- The whole product. -/
theorem final5 : (dats m 0 c).arrAt 5 cfg0.N = Linear.product (m ((c : Thread nD τ).loc main_arg0)) (m ((c : Thread nD τ).loc main_arg1)) := by
  refine (dats m 0 c).arrAt_eq_of_covers 5 _ (by decide +kernel) fun t hf y => ?_
  blk_simp
  obtain ⟨r, s, rfl⟩ : ∃ (r : Fin 544) (s : Fin 1024), y = ix2 r s := ⟨y 0, y 1, eq_ix2 y⟩
  rw [after0_5, block5]
  refine Linear.product_block (fun d => ?_) (fun d => ?_)
  · blk_simp [iblk, V]
    refine congrArg (m (c, main_arg0)) ?_
    blk_ext [idx0, idx5]
  · blk_simp [iblk, V]
    refine congrArg (m (c, main_arg1)) ?_
    blk_ext [idx1, idx5]

/-- The reference's product. -/
theorem reference_product (x : FVec Ideal S4352x4096 .bf16) (w : FVec Ideal S4096x2048 .bf16) :
    Host.dotGeneral (F := Ideal) Cert.Reference24Ideal.dot_S4352x4096_S4096x2048_S4352x2048_1_0_0_1_n_n none
      (extf .f32 x Cert.Reference24Ideal.Gen.bitsLt_bf16_f32) (extf .f32 w Cert.Reference24Ideal.Gen.bitsLt_bf16_f32) = Linear.product x w := by
  funext j
  obtain ⟨i, n, rfl⟩ : ∃ (i : Fin 4352) (n : Fin 2048), j = ix2 i n := ⟨j 0, j 1, eq_ix2 j⟩
  pointwise []
  rfl

/-- The reference's sum, from the product. -/
theorem reference_sum (x : FVec Ideal S4352x4096 .bf16) (w : FVec Ideal S4096x2048 .bf16) (X : FVec Ideal S4352x2048 .f32) (g : FVec Ideal S2x2048 .f32)
    (y : FVec Ideal S4352x2048 .f32) (hy : y = Linear.product x w) :
    addf X (mulf (select (broadcastInDim Cert.Reference24Ideal.S4352x2048 ![0, 1] Cert.Reference24Ideal.Gen.bcast_S4352x1_S4352x2048_0_1 (cmpi .sge (broadcastInDim Cert.Reference24Ideal.S4352x1 ![0] Cert.Reference24Ideal.Gen.bcast_S4352_S4352x1_0 (iotaInDim Cert.Reference24Ideal.S4352 32 0)) (broadcastInDim Cert.Reference24Ideal.S4352x1 ![] Cert.Reference24Ideal.Gen.bcast_S_S4352x1 (constantI Cert.Reference24Ideal.S_ 32 4096#32)))) (broadcastInDim Cert.Reference24Ideal.S4352x2048 ![1] Cert.Reference24Ideal.Gen.bcast_S2048_S4352x2048_1 (shapeCast _ (extractStridedSlice Cert.Reference24Ideal.S1x2048 ![1, 0] g Cert.Reference24Ideal.Gen.slices_S2x2048_S1x2048_1_0) Cert.Reference24Ideal.Gen.shapeCasts_S1x2048_S2048)) (broadcastInDim Cert.Reference24Ideal.S4352x2048 ![1] Cert.Reference24Ideal.Gen.bcast_S2048_S4352x2048_1 (shapeCast _ (extractStridedSlice Cert.Reference24Ideal.S1x2048 ![0, 0] g Cert.Reference24Ideal.Gen.slices_S2x2048_S1x2048_0_0) Cert.Reference24Ideal.Gen.shapeCasts_S1x2048_S2048))) y) = Linear.gated 4096 x w X g := by
  funext j
  obtain ⟨i, n, rfl⟩ : ∃ (i : Fin 4352) (n : Fin 2048), j = ix2 i n := ⟨j 0, j 1, eq_ix2 j⟩
  rw [hy]
  pointwise [Linear.gated]
  rw [Linear.row_select _ (by have := i.isLt; omega)]

/-- The reference leaves its arguments alone; it declares no semaphore. -/
theorem frame_reference : Cert.quiescent_Reference24Ideal := fun m ρ _ =>
  (θ_run Cert.Reference24Ideal.defs _ _).mono
    (fun r h => ⟨fun c => (h c).2.2, sem_eq_zero_of_no_sems (by decide) r.2⟩) (Cert.Reference24Ideal.Value.run m ρ)

/-- Kernel and reference end with the same two results. -/
theorem same : Cert.algebraic_Kernel24Ideal_Reference24Ideal := by
  intro m g m' g' _ hagree
  refine ⟨_, _, (θ_run defs _ _).mono (fun r h c => ⟨(h c).1.trans (final4 m c), (h c).2.1.trans (final5 m c), (h c).2.2⟩) (run_blocks m g), ?_⟩
  refine (θ_run Cert.Reference24Ideal.defs _ _).mono (fun r h c => ?_) (Cert.Reference24Ideal.Value.run m' g')
  obtain ⟨h0, h1, h2, h3⟩ := hagree c
  rw [← h0, ← h1, ← h2, ← h3]
  exact ⟨(h c).1.trans (reference_sum _ _ _ _ _ (reference_product _ _)), (h c).2.1.trans (reference_product _ _), (h c).2.2⟩

end Cert.Kernel24Ideal.Own
-- ==== Proof.AttnV.lean ====
/-
  The values of the attention, a product with the last columns of its weight: what a block of the call holds, the whole result, and the claims of the call.
-/
module

public import proofs.«01_k».proof.Proof.Gen.Kernel25Ideal.Value
public import proofs.«01_k».proof.Proof.Forward
public import proofs.«01_k».proof.Defs
public import proofs.«01_k».proof.Proof.Gen.Reference25Ideal.Run
public import Idealize.ShloMosaic.Lib.Claim

@[expose] public section

set_option maxRecDepth 16384

noncomputable section

namespace Cert.Kernel25Ideal.Own

open Cert.Kernel25Ideal Cert.Kernel25Ideal.Gen Cert.Kernel25Ideal.Value Idealize.ShloMosaic Idealize.ShloMosaic.TcCoe Idealize.SL.Sem
open scoped BigOperators

variable (m : (ℓ : Loc nD τ sig) → Buf (Elt Ideal) ℓ) (c : Dev nD)

/-- A block of the result, from the blocks of the operands. -/
theorem block (x0 : Vec Ideal S1088x2048 .bf16) (x1 : Vec Ideal S2048x512 .bf16) : out0_2 x0 x1 = Linear.product x0 x1 := by
  have hz : (![0, 0] : Fin 2 → ℕ) = fun _ => 0 := by funext a; fin_cases a <;> rfl
  unfold out0_2
  rw [View.canon_unit_zero hz, View.ld_unit_zero hz, View.ld_unit_zero hz]
  funext y
  obtain ⟨r, s, rfl⟩ : ∃ (r : Fin 1088) (s : Fin 512), y = ix2 r s := ⟨y 0, y 1, eq_ix2 y⟩
  pointwise [k0_pay1]
  rfl

theorem idx0 : ∀ t : Fin cfg0.N, win0_0.index t = ![t.val, 0] := (by decide +kernel : ∀ t : Fin grid0.N, _)
theorem idx1 : ∀ t : Fin cfg0.N, win0_1.index t = ![0, 5] := (by decide +kernel : ∀ t : Fin grid0.N, _)
theorem idx2 : ∀ t : Fin cfg0.N, win0_2.index t = ![t.val, 0] := (by decide +kernel : ∀ t : Fin grid0.N, _)

/-- The whole result. -/
theorem final : (dats m 0 c).arrAt 2 cfg0.N =
    Linear.product (m ((c : Thread nD τ).loc main_arg0)) (Linear.columns 2560 (by decide) (m ((c : Thread nD τ).loc main_arg1))) := by
  refine (dats m 0 c).arrAt_eq_of_covers 2 _ (by decide +kernel) fun t hf y => ?_
  blk_simp
  obtain ⟨r, s, rfl⟩ : ∃ (r : Fin 1088) (s : Fin 512), y = ix2 r s := ⟨y 0, y 1, eq_ix2 y⟩
  rw [after0_2, block]
  refine Linear.product_block (fun d => ?_) (fun d => ?_)
  · blk_simp [iblk, V]
    refine congrArg (m (c, main_arg0)) ?_
    blk_ext [idx0, idx2]
  · unfold Linear.columns
    blk_simp [iblk, V]
    refine congrArg (m (c, main_arg1)) ?_
    blk_ext [idx1, idx2]

/-- The reference computes the same. -/
theorem reference (x : FVec Ideal S4352x2048 .bf16) (w : FVec Ideal S2048x3072 .bf16) :
    truncf .bf16 (extractStridedSlice Cert.Reference25Ideal.S4352x512 ![0, 2560]
      (Host.dotGeneral (F := Ideal) Cert.Reference25Ideal.dot_S4352x2048_S2048x3072_S4352x3072_1_0_0_1_n_n none
      (extf .f32 x Cert.Reference25Ideal.Gen.bitsLt_bf16_f32) (extf .f32 w Cert.Reference25Ideal.Gen.bitsLt_bf16_f32))
      Cert.Reference25Ideal.Gen.slices_S4352x3072_S4352x512_0_2560) Cert.Reference25Ideal.Gen.bitsLt_bf16_f32
      = Linear.product x (Linear.columns 2560 (by decide) w) := by
  funext j
  obtain ⟨i, f, rfl⟩ : ∃ (i : Fin 4352) (f : Fin 512), j = ix2 i f := ⟨j 0, j 1, eq_ix2 j⟩
  pointwise []
  rfl

/-- The reference leaves its arguments alone; it declares no semaphore. -/
theorem frame_reference : Cert.quiescent_Reference25Ideal := fun m ρ _ =>
  (θ_run Cert.Reference25Ideal.defs _ _).mono
    (fun r h => ⟨fun c => (h c).2, sem_eq_zero_of_no_sems (by decide) r.2⟩) (Cert.Reference25Ideal.Value.run m ρ)

/-- Kernel and reference end with the same result. -/
theorem same : Cert.algebraic_Kernel25Ideal_Reference25Ideal := by
  intro m g m' g' _ hagree
  refine ⟨_, (θ_run defs _ _).mono (fun r h c => ⟨(h c).1.trans (final m c), (h c).2⟩) (run_blocks m g), ?_⟩
  refine (θ_run Cert.Reference25Ideal.defs _ _).mono (fun r h c => ?_) (Cert.Reference25Ideal.Value.run m' g')
  obtain ⟨h0, h1⟩ := hagree c
  rw [← h0, ← h1]
  exact ⟨(h c).1.trans (reference _ _), (h c).2⟩

end Cert.Kernel25Ideal.Own
-- ==== Proof.AttnOut.lean ====
/-
  The attention's output projection, added to the residual: what a block of the call holds, the whole results, and the claims of the call.
-/
module

public import proofs.«01_k».proof.Proof.Gen.Kernel26Ideal.Value
public import proofs.«01_k».proof.Proof.Forward
public import proofs.«01_k».proof.Defs
public import proofs.«01_k».proof.Proof.Gen.Reference26Ideal.Run
public import Idealize.ShloMosaic.Lib.Claim

@[expose] public section

set_option maxRecDepth 16384

noncomputable section

namespace Cert.Kernel26Ideal.Own

open Cert.Kernel26Ideal Cert.Kernel26Ideal.Gen Cert.Kernel26Ideal.Value Idealize.ShloMosaic Idealize.ShloMosaic.TcCoe Idealize.SL.Sem
open scoped BigOperators

variable (m : (ℓ : Loc nD τ sig) → Buf (Elt Ideal) ℓ) (c : Dev nD)

theorem zeros : (![0, 0] : Fin 2 → ℕ) = fun _ => 0 := by funext a; fin_cases a <;> rfl

/-- A block of the product. -/
theorem payload (x0 : Vec Ideal S1024x2048 .bf16) (x1 : Vec Ideal S2048x1024 .bf16) : k0_pay1 x0 x1 = Linear.product x0 x1 := by
  funext y
  obtain ⟨r, s, rfl⟩ : ∃ (r : Fin 1024) (s : Fin 1024), y = ix2 r s := ⟨y 0, y 1, eq_ix2 y⟩
  pointwise [k0_pay1]
  rfl

/-- A block of the sum, from the blocks of the operands. -/
theorem block4 (x0 : Vec Ideal S1024x2048 .bf16) (x1 : Vec Ideal S2048x1024 .bf16) (x2 : Vec Ideal S1024x1024 .f32) (x3 : Vec Ideal S2x1024 .f32) :
    out0_4 x0 x1 x2 x3 = Linear.gated 4096 x0 x1 x2 x3 := by
  unfold out0_4
  rw [View.canon_unit_zero zeros, View.ld_unit_zero zeros, View.ld_unit_zero zeros, View.ld_unit_zero zeros, View.ld_unit_zero zeros]
  unfold k0_pay2
  rw [payload]
  funext y
  obtain ⟨r, s, rfl⟩ : ∃ (r : Fin 1024) (s : Fin 1024), y = ix2 r s := ⟨y 0, y 1, eq_ix2 y⟩
  pointwise [Linear.gated]
  rw [if_neg (by have := r.isLt; omega)]

/-- A block of the product, as the second result. -/
theorem block5 (x0 : Vec Ideal S1024x2048 .bf16) (x1 : Vec Ideal S2048x1024 .bf16) (x2 : Vec Ideal S1024x1024 .f32) (x3 : Vec Ideal S2x1024 .f32) :
    out0_5 x0 x1 x2 x3 = Linear.product x0 x1 := by
  unfold out0_5
  rw [View.canon_unit_zero zeros, View.ld_unit_zero zeros, View.ld_unit_zero zeros, ← payload]
  rfl

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)
theorem idx3 : ∀ t : Fin cfg0.N, win0_3.index t = ![0, t.val % 2] := (by decide +kernel : ∀ t : Fin grid0.N, _)
theorem idx4 : ∀ t : Fin cfg0.N, win0_4.index t = ![t.val / 2, t.val % 2] := (by decide +kernel : ∀ t : Fin grid0.N, _)
theorem idx5 : ∀ t : Fin cfg0.N, win0_5.index t = ![t.val / 2, t.val % 2] := (by decide +kernel : ∀ t : Fin grid0.N, _)

/-- The whole sum. -/
theorem final4 : (dats m 0 c).arrAt 4 cfg0.N = Linear.gated 4096 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  obtain ⟨r, s, rfl⟩ : ∃ (r : Fin 1024) (s : Fin 1024), y = ix2 r s := ⟨y 0, y 1, eq_ix2 y⟩
  rw [after0_4, block4]
  refine Linear.gated_block ?_ (fun d => ?_) (fun d => ?_) ?_ (fun a => ?_)
  · blk_simp [idx4]
    idx_bounds_all
    omega
  · blk_simp [iblk, V]
    refine congrArg (m (c, main_arg0)) ?_
    blk_ext [idx0, idx4]
  · blk_simp [iblk, V]
    refine congrArg (m (c, main_arg1)) ?_
    blk_ext [idx1, idx4]
  · blk_simp [iblk, V]
    refine congrArg (m (c, main_arg2)) ?_
    blk_ext [idx2, idx4]
  · blk_simp [iblk, V]
    refine congrArg (m (c, main_arg3)) ?_
    blk_ext [idx3, idx4]

/-- The whole product. -/
theorem final5 : (dats m 0 c).arrAt 5 cfg0.N = Linear.product (m ((c : Thread nD τ).loc main_arg0)) (m ((c : Thread nD τ).loc main_arg1)) := by
  refine (dats m 0 c).arrAt_eq_of_covers 5 _ (by decide +kernel) fun t hf y => ?_
  blk_simp
  obtain ⟨r, s, rfl⟩ : ∃ (r : Fin 1024) (s : Fin 1024), y = ix2 r s := ⟨y 0, y 1, eq_ix2 y⟩
  rw [after0_5, block5]
  refine Linear.product_block (fun d => ?_) (fun d => ?_)
  · blk_simp [iblk, V]
    refine congrArg (m (c, main_arg0)) ?_
    blk_ext [idx0, idx5]
  · blk_simp [iblk, V]
    refine congrArg (m (c, main_arg1)) ?_
    blk_ext [idx1, idx5]

/-- The reference's product. -/
theorem reference_product (x : FVec Ideal S4096x2048 .bf16) (w : FVec Ideal S2048x2048 .bf16) :
    Host.dotGeneral (F := Ideal) Cert.Reference26Ideal.dot_S4096x2048_S2048x2048_S4096x2048_1_0_0_1_n_n none
      (extf .f32 x Cert.Reference26Ideal.Gen.bitsLt_bf16_f32) (extf .f32 w Cert.Reference26Ideal.Gen.bitsLt_bf16_f32) = Linear.product x w := by
  funext j
  obtain ⟨i, n, rfl⟩ : ∃ (i : Fin 4096) (n : Fin 2048), j = ix2 i n := ⟨j 0, j 1, eq_ix2 j⟩
  pointwise []
  rfl

/-- The reference's sum, from the product. -/
theorem reference_sum (x : FVec Ideal S4096x2048 .bf16) (w : FVec Ideal S2048x2048 .bf16) (X : FVec Ideal S4096x2048 .f32) (g : FVec Ideal S2x2048 .f32)
    (y : FVec Ideal S4096x2048 .f32) (hy : y = Linear.product x w) :
    addf X (mulf (broadcastInDim Cert.Reference26Ideal.S4096x2048 ![0, 1] Cert.Reference26Ideal.Gen.bcast_S1x2048_S4096x2048_0_1 (broadcastInDim Cert.Reference26Ideal.S1x2048 ![1] Cert.Reference26Ideal.Gen.bcast_S2048_S1x2048_1 (shapeCast _ (extractStridedSlice Cert.Reference26Ideal.S1x2048 ![0, 0] g Cert.Reference26Ideal.Gen.slices_S2x2048_S1x2048_0_0) Cert.Reference26Ideal.Gen.shapeCasts_S1x2048_S2048))) y) = Linear.gated 4096 x w X g := by
  funext j
  obtain ⟨i, n, rfl⟩ : ∃ (i : Fin 4096) (n : Fin 2048), j = ix2 i n := ⟨j 0, j 1, eq_ix2 j⟩
  rw [hy]
  pointwise [Linear.gated]

/-- The reference leaves its arguments alone; it declares no semaphore. -/
theorem frame_reference : Cert.quiescent_Reference26Ideal := fun m ρ _ =>
  (θ_run Cert.Reference26Ideal.defs _ _).mono
    (fun r h => ⟨fun c => (h c).2.2, sem_eq_zero_of_no_sems (by decide) r.2⟩) (Cert.Reference26Ideal.Value.run m ρ)

/-- Kernel and reference end with the same two results. -/
theorem same : Cert.algebraic_Kernel26Ideal_Reference26Ideal := by
  intro m g m' g' _ hagree
  refine ⟨_, _, (θ_run defs _ _).mono (fun r h c => ⟨(h c).1.trans (final4 m c), (h c).2.1.trans (final5 m c), (h c).2.2⟩) (run_blocks m g), ?_⟩
  refine (θ_run Cert.Reference26Ideal.defs _ _).mono (fun r h c => ?_) (Cert.Reference26Ideal.Value.run m' g')
  obtain ⟨h0, h1, h2, h3⟩ := hagree c
  rw [← h0, ← h1, ← h2, ← h3]
  exact ⟨(h c).1.trans (reference_sum _ _ _ _ _ (reference_product _ _)), (h c).2.1.trans (reference_product _ _), (h c).2.2⟩

end Cert.Kernel26Ideal.Own
-- ==== Proof.Rotary.lean ====
/-
  A product whose columns are turned in pairs by the rotary embedding, at an index.
-/
module

public import proofs.«01_k».proof.Proof.Forward

@[expose] public section

noncomputable section

namespace Linear

open Idealize.ShloMosaic
open scoped BigOperators

variable {n k l : ℕ}

/-- The column a column is turned with: `b` to its right in the first half of a group of `2 b` columns, `b` to its left in the second. -/
def partner (b : ℕ) (j : Fin l) : Fin l :=
  ⟨(if j.val % (2 * b) < b then j.val + b else j.val - b) % l, Nat.mod_lt _ (by have := j.isLt; omega)⟩

/-- A column's place in the tables of 128 cosines and sines. -/
def lane (j : Fin l) : Fin 128 := ⟨j.val % 128, Nat.mod_lt _ (by decide)⟩

/-- A product whose columns 128 apart are turned in pairs: the first half of a group of 256 takes the difference, the second the sum. -/
def turned (x : FVec Ideal ⟨2, ![n, k]⟩ .bf16) (w : FVec Ideal ⟨2, ![k, l]⟩ .bf16) (cos sin : FVec Ideal ⟨2, ![n, 128]⟩ .f32) :
    FVec Ideal ⟨2, ![n, l]⟩ .f32 :=
  fun j => if (j 1).val % 256 < 128
    then product x w j * cos (ix2 (j 0) (lane (j 1))) - product x w (ix2 (j 0) (partner 128 (j 1))) * sin (ix2 (j 0) (lane (j 1)))
    else product x w j * cos (ix2 (j 0) (lane (j 1))) + product x w (ix2 (j 0) (partner 128 (j 1))) * sin (ix2 (j 0) (lane (j 1)))

/-- The queries and keys of the retention: the turned product, its columns from `q` on (the keys) times 1/16, which is the word 0x3D800000. -/
def rotary (q : ℕ) (x : FVec Ideal ⟨2, ![n, k]⟩ .bf16) (w : FVec Ideal ⟨2, ![k, l]⟩ .bf16) (cos sin : FVec Ideal ⟨2, ![n, 128]⟩ .f32) :
    FVec Ideal ⟨2, ![n, l]⟩ .bf16 :=
  fun j => turned x w cos sin j * if (j 1).val < q then 1 else Ideal.ofBits .f32 0x3D800000#32

/-- The queries and the keys of the attention: pairs 32 columns apart are turned; the table of sines has the signs. -/
def axial (x : FVec Ideal ⟨2, ![n, k]⟩ .bf16) (w : FVec Ideal ⟨2, ![k, l]⟩ .bf16) (cos sin : FVec Ideal ⟨2, ![n, 128]⟩ .f32) :
    FVec Ideal ⟨2, ![n, l]⟩ .bf16 :=
  fun j => product x w j * cos (ix2 (j 0) (lane (j 1))) + product x w (ix2 (j 0) (partner 32 (j 1))) * sin (ix2 (j 0) (lane (j 1)))

theorem partner_first {b : ℕ} {j : Fin l} (h : j.val % (2 * b) < b) (hl : j.val + b < l) : (partner b j).val = j.val + b := by
  show (if j.val % (2 * b) < b then j.val + b else j.val - b) % l = _
  rw [if_pos h]
  exact Nat.mod_eq_of_lt hl

theorem partner_second {b : ℕ} {j : Fin l} (h : ¬ j.val % (2 * b) < b) : (partner b j).val = j.val - b := by
  show (if j.val % (2 * b) < b then j.val + b else j.val - b) % l = _
  rw [if_neg h]
  exact Nat.mod_eq_of_lt (by have := j.isLt; omega)

/-- Of a block of whole groups, a column's partner is the block's own column's partner. -/
theorem partner_block {b base l' : ℕ} (hb : b = 128 ∨ b = 32) {s' : Fin l'} {s : Fin l} (h0 : base % 256 = 0) (hl' : l' % 256 = 0)
    (hl : base + l' ≤ l) (hj : s.val = base + s'.val) : (partner b s).val = base + (partner b s').val := by
  have h1 := s'.isLt
  by_cases h : s'.val % (2 * b) < b
  · rw [partner_first h (by rcases hb with rfl | rfl <;> omega),
      partner_first (by rcases hb with rfl | rfl <;> omega) (by rcases hb with rfl | rfl <;> omega)]
    omega
  · rw [partner_second h, partner_second (by rcases hb with rfl | rfl <;> omega)]
    rcases hb with rfl | rfl <;> omega

/-- Entries of a row at equal columns. -/
theorem entry (w : FVec Ideal ⟨2, ![k, l]⟩ .bf16) {a b : ℕ} {ha : a < l} {hb : b < l} (h : a = b) (d : Fin k) :
    w (ix2 d ⟨a, ha⟩) = w (ix2 d ⟨b, hb⟩) := by
  subst h
  rfl

/-- Entries of the columns of a matrix. -/
theorem columns_entry {first : ℕ} {l' : ℕ} {h : l + first ≤ l'} {w : FVec Ideal ⟨2, ![k, l']⟩ .bf16} {a : ℕ} {ha : a < l'} {s : Fin l}
    (e : a = first + s.val) (d : Fin k) : w (ix2 d ⟨a, ha⟩) = columns first h w (ix2 d s) := by
  subst e
  rfl

/-- Equal places in the tables. -/
theorem lane_of {a : ℕ} {ha : a < 128} {s : Fin l} (h : a = s.val % 128) : (⟨a, ha⟩ : Fin 128) = lane s := Fin.ext h

/-- A case distinction whose cases agree. -/
theorem cases_agree {α : Sort*} {p : Prop} [Decidable p] {a : p → α} {b : ¬ p → α} {v : α} (h1 : ∀ h, a h = v) (h2 : ∀ h, b h = v) :
    dite p a b = v := by
  by_cases h : p
  · rw [dif_pos h, h1]
  · rw [dif_neg h, h2]

variable {x : FVec Ideal ⟨2, ![n, k]⟩ .bf16} {w : FVec Ideal ⟨2, ![k, l]⟩ .bf16} {cos sin : FVec Ideal ⟨2, ![n, 128]⟩ .f32}
  {r : Fin n} {s : Fin l} {e : Fin 128} {v v' : Fin k → EReal}

/-- The turned product in the first half of a group of 256 columns. -/
theorem turned_first (h : s.val % 256 < 128) (hv : ∀ d, v d = w (ix2 d s)) (hv' : ∀ d, v' d = w (ix2 d (partner 128 s)))
    (he : e = lane s) :
    (∑ d, x (ix2 r d) * v d) * cos (ix2 r e) - (∑ d, x (ix2 r d) * v' d) * sin (ix2 r e) = turned x w cos sin (ix2 r s) := by
  obtain rfl : v = fun d => w (ix2 d s) := funext hv
  obtain rfl : v' = fun d => w (ix2 d (partner 128 s)) := funext hv'
  obtain rfl := he
  exact (if_pos h).symm

/-- The turned product in the second half of a group of 256 columns. -/
theorem turned_second (h : ¬ s.val % 256 < 128) (hv : ∀ d, v d = w (ix2 d s)) (hv' : ∀ d, v' d = w (ix2 d (partner 128 s)))
    (he : e = lane s) :
    (∑ d, x (ix2 r d) * v d) * cos (ix2 r e) + (∑ d, x (ix2 r d) * v' d) * sin (ix2 r e) = turned x w cos sin (ix2 r s) := by
  obtain rfl : v = fun d => w (ix2 d s) := funext hv
  obtain rfl : v' = fun d => w (ix2 d (partner 128 s)) := funext hv'
  obtain rfl := he
  exact (if_neg h).symm

/-- The queries and keys of the retention at an index. -/
theorem rotary_at (q : ℕ) (x : FVec Ideal ⟨2, ![n, k]⟩ .bf16) (w : FVec Ideal ⟨2, ![k, l]⟩ .bf16) (cos sin : FVec Ideal ⟨2, ![n, 128]⟩ .f32)
    (r : Fin n) (s : Fin l) :
    rotary q x w cos sin (ix2 r s) = turned x w cos sin (ix2 r s) * if s.val < q then 1 else Ideal.ofBits .f32 0x3D800000#32 := rfl

/-- The product for the attention at an index. -/
theorem axial_at (x : FVec Ideal ⟨2, ![n, k]⟩ .bf16) (w : FVec Ideal ⟨2, ![k, l]⟩ .bf16) (cos sin : FVec Ideal ⟨2, ![n, 128]⟩ .f32)
    (r : Fin n) (s : Fin l) :
    axial x w cos sin (ix2 r s) = (∑ d, x (ix2 r d) * w (ix2 d s)) * cos (ix2 r (lane s)) +
      (∑ d, x (ix2 r d) * w (ix2 d (partner 32 s))) * sin (ix2 r (lane s)) := rfl

/-- A sum of products, with its entries named otherwise. -/
theorem sum_entry {g u u' : Fin k → EReal} (hx : ∀ d, g d = v d) (h : ∀ d, u d = u' d) : (∑ d, g d * u d) = ∑ d, v d * u' d :=
  Finset.sum_congr rfl fun d _ => by rw [hx, h]

variable {n' l' : ℕ} {x' : FVec Ideal ⟨2, ![n', k]⟩ .bf16} {w' : FVec Ideal ⟨2, ![k, l']⟩ .bf16} {cos' sin' : FVec Ideal ⟨2, ![n', 128]⟩ .f32}
  {r' : Fin n'} {s' : Fin l'} {j : (⟨2, ![n, l]⟩ : Shape).Idx}

/-- The partner's column of a product, of a block of whole groups that begins at column `base`. -/
theorem partner_product (b base : ℕ) (hb : b = 128 ∨ b = 32) (h0 : base % 256 = 0) (hl' : l' % 256 = 0) (hl : base + l' ≤ l)
    (hj : (j 1).val = base + s'.val) (hx : ∀ d, x' (ix2 r' d) = x (ix2 (j 0) d))
    (hw : ∀ d (a : Fin l'), w' (ix2 d a) = w (ix2 d ⟨base + a.val, by have := a.isLt; omega⟩)) :
    product x' w' (ix2 r' (partner b s')) = product x w (ix2 (j 0) (partner b (j 1))) := by
  refine product_block hx fun d => (hw d _).trans (congrArg (fun e : Fin l => w (ix2 d e)) (Fin.ext ?_))
  exact (partner_block hb h0 hl' hl hj).symm

/-- The same column of a product. -/
theorem own_product (base : ℕ) (hl : base + l' ≤ l)
    (hj : (j 1).val = base + s'.val) (hx : ∀ d, x' (ix2 r' d) = x (ix2 (j 0) d))
    (hw : ∀ d (a : Fin l'), w' (ix2 d a) = w (ix2 d ⟨base + a.val, by have := a.isLt; omega⟩)) :
    product x' w' (ix2 r' s') = product x w j :=
  product_block hx fun d => (hw d _).trans (congrArg (fun e : Fin l => w (ix2 d e)) (Fin.ext hj.symm))

/-- A block of the queries and keys of the retention comes from the blocks of its operands. -/
theorem rotary_block {q q' : ℕ} (base : ℕ) (h0 : base % 256 = 0) (hl' : l' % 256 = 0) (hl : base + l' ≤ l)
    (hj : (j 1).val = base + s'.val) (hx : ∀ d, x' (ix2 r' d) = x (ix2 (j 0) d))
    (hw : ∀ d (a : Fin l'), w' (ix2 d a) = w (ix2 d ⟨base + a.val, by have := a.isLt; omega⟩))
    (hc : ∀ e, cos' (ix2 r' e) = cos (ix2 (j 0) e))
    (hs : ∀ e, sin' (ix2 r' e) = sin (ix2 (j 0) e)) (hq : s'.val < q' ↔ base + s'.val < q) :
    rotary q' x' w' cos' sin' (ix2 r' s') = rotary q x w cos sin j := by
  have hm : s'.val % 256 = (j 1).val % 256 := by omega
  have hl2 : lane s' = lane (j 1) := Fin.ext (show s'.val % 128 = (j 1).val % 128 by omega)
  have h1 : product x' w' (ix2 r' s') = product x w j := own_product base hl hj hx hw
  have h2 := partner_product 128 base (.inl rfl) h0 hl' hl hj hx hw
  rw [← hj] at hq
  show (if s'.val % 256 < 128
      then product x' w' (ix2 r' s') * cos' (ix2 r' (lane s')) - product x' w' (ix2 r' (partner 128 s')) * sin' (ix2 r' (lane s'))
      else product x' w' (ix2 r' s') * cos' (ix2 r' (lane s')) + product x' w' (ix2 r' (partner 128 s')) * sin' (ix2 r' (lane s'))) *
      (if s'.val < q' then 1 else Ideal.ofBits .f32 0x3D800000#32) = rotary q x w cos sin j
  rw [h1, h2, hc, hs, hl2, hm]
  simp only [hq]
  rfl

/-- A block of the queries or keys of the attention comes from the blocks of its operands. -/
theorem axial_block (base : ℕ) (h0 : base % 256 = 0) (hl' : l' % 256 = 0) (hl : base + l' ≤ l)
    (hj : (j 1).val = base + s'.val) (hx : ∀ d, x' (ix2 r' d) = x (ix2 (j 0) d))
    (hw : ∀ d (a : Fin l'), w' (ix2 d a) = w (ix2 d ⟨base + a.val, by have := a.isLt; omega⟩))
    (hc : ∀ e, cos' (ix2 r' e) = cos (ix2 (j 0) e)) (hs : ∀ e, sin' (ix2 r' e) = sin (ix2 (j 0) e)) :
    axial x' w' cos' sin' (ix2 r' s') = axial x w cos sin j := by
  have hl2 : lane s' = lane (j 1) := Fin.ext (show s'.val % 128 = (j 1).val % 128 by omega)
  have h1 : product x' w' (ix2 r' s') = product x w j := own_product base hl hj hx hw
  have h2 := partner_product 32 base (.inr rfl) h0 hl' hl hj hx hw
  show product x' w' (ix2 r' s') * cos' (ix2 r' (lane s')) + product x' w' (ix2 r' (partner 32 s')) * sin' (ix2 r' (lane s')) =
    axial x w cos sin j
  rw [h1, h2, hc, hs, hl2]
  rfl

set_option maxHeartbeats 1000000 in
/-- The choice between the two turns of the columns, as 32-bit words make it: by the column's place in its group of 64. -/
theorem swaps (n : ℕ) (h : n < 1024) : IntOp.cmpi CmpIPredicate.slt
      (Scalar.select
        (IntOp.andi
          (IntOp.xori
            (IntOp.cmpi CmpIPredicate.slt
              (IntOp.remsi ArithUnit.vector (BitVec.ofNat 32 n) (Scalar.select (Scalar.cmpi CmpIPredicate.eq 64#32 0#32) 1#32 64#32)) 0#32)
            (Scalar.cmpi CmpIPredicate.slt (Scalar.select (Scalar.cmpi CmpIPredicate.eq 64#32 0#32) 1#32 64#32) 0#32))
          (IntOp.cmpi CmpIPredicate.ne
            (IntOp.remsi ArithUnit.vector (BitVec.ofNat 32 n) (Scalar.select (Scalar.cmpi CmpIPredicate.eq 64#32 0#32) 1#32 64#32)) 0#32))
        (IntOp.addi
          (IntOp.remsi ArithUnit.vector (BitVec.ofNat 32 n) (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 n) (Scalar.select (Scalar.cmpi CmpIPredicate.eq 64#32 0#32) 1#32 64#32)))
      32#32 = BitVec.ofBool (decide (n % 64 < 32)) := by
  have all : ∀ n : Fin 1024, IntOp.cmpi CmpIPredicate.slt
          (Scalar.select
            (IntOp.andi
              (IntOp.xori
                (IntOp.cmpi CmpIPredicate.slt
                  (IntOp.remsi ArithUnit.vector (BitVec.ofNat 32 n.val) (Scalar.select (Scalar.cmpi CmpIPredicate.eq 64#32 0#32) 1#32 64#32)) 0#32)
                (Scalar.cmpi CmpIPredicate.slt (Scalar.select (Scalar.cmpi CmpIPredicate.eq 64#32 0#32) 1#32 64#32) 0#32))
              (IntOp.cmpi CmpIPredicate.ne
                (IntOp.remsi ArithUnit.vector (BitVec.ofNat 32 n.val) (Scalar.select (Scalar.cmpi CmpIPredicate.eq 64#32 0#32) 1#32 64#32)) 0#32))
            (IntOp.addi
              (IntOp.remsi ArithUnit.vector (BitVec.ofNat 32 n.val) (Scalar.select (Scalar.cmpi CmpIPredicate.eq 64#32 0#32) 1#32 64#32))
              (Scalar.select (Scalar.cmpi CmpIPredicate.eq 64#32 0#32) 1#32 64#32))
            (IntOp.remsi ArithUnit.vector (BitVec.ofNat 32 n.val) (Scalar.select (Scalar.cmpi CmpIPredicate.eq 64#32 0#32) 1#32 64#32)))
          32#32 = BitVec.ofBool (decide (n.val % 64 < 32)) := by
    decide +kernel
  exact all ⟨n, h⟩

end Linear
-- ==== Proof.RetQK.lean ====
/-
  The queries and keys of the retention, a product turned by the rotary embedding: what a block of the call holds, the whole result, and the claims of the call.
-/
module

public import proofs.«01_k».proof.Proof.Gen.Kernel27Ideal.Value
public import proofs.«01_k».proof.Proof.Rotary
public import proofs.«01_k».proof.Defs
public import proofs.«01_k».proof.Proof.Gen.Reference27Ideal.Run
public import Idealize.ShloMosaic.Lib.Claim

@[expose] public section

set_option maxRecDepth 16384

noncomputable section

namespace Cert.Kernel27Ideal.Own

open Cert.Kernel27Ideal Cert.Kernel27Ideal.Gen Cert.Kernel27Ideal.Value Idealize.ShloMosaic Idealize.ShloMosaic.TcCoe Idealize.SL.Sem
open scoped BigOperators

variable (m : (ℓ : Loc nD τ sig) → Buf (Elt Ideal) ℓ) (c : Dev nD)

theorem zeros : (![0, 0] : Fin 2 → ℕ) = fun _ => 0 := by funext a; fin_cases a <;> rfl

/-- A selection by the block's number among the four of a row, as 32-bit words compare it. -/
theorem scale (n : ℕ) (h : n < 4) (s : Fin 1024) (a b : EReal) :
    Scalar.select (Scalar.cmpi .slt (BitVec.ofNat 32 n) 2#32) a b = if s.val < (if n < 2 then 1024 else 0) then a else b := by
  have := s.isLt
  interval_cases n
  · rw [if_pos (by simp)]; rfl
  · rw [if_pos (by simp)]; rfl
  · rw [if_neg (by simp)]; rfl
  · rw [if_neg (by simp)]; rfl

/-- What the body stores, from the blocks of the operands. -/
theorem payload (i : grid0.Coords) (x0 : Vec Ideal S1088x2048 .bf16) (x1 : Vec Ideal S2048x1024 .bf16) (x2 x3 : Vec Ideal S1088x128 .f32) :
    k0_pay1 i x0 x1 x2 x3 = Linear.rotary (if (i 1).val < 2 then 1024 else 0) x0 x1 x2 x3 := by
  funext y
  obtain ⟨r, s, rfl⟩ : ∃ (r : Fin 1088) (s : Fin 1024), y = ix2 r s := ⟨y 0, y 1, eq_ix2 y⟩
  have hs := s.isLt
  pointwise [k0_pay1]
  refine congrArg₂ (fun a b : EReal => a * b) ?_ (scale _ (i 1).isLt s _ _)
  by_cases hh : s.val % 256 < 128
  · have hp := Linear.partner_first (b := 128) hh (by omega)
    repeat' refine Linear.cases_agree (fun h => ?_) fun h => ?_
    all_goals first
      | (exfalso; omega)
      | exact Linear.turned_first hh (Linear.entry x1 (b := s.val) (by omega)) (Linear.entry x1 (b := (Linear.partner 128 s).val) (by omega))
          (Linear.lane_of (by omega))
  · have hp := Linear.partner_second (b := 128) hh
    repeat' refine Linear.cases_agree (fun h => ?_) fun h => ?_
    all_goals first
      | (exfalso; omega)
      | exact Linear.turned_second hh (Linear.entry x1 (b := s.val) (by omega)) (Linear.entry x1 (b := (Linear.partner 128 s).val) (by omega))
          (Linear.lane_of (by omega))

/-- A block of the result. -/
theorem block (i : grid0.Coords) (x0 : Vec Ideal S1088x2048 .bf16) (x1 : Vec Ideal S2048x1024 .bf16) (x2 x3 : Vec Ideal S1088x128 .f32) :
    out0_4 i x0 x1 x2 x3 = Linear.rotary (if (i 1).val < 2 then 1024 else 0) x0 x1 x2 x3 := by
  unfold out0_4
  rw [View.canon_unit_zero zeros, View.ld_unit_zero zeros, View.ld_unit_zero zeros, View.ld_unit_zero zeros, View.ld_unit_zero zeros]
  exact payload i x0 x1 x2 x3

theorem idx0 : ∀ t : Fin cfg0.N, win0_0.index t = ![t.val / 4, 0] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, 0] := (by decide +kernel : ∀ t : Fin grid0.N, _)
theorem idx3 : ∀ t : Fin cfg0.N, win0_3.index t = ![t.val / 4, 0] := (by decide +kernel : ∀ t : Fin grid0.N, _)
theorem idx4 : ∀ t : Fin cfg0.N, win0_4.index t = ![t.val / 4, t.val % 4] := (by decide +kernel : ∀ t : Fin grid0.N, _)
theorem coord : ∀ t : Fin cfg0.N, (grid0.coords t 1).val = t.val % 4 := (by decide +kernel : ∀ t : Fin grid0.N, _)

/-- The whole result. -/
theorem final : (dats m 0 c).arrAt 4 cfg0.N =
    Linear.rotary 2048 (m ((c : Thread nD τ).loc main_arg0)) (Linear.columns 0 (by decide) (m ((c : Thread nD τ).loc main_arg1)))
      (m ((c : Thread nD τ).loc main_arg2)) (m ((c : Thread nD τ).loc main_arg3)) := by
  refine (dats m 0 c).arrAt_eq_of_covers 4 _ (by decide +kernel) fun t hf y => ?_
  blk_simp
  obtain ⟨r, s, rfl⟩ : ∃ (r : Fin 1088) (s : Fin 1024), y = ix2 r s := ⟨y 0, y 1, eq_ix2 y⟩
  rw [after0_4, block, coord]
  have ht : t.val % 4 < 4 := Nat.mod_lt _ (by decide)
  have hs := s.isLt
  refine Linear.rotary_block (1024 * (t.val % 4)) (by omega) (by decide) (by omega) ?_ (fun d => ?_) (fun d a => ?_) (fun e => ?_) (fun e => ?_) ?_
  · blk_simp [idx4]
    idx_bounds_all
    omega
  · blk_simp [iblk, V]
    refine congrArg (m (c, main_arg0)) ?_
    blk_ext [idx0, idx4]
  · unfold Linear.columns
    blk_simp [iblk, V]
    refine congrArg (m (c, main_arg1)) ?_
    blk_ext [idx1]
  · blk_simp [iblk, V]
    refine congrArg (m (c, main_arg2)) ?_
    blk_ext [idx2, idx4]
  · blk_simp [iblk, V]
    refine congrArg (m (c, main_arg3)) ?_
    blk_ext [idx3, idx4]
  · split_ifs <;> omega

set_option maxHeartbeats 1000000 in
/-- The reference computes the same. -/
theorem reference (m' : (ℓ : Loc Cert.Reference27Ideal.nD Cert.Reference27Ideal.τ Cert.Reference27Ideal.sig) → Buf (Elt Ideal) ℓ) (c : Dev Cert.Reference27Ideal.nD) :
    Cert.Reference27Ideal.Value.res_main_v26 m' c =
      Linear.rotary 2048 (m' ((c.tc : Thread Cert.Reference27Ideal.nD Cert.Reference27Ideal.τ).loc Cert.Reference27Ideal.main_arg0))
        (Linear.columns 0 (by decide) (m' ((c.tc : Thread Cert.Reference27Ideal.nD Cert.Reference27Ideal.τ).loc Cert.Reference27Ideal.main_arg1)))
        (m' ((c.tc : Thread Cert.Reference27Ideal.nD Cert.Reference27Ideal.τ).loc Cert.Reference27Ideal.main_arg2))
        (m' ((c.tc : Thread Cert.Reference27Ideal.nD Cert.Reference27Ideal.τ).loc Cert.Reference27Ideal.main_arg3)) := by
  unfold Cert.Reference27Ideal.Value.res_main_v26
  funext j
  obtain ⟨i, f, rfl⟩ : ∃ (i : Fin 4352) (f : Fin 4096), j = ix2 i f := ⟨j 0, j 1, eq_ix2 j⟩
  have hf := f.isLt
  pointwise []
  refine Eq.trans ?_ (Linear.rotary_at ..).symm
  by_cases hh : f.val % 256 < 128
  · have hp := Linear.partner_first (b := 128) hh (by omega)
    by_cases hq : f.val < 2048
    · rw [dif_pos hq, dif_pos hh, if_pos hq, mul_one]
      exact Linear.turned_first hh (Linear.columns_entry (by omega))
        (Linear.columns_entry (by omega)) (Linear.lane_of (by omega))
    · rw [dif_neg hq, dif_pos (by omega), if_neg hq]
      refine congrArg (fun a : EReal => a * _) ?_
      exact Linear.turned_first hh (Linear.columns_entry (by omega))
        (Linear.columns_entry (by omega)) (Linear.lane_of (by omega))
  · have hp := Linear.partner_second (b := 128) hh
    by_cases hq : f.val < 2048
    · rw [dif_pos hq, dif_neg hh, if_pos hq, mul_one]
      exact Linear.turned_second hh (Linear.columns_entry (by omega))
        (Linear.columns_entry (by omega)) (Linear.lane_of (by omega))
    · rw [dif_neg hq, dif_neg (by omega), if_neg hq]
      refine congrArg (fun a : EReal => a * _) ?_
      exact Linear.turned_second hh (Linear.columns_entry (by omega))
        (Linear.columns_entry (by omega)) (Linear.lane_of (by omega))

/-- The reference leaves its arguments alone; it declares no semaphore. -/
theorem frame_reference : Cert.quiescent_Reference27Ideal := fun m ρ _ =>
  (θ_run Cert.Reference27Ideal.defs _ _).mono
    (fun r h => ⟨fun c => (h c).2, sem_eq_zero_of_no_sems (by decide) r.2⟩) (Cert.Reference27Ideal.Value.run m ρ)

/-- Kernel and reference end with the same result. -/
theorem same : Cert.algebraic_Kernel27Ideal_Reference27Ideal := by
  intro m g m' g' _ hagree
  refine ⟨_, (θ_run defs _ _).mono (fun r h c => ⟨(h c).1.trans (final m c), (h c).2⟩) (run_blocks m g), ?_⟩
  refine (θ_run Cert.Reference27Ideal.defs _ _).mono (fun r h c => ?_) (Cert.Reference27Ideal.Value.run m' g')
  obtain ⟨h0, h1, h2, h3⟩ := hagree c
  rw [← h0, ← h1, ← h2, ← h3]
  exact ⟨(h c).1.trans (reference _ _), (h c).2⟩

end Cert.Kernel27Ideal.Own
-- ==== Proof.AttnQ.lean ====
/-
  The queries of the attention, a product turned by the axial rotary embedding: what a block of the call holds, the whole result, and the claims of the call.
-/
module

public import proofs.«01_k».proof.Proof.Gen.Kernel28Ideal.Value
public import proofs.«01_k».proof.Proof.Rotary
public import proofs.«01_k».proof.Defs
public import proofs.«01_k».proof.Proof.Gen.Reference28Ideal.Run
public import Idealize.ShloMosaic.Lib.Claim

@[expose] public section

set_option maxRecDepth 16384

noncomputable section

namespace Cert.Kernel28Ideal.Own

open Cert.Kernel28Ideal Cert.Kernel28Ideal.Gen Cert.Kernel28Ideal.Value Idealize.ShloMosaic Idealize.ShloMosaic.TcCoe Idealize.SL.Sem
open scoped BigOperators

variable (m : (ℓ : Loc nD τ sig) → Buf (Elt Ideal) ℓ) (c : Dev nD)

theorem zeros : (![0, 0] : Fin 2 → ℕ) = fun _ => 0 := by funext a; fin_cases a <;> rfl

/-- What the body stores, from the blocks of the operands. -/
theorem payload (x0 : Vec Ideal S1024x2048 .bf16) (x1 : Vec Ideal S2048x1024 .bf16) (x2 x3 : Vec Ideal S1024x128 .f32) :
    k0_pay1 x0 x1 x2 x3 = Linear.axial x0 x1 x2 x3 := by
  funext y
  obtain ⟨r, s, rfl⟩ : ∃ (r : Fin 1024) (s : Fin 1024), y = ix2 r s := ⟨y 0, y 1, eq_ix2 y⟩
  have hs := s.isLt
  pointwise [k0_pay1]
  rw [Linear.swaps s.val (by omega), Scalar.select_ofBool, Linear.axial_at]
  refine congrArg₂ (fun a b : EReal => a + b) (congrArg₂ (fun a b : EReal => a * b) rfl ?_) (congrArg₂ (fun a b : EReal => a * b) ?_ ?_)
  · repeat' refine Linear.cases_agree (fun h => ?_) fun h => ?_
    all_goals exact congrArg (fun e => x2 (ix2 r e)) (Linear.lane_of (by omega))
  · by_cases hh : s.val % 64 < 32
    · have hp := Linear.partner_first (b := 32) hh (by omega)
      rw [decide_eq_true hh]
      exact Linear.sum_entry (fun _ => rfl) (Linear.entry x1 (b := (Linear.partner 32 s).val) (by omega))
    · have hp := Linear.partner_second (b := 32) hh
      rw [decide_eq_false hh]
      exact Linear.sum_entry (fun _ => rfl) (Linear.entry x1 (b := (Linear.partner 32 s).val) (by omega))
  · repeat' refine Linear.cases_agree (fun h => ?_) fun h => ?_
    all_goals exact congrArg (fun e => x3 (ix2 r e)) (Linear.lane_of (by omega))

/-- A block of the result. -/
theorem block (t : Fin cfg0.N) : (dats m 0 c).after 4 t = Linear.axial (X0_0 m c t) (iblk m c 1 t) (X0_2 m c t) (X0_3 m c t) := by
  rw [after0_4]
  unfold outsAt0 out0_A_4
  rw [View.read_writes_junk_eq_canon]
  unfold kernelRun0_A
  dsimp only
  sl_unfold_words
  simp only [View.readAt_eq_ld, Memref.IsWhole.read_unread]
  rw [View.canon_unit_zero zeros, View.ld_unit_zero zeros, View.ld_unit_zero zeros, View.ld_unit_zero zeros, View.ld_unit_zero zeros]
  exact payload _ _ _ _

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, 0] := (by decide +kernel : ∀ t : Fin grid0.N, _)
theorem idx3 : ∀ t : Fin cfg0.N, win0_3.index t = ![t.val / 2, 0] := (by decide +kernel : ∀ t : Fin grid0.N, _)
theorem idx4 : ∀ t : Fin cfg0.N, win0_4.index t = ![t.val / 2, t.val % 2] := (by decide +kernel : ∀ t : Fin grid0.N, _)

/-- The first rows of a table. -/
def rows (t : FVec Ideal S4352x128 .f32) : FVec Ideal ⟨2, ![4096, 128]⟩ .f32 := fun j => t (ix2 (⟨(j 0).val, by have : (j 0).val < 4096 := (j 0).isLt; omega⟩ : Fin 4352) (j 1))

/-- The first rows of the operand. -/
def latent (x : FVec Ideal S4352x2048 .bf16) : FVec Ideal ⟨2, ![4096, 2048]⟩ .bf16 := fun j => x (ix2 (⟨(j 0).val, by have : (j 0).val < 4096 := (j 0).isLt; omega⟩ : Fin 4352) (j 1))

/-- What a point reads of the operand. -/
theorem read0 (t : Fin cfg0.N) (r : Fin 1024) (d : Fin 2048) (hr : 1024 * (t.val / 2) + r.val < 4352) :
    X0_0 m c t (ix2 r d) = m (c, main_arg0) (ix2 (⟨1024 * (t.val / 2) + r.val, hr⟩ : Fin 4352) d) := by
  unfold X0_0 Pipeline.Window.fill
  rw [dif_pos (moved0_0 t _)]
  unfold iblk V
  rw [View.read_apply]
  refine congrArg (m (c, main_arg0)) ?_
  blk_ext [idx0]

/-- What a point reads of the cosines. -/
theorem read2 (t : Fin cfg0.N) (r : Fin 1024) (d : Fin 128) (hr : 1024 * (t.val / 2) + r.val < 4352) :
    X0_2 m c t (ix2 r d) = m (c, main_arg2) (ix2 (⟨1024 * (t.val / 2) + r.val, hr⟩ : Fin 4352) d) := by
  unfold X0_2 Pipeline.Window.fill
  rw [dif_pos (moved0_2 t _)]
  unfold iblk V
  rw [View.read_apply]
  refine congrArg (m (c, main_arg2)) ?_
  blk_ext [idx2]

/-- What a point reads of the sines. -/
theorem read3 (t : Fin cfg0.N) (r : Fin 1024) (d : Fin 128) (hr : 1024 * (t.val / 2) + r.val < 4352) :
    X0_3 m c t (ix2 r d) = m (c, main_arg3) (ix2 (⟨1024 * (t.val / 2) + r.val, hr⟩ : Fin 4352) d) := by
  unfold X0_3 Pipeline.Window.fill
  rw [dif_pos (moved0_3 t _)]
  unfold iblk V
  rw [View.read_apply]
  refine congrArg (m (c, main_arg3)) ?_
  blk_ext [idx3]

/-- The whole result. -/
theorem final : (dats m 0 c).arrAt 4 cfg0.N =
    Linear.axial (latent (m ((c : Thread nD τ).loc main_arg0))) (Linear.columns 0 (by decide) (m ((c : Thread nD τ).loc main_arg1)))
      (rows (m ((c : Thread nD τ).loc main_arg2))) (rows (m ((c : Thread nD τ).loc main_arg3))) := by
  refine (dats m 0 c).arrAt_eq_of_covers 4 _ (by decide +kernel) fun t hf y => ?_
  blk_simp
  obtain ⟨r, s, rfl⟩ : ∃ (r : Fin 1024) (s : Fin 1024), y = ix2 r s := ⟨y 0, y 1, eq_ix2 y⟩
  rw [block]
  have ht : t.val % 2 < 2 := Nat.mod_lt _ (by decide)
  have ht8 : t.val < 8 := t.isLt
  have hr := r.isLt
  refine Linear.axial_block (1024 * (t.val % 2)) (by omega) (by decide) (by omega) ?_ (fun d => ?_) (fun d a => ?_) (fun e => ?_) (fun e => ?_)
  · blk_simp [idx4]
    idx_bounds_all
    omega
  · rw [read0 m c t r d (by omega)]
    refine congrArg (fun a : Fin 4352 => m (c, main_arg0) (ix2 a d)) (Fin.ext ?_)
    blk_simp [idx4]
    dsimp only
    omega
  · unfold Linear.columns
    blk_simp [iblk, V]
    refine congrArg (m (c, main_arg1)) ?_
    blk_ext [idx1]
  · rw [read2 m c t r e (by omega)]
    refine congrArg (fun a : Fin 4352 => m (c, main_arg2) (ix2 a e)) (Fin.ext ?_)
    blk_simp [idx4]
    dsimp only
    omega
  · rw [read3 m c t r e (by omega)]
    refine congrArg (fun a : Fin 4352 => m (c, main_arg3) (ix2 a e)) (Fin.ext ?_)
    blk_simp [idx4]
    dsimp only
    omega

/-- The reference leaves its arguments alone; it declares no semaphore. -/
theorem frame_reference : Cert.quiescent_Reference28Ideal := fun m ρ _ =>
  (θ_run Cert.Reference28Ideal.defs _ _).mono
    (fun r h => ⟨fun c => (h c).2, sem_eq_zero_of_no_sems (by decide) r.2⟩) (Cert.Reference28Ideal.Value.run m ρ)

/-- Kernel and reference end with the same result. -/
theorem same : Cert.algebraic_Kernel28Ideal_Reference28Ideal := by
  intro m g m' g' _ hagree
  refine ⟨_, (θ_run defs _ _).mono (fun r h c => ⟨(h c).1.trans (final m c), (h c).2⟩) (run_blocks m g), ?_⟩
  refine (θ_run Cert.Reference28Ideal.defs _ _).mono (fun r h c => ?_) (Cert.Reference28Ideal.Value.run m' g')
  obtain ⟨h0, h1, h2, h3⟩ := hagree c
  rw [← h0, ← h1, ← h2, ← h3]
  refine ⟨(h c).1.trans ?_, (h c).2⟩
  funext j
  obtain ⟨i, f, rfl⟩ : ∃ (i : Fin 4096) (f : Fin 2048), j = ix2 i f := ⟨j 0, j 1, eq_ix2 j⟩
  have hf := f.isLt
  pointwise []
  refine Eq.trans ?_ (Linear.axial_at ..).symm
  refine congrArg₂ (fun a b : EReal => a + b) (congrArg₂ (fun a b : EReal => a * b) ?_ rfl) (congrArg₂ (fun a b : EReal => a * b) ?_ rfl)
  · exact Linear.sum_entry (fun _ => rfl) (Linear.columns_entry (by omega))
  · by_cases hh : f.val % 64 < 32
    · have hp := Linear.partner_first (b := 32) hh (by omega)
      repeat' refine Linear.cases_agree (fun h => ?_) fun h => ?_
      all_goals first
        | (exfalso; omega)
        | exact Linear.sum_entry (fun _ => rfl) (Linear.columns_entry (by omega))
    · have hp := Linear.partner_second (b := 32) hh
      repeat' refine Linear.cases_agree (fun h => ?_) fun h => ?_
      all_goals first
        | (exfalso; omega)
        | exact Linear.sum_entry (fun _ => rfl) (Linear.columns_entry (by omega))

end Cert.Kernel28Ideal.Own
-- ==== Proof.AttnK.lean ====
/-
  The keys of the attention, a product turned by the axial rotary embedding: what a block of the call holds, the whole result, and the claims of the call.
-/
module

public import proofs.«01_k».proof.Proof.Gen.Kernel29Ideal.Value
public import proofs.«01_k».proof.Proof.Rotary
public import proofs.«01_k».proof.Defs
public import proofs.«01_k».proof.Proof.Gen.Reference29Ideal.Run
public import Idealize.ShloMosaic.Lib.Claim

@[expose] public section

set_option maxRecDepth 16384

noncomputable section

namespace Cert.Kernel29Ideal.Own

open Cert.Kernel29Ideal Cert.Kernel29Ideal.Gen Cert.Kernel29Ideal.Value Idealize.ShloMosaic Idealize.ShloMosaic.TcCoe Idealize.SL.Sem
open scoped BigOperators

variable (m : (ℓ : Loc nD τ sig) → Buf (Elt Ideal) ℓ) (c : Dev nD)

theorem zeros : (![0, 0] : Fin 2 → ℕ) = fun _ => 0 := by funext a; fin_cases a <;> rfl

/-- What the body stores, from the blocks of the operands. -/
theorem payload (x0 : Vec Ideal S1088x2048 .bf16) (x1 : Vec Ideal S2048x512 .bf16) (x2 x3 : Vec Ideal S1088x128 .f32) :
    k0_pay1 x0 x1 x2 x3 = Linear.axial x0 x1 x2 x3 := by
  funext y
  obtain ⟨r, s, rfl⟩ : ∃ (r : Fin 1088) (s : Fin 512), y = ix2 r s := ⟨y 0, y 1, eq_ix2 y⟩
  have hs := s.isLt
  pointwise [k0_pay1]
  rw [Linear.swaps s.val (by omega), Scalar.select_ofBool, Linear.axial_at]
  refine congrArg₂ (fun a b : EReal => a + b) (congrArg₂ (fun a b : EReal => a * b) rfl ?_) (congrArg₂ (fun a b : EReal => a * b) ?_ ?_)
  · repeat' refine Linear.cases_agree (fun h => ?_) fun h => ?_
    all_goals exact congrArg (fun e => x2 (ix2 r e)) (Linear.lane_of (by omega))
  · by_cases hh : s.val % 64 < 32
    · have hp := Linear.partner_first (b := 32) hh (by omega)
      rw [decide_eq_true hh]
      exact Linear.sum_entry (fun _ => rfl) (Linear.entry x1 (b := (Linear.partner 32 s).val) (by omega))
    · have hp := Linear.partner_second (b := 32) hh
      rw [decide_eq_false hh]
      exact Linear.sum_entry (fun _ => rfl) (Linear.entry x1 (b := (Linear.partner 32 s).val) (by omega))
  · repeat' refine Linear.cases_agree (fun h => ?_) fun h => ?_
    all_goals exact congrArg (fun e => x3 (ix2 r e)) (Linear.lane_of (by omega))

/-- A block of the result. -/
theorem block (x0 : Vec Ideal S1088x2048 .bf16) (x1 : Vec Ideal S2048x512 .bf16) (x2 x3 : Vec Ideal S1088x128 .f32) :
    out0_4 x0 x1 x2 x3 = Linear.axial x0 x1 x2 x3 := by
  unfold out0_4
  rw [View.canon_unit_zero zeros, View.ld_unit_zero zeros, View.ld_unit_zero zeros, View.ld_unit_zero zeros, View.ld_unit_zero zeros]
  exact payload x0 x1 x2 x3

theorem idx0 : ∀ t : Fin cfg0.N, win0_0.index t = ![t.val, 0] := (by decide +kernel : ∀ t : Fin grid0.N, _)
theorem idx1 : ∀ t : Fin cfg0.N, win0_1.index t = ![0, 4] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)

/-- The whole result. -/
theorem final : (dats m 0 c).arrAt 4 cfg0.N =
    Linear.axial (m ((c : Thread nD τ).loc main_arg0)) (Linear.columns 2048 (by decide) (m ((c : Thread nD τ).loc main_arg1)))
      (m ((c : Thread nD τ).loc main_arg2)) (m ((c : Thread nD τ).loc main_arg3)) := by
  refine (dats m 0 c).arrAt_eq_of_covers 4 _ (by decide +kernel) fun t hf y => ?_
  blk_simp
  obtain ⟨r, s, rfl⟩ : ∃ (r : Fin 1088) (s : Fin 512), y = ix2 r s := ⟨y 0, y 1, eq_ix2 y⟩
  rw [after0_4, block]
  refine Linear.axial_block 0 (by omega) (by decide) (by omega) ?_ (fun d => ?_) (fun d a => ?_) (fun e => ?_) (fun e => ?_)
  · blk_simp [idx4]
  · blk_simp [iblk, V]
    refine congrArg (m (c, main_arg0)) ?_
    blk_ext [idx0, idx4]
  · unfold Linear.columns
    blk_simp [iblk, V]
    refine congrArg (m (c, main_arg1)) ?_
    blk_ext [idx1]
  · blk_simp [iblk, V]
    refine congrArg (m (c, main_arg2)) ?_
    blk_ext [idx2, idx4]
  · blk_simp [iblk, V]
    refine congrArg (m (c, main_arg3)) ?_
    blk_ext [idx3, idx4]

/-- The reference leaves its arguments alone; it declares no semaphore. -/
theorem frame_reference : Cert.quiescent_Reference29Ideal := fun m ρ _ =>
  (θ_run Cert.Reference29Ideal.defs _ _).mono
    (fun r h => ⟨fun c => (h c).2, sem_eq_zero_of_no_sems (by decide) r.2⟩) (Cert.Reference29Ideal.Value.run m ρ)

/-- Kernel and reference end with the same result. -/
theorem same : Cert.algebraic_Kernel29Ideal_Reference29Ideal := by
  intro m g m' g' _ hagree
  refine ⟨_, (θ_run defs _ _).mono (fun r h c => ⟨(h c).1.trans (final m c), (h c).2⟩) (run_blocks m g), ?_⟩
  refine (θ_run Cert.Reference29Ideal.defs _ _).mono (fun r h c => ?_) (Cert.Reference29Ideal.Value.run m' g')
  obtain ⟨h0, h1, h2, h3⟩ := hagree c
  rw [← h0, ← h1, ← h2, ← h3]
  refine ⟨(h c).1.trans ?_, (h c).2⟩
  funext j
  obtain ⟨i, f, rfl⟩ : ∃ (i : Fin 4352) (f : Fin 512), j = ix2 i f := ⟨j 0, j 1, eq_ix2 j⟩
  have hf := f.isLt
  pointwise []
  refine Eq.trans ?_ (Linear.axial_at ..).symm
  refine congrArg₂ (fun a b : EReal => a + b) (congrArg₂ (fun a b : EReal => a * b) ?_ rfl) (congrArg₂ (fun a b : EReal => a * b) ?_ rfl)
  · exact Linear.sum_entry (fun _ => rfl) (Linear.columns_entry (by omega))
  · by_cases hh : f.val % 64 < 32
    · have hp := Linear.partner_first (b := 32) hh (by omega)
      repeat' refine Linear.cases_agree (fun h => ?_) fun h => ?_
      all_goals first
        | (exfalso; omega)
        | exact Linear.sum_entry (fun _ => rfl) (Linear.columns_entry (by omega))
    · have hp := Linear.partner_second (b := 32) hh
      repeat' refine Linear.cases_agree (fun h => ?_) fun h => ?_
      all_goals first
        | (exfalso; omega)
        | exact Linear.sum_entry (fun _ => rfl) (Linear.columns_entry (by omega))

end Cert.Kernel29Ideal.Own
-- ==== Proof.Modulate.lean ====
/-
  Rows divided by the root of their mean square and then scaled and shifted by rows of parameters, at an index.
-/
module

public import proofs.«01_k».proof.Proof.Forward

@[expose] public section

noncomputable section

namespace Linear

open Idealize.ShloMosaic
open scoped BigOperators

variable {n l : ℕ}

/-- Each row over the root of its mean square, times the gains, then scaled and shifted: the rows `late` names by rows 3 and 2 of the parameters, the others by rows 1 and 0. -/
def modulated (late : Fin n → Bool) (x : FVec Ideal ⟨2, ![n, l]⟩ .f32) (g : FVec Ideal ⟨2, ![1, l]⟩ .f32) (p : FVec Ideal ⟨2, ![4, l]⟩ .f32) :
    FVec Ideal ⟨2, ![n, l]⟩ .bf16 := fun j =>
  x j * Ideal.rsqrt (Ideal.div (∑ a : Fin l, x (ix2 (j 0) a) * x (ix2 (j 0) a)) (Ideal.ofBits FTy.f32 1157627904#32) + Ideal.ofBits FTy.f32 897988541#32)
      * g (ix2 0 (j 1)) * (1 + if late (j 0) then p (ix2 3 (j 1)) else p (ix2 1 (j 1)))
    + if late (j 0) then p (ix2 2 (j 1)) else p (ix2 0 (j 1))

/-- The modulated rows at an index. -/
theorem modulated_at (late : Fin n → Bool) (x : FVec Ideal ⟨2, ![n, l]⟩ .f32) (g : FVec Ideal ⟨2, ![1, l]⟩ .f32) (p : FVec Ideal ⟨2, ![4, l]⟩ .f32)
    (r : Fin n) (s : Fin l) : modulated late x g p (ix2 r s) =
      x (ix2 r s) * Ideal.rsqrt (Ideal.div (∑ a : Fin l, x (ix2 r a) * x (ix2 r a)) (Ideal.ofBits FTy.f32 1157627904#32) + Ideal.ofBits FTy.f32 897988541#32)
          * g (ix2 0 s) * (1 + if late r then p (ix2 3 s) else p (ix2 1 s))
        + if late r then p (ix2 2 s) else p (ix2 0 s) := rfl

/-- Row `r'` of a block is row `r` of the whole, when the entries agree. -/
theorem modulated_block {n' : ℕ} {late : Fin n → Bool} {late' : Fin n' → Bool} {x : FVec Ideal ⟨2, ![n, l]⟩ .f32} {x' : FVec Ideal ⟨2, ![n', l]⟩ .f32}
    {g g' : FVec Ideal ⟨2, ![1, l]⟩ .f32} {p p' : FVec Ideal ⟨2, ![4, l]⟩ .f32} {r : Fin n'} {s : Fin l} {j : (⟨2, ![n, l]⟩ : Shape).Idx}
    (hs : (j 1).val = s.val) (hlate : late' r = late (j 0)) (hx : ∀ a, x' (ix2 r a) = x (ix2 (j 0) a)) (hg : g' = g) (hp : p' = p) :
    modulated late' x' g' p' (ix2 r s) = modulated late x g p j := by
  obtain rfl : j 1 = s := Fin.ext hs
  subst hg hp
  refine (modulated_at ..).trans ?_
  rw [(hx (j 1)).trans (congrArg x (eq_ix2 j).symm), hlate]
  simp only [hx]
  rfl

/-- Whether a block is among those of the later rows, as the kernel decides it. -/
theorem later (b : ℕ) (h : b < 17) : Scalar.cmpi CmpIPredicate.sge (BitVec.ofNat 32 b) 16#32 = BitVec.ofBool (decide (16 ≤ b)) := by
  have all : ∀ b : Fin 17, Scalar.cmpi CmpIPredicate.sge (BitVec.ofNat 32 b.val) 16#32 = BitVec.ofBool (decide (16 ≤ b.val)) := by
    decide +kernel
  exact all ⟨b, h⟩

end Linear
-- ==== Proof.NormMod0.lean ====
/-
  The input of the first mixer of the forward pass, normalised and modulated: what a block of the call holds, the whole result, and the claims of the call.
-/
module

public import proofs.«01_k».proof.Proof.Gen.Kernel30Ideal.Value
public import proofs.«01_k».proof.Proof.Modulate
public import proofs.«01_k».proof.Defs
public import proofs.«01_k».proof.Proof.Gen.Reference30Ideal.Run
public import Idealize.ShloMosaic.Lib.Claim

@[expose] public section

set_option maxRecDepth 16384

noncomputable section

namespace Cert.Kernel30Ideal.Own

open Cert.Kernel30Ideal Cert.Kernel30Ideal.Gen Cert.Kernel30Ideal.Value Idealize.ShloMosaic Idealize.ShloMosaic.TcCoe Idealize.SL.Sem
open scoped BigOperators

variable (m : (ℓ : Loc nD τ sig) → Buf (Elt Ideal) ℓ) (c : Dev nD)

theorem zeros : (![0, 0] : Fin 2 → ℕ) = fun _ => 0 := by funext a; fin_cases a <;> rfl

/-- What the body stores, from the blocks of the operands: the rows of the last block are the later ones. -/
theorem payload (i : grid0.Coords) (x0 : Vec Ideal S256x2048 .f32) (x1 : Vec Ideal S1x2048 .f32) (x2 : Vec Ideal S4x2048 .f32) :
    k0_pay1 i x0 x1 x2 = Linear.modulated (fun _ => decide (16 ≤ (i 0).val)) x0 x1 x2 := by
  funext y
  obtain ⟨r, s, rfl⟩ : ∃ (r : Fin 256) (s : Fin 2048), y = ix2 r s := ⟨y 0, y 1, eq_ix2 y⟩
  pointwise [k0_pay1]
  rw [Linear.later _ (i 0).isLt, Scalar.select_ofBool, Scalar.select_ofBool, Linear.modulated_at]

/-- A block of the result. -/
theorem block (i : grid0.Coords) (x0 : Vec Ideal S256x2048 .f32) (x1 : Vec Ideal S1x2048 .f32) (x2 : Vec Ideal S4x2048 .f32) :
    out0_3 i x0 x1 x2 = Linear.modulated (fun _ => decide (16 ≤ (i 0).val)) x0 x1 x2 := by
  unfold out0_3
  rw [View.canon_unit_zero zeros, View.ld_unit_zero zeros, View.ld_unit_zero zeros, View.ld_unit_zero zeros]
  exact payload i x0 x1 x2

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

/-- The grid has one axis: the coordinate of a point is its number. -/
theorem coord : ∀ t : Fin cfg0.N, (grid0.coords t 0).val = t.val := (by decide +kernel : ∀ t : Fin grid0.N, _)

/-- The whole result. -/
theorem final : (dats m 0 c).arrAt 3 cfg0.N =
    Linear.modulated (fun r : Fin 4352 => decide (4096 ≤ r.val)) (m ((c : Thread nD τ).loc main_arg0)) (m ((c : Thread nD τ).loc main_arg1))
      (m ((c : Thread nD τ).loc main_arg2)) := by
  refine (dats m 0 c).arrAt_eq_of_covers 3 _ (by decide +kernel) fun t hf y => ?_
  blk_simp
  obtain ⟨r, s, rfl⟩ : ∃ (r : Fin 256) (s : Fin 2048), y = ix2 r s := ⟨y 0, y 1, eq_ix2 y⟩
  have hr := r.isLt
  rw [after0_3, block]
  refine Linear.modulated_block ?_ ?_ (fun d => ?_) ?_ ?_
  · blk_simp [idx3]
  · refine decide_eq_decide.mpr ?_
    rw [coord]
    blk_simp [idx3]
    omega
  · blk_simp [iblk, V]
    refine congrArg (m (c, main_arg0)) ?_
    blk_ext [idx0, idx3]
  · funext y
    blk_simp [iblk, V]
    refine congrArg (m (c, main_arg1)) ?_
    blk_ext [idx1]
  · funext y
    blk_simp [iblk, V]
    refine congrArg (m (c, main_arg2)) ?_
    blk_ext [idx2]

/-- The reference leaves its arguments alone; it declares no semaphore. -/
theorem frame_reference : Cert.quiescent_Reference30Ideal := fun m ρ _ =>
  (θ_run Cert.Reference30Ideal.defs _ _).mono
    (fun r h => ⟨fun c => (h c).2, sem_eq_zero_of_no_sems (by decide) r.2⟩) (Cert.Reference30Ideal.Value.run m ρ)

/-- Kernel and reference end with the same result. -/
theorem same : Cert.algebraic_Kernel30Ideal_Reference30Ideal := by
  intro m g m' g' _ hagree
  refine ⟨_, (θ_run defs _ _).mono (fun r h c => ⟨(h c).1.trans (final m c), (h c).2⟩) (run_blocks m g), ?_⟩
  refine (θ_run Cert.Reference30Ideal.defs _ _).mono (fun r h c => ?_) (Cert.Reference30Ideal.Value.run m' g')
  obtain ⟨h0, h1, h2⟩ := hagree c
  rw [← h0, ← h1, ← h2]
  refine ⟨(h c).1.trans ?_, (h c).2⟩
  funext j
  obtain ⟨i, f, rfl⟩ : ∃ (i : Fin 4352) (f : Fin 2048), j = ix2 i f := ⟨j 0, j 1, eq_ix2 j⟩
  pointwise []
  refine Eq.trans ?_ (Linear.modulated_at ..).symm
  by_cases hi : i.val < 4096
  · have hd : ¬ decide (4096 ≤ i.val) = true := fun h => absurd (of_decide_eq_true h) (by omega)
    rw [dif_pos hi, if_neg hd, if_neg hd]
  · have hd : decide (4096 ≤ i.val) = true := decide_eq_true (by omega)
    have own : ∀ h : 4096 + (i.val - 4096) < 4352, (⟨4096 + (i.val - 4096), h⟩ : Fin 4352) = i := fun h => Fin.ext (by dsimp only; omega)
    rw [dif_neg hi, if_pos hd, if_pos hd]
    simp only [own]

end Cert.Kernel30Ideal.Own
-- ==== Proof.NormMod1.lean ====
/-
  The input of the second multilayer perceptron of the forward pass, normalised and modulated: what a block of the call holds, the whole result, and the claims of the call.
-/
module

public import proofs.«01_k».proof.Proof.Gen.Kernel31Ideal.Value
public import proofs.«01_k».proof.Proof.Modulate
public import proofs.«01_k».proof.Defs
public import proofs.«01_k».proof.Proof.Gen.Reference31Ideal.Run
public import Idealize.ShloMosaic.Lib.Claim

@[expose] public section

set_option maxRecDepth 16384

noncomputable section

namespace Cert.Kernel31Ideal.Own

open Cert.Kernel31Ideal Cert.Kernel31Ideal.Gen Cert.Kernel31Ideal.Value Idealize.ShloMosaic Idealize.ShloMosaic.TcCoe Idealize.SL.Sem
open scoped BigOperators

variable (m : (ℓ : Loc nD τ sig) → Buf (Elt Ideal) ℓ) (c : Dev nD)

theorem zeros : (![0, 0] : Fin 2 → ℕ) = fun _ => 0 := by funext a; fin_cases a <;> rfl

/-- What the body stores, from the blocks of the operands: no block is among those of the later rows. -/
theorem payload (i : grid0.Coords) (x0 : Vec Ideal S256x2048 .f32) (x1 : Vec Ideal S1x2048 .f32) (x2 : Vec Ideal S4x2048 .f32) :
    k0_pay1 i x0 x1 x2 = Linear.modulated (fun _ => false) x0 x1 x2 := by
  funext y
  obtain ⟨r, s, rfl⟩ : ∃ (r : Fin 256) (s : Fin 2048), y = ix2 r s := ⟨y 0, y 1, eq_ix2 y⟩
  pointwise [k0_pay1]
  have hi : (i 0).val < 16 := (i 0).isLt
  rw [Linear.later _ (by omega), decide_eq_false (by omega), Scalar.select_ofBool, Scalar.select_ofBool, Linear.modulated_at]

/-- A block of the result. -/
theorem block (i : grid0.Coords) (x0 : Vec Ideal S256x2048 .f32) (x1 : Vec Ideal S1x2048 .f32) (x2 : Vec Ideal S4x2048 .f32) :
    out0_3 i x0 x1 x2 = Linear.modulated (fun _ => false) x0 x1 x2 := by
  unfold out0_3
  rw [View.canon_unit_zero zeros, View.ld_unit_zero zeros, View.ld_unit_zero zeros, View.ld_unit_zero zeros]
  exact payload i x0 x1 x2

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

/-- The whole result. -/
theorem final : (dats m 0 c).arrAt 3 cfg0.N =
    Linear.modulated (fun _ => false) (m ((c : Thread nD τ).loc main_arg0)) (m ((c : Thread nD τ).loc main_arg1))
      (m ((c : Thread nD τ).loc main_arg2)) := by
  refine (dats m 0 c).arrAt_eq_of_covers 3 _ (by decide +kernel) fun t hf y => ?_
  blk_simp
  obtain ⟨r, s, rfl⟩ : ∃ (r : Fin 256) (s : Fin 2048), y = ix2 r s := ⟨y 0, y 1, eq_ix2 y⟩
  rw [after0_3, block]
  refine Linear.modulated_block ?_ rfl (fun d => ?_) ?_ ?_
  · blk_simp [idx3]
  · blk_simp [iblk, V]
    refine congrArg (m (c, main_arg0)) ?_
    blk_ext [idx0, idx3]
  · funext y
    blk_simp [iblk, V]
    refine congrArg (m (c, main_arg1)) ?_
    blk_ext [idx1]
  · funext y
    blk_simp [iblk, V]
    refine congrArg (m (c, main_arg2)) ?_
    blk_ext [idx2]

/-- The reference leaves its arguments alone; it declares no semaphore. -/
theorem frame_reference : Cert.quiescent_Reference31Ideal := fun m ρ _ =>
  (θ_run Cert.Reference31Ideal.defs _ _).mono
    (fun r h => ⟨fun c => (h c).2, sem_eq_zero_of_no_sems (by decide) r.2⟩) (Cert.Reference31Ideal.Value.run m ρ)

/-- Kernel and reference end with the same result. -/
theorem same : Cert.algebraic_Kernel31Ideal_Reference31Ideal := by
  intro m g m' g' _ hagree
  refine ⟨_, (θ_run defs _ _).mono (fun r h c => ⟨(h c).1.trans (final m c), (h c).2⟩) (run_blocks m g), ?_⟩
  refine (θ_run Cert.Reference31Ideal.defs _ _).mono (fun r h c => ?_) (Cert.Reference31Ideal.Value.run m' g')
  obtain ⟨h0, h1, h2⟩ := hagree c
  rw [← h0, ← h1, ← h2]
  refine ⟨(h c).1.trans ?_, (h c).2⟩
  funext j
  obtain ⟨i, f, rfl⟩ : ∃ (i : Fin 4096) (f : Fin 2048), j = ix2 i f := ⟨j 0, j 1, eq_ix2 j⟩
  pointwise []
  refine Eq.trans ?_ (Linear.modulated_at ..).symm
  rfl

end Cert.Kernel31Ideal.Own
-- ==== Proof.RetReadout.lean ====
/-
  The output of the retention, normalised by heads and gated: what a block of the call holds, the whole result, and the claims of the call.
-/
module

public import proofs.«01_k».proof.Proof.Gen.Kernel32Ideal.Value
public import proofs.«01_k».proof.Proof.Rotary
public import proofs.«01_k».proof.Defs
public import proofs.«01_k».proof.Proof.Gen.Reference32Ideal.Run
public import Idealize.ShloMosaic.Lib.Claim

@[expose] public section

set_option maxRecDepth 16384

noncomputable section

namespace Cert.Kernel32Ideal.Own

open Cert.Kernel32Ideal Cert.Kernel32Ideal.Gen Cert.Kernel32Ideal.Value Idealize.ShloMosaic Idealize.ShloMosaic.TcCoe Idealize.SL.Sem
open scoped BigOperators

variable (m : (ℓ : Loc nD τ sig) → Buf (Elt Ideal) ℓ) (c : Dev nD)

theorem zeros : (![0, 0] : Fin 2 → ℕ) = fun _ => 0 := by funext a; fin_cases a <;> rfl

/-- The entries over the root of the mean square of their head of 512 columns; the mean's divisor is the word 0x44000000. -/
def headwise {n : ℕ} (x : FVec Ideal ⟨2, ![n, 4096]⟩ .f32) (r : Fin n) (s : Fin 4096) : EReal :=
  x (ix2 r s) * Ideal.rsqrt (Ideal.div
      (∑ a : Fin 512, x (ix2 r ⟨s.val / 512 * 512 + a.val, by have := s.isLt; have := a.isLt; omega⟩) *
        x (ix2 r ⟨s.val / 512 * 512 + a.val, by have := s.isLt; have := a.isLt; omega⟩))
      (Ideal.ofBits .f32 1140850688#32) + Ideal.ofBits .f32 897988541#32)

/-- The gate, through its sigmoid, times the normalised entries. -/
def readout {n : ℕ} (x : FVec Ideal ⟨2, ![n, 4096]⟩ .f32) (v : FVec Ideal ⟨2, ![n, 4096]⟩ .bf16) : FVec Ideal ⟨2, ![n, 4096]⟩ .bf16 :=
  fun j => v j * Ideal.logistic (v j) * headwise x (j 0) (j 1)

/-- The gated entries at an index. -/
theorem readout_at {n : ℕ} (x : FVec Ideal ⟨2, ![n, 4096]⟩ .f32) (v : FVec Ideal ⟨2, ![n, 4096]⟩ .bf16) (r : Fin n) (s : Fin 4096) :
    readout x v (ix2 r s) = v (ix2 r s) * Ideal.logistic (v (ix2 r s)) * headwise x r s := rfl

/-- The normalised entry, with the columns of its head named otherwise. -/
theorem headwise_of {n : ℕ} {x : FVec Ideal ⟨2, ![n, 4096]⟩ .f32} {r : Fin n} {s e : Fin 4096} {col : Fin 512 → Fin 4096} (he : e.val = s.val)
    (hcol : ∀ a, (col a).val = s.val / 512 * 512 + a.val) :
    x (ix2 r e) * Ideal.rsqrt (Ideal.div (∑ a, x (ix2 r (col a)) * x (ix2 r (col a)))
      (Ideal.ofBits .f32 1140850688#32) + Ideal.ofBits .f32 897988541#32) = headwise x r s := by
  obtain rfl : e = s := Fin.ext he
  obtain rfl : col = fun a => ⟨e.val / 512 * 512 + a.val, by have := e.isLt; have := a.isLt; omega⟩ := funext fun a => Fin.ext (hcol a)
  rfl

/-- A row of a block has the entries of the whole. -/
theorem readout_block {n n' : ℕ} {x : FVec Ideal ⟨2, ![n, 4096]⟩ .f32} {x' : FVec Ideal ⟨2, ![n', 4096]⟩ .f32}
    {v : FVec Ideal ⟨2, ![n, 4096]⟩ .bf16} {v' : FVec Ideal ⟨2, ![n', 4096]⟩ .bf16} {r : Fin n'} {s : Fin 4096}
    {j : (⟨2, ![n, 4096]⟩ : Shape).Idx} (hs : (j 1).val = s.val) (hx : ∀ a, x' (ix2 r a) = x (ix2 (j 0) a)) (hv : v' (ix2 r s) = v j) :
    readout x' v' (ix2 r s) = readout x v j := by
  obtain rfl : j 1 = s := Fin.ext hs
  refine (readout_at ..).trans ?_
  unfold headwise
  rw [hv, show x' (ix2 r (j 1)) = x (ix2 (j 0) (j 1)) from hx _]
  simp only [hx]
  rfl

/-- What the body stores, from the blocks of the operands. -/
theorem payload (x0 : Vec Ideal S128x4096 .f32) (x1 : Vec Ideal S128x4096 .bf16) :
    k0_pay1 x1 (k0_pay7 x0 (k0_pay2 x0) (k0_pay3 x0) (k0_pay4 x0) (k0_pay5 x0) (k0_pay6 x0)) = readout x0 x1 := by
  funext y
  obtain ⟨r, s, rfl⟩ : ∃ (r : Fin 128) (s : Fin 4096), y = ix2 r s := ⟨y 0, y 1, eq_ix2 y⟩
  have hs := s.isLt
  pointwise [k0_pay1, k0_pay2, k0_pay3, k0_pay4, k0_pay5, k0_pay6, k0_pay7]
  refine Eq.trans (congrArg (fun a : EReal => x1 (ix2 r s) * Ideal.logistic (x1 (ix2 r s)) * a) ?_) (readout_at ..).symm
  repeat' refine Linear.cases_agree (fun h => ?_) fun h => ?_
  all_goals exact headwise_of (by dsimp only <;> omega) fun a => by dsimp only; omega

/-- A block of the result. -/
theorem block (x0 : Vec Ideal S128x4096 .f32) (x1 : Vec Ideal S128x4096 .bf16) : out0_2 x0 x1 = readout x0 x1 := by
  unfold out0_2
  rw [View.canon_unit_zero zeros]
  rw [View.ld_unit_zero zeros, View.ld_unit_zero zeros]
  exact payload x0 x1

theorem idx0 : ∀ t : Fin cfg0.N, win0_0.index t = ![t.val, 0] := (by decide +kernel : ∀ t : Fin grid0.N, _)
theorem idx1 : ∀ t : Fin cfg0.N, win0_1.index t = ![t.val, 1] := (by decide +kernel : ∀ t : Fin grid0.N, _)
theorem idx2 : ∀ t : Fin cfg0.N, win0_2.index t = ![t.val, 0] := (by decide +kernel : ∀ t : Fin grid0.N, _)

/-- The whole result. -/
theorem final : (dats m 0 c).arrAt 2 cfg0.N =
    readout (m ((c : Thread nD τ).loc main_arg0)) (Linear.columns 4096 (by decide) (m ((c : Thread nD τ).loc main_arg1))) := by
  refine (dats m 0 c).arrAt_eq_of_covers 2 _ (by decide +kernel) fun t hf y => ?_
  blk_simp
  obtain ⟨r, s, rfl⟩ : ∃ (r : Fin 128) (s : Fin 4096), y = ix2 r s := ⟨y 0, y 1, eq_ix2 y⟩
  rw [after0_2, block]
  refine readout_block ?_ (fun d => ?_) ?_
  · blk_simp [idx2]
  · blk_simp [iblk, V]
    refine congrArg (m (c, main_arg0)) ?_
    blk_ext [idx0, idx2]
  · unfold Linear.columns
    blk_simp [iblk, V]
    refine congrArg (m (c, main_arg1)) ?_
    blk_ext [idx1, idx2]

/-- The reference leaves its arguments alone; it declares no semaphore. -/
theorem frame_reference : Cert.quiescent_Reference32Ideal := fun m ρ _ =>
  (θ_run Cert.Reference32Ideal.defs _ _).mono
    (fun r h => ⟨fun c => (h c).2, sem_eq_zero_of_no_sems (by decide) r.2⟩) (Cert.Reference32Ideal.Value.run m ρ)

/-- Kernel and reference end with the same result. -/
theorem same : Cert.algebraic_Kernel32Ideal_Reference32Ideal := by
  intro m g m' g' _ hagree
  refine ⟨_, (θ_run defs _ _).mono (fun r h c => ⟨(h c).1.trans (final m c), (h c).2⟩) (run_blocks m g), ?_⟩
  refine (θ_run Cert.Reference32Ideal.defs _ _).mono (fun r h c => ?_) (Cert.Reference32Ideal.Value.run m' g')
  obtain ⟨h0, h1⟩ := hagree c
  rw [← h0, ← h1]
  refine ⟨(h c).1.trans ?_, (h c).2⟩
  funext j
  obtain ⟨i, f, rfl⟩ : ∃ (i : Fin 4352) (f : Fin 4096), j = ix2 i f := ⟨j 0, j 1, eq_ix2 j⟩
  pointwise []
  rfl

end Cert.Kernel32Ideal.Own
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Pre_finite
public import proofs.«01_k».proof.Proof.Claims
public import proofs.«01_k».proof.Proof.MlpClaims
public import proofs.«01_k».proof.Proof.RetInW
public import proofs.«01_k».proof.Proof.RetInX
public import proofs.«01_k».proof.Proof.RetOutW
public import proofs.«01_k».proof.Proof.RetOutX
public import proofs.«01_k».proof.Proof.AttnInW
public import proofs.«01_k».proof.Proof.AttnInX
public import proofs.«01_k».proof.Proof.AttnOutW
public import proofs.«01_k».proof.Proof.AttnOutX
public import proofs.«01_k».proof.Proof.Mlp1UpW
public import proofs.«01_k».proof.Proof.Mlp1UpX
public import proofs.«01_k».proof.Proof.Mlp1DownW
public import proofs.«01_k».proof.Proof.Mlp1DownX
public import proofs.«01_k».proof.Proof.MlpUp0
public import proofs.«01_k».proof.Proof.MlpUp1
public import proofs.«01_k».proof.Proof.MlpDown0
public import proofs.«01_k».proof.Proof.MlpDown1
public import proofs.«01_k».proof.Proof.RetVG
public import proofs.«01_k».proof.Proof.RetOut
public import proofs.«01_k».proof.Proof.AttnV
public import proofs.«01_k».proof.Proof.AttnOut
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import proofs.«01_k».proof.Proof.RetQK
public import proofs.«01_k».proof.Proof.Gen.Kernel28.Frame
public import proofs.«01_k».proof.Proof.Gen.Kernel28Ideal.Frame
public import proofs.«01_k».proof.Proof.Gen.Kernel28Ideal.Value
public import proofs.«01_k».proof.Proof.Gen.Reference28Ideal.Run
public import proofs.«01_k».proof.Proof.AttnQ
public import proofs.«01_k».proof.Proof.Gen.Kernel29.Frame
public import proofs.«01_k».proof.Proof.Gen.Kernel29Ideal.Frame
public import proofs.«01_k».proof.Proof.Gen.Kernel29Ideal.Value
public import proofs.«01_k».proof.Proof.Gen.Reference29Ideal.Run
public import proofs.«01_k».proof.Proof.AttnK
public import proofs.«01_k».proof.Proof.Gen.Kernel30.Frame
public import proofs.«01_k».proof.Proof.Gen.Kernel30Ideal.Frame
public import proofs.«01_k».proof.Proof.Gen.Kernel30Ideal.Value
public import proofs.«01_k».proof.Proof.Gen.Reference30Ideal.Run
public import proofs.«01_k».proof.Proof.NormMod0
public import proofs.«01_k».proof.Proof.Gen.Kernel31.Frame
public import proofs.«01_k».proof.Proof.Gen.Kernel31Ideal.Frame
public import proofs.«01_k».proof.Proof.Gen.Kernel31Ideal.Value
public import proofs.«01_k».proof.Proof.Gen.Reference31Ideal.Run
public import proofs.«01_k».proof.Proof.NormMod1
public import proofs.«01_k».proof.Proof.Gen.Kernel32.Frame
public import proofs.«01_k».proof.Proof.Gen.Kernel32Ideal.Frame
public import proofs.«01_k».proof.Proof.Gen.Kernel32Ideal.Value
public import proofs.«01_k».proof.Proof.Gen.Reference32Ideal.Run
public import proofs.«01_k».proof.Proof.RetReadout
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Pre_finite.Gen.facts,
  fun m ρ _ => Cert.Kernel.Gen.frame m ρ,
  fun m ρ _ => Cert.KernelIdeal.Gen.frame m ρ, fun m ρ _ => Cert.KernelIdeal.Gen.frame m ρ,
  Retention.Claims.frame_reference, fun m ρ _ => Retention.Claims.frame_reference m ρ trivial,
  fun m ρ _ => Cert.Kernel2.Gen.frame m ρ,
  fun m ρ _ => Cert.Kernel2Ideal.Gen.frame m ρ, fun m ρ _ => Cert.Kernel2Ideal.Gen.frame m ρ,
  Retention.Claims.frame_reference2, fun m ρ _ => Retention.Claims.frame_reference2 m ρ trivial,
  fun m ρ _ => Cert.Kernel3.Gen.frame m ρ, fun m ρ _ => Cert.Kernel3Ideal.Gen.frame m ρ, Mlp.Claims.frame_downW,
  fun m ρ _ => Cert.Kernel4.Gen.frame m ρ, fun m ρ _ => Cert.Kernel4Ideal.Gen.frame m ρ, Mlp.Claims.frame_downX,
  fun m ρ _ => Cert.Kernel5.Gen.frame m ρ, fun m ρ _ => Cert.Kernel5Ideal.Gen.frame m ρ, Mlp.Claims.frame_upW,
  fun m ρ _ => Cert.Kernel6.Gen.frame m ρ, fun m ρ _ => Cert.Kernel6Ideal.Gen.frame m ρ, Mlp.Claims.frame_upX,
  fun m ρ _ => Cert.Kernel7.Gen.frame m ρ, fun m ρ _ => Cert.Kernel7Ideal.Gen.frame m ρ, Cert.Kernel7Ideal.Own.frame_reference,
  fun m ρ _ => Cert.Kernel8.Gen.frame m ρ, fun m ρ _ => Cert.Kernel8Ideal.Gen.frame m ρ, Cert.Kernel8Ideal.Own.frame_reference,
  fun m ρ _ => Cert.Kernel9.Gen.frame m ρ, fun m ρ _ => Cert.Kernel9Ideal.Gen.frame m ρ, Cert.Kernel9Ideal.Own.frame_reference,
  fun m ρ _ => Cert.Kernel10.Gen.frame m ρ, fun m ρ _ => Cert.Kernel10Ideal.Gen.frame m ρ, Cert.Kernel10Ideal.Own.frame_reference,
  fun m ρ _ => Cert.Kernel11.Gen.frame m ρ, fun m ρ _ => Cert.Kernel11Ideal.Gen.frame m ρ, Cert.Kernel11Ideal.Own.frame_reference,
  fun m ρ _ => Cert.Kernel12.Gen.frame m ρ, fun m ρ _ => Cert.Kernel12Ideal.Gen.frame m ρ, Cert.Kernel12Ideal.Own.frame_reference,
  fun m ρ _ => Cert.Kernel13.Gen.frame m ρ, fun m ρ _ => Cert.Kernel13Ideal.Gen.frame m ρ, Cert.Kernel13Ideal.Own.frame_reference,
  fun m ρ _ => Cert.Kernel14.Gen.frame m ρ, fun m ρ _ => Cert.Kernel14Ideal.Gen.frame m ρ, Cert.Kernel14Ideal.Own.frame_reference,
  fun m ρ _ => Cert.Kernel15.Gen.frame m ρ, fun m ρ _ => Cert.Kernel15Ideal.Gen.frame m ρ, Cert.Kernel15Ideal.Own.frame_reference,
  fun m ρ _ => Cert.Kernel16.Gen.frame m ρ, fun m ρ _ => Cert.Kernel16Ideal.Gen.frame m ρ, Cert.Kernel16Ideal.Own.frame_reference,
  fun m ρ _ => Cert.Kernel17.Gen.frame m ρ, fun m ρ _ => Cert.Kernel17Ideal.Gen.frame m ρ, Cert.Kernel17Ideal.Own.frame_reference,
  fun m ρ _ => Cert.Kernel18.Gen.frame m ρ, fun m ρ _ => Cert.Kernel18Ideal.Gen.frame m ρ, Cert.Kernel18Ideal.Own.frame_reference,
  fun m ρ _ => Cert.Kernel19.Gen.frame m ρ, fun m ρ _ => Cert.Kernel19Ideal.Gen.frame m ρ, Cert.Kernel19Ideal.Own.frame_reference,
  fun m ρ _ => Cert.Kernel20.Gen.frame m ρ, fun m ρ _ => Cert.Kernel20Ideal.Gen.frame m ρ, Cert.Kernel20Ideal.Own.frame_reference,
  fun m ρ _ => Cert.Kernel21.Gen.frame m ρ, fun m ρ _ => Cert.Kernel21Ideal.Gen.frame m ρ, Cert.Kernel21Ideal.Own.frame_reference,
  fun m ρ _ => Cert.Kernel22.Gen.frame m ρ, fun m ρ _ => Cert.Kernel22Ideal.Gen.frame m ρ, Cert.Kernel22Ideal.Own.frame_reference,
  fun m ρ _ => Cert.Kernel23.Gen.frame m ρ, fun m ρ _ => Cert.Kernel23Ideal.Gen.frame m ρ, Cert.Kernel23Ideal.Own.frame_reference,
  fun m ρ _ => Cert.Kernel24.Gen.frame m ρ, fun m ρ _ => Cert.Kernel24Ideal.Gen.frame m ρ, Cert.Kernel24Ideal.Own.frame_reference,
  fun m ρ _ => Cert.Kernel25.Gen.frame m ρ, fun m ρ _ => Cert.Kernel25Ideal.Gen.frame m ρ, Cert.Kernel25Ideal.Own.frame_reference,
  fun m ρ _ => Cert.Kernel26.Gen.frame m ρ, fun m ρ _ => Cert.Kernel26Ideal.Gen.frame m ρ, Cert.Kernel26Ideal.Own.frame_reference,
  fun m ρ _ => Cert.Kernel27.Gen.frame m ρ, fun m ρ _ => Cert.Kernel27Ideal.Gen.frame m ρ, Cert.Kernel27Ideal.Own.frame_reference,
  fun m ρ _ => Cert.Kernel28.Gen.frame m ρ, fun m ρ _ => Cert.Kernel28Ideal.Gen.frame m ρ, Cert.Kernel28Ideal.Own.frame_reference,
  fun m ρ _ => Cert.Kernel29.Gen.frame m ρ, fun m ρ _ => Cert.Kernel29Ideal.Gen.frame m ρ, Cert.Kernel29Ideal.Own.frame_reference,
  fun m ρ _ => Cert.Kernel30.Gen.frame m ρ, fun m ρ _ => Cert.Kernel30Ideal.Gen.frame m ρ, Cert.Kernel30Ideal.Own.frame_reference,
  fun m ρ _ => Cert.Kernel31.Gen.frame m ρ, fun m ρ _ => Cert.Kernel31Ideal.Gen.frame m ρ, Cert.Kernel31Ideal.Own.frame_reference,
  fun m ρ _ => Cert.Kernel32.Gen.frame m ρ, fun m ρ _ => Cert.Kernel32Ideal.Gen.frame m ρ, Cert.Kernel32Ideal.Own.frame_reference,
  trivial, Retention.Claims.forward, trivial, Retention.Claims.reverse,
  trivial, Mlp.Claims.downW, trivial, Mlp.Claims.downX, trivial, Mlp.Claims.upW, trivial, Mlp.Claims.upX,
  trivial, Cert.Kernel7Ideal.Own.same, trivial, Cert.Kernel8Ideal.Own.same,
  trivial, Cert.Kernel9Ideal.Own.same, trivial, Cert.Kernel10Ideal.Own.same,
  trivial, Cert.Kernel11Ideal.Own.same, trivial, Cert.Kernel12Ideal.Own.same,
  trivial, Cert.Kernel13Ideal.Own.same, trivial, Cert.Kernel14Ideal.Own.same,
  trivial, Cert.Kernel15Ideal.Own.same, trivial, Cert.Kernel16Ideal.Own.same,
  trivial, Cert.Kernel17Ideal.Own.same, trivial, Cert.Kernel18Ideal.Own.same,
  trivial, Cert.Kernel19Ideal.Own.same, trivial, Cert.Kernel20Ideal.Own.same,
  trivial, Cert.Kernel21Ideal.Own.same, trivial, Cert.Kernel22Ideal.Own.same,
  trivial, Cert.Kernel23Ideal.Own.same, trivial, Cert.Kernel24Ideal.Own.same,
  trivial, Cert.Kernel25Ideal.Own.same, trivial, Cert.Kernel26Ideal.Own.same,
  trivial, Cert.Kernel27Ideal.Own.same,
  trivial, Cert.Kernel28Ideal.Own.same,
  trivial, Cert.Kernel29Ideal.Own.same,
  trivial, Cert.Kernel30Ideal.Own.same,
  trivial, Cert.Kernel31Ideal.Own.same,
  trivial, Cert.Kernel32Ideal.Own.same⟩

end Cert.Proof

end
